-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite [hPre_finite : Cert.Pre_finite.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite [hPre_finite : Cert.Pre_finite.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4))) = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelGateDx (m : (ℓ : Loc Cert.KernelGateDx.nD Cert.KernelGateDx.τ Cert.KernelGateDx.sig) → Buf (Elt Bits) ℓ) : Prop :=
  True

def Pre_KernelGateDxIdeal (m : (ℓ : Loc Cert.KernelGateDxIdeal.nD Cert.KernelGateDxIdeal.τ Cert.KernelGateDxIdeal.sig) → Buf (Elt Ideal) ℓ) : Prop :=
  True

def Pre_ReferenceGateDxIdeal (m : (ℓ : Loc Cert.ReferenceGateDxIdeal.nD Cert.ReferenceGateDxIdeal.τ Cert.ReferenceGateDxIdeal.sig) → Buf (Elt Ideal) ℓ) : Prop :=
  True

def Pre_KernelUpDx (m : (ℓ : Loc Cert.KernelUpDx.nD Cert.KernelUpDx.τ Cert.KernelUpDx.sig) → Buf (Elt Bits) ℓ) : Prop :=
  True

def Pre_KernelUpDxIdeal (m : (ℓ : Loc Cert.KernelUpDxIdeal.nD Cert.KernelUpDxIdeal.τ Cert.KernelUpDxIdeal.sig) → Buf (Elt Ideal) ℓ) : Prop :=
  True

def Pre_ReferenceUpDxIdeal (m : (ℓ : Loc Cert.ReferenceUpDxIdeal.nD Cert.ReferenceUpDxIdeal.τ Cert.ReferenceUpDxIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelInDw (m : (ℓ : Loc Cert.KernelInDw.nD Cert.KernelInDw.τ Cert.KernelInDw.sig) → Buf (Elt Bits) ℓ) : Prop :=
  True

def Pre_KernelInDwIdeal (m : (ℓ : Loc Cert.KernelInDwIdeal.nD Cert.KernelInDwIdeal.τ Cert.KernelInDwIdeal.sig) → Buf (Elt Ideal) ℓ) : Prop :=
  True

def Pre_ReferenceInDwIdeal (m : (ℓ : Loc Cert.ReferenceInDwIdeal.nD Cert.ReferenceInDwIdeal.τ Cert.ReferenceInDwIdeal.sig) → Buf (Elt Ideal) ℓ) : Prop :=
  True

def Pre_KernelInDx (m : (ℓ : Loc Cert.KernelInDx.nD Cert.KernelInDx.τ Cert.KernelInDx.sig) → Buf (Elt Bits) ℓ) : Prop :=
  True

def Pre_KernelInDxIdeal (m : (ℓ : Loc Cert.KernelInDxIdeal.nD Cert.KernelInDxIdeal.τ Cert.KernelInDxIdeal.sig) → Buf (Elt Ideal) ℓ) : Prop :=
  True

def Pre_ReferenceInDxIdeal (m : (ℓ : Loc Cert.ReferenceInDxIdeal.nD Cert.ReferenceInDxIdeal.τ Cert.ReferenceInDxIdeal.sig) → Buf (Elt Ideal) ℓ) : Prop :=
  True

def Pre_KernelInGateDx (m : (ℓ : Loc Cert.KernelInGateDx.nD Cert.KernelInGateDx.τ Cert.KernelInGateDx.sig) → Buf (Elt Bits) ℓ) : Prop :=
  True

def Pre_KernelInGateDxIdeal (m : (ℓ : Loc Cert.KernelInGateDxIdeal.nD Cert.KernelInGateDxIdeal.τ Cert.KernelInGateDxIdeal.sig) → Buf (Elt Ideal) ℓ) : Prop :=
  True

def Pre_ReferenceInGateDxIdeal (m : (ℓ : Loc Cert.ReferenceInGateDxIdeal.nD Cert.ReferenceInGateDxIdeal.τ Cert.ReferenceInGateDxIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Kernel16Ideal_pre_finite [hKernel16Ideal : Cert.Kernel16Ideal.Facts] [hPre_finite : Cert.Pre_finite.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Reference16Ideal_pre_finite [hReference16Ideal : Cert.Reference16Ideal.Facts] [hPre_finite : Cert.Pre_finite.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_KernelGateDx [hKernelGateDx : Cert.KernelGateDx.Facts] : Prop :=
  ∀ (m : (ℓ : Loc Cert.KernelGateDx.nD Cert.KernelGateDx.τ Cert.KernelGateDx.sig) → Buf (Elt Bits) ℓ) (g : Dev Cert.KernelGateDx.nD → PrngReg), Pre_KernelGateDx m →
    θ_run (Cert.KernelGateDx.defs (F := Bits)) (onTc (τ := Cert.KernelGateDx.τ) (Cert.KernelGateDx.main (F := Bits))) ⟨m, fun _ => 0, g⟩ (fun r => (∀ c : Dev Cert.KernelGateDx.nD,
      r.2.mem ((c.tc : Thread Cert.KernelGateDx.nD Cert.KernelGateDx.τ).loc Cert.KernelGateDx.main_arg0) = m ((c.tc : Thread Cert.KernelGateDx.nD Cert.KernelGateDx.τ).loc Cert.KernelGateDx.main_arg0)
      ∧ r.2.mem ((c.tc : Thread Cert.KernelGateDx.nD Cert.KernelGateDx.τ).loc Cert.KernelGateDx.main_arg1) = m ((c.tc : Thread Cert.KernelGateDx.nD Cert.KernelGateDx.τ).loc Cert.KernelGateDx.main_arg1))
      ∧ r.2.sem = fun _ => 0)

def quiescent_KernelGateDxIdeal [hKernelGateDxIdeal : Cert.KernelGateDxIdeal.Facts] : Prop :=
  ∀ (m : (ℓ : Loc Cert.KernelGateDxIdeal.nD Cert.KernelGateDxIdeal.τ Cert.KernelGateDxIdeal.sig) → Buf (Elt Ideal) ℓ) (g : Dev Cert.KernelGateDxIdeal.nD → PrngReg), Pre_KernelGateDxIdeal m →
    θ_run (Cert.KernelGateDxIdeal.defs (F := Ideal)) (onTc (τ := Cert.KernelGateDxIdeal.τ) (Cert.KernelGateDxIdeal.main (F := Ideal))) ⟨m, fun _ => 0, g⟩ (fun r => (∀ c : Dev Cert.KernelGateDxIdeal.nD,
      r.2.mem ((c.tc : Thread Cert.KernelGateDxIdeal.nD Cert.KernelGateDxIdeal.τ).loc Cert.KernelGateDxIdeal.main_arg0) = m ((c.tc : Thread Cert.KernelGateDxIdeal.nD Cert.KernelGateDxIdeal.τ).loc Cert.KernelGateDxIdeal.main_arg0)
      ∧ r.2.mem ((c.tc : Thread Cert.KernelGateDxIdeal.nD Cert.KernelGateDxIdeal.τ).loc Cert.KernelGateDxIdeal.main_arg1) = m ((c.tc : Thread Cert.KernelGateDxIdeal.nD Cert.KernelGateDxIdeal.τ).loc Cert.KernelGateDxIdeal.main_arg1))
      ∧ r.2.sem = fun _ => 0)

def quiescent_ReferenceGateDxIdeal [hReferenceGateDxIdeal : Cert.ReferenceGateDxIdeal.Facts] : Prop :=
  ∀ (m : (ℓ : Loc Cert.ReferenceGateDxIdeal.nD Cert.ReferenceGateDxIdeal.τ Cert.ReferenceGateDxIdeal.sig) → Buf (Elt Ideal) ℓ) (g : Dev Cert.ReferenceGateDxIdeal.nD → PrngReg), Pre_ReferenceGateDxIdeal m →
    θ_run (Cert.ReferenceGateDxIdeal.defs (F := Ideal)) (onTc (τ := Cert.ReferenceGateDxIdeal.τ) (Cert.ReferenceGateDxIdeal.main (F := Ideal))) ⟨m, fun _ => 0, g⟩ (fun r => (∀ c : Dev Cert.ReferenceGateDxIdeal.nD,
      r.2.mem ((c.tc : Thread Cert.ReferenceGateDxIdeal.nD Cert.ReferenceGateDxIdeal.τ).loc Cert.ReferenceGateDxIdeal.main_arg0) = m ((c.tc : Thread Cert.ReferenceGateDxIdeal.nD Cert.ReferenceGateDxIdeal.τ).loc Cert.ReferenceGateDxIdeal.main_arg0)
      ∧ r.2.mem ((c.tc : Thread Cert.ReferenceGateDxIdeal.nD Cert.ReferenceGateDxIdeal.τ).loc Cert.ReferenceGateDxIdeal.main_arg1) = m ((c.tc : Thread Cert.ReferenceGateDxIdeal.nD Cert.ReferenceGateDxIdeal.τ).loc Cert.ReferenceGateDxIdeal.main_arg1))
      ∧ r.2.sem = fun _ => 0)

def quiescent_KernelUpDx [hKernelUpDx : Cert.KernelUpDx.Facts] : Prop :=
  ∀ (m : (ℓ : Loc Cert.KernelUpDx.nD Cert.KernelUpDx.τ Cert.KernelUpDx.sig) → Buf (Elt Bits) ℓ) (g : Dev Cert.KernelUpDx.nD → PrngReg), Pre_KernelUpDx m →
    θ_run (Cert.KernelUpDx.defs (F := Bits)) (onTc (τ := Cert.KernelUpDx.τ) (Cert.KernelUpDx.main (F := Bits))) ⟨m, fun _ => 0, g⟩ (fun r => (∀ c : Dev Cert.KernelUpDx.nD,
      r.2.mem ((c.tc : Thread Cert.KernelUpDx.nD Cert.KernelUpDx.τ).loc Cert.KernelUpDx.main_arg0) = m ((c.tc : Thread Cert.KernelUpDx.nD Cert.KernelUpDx.τ).loc Cert.KernelUpDx.main_arg0)
      ∧ r.2.mem ((c.tc : Thread Cert.KernelUpDx.nD Cert.KernelUpDx.τ).loc Cert.KernelUpDx.main_arg1) = m ((c.tc : Thread Cert.KernelUpDx.nD Cert.KernelUpDx.τ).loc Cert.KernelUpDx.main_arg1)
      ∧ r.2.mem ((c.tc : Thread Cert.KernelUpDx.nD Cert.KernelUpDx.τ).loc Cert.KernelUpDx.main_arg2) = m ((c.tc : Thread Cert.KernelUpDx.nD Cert.KernelUpDx.τ).loc Cert.KernelUpDx.main_arg2)
      ∧ r.2.mem ((c.tc : Thread Cert.KernelUpDx.nD Cert.KernelUpDx.τ).loc Cert.KernelUpDx.main_arg3) = m ((c.tc : Thread Cert.KernelUpDx.nD Cert.KernelUpDx.τ).loc Cert.KernelUpDx.main_arg3)
      ∧ r.2.mem ((c.tc : Thread Cert.KernelUpDx.nD Cert.KernelUpDx.τ).loc Cert.KernelUpDx.main_arg4) = m ((c.tc : Thread Cert.KernelUpDx.nD Cert.KernelUpDx.τ).loc Cert.KernelUpDx.main_arg4)
      ∧ r.2.mem ((c.tc : Thread Cert.KernelUpDx.nD Cert.KernelUpDx.τ).loc Cert.KernelUpDx.main_arg5) = m ((c.tc : Thread Cert.KernelUpDx.nD Cert.KernelUpDx.τ).loc Cert.KernelUpDx.main_arg5))
      ∧ r.2.sem = fun _ => 0)

def quiescent_KernelUpDxIdeal [hKernelUpDxIdeal : Cert.KernelUpDxIdeal.Facts] : Prop :=
  ∀ (m : (ℓ : Loc Cert.KernelUpDxIdeal.nD Cert.KernelUpDxIdeal.τ Cert.KernelUpDxIdeal.sig) → Buf (Elt Ideal) ℓ) (g : Dev Cert.KernelUpDxIdeal.nD → PrngReg), Pre_KernelUpDxIdeal m →
    θ_run (Cert.KernelUpDxIdeal.defs (F := Ideal)) (onTc (τ := Cert.KernelUpDxIdeal.τ) (Cert.KernelUpDxIdeal.main (F := Ideal))) ⟨m, fun _ => 0, g⟩ (fun r => (∀ c : Dev Cert.KernelUpDxIdeal.nD,
      r.2.mem ((c.tc : Thread Cert.KernelUpDxIdeal.nD Cert.KernelUpDxIdeal.τ).loc Cert.KernelUpDxIdeal.main_arg0) = m ((c.tc : Thread Cert.KernelUpDxIdeal.nD Cert.KernelUpDxIdeal.τ).loc Cert.KernelUpDxIdeal.main_arg0)
      ∧ r.2.mem ((c.tc : Thread Cert.KernelUpDxIdeal.nD Cert.KernelUpDxIdeal.τ).loc Cert.KernelUpDxIdeal.main_arg1) = m ((c.tc : Thread Cert.KernelUpDxIdeal.nD Cert.KernelUpDxIdeal.τ).loc Cert.KernelUpDxIdeal.main_arg1)
      ∧ r.2.mem ((c.tc : Thread Cert.KernelUpDxIdeal.nD Cert.KernelUpDxIdeal.τ).loc Cert.KernelUpDxIdeal.main_arg2) = m ((c.tc : Thread Cert.KernelUpDxIdeal.nD Cert.KernelUpDxIdeal.τ).loc Cert.KernelUpDxIdeal.main_arg2)
      ∧ r.2.mem ((c.tc : Thread Cert.KernelUpDxIdeal.nD Cert.KernelUpDxIdeal.τ).loc Cert.KernelUpDxIdeal.main_arg3) = m ((c.tc : Thread Cert.KernelUpDxIdeal.nD Cert.KernelUpDxIdeal.τ).loc Cert.KernelUpDxIdeal.main_arg3)
      ∧ r.2.mem ((c.tc : Thread Cert.KernelUpDxIdeal.nD Cert.KernelUpDxIdeal.τ).loc Cert.KernelUpDxIdeal.main_arg4) = m ((c.tc : Thread Cert.KernelUpDxIdeal.nD Cert.KernelUpDxIdeal.τ).loc Cert.KernelUpDxIdeal.main_arg4)
      ∧ r.2.mem ((c.tc : Thread Cert.KernelUpDxIdeal.nD Cert.KernelUpDxIdeal.τ).loc Cert.KernelUpDxIdeal.main_arg5) = m ((c.tc : Thread Cert.KernelUpDxIdeal.nD Cert.KernelUpDxIdeal.τ).loc Cert.KernelUpDxIdeal.main_arg5))
      ∧ r.2.sem = fun _ => 0)

def quiescent_ReferenceUpDxIdeal [hReferenceUpDxIdeal : Cert.ReferenceUpDxIdeal.Facts] : Prop :=
  ∀ (m : (ℓ : Loc Cert.ReferenceUpDxIdeal.nD Cert.ReferenceUpDxIdeal.τ Cert.ReferenceUpDxIdeal.sig) → Buf (Elt Ideal) ℓ) (g : Dev Cert.ReferenceUpDxIdeal.nD → PrngReg), Pre_ReferenceUpDxIdeal m →
    θ_run (Cert.ReferenceUpDxIdeal.defs (F := Ideal)) (onTc (τ := Cert.ReferenceUpDxIdeal.τ) (Cert.ReferenceUpDxIdeal.main (F := Ideal))) ⟨m, fun _ => 0, g⟩ (fun r => (∀ c : Dev Cert.ReferenceUpDxIdeal.nD,
      r.2.mem ((c.tc : Thread Cert.ReferenceUpDxIdeal.nD Cert.ReferenceUpDxIdeal.τ).loc Cert.ReferenceUpDxIdeal.main_arg0) = m ((c.tc : Thread Cert.ReferenceUpDxIdeal.nD Cert.ReferenceUpDxIdeal.τ).loc Cert.ReferenceUpDxIdeal.main_arg0)
      ∧ r.2.mem ((c.tc : Thread Cert.ReferenceUpDxIdeal.nD Cert.ReferenceUpDxIdeal.τ).loc Cert.ReferenceUpDxIdeal.main_arg1) = m ((c.tc : Thread Cert.ReferenceUpDxIdeal.nD Cert.ReferenceUpDxIdeal.τ).loc Cert.ReferenceUpDxIdeal.main_arg1)
      ∧ r.2.mem ((c.tc : Thread Cert.ReferenceUpDxIdeal.nD Cert.ReferenceUpDxIdeal.τ).loc Cert.ReferenceUpDxIdeal.main_arg2) = m ((c.tc : Thread Cert.ReferenceUpDxIdeal.nD Cert.ReferenceUpDxIdeal.τ).loc Cert.ReferenceUpDxIdeal.main_arg2)
      ∧ r.2.mem ((c.tc : Thread Cert.ReferenceUpDxIdeal.nD Cert.ReferenceUpDxIdeal.τ).loc Cert.ReferenceUpDxIdeal.main_arg3) = m ((c.tc : Thread Cert.ReferenceUpDxIdeal.nD Cert.ReferenceUpDxIdeal.τ).loc Cert.ReferenceUpDxIdeal.main_arg3)
      ∧ r.2.mem ((c.tc : Thread Cert.ReferenceUpDxIdeal.nD Cert.ReferenceUpDxIdeal.τ).loc Cert.ReferenceUpDxIdeal.main_arg4) = m ((c.tc : Thread Cert.ReferenceUpDxIdeal.nD Cert.ReferenceUpDxIdeal.τ).loc Cert.ReferenceUpDxIdeal.main_arg4)
      ∧ r.2.mem ((c.tc : Thread Cert.ReferenceUpDxIdeal.nD Cert.ReferenceUpDxIdeal.τ).loc Cert.ReferenceUpDxIdeal.main_arg5) = m ((c.tc : Thread Cert.ReferenceUpDxIdeal.nD Cert.ReferenceUpDxIdeal.τ).loc Cert.ReferenceUpDxIdeal.main_arg5))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelInDw [hKernelInDw : Cert.KernelInDw.Facts] : Prop :=
  ∀ (m : (ℓ : Loc Cert.KernelInDw.nD Cert.KernelInDw.τ Cert.KernelInDw.sig) → Buf (Elt Bits) ℓ) (g : Dev Cert.KernelInDw.nD → PrngReg), Pre_KernelInDw m →
    θ_run (Cert.KernelInDw.defs (F := Bits)) (onTc (τ := Cert.KernelInDw.τ) (Cert.KernelInDw.main (F := Bits))) ⟨m, fun _ => 0, g⟩ (fun r => (∀ c : Dev Cert.KernelInDw.nD,
      r.2.mem ((c.tc : Thread Cert.KernelInDw.nD Cert.KernelInDw.τ).loc Cert.KernelInDw.main_arg0) = m ((c.tc : Thread Cert.KernelInDw.nD Cert.KernelInDw.τ).loc Cert.KernelInDw.main_arg0)
      ∧ r.2.mem ((c.tc : Thread Cert.KernelInDw.nD Cert.KernelInDw.τ).loc Cert.KernelInDw.main_arg1) = m ((c.tc : Thread Cert.KernelInDw.nD Cert.KernelInDw.τ).loc Cert.KernelInDw.main_arg1)
      ∧ r.2.mem ((c.tc : Thread Cert.KernelInDw.nD Cert.KernelInDw.τ).loc Cert.KernelInDw.main_arg2) = m ((c.tc : Thread Cert.KernelInDw.nD Cert.KernelInDw.τ).loc Cert.KernelInDw.main_arg2)
      ∧ r.2.mem ((c.tc : Thread Cert.KernelInDw.nD Cert.KernelInDw.τ).loc Cert.KernelInDw.main_arg3) = m ((c.tc : Thread Cert.KernelInDw.nD Cert.KernelInDw.τ).loc Cert.KernelInDw.main_arg3))
      ∧ r.2.sem = fun _ => 0)

def quiescent_KernelInDwIdeal [hKernelInDwIdeal : Cert.KernelInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg), Pre_KernelInDwIdeal m →
    θ_run (Cert.KernelInDwIdeal.defs (F := Ideal)) (onTc (τ := Cert.KernelInDwIdeal.τ) (Cert.KernelInDwIdeal.main (F := Ideal))) ⟨m, fun _ => 0, g⟩ (fun r => (∀ c : Dev Cert.KernelInDwIdeal.nD,
      r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
      ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1)
      ∧ r.2.mem ((c.tc : Thread Cert.KernelInDwIdeal.nD Cert.KernelInDwIdeal.τ).loc Cert.KernelInDwIdeal.main_arg2) = m ((c.tc : Thread Cert.KernelInDwIdeal.nD Cert.KernelInDwIdeal.τ).loc Cert.KernelInDwIdeal.main_arg2)
      ∧ r.2.mem ((c.tc : Thread Cert.KernelInDwIdeal.nD Cert.KernelInDwIdeal.τ).loc Cert.KernelInDwIdeal.main_arg3) = m ((c.tc : Thread Cert.KernelInDwIdeal.nD Cert.KernelInDwIdeal.τ).loc Cert.KernelInDwIdeal.main_arg3))
      ∧ r.2.sem = fun _ => 0)

def quiescent_ReferenceInDwIdeal [hReferenceInDwIdeal : Cert.ReferenceInDwIdeal.Facts] : Prop :=
  ∀ (m : (ℓ : Loc Cert.ReferenceInDwIdeal.nD Cert.ReferenceInDwIdeal.τ Cert.ReferenceInDwIdeal.sig) → Buf (Elt Ideal) ℓ) (g : Dev Cert.ReferenceInDwIdeal.nD → PrngReg), Pre_ReferenceInDwIdeal m →
    θ_run (Cert.ReferenceInDwIdeal.defs (F := Ideal)) (onTc (τ := Cert.ReferenceInDwIdeal.τ) (Cert.ReferenceInDwIdeal.main (F := Ideal))) ⟨m, fun _ => 0, g⟩ (fun r => (∀ c : Dev Cert.ReferenceInDwIdeal.nD,
      r.2.mem ((c.tc : Thread Cert.ReferenceInDwIdeal.nD Cert.ReferenceInDwIdeal.τ).loc Cert.ReferenceInDwIdeal.main_arg0) = m ((c.tc : Thread Cert.ReferenceInDwIdeal.nD Cert.ReferenceInDwIdeal.τ).loc Cert.ReferenceInDwIdeal.main_arg0)
      ∧ r.2.mem ((c.tc : Thread Cert.ReferenceInDwIdeal.nD Cert.ReferenceInDwIdeal.τ).loc Cert.ReferenceInDwIdeal.main_arg1) = m ((c.tc : Thread Cert.ReferenceInDwIdeal.nD Cert.ReferenceInDwIdeal.τ).loc Cert.ReferenceInDwIdeal.main_arg1)
      ∧ r.2.mem ((c.tc : Thread Cert.ReferenceInDwIdeal.nD Cert.ReferenceInDwIdeal.τ).loc Cert.ReferenceInDwIdeal.main_arg2) = m ((c.tc : Thread Cert.ReferenceInDwIdeal.nD Cert.ReferenceInDwIdeal.τ).loc Cert.ReferenceInDwIdeal.main_arg2)
      ∧ r.2.mem ((c.tc : Thread Cert.ReferenceInDwIdeal.nD Cert.ReferenceInDwIdeal.τ).loc Cert.ReferenceInDwIdeal.main_arg3) = m ((c.tc : Thread Cert.ReferenceInDwIdeal.nD Cert.ReferenceInDwIdeal.τ).loc Cert.ReferenceInDwIdeal.main_arg3))
      ∧ r.2.sem = fun _ => 0)

def quiescent_KernelInDx [hKernelInDx : Cert.KernelInDx.Facts] : Prop :=
  ∀ (m : (ℓ : Loc Cert.KernelInDx.nD Cert.KernelInDx.τ Cert.KernelInDx.sig) → Buf (Elt Bits) ℓ) (g : Dev Cert.KernelInDx.nD → PrngReg), Pre_KernelInDx m →
    θ_run (Cert.KernelInDx.defs (F := Bits)) (onTc (τ := Cert.KernelInDx.τ) (Cert.KernelInDx.main (F := Bits))) ⟨m, fun _ => 0, g⟩ (fun r => (∀ c : Dev Cert.KernelInDx.nD,
      r.2.mem ((c.tc : Thread Cert.KernelInDx.nD Cert.KernelInDx.τ).loc Cert.KernelInDx.main_arg0) = m ((c.tc : Thread Cert.KernelInDx.nD Cert.KernelInDx.τ).loc Cert.KernelInDx.main_arg0)
      ∧ r.2.mem ((c.tc : Thread Cert.KernelInDx.nD Cert.KernelInDx.τ).loc Cert.KernelInDx.main_arg1) = m ((c.tc : Thread Cert.KernelInDx.nD Cert.KernelInDx.τ).loc Cert.KernelInDx.main_arg1)
      ∧ r.2.mem ((c.tc : Thread Cert.KernelInDx.nD Cert.KernelInDx.τ).loc Cert.KernelInDx.main_arg2) = m ((c.tc : Thread Cert.KernelInDx.nD Cert.KernelInDx.τ).loc Cert.KernelInDx.main_arg2))
      ∧ r.2.sem = fun _ => 0)

def quiescent_KernelInDxIdeal [hKernelInDxIdeal : Cert.KernelInDxIdeal.Facts] : Prop :=
  ∀ (m : (ℓ : Loc Cert.KernelInDxIdeal.nD Cert.KernelInDxIdeal.τ Cert.KernelInDxIdeal.sig) → Buf (Elt Ideal) ℓ) (g : Dev Cert.KernelInDxIdeal.nD → PrngReg), Pre_KernelInDxIdeal m →
    θ_run (Cert.KernelInDxIdeal.defs (F := Ideal)) (onTc (τ := Cert.KernelInDxIdeal.τ) (Cert.KernelInDxIdeal.main (F := Ideal))) ⟨m, fun _ => 0, g⟩ (fun r => (∀ c : Dev Cert.KernelInDxIdeal.nD,
      r.2.mem ((c.tc : Thread Cert.KernelInDxIdeal.nD Cert.KernelInDxIdeal.τ).loc Cert.KernelInDxIdeal.main_arg0) = m ((c.tc : Thread Cert.KernelInDxIdeal.nD Cert.KernelInDxIdeal.τ).loc Cert.KernelInDxIdeal.main_arg0)
      ∧ r.2.mem ((c.tc : Thread Cert.KernelInDxIdeal.nD Cert.KernelInDxIdeal.τ).loc Cert.KernelInDxIdeal.main_arg1) = m ((c.tc : Thread Cert.KernelInDxIdeal.nD Cert.KernelInDxIdeal.τ).loc Cert.KernelInDxIdeal.main_arg1)
      ∧ r.2.mem ((c.tc : Thread Cert.KernelInDxIdeal.nD Cert.KernelInDxIdeal.τ).loc Cert.KernelInDxIdeal.main_arg2) = m ((c.tc : Thread Cert.KernelInDxIdeal.nD Cert.KernelInDxIdeal.τ).loc Cert.KernelInDxIdeal.main_arg2))
      ∧ r.2.sem = fun _ => 0)

def quiescent_ReferenceInDxIdeal [hReferenceInDxIdeal : Cert.ReferenceInDxIdeal.Facts] : Prop :=
  ∀ (m : (ℓ : Loc Cert.ReferenceInDxIdeal.nD Cert.ReferenceInDxIdeal.τ Cert.ReferenceInDxIdeal.sig) → Buf (Elt Ideal) ℓ) (g : Dev Cert.ReferenceInDxIdeal.nD → PrngReg), Pre_ReferenceInDxIdeal m →
    θ_run (Cert.ReferenceInDxIdeal.defs (F := Ideal)) (onTc (τ := Cert.ReferenceInDxIdeal.τ) (Cert.ReferenceInDxIdeal.main (F := Ideal))) ⟨m, fun _ => 0, g⟩ (fun r => (∀ c : Dev Cert.ReferenceInDxIdeal.nD,
      r.2.mem ((c.tc : Thread Cert.ReferenceInDxIdeal.nD Cert.ReferenceInDxIdeal.τ).loc Cert.ReferenceInDxIdeal.main_arg0) = m ((c.tc : Thread Cert.ReferenceInDxIdeal.nD Cert.ReferenceInDxIdeal.τ).loc Cert.ReferenceInDxIdeal.main_arg0)
      ∧ r.2.mem ((c.tc : Thread Cert.ReferenceInDxIdeal.nD Cert.ReferenceInDxIdeal.τ).loc Cert.ReferenceInDxIdeal.main_arg1) = m ((c.tc : Thread Cert.ReferenceInDxIdeal.nD Cert.ReferenceInDxIdeal.τ).loc Cert.ReferenceInDxIdeal.main_arg1)
      ∧ r.2.mem ((c.tc : Thread Cert.ReferenceInDxIdeal.nD Cert.ReferenceInDxIdeal.τ).loc Cert.ReferenceInDxIdeal.main_arg2) = m ((c.tc : Thread Cert.ReferenceInDxIdeal.nD Cert.ReferenceInDxIdeal.τ).loc Cert.ReferenceInDxIdeal.main_arg2))
      ∧ r.2.sem = fun _ => 0)

def quiescent_KernelInGateDx [hKernelInGateDx : Cert.KernelInGateDx.Facts] : Prop :=
  ∀ (m : (ℓ : Loc Cert.KernelInGateDx.nD Cert.KernelInGateDx.τ Cert.KernelInGateDx.sig) → Buf (Elt Bits) ℓ) (g : Dev Cert.KernelInGateDx.nD → PrngReg), Pre_KernelInGateDx m →
    θ_run (Cert.KernelInGateDx.defs (F := Bits)) (onTc (τ := Cert.KernelInGateDx.τ) (Cert.KernelInGateDx.main (F := Bits))) ⟨m, fun _ => 0, g⟩ (fun r => (∀ c : Dev Cert.KernelInGateDx.nD,
      r.2.mem ((c.tc : Thread Cert.KernelInGateDx.nD Cert.KernelInGateDx.τ).loc Cert.KernelInGateDx.main_arg0) = m ((c.tc : Thread Cert.KernelInGateDx.nD Cert.KernelInGateDx.τ).loc Cert.KernelInGateDx.main_arg0)
      ∧ r.2.mem ((c.tc : Thread Cert.KernelInGateDx.nD Cert.KernelInGateDx.τ).loc Cert.KernelInGateDx.main_arg1) = m ((c.tc : Thread Cert.KernelInGateDx.nD Cert.KernelInGateDx.τ).loc Cert.KernelInGateDx.main_arg1)
      ∧ r.2.mem ((c.tc : Thread Cert.KernelInGateDx.nD Cert.KernelInGateDx.τ).loc Cert.KernelInGateDx.main_arg2) = m ((c.tc : Thread Cert.KernelInGateDx.nD Cert.KernelInGateDx.τ).loc Cert.KernelInGateDx.main_arg2)
      ∧ r.2.mem ((c.tc : Thread Cert.KernelInGateDx.nD Cert.KernelInGateDx.τ).loc Cert.KernelInGateDx.main_arg3) = m ((c.tc : Thread Cert.KernelInGateDx.nD Cert.KernelInGateDx.τ).loc Cert.KernelInGateDx.main_arg3)
      ∧ r.2.mem ((c.tc : Thread Cert.KernelInGateDx.nD Cert.KernelInGateDx.τ).loc Cert.KernelInGateDx.main_arg4) = m ((c.tc : Thread Cert.KernelInGateDx.nD Cert.KernelInGateDx.τ).loc Cert.KernelInGateDx.main_arg4)
      ∧ r.2.mem ((c.tc : Thread Cert.KernelInGateDx.nD Cert.KernelInGateDx.τ).loc Cert.KernelInGateDx.main_arg5) = m ((c.tc : Thread Cert.KernelInGateDx.nD Cert.KernelInGateDx.τ).loc Cert.KernelInGateDx.main_arg5))
      ∧ r.2.sem = fun _ => 0)

def quiescent_KernelInGateDxIdeal [hKernelInGateDxIdeal : Cert.KernelInGateDxIdeal.Facts] : Prop :=
  ∀ (m : (ℓ : Loc Cert.KernelInGateDxIdeal.nD Cert.KernelInGateDxIdeal.τ Cert.KernelInGateDxIdeal.sig) → Buf (Elt Ideal) ℓ) (g : Dev Cert.KernelInGateDxIdeal.nD → PrngReg), Pre_KernelInGateDxIdeal m →
    θ_run (Cert.KernelInGateDxIdeal.defs (F := Ideal)) (onTc (τ := Cert.KernelInGateDxIdeal.τ) (Cert.KernelInGateDxIdeal.main (F := Ideal))) ⟨m, fun _ => 0, g⟩ (fun r => (∀ c : Dev Cert.KernelInGateDxIdeal.nD,
      r.2.mem ((c.tc : Thread Cert.KernelInGateDxIdeal.nD Cert.KernelInGateDxIdeal.τ).loc Cert.KernelInGateDxIdeal.main_arg0) = m ((c.tc : Thread Cert.KernelInGateDxIdeal.nD Cert.KernelInGateDxIdeal.τ).loc Cert.KernelInGateDxIdeal.main_arg0)
      ∧ r.2.mem ((c.tc : Thread Cert.KernelInGateDxIdeal.nD Cert.KernelInGateDxIdeal.τ).loc Cert.KernelInGateDxIdeal.main_arg1) = m ((c.tc : Thread Cert.KernelInGateDxIdeal.nD Cert.KernelInGateDxIdeal.τ).loc Cert.KernelInGateDxIdeal.main_arg1)
      ∧ r.2.mem ((c.tc : Thread Cert.KernelInGateDxIdeal.nD Cert.KernelInGateDxIdeal.τ).loc Cert.KernelInGateDxIdeal.main_arg2) = m ((c.tc : Thread Cert.KernelInGateDxIdeal.nD Cert.KernelInGateDxIdeal.τ).loc Cert.KernelInGateDxIdeal.main_arg2)
      ∧ r.2.mem ((c.tc : Thread Cert.KernelInGateDxIdeal.nD Cert.KernelInGateDxIdeal.τ).loc Cert.KernelInGateDxIdeal.main_arg3) = m ((c.tc : Thread Cert.KernelInGateDxIdeal.nD Cert.KernelInGateDxIdeal.τ).loc Cert.KernelInGateDxIdeal.main_arg3)
      ∧ r.2.mem ((c.tc : Thread Cert.KernelInGateDxIdeal.nD Cert.KernelInGateDxIdeal.τ).loc Cert.KernelInGateDxIdeal.main_arg4) = m ((c.tc : Thread Cert.KernelInGateDxIdeal.nD Cert.KernelInGateDxIdeal.τ).loc Cert.KernelInGateDxIdeal.main_arg4)
      ∧ r.2.mem ((c.tc : Thread Cert.KernelInGateDxIdeal.nD Cert.KernelInGateDxIdeal.τ).loc Cert.KernelInGateDxIdeal.main_arg5) = m ((c.tc : Thread Cert.KernelInGateDxIdeal.nD Cert.KernelInGateDxIdeal.τ).loc Cert.KernelInGateDxIdeal.main_arg5))
      ∧ r.2.sem = fun _ => 0)

def quiescent_ReferenceInGateDxIdeal [hReferenceInGateDxIdeal : Cert.ReferenceInGateDxIdeal.Facts] : Prop :=
  ∀ (m : (ℓ : Loc Cert.ReferenceInGateDxIdeal.nD Cert.ReferenceInGateDxIdeal.τ Cert.ReferenceInGateDxIdeal.sig) → Buf (Elt Ideal) ℓ) (g : Dev Cert.ReferenceInGateDxIdeal.nD → PrngReg), Pre_ReferenceInGateDxIdeal m →
    θ_run (Cert.ReferenceInGateDxIdeal.defs (F := Ideal)) (onTc (τ := Cert.ReferenceInGateDxIdeal.τ) (Cert.ReferenceInGateDxIdeal.main (F := Ideal))) ⟨m, fun _ => 0, g⟩ (fun r => (∀ c : Dev Cert.ReferenceInGateDxIdeal.nD,
      r.2.mem ((c.tc : Thread Cert.ReferenceInGateDxIdeal.nD Cert.ReferenceInGateDxIdeal.τ).loc Cert.ReferenceInGateDxIdeal.main_arg0) = m ((c.tc : Thread Cert.ReferenceInGateDxIdeal.nD Cert.ReferenceInGateDxIdeal.τ).loc Cert.ReferenceInGateDxIdeal.main_arg0)
      ∧ r.2.mem ((c.tc : Thread Cert.ReferenceInGateDxIdeal.nD Cert.ReferenceInGateDxIdeal.τ).loc Cert.ReferenceInGateDxIdeal.main_arg1) = m ((c.tc : Thread Cert.ReferenceInGateDxIdeal.nD Cert.ReferenceInGateDxIdeal.τ).loc Cert.ReferenceInGateDxIdeal.main_arg1)
      ∧ r.2.mem ((c.tc : Thread Cert.ReferenceInGateDxIdeal.nD Cert.ReferenceInGateDxIdeal.τ).loc Cert.ReferenceInGateDxIdeal.main_arg2) = m ((c.tc : Thread Cert.ReferenceInGateDxIdeal.nD Cert.ReferenceInGateDxIdeal.τ).loc Cert.ReferenceInGateDxIdeal.main_arg2)
      ∧ r.2.mem ((c.tc : Thread Cert.ReferenceInGateDxIdeal.nD Cert.ReferenceInGateDxIdeal.τ).loc Cert.ReferenceInGateDxIdeal.main_arg3) = m ((c.tc : Thread Cert.ReferenceInGateDxIdeal.nD Cert.ReferenceInGateDxIdeal.τ).loc Cert.ReferenceInGateDxIdeal.main_arg3)
      ∧ r.2.mem ((c.tc : Thread Cert.ReferenceInGateDxIdeal.nD Cert.ReferenceInGateDxIdeal.τ).loc Cert.ReferenceInGateDxIdeal.main_arg4) = m ((c.tc : Thread Cert.ReferenceInGateDxIdeal.nD Cert.ReferenceInGateDxIdeal.τ).loc Cert.ReferenceInGateDxIdeal.main_arg4)
      ∧ r.2.mem ((c.tc : Thread Cert.ReferenceInGateDxIdeal.nD Cert.ReferenceInGateDxIdeal.τ).loc Cert.ReferenceInGateDxIdeal.main_arg5) = m ((c.tc : Thread Cert.ReferenceInGateDxIdeal.nD Cert.ReferenceInGateDxIdeal.τ).loc Cert.ReferenceInGateDxIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_v181) = v1 c
          ∧ r.2.mem ((c.tc : Thread Cert.ReferenceIdeal.nD Cert.ReferenceIdeal.τ).loc Cert.ReferenceIdeal.main_v180) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel4_Kernel4Ideal : Prop :=
  IdealRules.named_const.Statement Cert.Kernel4Ideal.κ "mask" .f32 0xF149F2CA#32 ⊥

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v181) = v0 c
          ∧ r.2.mem ((c.tc : Thread Cert.Reference4Ideal.nD Cert.Reference4Ideal.τ).loc Cert.Reference4Ideal.main_v182) = v1 c
          ∧ r.2.mem ((c.tc : Thread Cert.Reference4Ideal.nD Cert.Reference4Ideal.τ).loc Cert.Reference4Ideal.main_v183) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel16_Kernel16Ideal : Prop :=
  IdealRules.named_const.Statement Cert.Kernel16Ideal.κ "mask" .f32 0xF149F2CA#32 ⊥

def algebraic_Kernel16Ideal_Reference16Ideal_pre_finite [hKernel16Ideal : Cert.Kernel16Ideal.Facts] [hReference16Ideal : Cert.Reference16Ideal.Facts] [hPre_finite : Cert.Pre_finite.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v5_0)) (v1 : (c : Dev Cert.Kernel16Ideal.nD) → Buf (Elt Ideal) ((c.tc : Thread Cert.Kernel16Ideal.nD Cert.Kernel16Ideal.τ).loc Cert.Kernel16Ideal.main_v5_1)) (v2 : (c : Dev Cert.Kernel16Ideal.nD) → Buf (Elt Ideal) ((c.tc : Thread Cert.Kernel16Ideal.nD Cert.Kernel16Ideal.τ).loc Cert.Kernel16Ideal.main_v5_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v5_0) = v0 c
          ∧ r.2.mem ((c.tc : Thread Cert.Kernel16Ideal.nD Cert.Kernel16Ideal.τ).loc Cert.Kernel16Ideal.main_v5_1) = v1 c
          ∧ r.2.mem ((c.tc : Thread Cert.Kernel16Ideal.nD Cert.Kernel16Ideal.τ).loc Cert.Kernel16Ideal.main_v5_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v181) = v0 c
          ∧ r.2.mem ((c.tc : Thread Cert.Reference16Ideal.nD Cert.Reference16Ideal.τ).loc Cert.Reference16Ideal.main_v182) = v1 c
          ∧ r.2.mem ((c.tc : Thread Cert.Reference16Ideal.nD Cert.Reference16Ideal.τ).loc Cert.Reference16Ideal.main_v183) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v15)) (v1 : (c : Dev Cert.KernelFfnIdeal.nD) → Buf (Elt Ideal) ((c.tc : Thread Cert.KernelFfnIdeal.nD Cert.KernelFfnIdeal.τ).loc Cert.KernelFfnIdeal.main_v17)) (v2 : (c : Dev Cert.KernelFfnIdeal.nD) → Buf (Elt Ideal) ((c.tc : Thread Cert.KernelFfnIdeal.nD Cert.KernelFfnIdeal.τ).loc Cert.KernelFfnIdeal.main_v12)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v15) = v0 c
          ∧ r.2.mem ((c.tc : Thread Cert.KernelFfnIdeal.nD Cert.KernelFfnIdeal.τ).loc Cert.KernelFfnIdeal.main_v17) = v1 c
          ∧ r.2.mem ((c.tc : Thread Cert.KernelFfnIdeal.nD Cert.KernelFfnIdeal.τ).loc Cert.KernelFfnIdeal.main_v12) = v2 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v20) = v0 c
          ∧ r.2.mem ((c.tc : Thread Cert.ReferenceFfnIdeal.nD Cert.ReferenceFfnIdeal.τ).loc Cert.ReferenceFfnIdeal.main_v22) = v1 c
          ∧ r.2.mem ((c.tc : Thread Cert.ReferenceFfnIdeal.nD Cert.ReferenceFfnIdeal.τ).loc Cert.ReferenceFfnIdeal.main_v23) = v2 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def preserves_KernelGateDx_KernelGateDxIdeal : Prop :=
  True

def algebraic_KernelGateDxIdeal_ReferenceGateDxIdeal [hKernelGateDxIdeal : Cert.KernelGateDxIdeal.Facts] [hReferenceGateDxIdeal : Cert.ReferenceGateDxIdeal.Facts] : Prop :=
  ∀ (m : (ℓ : Loc Cert.KernelGateDxIdeal.nD Cert.KernelGateDxIdeal.τ Cert.KernelGateDxIdeal.sig) → Buf (Elt Ideal) ℓ) (g : Dev Cert.KernelGateDxIdeal.nD → PrngReg)
    (m' : (ℓ : Loc Cert.ReferenceGateDxIdeal.nD Cert.ReferenceGateDxIdeal.τ Cert.ReferenceGateDxIdeal.sig) → Buf (Elt Ideal) ℓ) (g' : Dev Cert.ReferenceGateDxIdeal.nD → PrngReg), Pre_KernelGateDxIdeal m →
    (∀ c : Dev Cert.KernelGateDxIdeal.nD,
      m' ((c.tc : Thread Cert.ReferenceGateDxIdeal.nD Cert.ReferenceGateDxIdeal.τ).loc Cert.ReferenceGateDxIdeal.main_arg0) = m ((c.tc : Thread Cert.KernelGateDxIdeal.nD Cert.KernelGateDxIdeal.τ).loc Cert.KernelGateDxIdeal.main_arg0)
      ∧ m' ((c.tc : Thread Cert.ReferenceGateDxIdeal.nD Cert.ReferenceGateDxIdeal.τ).loc Cert.ReferenceGateDxIdeal.main_arg1) = m ((c.tc : Thread Cert.KernelGateDxIdeal.nD Cert.KernelGateDxIdeal.τ).loc Cert.KernelGateDxIdeal.main_arg1)) →
    ∃ (v0 : (c : Dev Cert.KernelGateDxIdeal.nD) → Buf (Elt Ideal) ((c.tc : Thread Cert.KernelGateDxIdeal.nD Cert.KernelGateDxIdeal.τ).loc Cert.KernelGateDxIdeal.main_v4)),
      θ_run (Cert.KernelGateDxIdeal.defs (F := Ideal)) (onTc (τ := Cert.KernelGateDxIdeal.τ) (Cert.KernelGateDxIdeal.main (F := Ideal))) ⟨m, fun _ => 0, g⟩ (fun r => ∀ c : Dev Cert.KernelGateDxIdeal.nD,
          r.2.mem ((c.tc : Thread Cert.KernelGateDxIdeal.nD Cert.KernelGateDxIdeal.τ).loc Cert.KernelGateDxIdeal.main_v4) = v0 c
          ∧ r.2.mem ((c.tc : Thread Cert.KernelGateDxIdeal.nD Cert.KernelGateDxIdeal.τ).loc Cert.KernelGateDxIdeal.main_arg0) = m ((c.tc : Thread Cert.KernelGateDxIdeal.nD Cert.KernelGateDxIdeal.τ).loc Cert.KernelGateDxIdeal.main_arg0)
          ∧ r.2.mem ((c.tc : Thread Cert.KernelGateDxIdeal.nD Cert.KernelGateDxIdeal.τ).loc Cert.KernelGateDxIdeal.main_arg1) = m ((c.tc : Thread Cert.KernelGateDxIdeal.nD Cert.KernelGateDxIdeal.τ).loc Cert.KernelGateDxIdeal.main_arg1))
      ∧ θ_run (Cert.ReferenceGateDxIdeal.defs (F := Ideal)) (onTc (τ := Cert.ReferenceGateDxIdeal.τ) (Cert.ReferenceGateDxIdeal.main (F := Ideal))) ⟨m', fun _ => 0, g'⟩ (fun r => ∀ c : Dev Cert.ReferenceGateDxIdeal.nD,
          r.2.mem ((c.tc : Thread Cert.ReferenceGateDxIdeal.nD Cert.ReferenceGateDxIdeal.τ).loc Cert.ReferenceGateDxIdeal.main_v4) = v0 c
          ∧ r.2.mem ((c.tc : Thread Cert.ReferenceGateDxIdeal.nD Cert.ReferenceGateDxIdeal.τ).loc Cert.ReferenceGateDxIdeal.main_arg0) = m' ((c.tc : Thread Cert.ReferenceGateDxIdeal.nD Cert.ReferenceGateDxIdeal.τ).loc Cert.ReferenceGateDxIdeal.main_arg0)
          ∧ r.2.mem ((c.tc : Thread Cert.ReferenceGateDxIdeal.nD Cert.ReferenceGateDxIdeal.τ).loc Cert.ReferenceGateDxIdeal.main_arg1) = m' ((c.tc : Thread Cert.ReferenceGateDxIdeal.nD Cert.ReferenceGateDxIdeal.τ).loc Cert.ReferenceGateDxIdeal.main_arg1))

def preserves_KernelUpDx_KernelUpDxIdeal : Prop :=
  True

def algebraic_KernelUpDxIdeal_ReferenceUpDxIdeal [hKernelUpDxIdeal : Cert.KernelUpDxIdeal.Facts] [hReferenceUpDxIdeal : Cert.ReferenceUpDxIdeal.Facts] : Prop :=
  ∀ (m : (ℓ : Loc Cert.KernelUpDxIdeal.nD Cert.KernelUpDxIdeal.τ Cert.KernelUpDxIdeal.sig) → Buf (Elt Ideal) ℓ) (g : Dev Cert.KernelUpDxIdeal.nD → PrngReg)
    (m' : (ℓ : Loc Cert.ReferenceUpDxIdeal.nD Cert.ReferenceUpDxIdeal.τ Cert.ReferenceUpDxIdeal.sig) → Buf (Elt Ideal) ℓ) (g' : Dev Cert.ReferenceUpDxIdeal.nD → PrngReg), Pre_KernelUpDxIdeal m →
    (∀ c : Dev Cert.KernelUpDxIdeal.nD,
      m' ((c.tc : Thread Cert.ReferenceUpDxIdeal.nD Cert.ReferenceUpDxIdeal.τ).loc Cert.ReferenceUpDxIdeal.main_arg0) = m ((c.tc : Thread Cert.KernelUpDxIdeal.nD Cert.KernelUpDxIdeal.τ).loc Cert.KernelUpDxIdeal.main_arg0)
      ∧ m' ((c.tc : Thread Cert.ReferenceUpDxIdeal.nD Cert.ReferenceUpDxIdeal.τ).loc Cert.ReferenceUpDxIdeal.main_arg1) = m ((c.tc : Thread Cert.KernelUpDxIdeal.nD Cert.KernelUpDxIdeal.τ).loc Cert.KernelUpDxIdeal.main_arg1)
      ∧ m' ((c.tc : Thread Cert.ReferenceUpDxIdeal.nD Cert.ReferenceUpDxIdeal.τ).loc Cert.ReferenceUpDxIdeal.main_arg2) = m ((c.tc : Thread Cert.KernelUpDxIdeal.nD Cert.KernelUpDxIdeal.τ).loc Cert.KernelUpDxIdeal.main_arg2)
      ∧ m' ((c.tc : Thread Cert.ReferenceUpDxIdeal.nD Cert.ReferenceUpDxIdeal.τ).loc Cert.ReferenceUpDxIdeal.main_arg3) = m ((c.tc : Thread Cert.KernelUpDxIdeal.nD Cert.KernelUpDxIdeal.τ).loc Cert.KernelUpDxIdeal.main_arg3)
      ∧ m' ((c.tc : Thread Cert.ReferenceUpDxIdeal.nD Cert.ReferenceUpDxIdeal.τ).loc Cert.ReferenceUpDxIdeal.main_arg4) = m ((c.tc : Thread Cert.KernelUpDxIdeal.nD Cert.KernelUpDxIdeal.τ).loc Cert.KernelUpDxIdeal.main_arg4)
      ∧ m' ((c.tc : Thread Cert.ReferenceUpDxIdeal.nD Cert.ReferenceUpDxIdeal.τ).loc Cert.ReferenceUpDxIdeal.main_arg5) = m ((c.tc : Thread Cert.KernelUpDxIdeal.nD Cert.KernelUpDxIdeal.τ).loc Cert.KernelUpDxIdeal.main_arg5)) →
    ∃ (v0 : (c : Dev Cert.KernelUpDxIdeal.nD) → Buf (Elt Ideal) ((c.tc : Thread Cert.KernelUpDxIdeal.nD Cert.KernelUpDxIdeal.τ).loc Cert.KernelUpDxIdeal.main_v5_0)) (v1 : (c : Dev Cert.KernelUpDxIdeal.nD) → Buf (Elt Ideal) ((c.tc : Thread Cert.KernelUpDxIdeal.nD Cert.KernelUpDxIdeal.τ).loc Cert.KernelUpDxIdeal.main_v5_1)) (v2 : (c : Dev Cert.KernelUpDxIdeal.nD) → Buf (Elt Ideal) ((c.tc : Thread Cert.KernelUpDxIdeal.nD Cert.KernelUpDxIdeal.τ).loc Cert.KernelUpDxIdeal.main_v5_2)),
      θ_run (Cert.KernelUpDxIdeal.defs (F := Ideal)) (onTc (τ := Cert.KernelUpDxIdeal.τ) (Cert.KernelUpDxIdeal.main (F := Ideal))) ⟨m, fun _ => 0, g⟩ (fun r => ∀ c : Dev Cert.KernelUpDxIdeal.nD,
          r.2.mem ((c.tc : Thread Cert.KernelUpDxIdeal.nD Cert.KernelUpDxIdeal.τ).loc Cert.KernelUpDxIdeal.main_v5_0) = v0 c
          ∧ r.2.mem ((c.tc : Thread Cert.KernelUpDxIdeal.nD Cert.KernelUpDxIdeal.τ).loc Cert.KernelUpDxIdeal.main_v5_1) = v1 c
          ∧ r.2.mem ((c.tc : Thread Cert.KernelUpDxIdeal.nD Cert.KernelUpDxIdeal.τ).loc Cert.KernelUpDxIdeal.main_v5_2) = v2 c
          ∧ r.2.mem ((c.tc : Thread Cert.KernelUpDxIdeal.nD Cert.KernelUpDxIdeal.τ).loc Cert.KernelUpDxIdeal.main_arg0) = m ((c.tc : Thread Cert.KernelUpDxIdeal.nD Cert.KernelUpDxIdeal.τ).loc Cert.KernelUpDxIdeal.main_arg0)
          ∧ r.2.mem ((c.tc : Thread Cert.KernelUpDxIdeal.nD Cert.KernelUpDxIdeal.τ).loc Cert.KernelUpDxIdeal.main_arg1) = m ((c.tc : Thread Cert.KernelUpDxIdeal.nD Cert.KernelUpDxIdeal.τ).loc Cert.KernelUpDxIdeal.main_arg1)
          ∧ r.2.mem ((c.tc : Thread Cert.KernelUpDxIdeal.nD Cert.KernelUpDxIdeal.τ).loc Cert.KernelUpDxIdeal.main_arg2) = m ((c.tc : Thread Cert.KernelUpDxIdeal.nD Cert.KernelUpDxIdeal.τ).loc Cert.KernelUpDxIdeal.main_arg2)
          ∧ r.2.mem ((c.tc : Thread Cert.KernelUpDxIdeal.nD Cert.KernelUpDxIdeal.τ).loc Cert.KernelUpDxIdeal.main_arg3) = m ((c.tc : Thread Cert.KernelUpDxIdeal.nD Cert.KernelUpDxIdeal.τ).loc Cert.KernelUpDxIdeal.main_arg3)
          ∧ r.2.mem ((c.tc : Thread Cert.KernelUpDxIdeal.nD Cert.KernelUpDxIdeal.τ).loc Cert.KernelUpDxIdeal.main_arg4) = m ((c.tc : Thread Cert.KernelUpDxIdeal.nD Cert.KernelUpDxIdeal.τ).loc Cert.KernelUpDxIdeal.main_arg4)
          ∧ r.2.mem ((c.tc : Thread Cert.KernelUpDxIdeal.nD Cert.KernelUpDxIdeal.τ).loc Cert.KernelUpDxIdeal.main_arg5) = m ((c.tc : Thread Cert.KernelUpDxIdeal.nD Cert.KernelUpDxIdeal.τ).loc Cert.KernelUpDxIdeal.main_arg5))
      ∧ θ_run (Cert.ReferenceUpDxIdeal.defs (F := Ideal)) (onTc (τ := Cert.ReferenceUpDxIdeal.τ) (Cert.ReferenceUpDxIdeal.main (F := Ideal))) ⟨m', fun _ => 0, g'⟩ (fun r => ∀ c : Dev Cert.ReferenceUpDxIdeal.nD,
          r.2.mem ((c.tc : Thread Cert.ReferenceUpDxIdeal.nD Cert.ReferenceUpDxIdeal.τ).loc Cert.ReferenceUpDxIdeal.main_v41) = v0 c
          ∧ r.2.mem ((c.tc : Thread Cert.ReferenceUpDxIdeal.nD Cert.ReferenceUpDxIdeal.τ).loc Cert.ReferenceUpDxIdeal.main_v42) = v1 c
          ∧ r.2.mem ((c.tc : Thread Cert.ReferenceUpDxIdeal.nD Cert.ReferenceUpDxIdeal.τ).loc Cert.ReferenceUpDxIdeal.main_v43) = v2 c
          ∧ r.2.mem ((c.tc : Thread Cert.ReferenceUpDxIdeal.nD Cert.ReferenceUpDxIdeal.τ).loc Cert.ReferenceUpDxIdeal.main_arg0) = m' ((c.tc : Thread Cert.ReferenceUpDxIdeal.nD Cert.ReferenceUpDxIdeal.τ).loc Cert.ReferenceUpDxIdeal.main_arg0)
          ∧ r.2.mem ((c.tc : Thread Cert.ReferenceUpDxIdeal.nD Cert.ReferenceUpDxIdeal.τ).loc Cert.ReferenceUpDxIdeal.main_arg1) = m' ((c.tc : Thread Cert.ReferenceUpDxIdeal.nD Cert.ReferenceUpDxIdeal.τ).loc Cert.ReferenceUpDxIdeal.main_arg1)
          ∧ r.2.mem ((c.tc : Thread Cert.ReferenceUpDxIdeal.nD Cert.ReferenceUpDxIdeal.τ).loc Cert.ReferenceUpDxIdeal.main_arg2) = m' ((c.tc : Thread Cert.ReferenceUpDxIdeal.nD Cert.ReferenceUpDxIdeal.τ).loc Cert.ReferenceUpDxIdeal.main_arg2)
          ∧ r.2.mem ((c.tc : Thread Cert.ReferenceUpDxIdeal.nD Cert.ReferenceUpDxIdeal.τ).loc Cert.ReferenceUpDxIdeal.main_arg3) = m' ((c.tc : Thread Cert.ReferenceUpDxIdeal.nD Cert.ReferenceUpDxIdeal.τ).loc Cert.ReferenceUpDxIdeal.main_arg3)
          ∧ r.2.mem ((c.tc : Thread Cert.ReferenceUpDxIdeal.nD Cert.ReferenceUpDxIdeal.τ).loc Cert.ReferenceUpDxIdeal.main_arg4) = m' ((c.tc : Thread Cert.ReferenceUpDxIdeal.nD Cert.ReferenceUpDxIdeal.τ).loc Cert.ReferenceUpDxIdeal.main_arg4)
          ∧ r.2.mem ((c.tc : Thread Cert.ReferenceUpDxIdeal.nD Cert.ReferenceUpDxIdeal.τ).loc Cert.ReferenceUpDxIdeal.main_arg5) = m' ((c.tc : Thread Cert.ReferenceUpDxIdeal.nD Cert.ReferenceUpDxIdeal.τ).loc Cert.ReferenceUpDxIdeal.main_arg5))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v3)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v3) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v5) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v8)) (v1 : (c : Dev Cert.KernelInIdeal.nD) → Buf (Elt Ideal) ((c.tc : Thread Cert.KernelInIdeal.nD Cert.KernelInIdeal.τ).loc Cert.KernelInIdeal.main_v12)) (v2 : (c : Dev Cert.KernelInIdeal.nD) → Buf (Elt Ideal) ((c.tc : Thread Cert.KernelInIdeal.nD Cert.KernelInIdeal.τ).loc Cert.KernelInIdeal.main_v16)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v8) = v0 c
          ∧ r.2.mem ((c.tc : Thread Cert.KernelInIdeal.nD Cert.KernelInIdeal.τ).loc Cert.KernelInIdeal.main_v12) = v1 c
          ∧ r.2.mem ((c.tc : Thread Cert.KernelInIdeal.nD Cert.KernelInIdeal.τ).loc Cert.KernelInIdeal.main_v16) = v2 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v1) = v0 c
          ∧ r.2.mem ((c.tc : Thread Cert.ReferenceInIdeal.nD Cert.ReferenceInIdeal.τ).loc Cert.ReferenceInIdeal.main_v2) = v1 c
          ∧ r.2.mem ((c.tc : Thread Cert.ReferenceInIdeal.nD Cert.ReferenceInIdeal.τ).loc Cert.ReferenceInIdeal.main_v3) = v2 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelInDw_KernelInDwIdeal : Prop :=
  True

def algebraic_KernelInDwIdeal_ReferenceInDwIdeal [hKernelInDwIdeal : Cert.KernelInDwIdeal.Facts] [hReferenceInDwIdeal : Cert.ReferenceInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg)
    (m' : (ℓ : Loc Cert.ReferenceInDwIdeal.nD Cert.ReferenceInDwIdeal.τ Cert.ReferenceInDwIdeal.sig) → Buf (Elt Ideal) ℓ) (g' : Dev Cert.ReferenceInDwIdeal.nD → PrngReg), Pre_KernelInDwIdeal m →
    (∀ c : Dev Cert.KernelInDwIdeal.nD,
      m' ((c.tc : Thread Cert.ReferenceInDwIdeal.nD Cert.ReferenceInDwIdeal.τ).loc Cert.ReferenceInDwIdeal.main_arg0) = m ((c.tc : Thread Cert.KernelInDwIdeal.nD Cert.KernelInDwIdeal.τ).loc Cert.KernelInDwIdeal.main_arg0)
      ∧ m' ((c.tc : Thread Cert.ReferenceInDwIdeal.nD Cert.ReferenceInDwIdeal.τ).loc Cert.ReferenceInDwIdeal.main_arg1) = m ((c.tc : Thread Cert.KernelInDwIdeal.nD Cert.KernelInDwIdeal.τ).loc Cert.KernelInDwIdeal.main_arg1)
      ∧ m' ((c.tc : Thread Cert.ReferenceInDwIdeal.nD Cert.ReferenceInDwIdeal.τ).loc Cert.ReferenceInDwIdeal.main_arg2) = m ((c.tc : Thread Cert.KernelInDwIdeal.nD Cert.KernelInDwIdeal.τ).loc Cert.KernelInDwIdeal.main_arg2)
      ∧ m' ((c.tc : Thread Cert.ReferenceInDwIdeal.nD Cert.ReferenceInDwIdeal.τ).loc Cert.ReferenceInDwIdeal.main_arg3) = m ((c.tc : Thread Cert.KernelInDwIdeal.nD Cert.KernelInDwIdeal.τ).loc Cert.KernelInDwIdeal.main_arg3)) →
    ∃ (v0 : (c : Dev Cert.KernelInDwIdeal.nD) → Buf (Elt Ideal) ((c.tc : Thread Cert.KernelInDwIdeal.nD Cert.KernelInDwIdeal.τ).loc Cert.KernelInDwIdeal.main_v16)),
      θ_run (Cert.KernelInDwIdeal.defs (F := Ideal)) (onTc (τ := Cert.KernelInDwIdeal.τ) (Cert.KernelInDwIdeal.main (F := Ideal))) ⟨m, fun _ => 0, g⟩ (fun r => ∀ c : Dev Cert.KernelInDwIdeal.nD,
          r.2.mem ((c.tc : Thread Cert.KernelInDwIdeal.nD Cert.KernelInDwIdeal.τ).loc Cert.KernelInDwIdeal.main_v16) = v0 c
          ∧ r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
          ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1)
          ∧ r.2.mem ((c.tc : Thread Cert.KernelInDwIdeal.nD Cert.KernelInDwIdeal.τ).loc Cert.KernelInDwIdeal.main_arg2) = m ((c.tc : Thread Cert.KernelInDwIdeal.nD Cert.KernelInDwIdeal.τ).loc Cert.KernelInDwIdeal.main_arg2)
          ∧ r.2.mem ((c.tc : Thread Cert.KernelInDwIdeal.nD Cert.KernelInDwIdeal.τ).loc Cert.KernelInDwIdeal.main_arg3) = m ((c.tc : Thread Cert.KernelInDwIdeal.nD Cert.KernelInDwIdeal.τ).loc Cert.KernelInDwIdeal.main_arg3))
      ∧ θ_run (Cert.ReferenceInDwIdeal.defs (F := Ideal)) (onTc (τ := Cert.ReferenceInDwIdeal.τ) (Cert.ReferenceInDwIdeal.main (F := Ideal))) ⟨m', fun _ => 0, g'⟩ (fun r => ∀ c : Dev Cert.ReferenceInDwIdeal.nD,
          r.2.mem ((c.tc : Thread Cert.ReferenceInDwIdeal.nD Cert.ReferenceInDwIdeal.τ).loc Cert.ReferenceInDwIdeal.main_v4) = v0 c
          ∧ r.2.mem ((c.tc : Thread Cert.ReferenceInDwIdeal.nD Cert.ReferenceInDwIdeal.τ).loc Cert.ReferenceInDwIdeal.main_arg0) = m' ((c.tc : Thread Cert.ReferenceInDwIdeal.nD Cert.ReferenceInDwIdeal.τ).loc Cert.ReferenceInDwIdeal.main_arg0)
          ∧ r.2.mem ((c.tc : Thread Cert.ReferenceInDwIdeal.nD Cert.ReferenceInDwIdeal.τ).loc Cert.ReferenceInDwIdeal.main_arg1) = m' ((c.tc : Thread Cert.ReferenceInDwIdeal.nD Cert.ReferenceInDwIdeal.τ).loc Cert.ReferenceInDwIdeal.main_arg1)
          ∧ r.2.mem ((c.tc : Thread Cert.ReferenceInDwIdeal.nD Cert.ReferenceInDwIdeal.τ).loc Cert.ReferenceInDwIdeal.main_arg2) = m' ((c.tc : Thread Cert.ReferenceInDwIdeal.nD Cert.ReferenceInDwIdeal.τ).loc Cert.ReferenceInDwIdeal.main_arg2)
          ∧ r.2.mem ((c.tc : Thread Cert.ReferenceInDwIdeal.nD Cert.ReferenceInDwIdeal.τ).loc Cert.ReferenceInDwIdeal.main_arg3) = m' ((c.tc : Thread Cert.ReferenceInDwIdeal.nD Cert.ReferenceInDwIdeal.τ).loc Cert.ReferenceInDwIdeal.main_arg3))

def preserves_KernelInDx_KernelInDxIdeal : Prop :=
  True

def algebraic_KernelInDxIdeal_ReferenceInDxIdeal [hKernelInDxIdeal : Cert.KernelInDxIdeal.Facts] [hReferenceInDxIdeal : Cert.ReferenceInDxIdeal.Facts] : Prop :=
  ∀ (m : (ℓ : Loc Cert.KernelInDxIdeal.nD Cert.KernelInDxIdeal.τ Cert.KernelInDxIdeal.sig) → Buf (Elt Ideal) ℓ) (g : Dev Cert.KernelInDxIdeal.nD → PrngReg)
    (m' : (ℓ : Loc Cert.ReferenceInDxIdeal.nD Cert.ReferenceInDxIdeal.τ Cert.ReferenceInDxIdeal.sig) → Buf (Elt Ideal) ℓ) (g' : Dev Cert.ReferenceInDxIdeal.nD → PrngReg), Pre_KernelInDxIdeal m →
    (∀ c : Dev Cert.KernelInDxIdeal.nD,
      m' ((c.tc : Thread Cert.ReferenceInDxIdeal.nD Cert.ReferenceInDxIdeal.τ).loc Cert.ReferenceInDxIdeal.main_arg0) = m ((c.tc : Thread Cert.KernelInDxIdeal.nD Cert.KernelInDxIdeal.τ).loc Cert.KernelInDxIdeal.main_arg0)
      ∧ m' ((c.tc : Thread Cert.ReferenceInDxIdeal.nD Cert.ReferenceInDxIdeal.τ).loc Cert.ReferenceInDxIdeal.main_arg1) = m ((c.tc : Thread Cert.KernelInDxIdeal.nD Cert.KernelInDxIdeal.τ).loc Cert.KernelInDxIdeal.main_arg1)
      ∧ m' ((c.tc : Thread Cert.ReferenceInDxIdeal.nD Cert.ReferenceInDxIdeal.τ).loc Cert.ReferenceInDxIdeal.main_arg2) = m ((c.tc : Thread Cert.KernelInDxIdeal.nD Cert.KernelInDxIdeal.τ).loc Cert.KernelInDxIdeal.main_arg2)) →
    ∃ (v0 : (c : Dev Cert.KernelInDxIdeal.nD) → Buf (Elt Ideal) ((c.tc : Thread Cert.KernelInDxIdeal.nD Cert.KernelInDxIdeal.τ).loc Cert.KernelInDxIdeal.main_v14)),
      θ_run (Cert.KernelInDxIdeal.defs (F := Ideal)) (onTc (τ := Cert.KernelInDxIdeal.τ) (Cert.KernelInDxIdeal.main (F := Ideal))) ⟨m, fun _ => 0, g⟩ (fun r => ∀ c : Dev Cert.KernelInDxIdeal.nD,
          r.2.mem ((c.tc : Thread Cert.KernelInDxIdeal.nD Cert.KernelInDxIdeal.τ).loc Cert.KernelInDxIdeal.main_v14) = v0 c
          ∧ r.2.mem ((c.tc : Thread Cert.KernelInDxIdeal.nD Cert.KernelInDxIdeal.τ).loc Cert.KernelInDxIdeal.main_arg0) = m ((c.tc : Thread Cert.KernelInDxIdeal.nD Cert.KernelInDxIdeal.τ).loc Cert.KernelInDxIdeal.main_arg0)
          ∧ r.2.mem ((c.tc : Thread Cert.KernelInDxIdeal.nD Cert.KernelInDxIdeal.τ).loc Cert.KernelInDxIdeal.main_arg1) = m ((c.tc : Thread Cert.KernelInDxIdeal.nD Cert.KernelInDxIdeal.τ).loc Cert.KernelInDxIdeal.main_arg1)
          ∧ r.2.mem ((c.tc : Thread Cert.KernelInDxIdeal.nD Cert.KernelInDxIdeal.τ).loc Cert.KernelInDxIdeal.main_arg2) = m ((c.tc : Thread Cert.KernelInDxIdeal.nD Cert.KernelInDxIdeal.τ).loc Cert.KernelInDxIdeal.main_arg2))
      ∧ θ_run (Cert.ReferenceInDxIdeal.defs (F := Ideal)) (onTc (τ := Cert.ReferenceInDxIdeal.τ) (Cert.ReferenceInDxIdeal.main (F := Ideal))) ⟨m', fun _ => 0, g'⟩ (fun r => ∀ c : Dev Cert.ReferenceInDxIdeal.nD,
          r.2.mem ((c.tc : Thread Cert.ReferenceInDxIdeal.nD Cert.ReferenceInDxIdeal.τ).loc Cert.ReferenceInDxIdeal.main_v8) = v0 c
          ∧ r.2.mem ((c.tc : Thread Cert.ReferenceInDxIdeal.nD Cert.ReferenceInDxIdeal.τ).loc Cert.ReferenceInDxIdeal.main_arg0) = m' ((c.tc : Thread Cert.ReferenceInDxIdeal.nD Cert.ReferenceInDxIdeal.τ).loc Cert.ReferenceInDxIdeal.main_arg0)
          ∧ r.2.mem ((c.tc : Thread Cert.ReferenceInDxIdeal.nD Cert.ReferenceInDxIdeal.τ).loc Cert.ReferenceInDxIdeal.main_arg1) = m' ((c.tc : Thread Cert.ReferenceInDxIdeal.nD Cert.ReferenceInDxIdeal.τ).loc Cert.ReferenceInDxIdeal.main_arg1)
          ∧ r.2.mem ((c.tc : Thread Cert.ReferenceInDxIdeal.nD Cert.ReferenceInDxIdeal.τ).loc Cert.ReferenceInDxIdeal.main_arg2) = m' ((c.tc : Thread Cert.ReferenceInDxIdeal.nD Cert.ReferenceInDxIdeal.τ).loc Cert.ReferenceInDxIdeal.main_arg2))

def preserves_KernelInGateDx_KernelInGateDxIdeal : Prop :=
  True

def algebraic_KernelInGateDxIdeal_ReferenceInGateDxIdeal [hKernelInGateDxIdeal : Cert.KernelInGateDxIdeal.Facts] [hReferenceInGateDxIdeal : Cert.ReferenceInGateDxIdeal.Facts] : Prop :=
  ∀ (m : (ℓ : Loc Cert.KernelInGateDxIdeal.nD Cert.KernelInGateDxIdeal.τ Cert.KernelInGateDxIdeal.sig) → Buf (Elt Ideal) ℓ) (g : Dev Cert.KernelInGateDxIdeal.nD → PrngReg)
    (m' : (ℓ : Loc Cert.ReferenceInGateDxIdeal.nD Cert.ReferenceInGateDxIdeal.τ Cert.ReferenceInGateDxIdeal.sig) → Buf (Elt Ideal) ℓ) (g' : Dev Cert.ReferenceInGateDxIdeal.nD → PrngReg), Pre_KernelInGateDxIdeal m →
    (∀ c : Dev Cert.KernelInGateDxIdeal.nD,
      m' ((c.tc : Thread Cert.ReferenceInGateDxIdeal.nD Cert.ReferenceInGateDxIdeal.τ).loc Cert.ReferenceInGateDxIdeal.main_arg0) = m ((c.tc : Thread Cert.KernelInGateDxIdeal.nD Cert.KernelInGateDxIdeal.τ).loc Cert.KernelInGateDxIdeal.main_arg0)
      ∧ m' ((c.tc : Thread Cert.ReferenceInGateDxIdeal.nD Cert.ReferenceInGateDxIdeal.τ).loc Cert.ReferenceInGateDxIdeal.main_arg1) = m ((c.tc : Thread Cert.KernelInGateDxIdeal.nD Cert.KernelInGateDxIdeal.τ).loc Cert.KernelInGateDxIdeal.main_arg1)
      ∧ m' ((c.tc : Thread Cert.ReferenceInGateDxIdeal.nD Cert.ReferenceInGateDxIdeal.τ).loc Cert.ReferenceInGateDxIdeal.main_arg2) = m ((c.tc : Thread Cert.KernelInGateDxIdeal.nD Cert.KernelInGateDxIdeal.τ).loc Cert.KernelInGateDxIdeal.main_arg2)
      ∧ m' ((c.tc : Thread Cert.ReferenceInGateDxIdeal.nD Cert.ReferenceInGateDxIdeal.τ).loc Cert.ReferenceInGateDxIdeal.main_arg3) = m ((c.tc : Thread Cert.KernelInGateDxIdeal.nD Cert.KernelInGateDxIdeal.τ).loc Cert.KernelInGateDxIdeal.main_arg3)
      ∧ m' ((c.tc : Thread Cert.ReferenceInGateDxIdeal.nD Cert.ReferenceInGateDxIdeal.τ).loc Cert.ReferenceInGateDxIdeal.main_arg4) = m ((c.tc : Thread Cert.KernelInGateDxIdeal.nD Cert.KernelInGateDxIdeal.τ).loc Cert.KernelInGateDxIdeal.main_arg4)
      ∧ m' ((c.tc : Thread Cert.ReferenceInGateDxIdeal.nD Cert.ReferenceInGateDxIdeal.τ).loc Cert.ReferenceInGateDxIdeal.main_arg5) = m ((c.tc : Thread Cert.KernelInGateDxIdeal.nD Cert.KernelInGateDxIdeal.τ).loc Cert.KernelInGateDxIdeal.main_arg5)) →
    ∃ (v0 : (c : Dev Cert.KernelInGateDxIdeal.nD) → Buf (Elt Ideal) ((c.tc : Thread Cert.KernelInGateDxIdeal.nD Cert.KernelInGateDxIdeal.τ).loc Cert.KernelInGateDxIdeal.main_v9_0)) (v1 : (c : Dev Cert.KernelInGateDxIdeal.nD) → Buf (Elt Ideal) ((c.tc : Thread Cert.KernelInGateDxIdeal.nD Cert.KernelInGateDxIdeal.τ).loc Cert.KernelInGateDxIdeal.main_v9_1)) (v2 : (c : Dev Cert.KernelInGateDxIdeal.nD) → Buf (Elt Ideal) ((c.tc : Thread Cert.KernelInGateDxIdeal.nD Cert.KernelInGateDxIdeal.τ).loc Cert.KernelInGateDxIdeal.main_v9_2)),
      θ_run (Cert.KernelInGateDxIdeal.defs (F := Ideal)) (onTc (τ := Cert.KernelInGateDxIdeal.τ) (Cert.KernelInGateDxIdeal.main (F := Ideal))) ⟨m, fun _ => 0, g⟩ (fun r => ∀ c : Dev Cert.KernelInGateDxIdeal.nD,
          r.2.mem ((c.tc : Thread Cert.KernelInGateDxIdeal.nD Cert.KernelInGateDxIdeal.τ).loc Cert.KernelInGateDxIdeal.main_v9_0) = v0 c
          ∧ r.2.mem ((c.tc : Thread Cert.KernelInGateDxIdeal.nD Cert.KernelInGateDxIdeal.τ).loc Cert.KernelInGateDxIdeal.main_v9_1) = v1 c
          ∧ r.2.mem ((c.tc : Thread Cert.KernelInGateDxIdeal.nD Cert.KernelInGateDxIdeal.τ).loc Cert.KernelInGateDxIdeal.main_v9_2) = v2 c
          ∧ r.2.mem ((c.tc : Thread Cert.KernelInGateDxIdeal.nD Cert.KernelInGateDxIdeal.τ).loc Cert.KernelInGateDxIdeal.main_arg0) = m ((c.tc : Thread Cert.KernelInGateDxIdeal.nD Cert.KernelInGateDxIdeal.τ).loc Cert.KernelInGateDxIdeal.main_arg0)
          ∧ r.2.mem ((c.tc : Thread Cert.KernelInGateDxIdeal.nD Cert.KernelInGateDxIdeal.τ).loc Cert.KernelInGateDxIdeal.main_arg1) = m ((c.tc : Thread Cert.KernelInGateDxIdeal.nD Cert.KernelInGateDxIdeal.τ).loc Cert.KernelInGateDxIdeal.main_arg1)
          ∧ r.2.mem ((c.tc : Thread Cert.KernelInGateDxIdeal.nD Cert.KernelInGateDxIdeal.τ).loc Cert.KernelInGateDxIdeal.main_arg2) = m ((c.tc : Thread Cert.KernelInGateDxIdeal.nD Cert.KernelInGateDxIdeal.τ).loc Cert.KernelInGateDxIdeal.main_arg2)
          ∧ r.2.mem ((c.tc : Thread Cert.KernelInGateDxIdeal.nD Cert.KernelInGateDxIdeal.τ).loc Cert.KernelInGateDxIdeal.main_arg3) = m ((c.tc : Thread Cert.KernelInGateDxIdeal.nD Cert.KernelInGateDxIdeal.τ).loc Cert.KernelInGateDxIdeal.main_arg3)
          ∧ r.2.mem ((c.tc : Thread Cert.KernelInGateDxIdeal.nD Cert.KernelInGateDxIdeal.τ).loc Cert.KernelInGateDxIdeal.main_arg4) = m ((c.tc : Thread Cert.KernelInGateDxIdeal.nD Cert.KernelInGateDxIdeal.τ).loc Cert.KernelInGateDxIdeal.main_arg4)
          ∧ r.2.mem ((c.tc : Thread Cert.KernelInGateDxIdeal.nD Cert.KernelInGateDxIdeal.τ).loc Cert.KernelInGateDxIdeal.main_arg5) = m ((c.tc : Thread Cert.KernelInGateDxIdeal.nD Cert.KernelInGateDxIdeal.τ).loc Cert.KernelInGateDxIdeal.main_arg5))
      ∧ θ_run (Cert.ReferenceInGateDxIdeal.defs (F := Ideal)) (onTc (τ := Cert.ReferenceInGateDxIdeal.τ) (Cert.ReferenceInGateDxIdeal.main (F := Ideal))) ⟨m', fun _ => 0, g'⟩ (fun r => ∀ c : Dev Cert.ReferenceInGateDxIdeal.nD,
          r.2.mem ((c.tc : Thread Cert.ReferenceInGateDxIdeal.nD Cert.ReferenceInGateDxIdeal.τ).loc Cert.ReferenceInGateDxIdeal.main_v42) = v0 c
          ∧ r.2.mem ((c.tc : Thread Cert.ReferenceInGateDxIdeal.nD Cert.ReferenceInGateDxIdeal.τ).loc Cert.ReferenceInGateDxIdeal.main_v43) = v1 c
          ∧ r.2.mem ((c.tc : Thread Cert.ReferenceInGateDxIdeal.nD Cert.ReferenceInGateDxIdeal.τ).loc Cert.ReferenceInGateDxIdeal.main_v44) = v2 c
          ∧ r.2.mem ((c.tc : Thread Cert.ReferenceInGateDxIdeal.nD Cert.ReferenceInGateDxIdeal.τ).loc Cert.ReferenceInGateDxIdeal.main_arg0) = m' ((c.tc : Thread Cert.ReferenceInGateDxIdeal.nD Cert.ReferenceInGateDxIdeal.τ).loc Cert.ReferenceInGateDxIdeal.main_arg0)
          ∧ r.2.mem ((c.tc : Thread Cert.ReferenceInGateDxIdeal.nD Cert.ReferenceInGateDxIdeal.τ).loc Cert.ReferenceInGateDxIdeal.main_arg1) = m' ((c.tc : Thread Cert.ReferenceInGateDxIdeal.nD Cert.ReferenceInGateDxIdeal.τ).loc Cert.ReferenceInGateDxIdeal.main_arg1)
          ∧ r.2.mem ((c.tc : Thread Cert.ReferenceInGateDxIdeal.nD Cert.ReferenceInGateDxIdeal.τ).loc Cert.ReferenceInGateDxIdeal.main_arg2) = m' ((c.tc : Thread Cert.ReferenceInGateDxIdeal.nD Cert.ReferenceInGateDxIdeal.τ).loc Cert.ReferenceInGateDxIdeal.main_arg2)
          ∧ r.2.mem ((c.tc : Thread Cert.ReferenceInGateDxIdeal.nD Cert.ReferenceInGateDxIdeal.τ).loc Cert.ReferenceInGateDxIdeal.main_arg3) = m' ((c.tc : Thread Cert.ReferenceInGateDxIdeal.nD Cert.ReferenceInGateDxIdeal.τ).loc Cert.ReferenceInGateDxIdeal.main_arg3)
          ∧ r.2.mem ((c.tc : Thread Cert.ReferenceInGateDxIdeal.nD Cert.ReferenceInGateDxIdeal.τ).loc Cert.ReferenceInGateDxIdeal.main_arg4) = m' ((c.tc : Thread Cert.ReferenceInGateDxIdeal.nD Cert.ReferenceInGateDxIdeal.τ).loc Cert.ReferenceInGateDxIdeal.main_arg4)
          ∧ r.2.mem ((c.tc : Thread Cert.ReferenceInGateDxIdeal.nD Cert.ReferenceInGateDxIdeal.τ).loc Cert.ReferenceInGateDxIdeal.main_arg5) = m' ((c.tc : Thread Cert.ReferenceInGateDxIdeal.nD Cert.ReferenceInGateDxIdeal.τ).loc Cert.ReferenceInGateDxIdeal.main_arg5))

def Claim : Prop :=
  ∃ (hKernel : Cert.Kernel.Facts) (hKernelIdeal : Cert.KernelIdeal.Facts) (hReferenceIdeal : Cert.ReferenceIdeal.Facts) (hKernel4 : Cert.Kernel4.Facts) (hKernel4Ideal : Cert.Kernel4Ideal.Facts) (hReference4Ideal : Cert.Reference4Ideal.Facts) (hKernel16 : Cert.Kernel16.Facts) (hKernel16Ideal : Cert.Kernel16Ideal.Facts) (hReference16Ideal : Cert.Reference16Ideal.Facts) (hKernelFfn : Cert.KernelFfn.Facts) (hKernelFfnIdeal : Cert.KernelFfnIdeal.Facts) (hReferenceFfnIdeal : Cert.ReferenceFfnIdeal.Facts) (hKernelGateDx : Cert.KernelGateDx.Facts) (hKernelGateDxIdeal : Cert.KernelGateDxIdeal.Facts) (hReferenceGateDxIdeal : Cert.ReferenceGateDxIdeal.Facts) (hKernelUpDx : Cert.KernelUpDx.Facts) (hKernelUpDxIdeal : Cert.KernelUpDxIdeal.Facts) (hReferenceUpDxIdeal : Cert.ReferenceUpDxIdeal.Facts) (hKernelDown : Cert.KernelDown.Facts) (hKernelDownIdeal : Cert.KernelDownIdeal.Facts) (hReferenceDownIdeal : Cert.ReferenceDownIdeal.Facts) (hKernelIn : Cert.KernelIn.Facts) (hKernelInIdeal : Cert.KernelInIdeal.Facts) (hReferenceInIdeal : Cert.ReferenceInIdeal.Facts) (hKernelInDw : Cert.KernelInDw.Facts) (hKernelInDwIdeal : Cert.KernelInDwIdeal.Facts) (hReferenceInDwIdeal : Cert.ReferenceInDwIdeal.Facts) (hKernelInDx : Cert.KernelInDx.Facts) (hKernelInDxIdeal : Cert.KernelInDxIdeal.Facts) (hReferenceInDxIdeal : Cert.ReferenceInDxIdeal.Facts) (hKernelInGateDx : Cert.KernelInGateDx.Facts) (hKernelInGateDxIdeal : Cert.KernelInGateDxIdeal.Facts) (hReferenceInGateDxIdeal : Cert.ReferenceInGateDxIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel16 (hKernel16 := hKernel16)
    ∧ quiescent_Kernel16Ideal (hKernel16Ideal := hKernel16Ideal)
    ∧ quiescent_Kernel16Ideal_pre_finite (hKernel16Ideal := hKernel16Ideal) (hPre_finite := hPre_finite)
    ∧ quiescent_Reference16Ideal (hReference16Ideal := hReference16Ideal)
    ∧ quiescent_Reference16Ideal_pre_finite (hReference16Ideal := hReference16Ideal) (hPre_finite := hPre_finite)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelGateDx (hKernelGateDx := hKernelGateDx)
    ∧ quiescent_KernelGateDxIdeal (hKernelGateDxIdeal := hKernelGateDxIdeal)
    ∧ quiescent_ReferenceGateDxIdeal (hReferenceGateDxIdeal := hReferenceGateDxIdeal)
    ∧ quiescent_KernelUpDx (hKernelUpDx := hKernelUpDx)
    ∧ quiescent_KernelUpDxIdeal (hKernelUpDxIdeal := hKernelUpDxIdeal)
    ∧ quiescent_ReferenceUpDxIdeal (hReferenceUpDxIdeal := hReferenceUpDxIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelInDw (hKernelInDw := hKernelInDw)
    ∧ quiescent_KernelInDwIdeal (hKernelInDwIdeal := hKernelInDwIdeal)
    ∧ quiescent_ReferenceInDwIdeal (hReferenceInDwIdeal := hReferenceInDwIdeal)
    ∧ quiescent_KernelInDx (hKernelInDx := hKernelInDx)
    ∧ quiescent_KernelInDxIdeal (hKernelInDxIdeal := hKernelInDxIdeal)
    ∧ quiescent_ReferenceInDxIdeal (hReferenceInDxIdeal := hReferenceInDxIdeal)
    ∧ quiescent_KernelInGateDx (hKernelInGateDx := hKernelInGateDx)
    ∧ quiescent_KernelInGateDxIdeal (hKernelInGateDxIdeal := hKernelInGateDxIdeal)
    ∧ quiescent_ReferenceInGateDxIdeal (hReferenceInGateDxIdeal := hReferenceInGateDxIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel16_Kernel16Ideal
    ∧ algebraic_Kernel16Ideal_Reference16Ideal_pre_finite (hKernel16Ideal := hKernel16Ideal) (hReference16Ideal := hReference16Ideal) (hPre_finite := hPre_finite)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelGateDx_KernelGateDxIdeal
    ∧ algebraic_KernelGateDxIdeal_ReferenceGateDxIdeal (hKernelGateDxIdeal := hKernelGateDxIdeal) (hReferenceGateDxIdeal := hReferenceGateDxIdeal)
    ∧ preserves_KernelUpDx_KernelUpDxIdeal
    ∧ algebraic_KernelUpDxIdeal_ReferenceUpDxIdeal (hKernelUpDxIdeal := hKernelUpDxIdeal) (hReferenceUpDxIdeal := hReferenceUpDxIdeal)
    ∧ preserves_KernelDown_KernelDownIdeal
    ∧ algebraic_KernelDownIdeal_ReferenceDownIdeal (hKernelDownIdeal := hKernelDownIdeal) (hReferenceDownIdeal := hReferenceDownIdeal)
    ∧ preserves_KernelIn_KernelInIdeal
    ∧ algebraic_KernelInIdeal_ReferenceInIdeal (hKernelInIdeal := hKernelInIdeal) (hReferenceInIdeal := hReferenceInIdeal)
    ∧ preserves_KernelInDw_KernelInDwIdeal
    ∧ algebraic_KernelInDwIdeal_ReferenceInDwIdeal (hKernelInDwIdeal := hKernelInDwIdeal) (hReferenceInDwIdeal := hReferenceInDwIdeal)
    ∧ preserves_KernelInDx_KernelInDxIdeal
    ∧ algebraic_KernelInDxIdeal_ReferenceInDxIdeal (hKernelInDxIdeal := hKernelInDxIdeal) (hReferenceInDxIdeal := hReferenceInDxIdeal)
    ∧ preserves_KernelInGateDx_KernelInGateDxIdeal
    ∧ algebraic_KernelInGateDxIdeal_ReferenceInGateDxIdeal (hKernelInGateDxIdeal := hKernelInGateDxIdeal) (hReferenceInGateDxIdeal := hReferenceInGateDxIdeal)
-- ==== Pre_finite.lean ====
abbrev S2048x256 : Shape := ⟨2, ![2048, 256]⟩
abbrev S_ : Shape := ⟨0, ![]⟩

class Facts : Prop where
  bcast_S_S2048x256 : S_.BroadcastsInDim S2048x256 (![] : Fin 0 → Fin S2048x256.rank)

variable [Facts]

def fn {F : FTy → Type} [FloatOps F] (main_arg0 : FVec F S2048x256 .f32) (main_arg1 : FVec F S2048x256 .f32) (main_arg2 : FVec F S2048x256 .f32) (main_arg3 : FVec F S2048x256 .f32) (main_arg4 : FVec F S2048x256 .f32) : IVec S2048x256 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_v3 : FVec F S2048x256 .f32 := Host.absf main_arg1
  let main_cst_0 : FVec F S_ .f32 := constant S_ .f32 0x7F800000#32
  let main_v4 : FVec F S2048x256 .f32 := broadcastInDim S2048x256 ![] bcast_S_S2048x256 main_cst_0
  let main_v5 : IVec S2048x256 1 := cmpf .olt main_v3 main_v4
  let main_v6 : FVec F S2048x256 .f32 := Host.absf main_arg2
  let main_cst_1 : FVec F S_ .f32 := constant S_ .f32 0x7F800000#32
  let main_v7 : FVec F S2048x256 .f32 := broadcastInDim S2048x256 ![] bcast_S_S2048x256 main_cst_1
  let main_v8 : IVec S2048x256 1 := cmpf .olt main_v6 main_v7
  let main_v9 : FVec F S2048x256 .f32 := Host.absf main_arg3
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  let main_v12 : FVec F S2048x256 .f32 := Host.absf main_arg4
  let main_cst_3 : FVec F S_ .f32 := constant S_ .f32 0x7F800000#32
  let main_v13 : FVec F S2048x256 .f32 := broadcastInDim S2048x256 ![] bcast_S_S2048x256 main_cst_3
  let main_v14 : IVec S2048x256 1 := cmpf .olt main_v12 main_v13
  let main_v15 : IVec S2048x256 1 := andi main_v2 main_v5
  let main_v16 : IVec S2048x256 1 := andi main_v15 main_v8
  let main_v17 : IVec S2048x256 1 := andi main_v16 main_v11
  let main_v18 : IVec S2048x256 1 := andi main_v17 main_v14
  main_v18
-- ==== Kernel.lean ====
abbrev S2048x256 : Shape := ⟨2, ![2048, 256]⟩
abbrev S512x256 : Shape := ⟨2, ![512, 256]⟩
abbrev S128x256 : Shape := ⟨2, ![128, 256]⟩
abbrev S16x1x1 : Shape := ⟨3, ![16, 1, 1]⟩
abbrev S128x64 : Shape := ⟨2, ![128, 64]⟩
abbrev S1x128x64 : Shape := ⟨3, ![1, 128, 64]⟩
abbrev S4x128x64 : Shape := ⟨3, ![4, 128, 64]⟩
abbrev S16x128x64 : Shape := ⟨3, ![16, 128, 64]⟩
abbrev S1x128x128 : Shape := ⟨3, ![1, 128, 128]⟩
abbrev S16x128x128 : Shape := ⟨3, ![16, 128, 128]⟩
abbrev S16x128 : Shape := ⟨2, ![16, 128]⟩
abbrev S16x128x1 : Shape := ⟨3, ![16, 128, 1]⟩

abbrev nBuf : Space → Nat
  | .hbm => 8
  | .vmem => 22
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .local _ .vmem, ⟨0, _⟩ => ⟨S512x256, .f32⟩
  | .local _ .vmem, ⟨1, _⟩ => ⟨S512x256, .f32⟩
  | .local _ .vmem, ⟨2, _⟩ => ⟨S128x256, .f32⟩
  | .local _ .vmem, ⟨3, _⟩ => ⟨S128x256, .f32⟩
  | .local _ .vmem, ⟨4, _⟩ => ⟨S512x256, .f32⟩
  | .local _ .vmem, ⟨5, _⟩ => ⟨S512x256, .f32⟩
  | .local _ .vmem, ⟨6, _⟩ => ⟨S128x256, .f32⟩
  | .local _ .vmem, ⟨7, _⟩ => ⟨S128x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S128x256, .f32⟩
  | .local _ .vmem, ⟨21, _⟩ => ⟨S128x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c4_i32 : BitVec 32 := 4#32
  let v1 : BitVec 32 := Scalar.muli v0 c4_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c4_i32 : BitVec 32 := 4#32
  let v1 : BitVec 32 := Scalar.muli v0 c4_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2048x256 : Shape := ⟨2, ![2048, 256]⟩
abbrev S1x2048x4x64 : Shape := ⟨4, ![1, 2048, 4, 64]⟩
abbrev S1x2048x1x4x64 : Shape := ⟨5, ![1, 2048, 1, 4, 64]⟩
abbrev S1x1x2048x4x64 : Shape := ⟨5, ![1, 1, 2048, 4, 64]⟩
abbrev S1x16x128x4x64 : Shape := ⟨5, ![1, 16, 128, 4, 64]⟩
abbrev S_ : Shape := ⟨0, ![]⟩
abbrev S1x128x4x64 : Shape := ⟨4, ![1, 128, 4, 64]⟩
abbrev S1x2176x4x64 : Shape := ⟨4, ![1, 2176, 4, 64]⟩
abbrev S1x17x128x4x64 : Shape := ⟨5, ![1, 17, 128, 4, 64]⟩
abbrev S1x16x256x4x64 : Shape := ⟨5, ![1, 16, 256, 4, 64]⟩
abbrev S1x16x4x128x256 : Shape := ⟨5, ![1, 16, 4, 128, 256]⟩
abbrev S16 : Shape := ⟨1, ![16]⟩
abbrev S16x1 : Shape := ⟨2, ![16, 1]⟩
abbrev S128 : Shape := ⟨1, ![128]⟩
abbrev S1x128 : Shape := ⟨2, ![1, 128]⟩
abbrev S16x128 : Shape := ⟨2, ![16, 128]⟩
abbrev S256 : Shape := ⟨1, ![256]⟩
abbrev S1x256 : Shape := ⟨2, ![1, 256]⟩
abbrev S16x256 : Shape := ⟨2, ![16, 256]⟩
abbrev S16x128x1 : Shape := ⟨3, ![16, 128, 1]⟩
abbrev S16x1x256 : Shape := ⟨3, ![16, 1, 256]⟩
abbrev S16x128x256 : Shape := ⟨3, ![16, 128, 256]⟩
abbrev S1x16x1x128x256 : Shape := ⟨5, ![1, 16, 1, 128, 256]⟩
abbrev S1x16x4x128 : Shape := ⟨4, ![1, 16, 4, 128]⟩
abbrev S1x16x4x128x1 : Shape := ⟨5, ![1, 16, 4, 128, 1]⟩
abbrev S1x16x4x64x128 : Shape := ⟨5, ![1, 16, 4, 64, 128]⟩
abbrev S1x16x128x4x1 : Shape := ⟨5, ![1, 16, 128, 4, 1]⟩
abbrev S1x16x128x4 : Shape := ⟨4, ![1, 16, 128, 4]⟩
abbrev S1x2048x4 : Shape := ⟨3, ![1, 2048, 4]⟩
abbrev S1x1x2048x4 : Shape := ⟨4, ![1, 1, 2048, 4]⟩
abbrev S1x2048x1x4 : Shape := ⟨4, ![1, 2048, 1, 4]⟩
abbrev S1x2048x4x1 : Shape := ⟨4, ![1, 2048, 4, 1]⟩
abbrev S2048x4 : Shape := ⟨2, ![2048, 4]⟩
abbrev S1x16x4x64x256 : Shape := ⟨5, ![1, 16, 4, 64, 256]⟩
abbrev S16x4x128 : Shape := ⟨3, ![16, 4, 128]⟩
abbrev S1x16x4x256x64 : Shape := ⟨5, ![1, 16, 4, 256, 64]⟩
abbrev S1x16x4x128x64 : Shape := ⟨5, ![1, 16, 4, 128, 64]⟩

abbrev nBuf : Space → Nat
  | .hbm => 222
  | .vmem => 0
  | .smem => 0
  | _ => 0

abbrev hbmTy0_0 (i : Nat) : BufTy := match i % 128 with
  | 0 => ⟨S2048x256, .f32⟩
  | 1 => ⟨S2048x256, .f32⟩
  | 2 => ⟨S2048x256, .f32⟩
  | 3 => ⟨S2048x256, .f32⟩
  | 4 => ⟨S2048x256, .f32⟩
  | 5 => ⟨S1x2048x4x64, .f32⟩
  | 6 => ⟨S1x2048x4x64, .f32⟩
  | 7 => ⟨S1x2048x4x64, .f32⟩
  | 8 => ⟨S1x2048x1x4x64, .f32⟩
  | 9 => ⟨S1x1x2048x4x64, .f32⟩
  | 10 => ⟨S1x2048x4x64, .f32⟩
  | 11 => ⟨S1x2048x1x4x64, .f32⟩
  | 12 => ⟨S1x1x2048x4x64, .f32⟩
  | 13 => ⟨S1x2048x4x64, .f32⟩
  | 14 => ⟨S1x2048x1x4x64, .f32⟩
  | 15 => ⟨S1x1x2048x4x64, .f32⟩
  | 16 => ⟨S1x2048x4x64, .f32⟩
  | 17 => ⟨S1x16x128x4x64, .f32⟩
  | 18 => ⟨S_, .f32⟩
  | 19 => ⟨S1x128x4x64, .f32⟩
  | 20 => ⟨S1x2176x4x64, .f32⟩
  | 21 => ⟨S_, .f32⟩
  | 22 => ⟨S1x128x4x64, .f32⟩
  | 23 => ⟨S1x17x128x4x64, .f32⟩
  | 24 => ⟨S1x16x128x4x64, .f32⟩
  | 25 => ⟨S1x16x128x4x64, .f32⟩
  | 26 => ⟨S1x16x256x4x64, .f32⟩
  | 27 => ⟨S_, .f32⟩
  | 28 => ⟨S1x128x4x64, .f32⟩
  | 29 => ⟨S1x2176x4x64, .f32⟩
  | 30 => ⟨S_, .f32⟩
  | 31 => ⟨S1x128x4x64, .f32⟩
  | 32 => ⟨S1x17x128x4x64, .f32⟩
  | 33 => ⟨S1x16x128x4x64, .f32⟩
  | 34 => ⟨S1x16x128x4x64, .f32⟩
  | 35 => ⟨S1x16x256x4x64, .f32⟩
  | 36 => ⟨S1x16x4x128x256, .f32⟩
  | 37 => ⟨S_, .f32⟩
  | 38 => ⟨S1x16x4x128x256, .f32⟩
  | 39 => ⟨S1x16x4x128x256, .f32⟩
  | 40 => ⟨S16, .i32⟩
  | 41 => ⟨S16x1, .i32⟩
  | 42 => ⟨S_, .i32⟩
  | 43 => ⟨S16x1, .i32⟩
  | 44 => ⟨S16x1, .i32⟩
  | 45 => ⟨S128, .i32⟩
  | 46 => ⟨S1x128, .i32⟩
  | 47 => ⟨S16x128, .i32⟩
  | 48 => ⟨S16x128, .i32⟩
  | 49 => ⟨S16x128, .i32⟩
  | 50 => ⟨S_, .i32⟩
  | 51 => ⟨S16x1, .i32⟩
  | 52 => ⟨S16x1, .i32⟩
  | 53 => ⟨S_, .i32⟩
  | 54 => ⟨S16x1, .i32⟩
  | 55 => ⟨S16x1, .i32⟩
  | 56 => ⟨S256, .i32⟩
  | 57 => ⟨S1x256, .i32⟩
  | 58 => ⟨S16x256, .i32⟩
  | 59 => ⟨S16x256, .i32⟩
  | 60 => ⟨S16x256, .i32⟩
  | 61 => ⟨S16x128x1, .i32⟩
  | 62 => ⟨S16x1x256, .i32⟩
  | 63 => ⟨S16x128x256, .i32⟩
  | 64 => ⟨S16x128x256, .i32⟩
  | 65 => ⟨S16x128x256, .i32⟩
  | 66 => ⟨S_, .i32⟩
  | 67 => ⟨S16x128x256, .i32⟩
  | 68 => ⟨S16x128x256, .i1⟩
  | 69 => ⟨S_, .i32⟩
  | 70 => ⟨S16x128x256, .i32⟩
  | 71 => ⟨S16x128x256, .i1⟩
  | 72 => ⟨S16x128x256, .i1⟩
  | 73 => ⟨S16x1x256, .i32⟩
  | 74 => ⟨S_, .i32⟩
  | 75 => ⟨S16x1x256, .i32⟩
  | 76 => ⟨S16x1x256, .i1⟩
  | 77 => ⟨S16x128x256, .i1⟩
  | 78 => ⟨S16x128x256, .i1⟩
  | 79 => ⟨S1x16x1x128x256, .i1⟩
  | 80 => ⟨S_, .f32⟩
  | 81 => ⟨S_, .f32⟩
  | 82 => ⟨S1x16x4x128x256, .i1⟩
  | 83 => ⟨S1x16x4x128x256, .f32⟩
  | 84 => ⟨S1x16x4x128x256, .f32⟩
  | 85 => ⟨S_, .f32⟩
  | 86 => ⟨S1x16x4x128x256, .f32⟩
  | 87 => ⟨S_, .f32⟩
  | 88 => ⟨S1x16x4x128, .f32⟩
  | 89 => ⟨S1x16x4x128x1, .f32⟩
  | 90 => ⟨S1x16x4x128x256, .f32⟩
  | 91 => ⟨S1x16x4x128x256, .i1⟩
  | 92 => ⟨S1x16x4x128x256, .f32⟩
  | 93 => ⟨S_, .f32⟩
  | 94 => ⟨S1x16x4x128, .f32⟩
  | 95 => ⟨S1x16x4x128x1, .f32⟩
  | 96 => ⟨S1x16x4x128x256, .f32⟩
  | 97 => ⟨S1x16x4x128x256, .f32⟩
  | 98 => ⟨S1x16x4x128x256, .f32⟩
  | 99 => ⟨S_, .f32⟩
  | 100 => ⟨S1x16x4x128, .f32⟩
  | 101 => ⟨S1x16x4x128x1, .f32⟩
  | 102 => ⟨S1x16x4x64x128, .f32⟩
  | 103 => ⟨S1x16x128x4x64, .f32⟩
  | 104 => ⟨S1x16x128x4x1, .f32⟩
  | 105 => ⟨S1x16x128x4x64, .f32⟩
  | 106 => ⟨S1x16x128x4x64, .f32⟩
  | 107 => ⟨S1x16x128x4x1, .f32⟩
  | 108 => ⟨S_, .f32⟩
  | 109 => ⟨S1x16x128x4x1, .f32⟩
  | 110 => ⟨S1x16x128x4x1, .f32⟩
  | 111 => ⟨S1x16x4x128x1, .f32⟩
  | 112 => ⟨S1x16x4x128x1, .f32⟩
  | 113 => ⟨S1x16x4x128, .f32⟩
  | 114 => ⟨S1x16x128x4, .f32⟩
  | 115 => ⟨S1x2048x4x64, .f32⟩
  | 116 => ⟨S1x2048x4, .f32⟩
  | 117 => ⟨S1x1x2048x4x64, .f32⟩
  | 118 => ⟨S1x2048x1x4x64, .f32⟩
  | 119 => ⟨S1x2048x4x64, .f32⟩
  | 120 => ⟨S1x1x2048x4, .f32⟩
  | 121 => ⟨S1x2048x1x4, .f32⟩
  | 122 => ⟨S1x2048x4, .f32⟩
  | 123 => ⟨S1x2048x4x1, .f32⟩
  | 124 => ⟨S1x2048x4x64, .f32⟩
  | 125 => ⟨S2048x256, .f32⟩
  | 126 => ⟨S2048x256, .f32⟩
  | 127 => ⟨S1x2048x4x64, .f32⟩
  | _ => ⟨S2048x256, .f32⟩

abbrev hbmTy0_1 (i : Nat) : BufTy := match i % 128 with
  | 0 => ⟨S1x2048x4x64, .f32⟩
  | 1 => ⟨S_, .f32⟩
  | 2 => ⟨S2048x4, .f32⟩
  | 3 => ⟨S1x2048x4x1, .f32⟩
  | 4 => ⟨S_, .f32⟩
  | 5 => ⟨S2048x4, .f32⟩
  | 6 => ⟨S1x2048x4, .f32⟩
  | 7 => ⟨S1x2048x1x4, .f32⟩
  | 8 => ⟨S1x1x2048x4, .f32⟩
  | 9 => ⟨S1x2048x4, .f32⟩
  | 10 => ⟨S1x2048x1x4x64, .f32⟩
  | 11 => ⟨S1x1x2048x4x64, .f32⟩
  | 12 => ⟨S1x2048x4x64, .f32⟩
  | 13 => ⟨S1x16x128x4, .f32⟩
  | 14 => ⟨S1x16x128x4x64, .f32⟩
  | 15 => ⟨S1x16x4x128, .f32⟩
  | 16 => ⟨S1x16x4x128x1, .f32⟩
  | 17 => ⟨S1x16x4x128x1, .f32⟩
  | 18 => ⟨S1x16x128x4x64, .f32⟩
  | 19 => ⟨S1x16x128x4x64, .f32⟩
  | 20 => ⟨S1x16x128x4x64, .f32⟩
  | 21 => ⟨S_, .f32⟩
  | 22 => ⟨S1x16x128x4, .f32⟩
  | 23 => ⟨S1x16x128x4x1, .f32⟩
  | 24 => ⟨S1x16x128x4x1, .f32⟩
  | 25 => ⟨S1x16x128x4x64, .f32⟩
  | 26 => ⟨S1x16x128x4x64, .f32⟩
  | 27 => ⟨S1x16x4x128x1, .f32⟩
  | 28 => ⟨S1x16x4x128x1, .f32⟩
  | 29 => ⟨S1x16x4x64x128, .f32⟩
  | 30 => ⟨S1x16x4x128x256, .f32⟩
  | 31 => ⟨S1x16x4x64x256, .f32⟩
  | 32 => ⟨S1x16x256x4x64, .f32⟩
  | 33 => ⟨S_, .f32⟩
  | 34 => ⟨S16x4x128, .f32⟩
  | 35 => ⟨S1x16x4x128, .f32⟩
  | 36 => ⟨S1x16x4x128x256, .f32⟩
  | 37 => ⟨S1x16x4x128x256, .f32⟩
  | 38 => ⟨S1x16x4x128x256, .f32⟩
  | 39 => ⟨S1x16x4x128x256, .f32⟩
  | 40 => ⟨S_, .f32⟩
  | 41 => ⟨S1x16x4x128, .f32⟩
  | 42 => ⟨S1x16x4x128x1, .f32⟩
  | 43 => ⟨S1x16x4x128x1, .f32⟩
  | 44 => ⟨S_, .f32⟩
  | 45 => ⟨S16x4x128, .f32⟩
  | 46 => ⟨S1x16x4x128, .f32⟩
  | 47 => ⟨S1x16x4x128, .f32⟩
  | 48 => ⟨S1x16x4x128x256, .f32⟩
  | 49 => ⟨S1x16x4x128x256, .f32⟩
  | 50 => ⟨S1x16x4x128x256, .f32⟩
  | 51 => ⟨S_, .f32⟩
  | 52 => ⟨S1x16x4x128x256, .f32⟩
  | 53 => ⟨S1x16x4x128x256, .f32⟩
  | 54 => ⟨S_, .f32⟩
  | 55 => ⟨S1x16x4x128x256, .f32⟩
  | 56 => ⟨S1x16x4x128x256, .f32⟩
  | 57 => ⟨S1x16x4x256x64, .f32⟩
  | 58 => ⟨S1x16x256x4x64, .f32⟩
  | 59 => ⟨S1x16x4x128x64, .f32⟩
  | 60 => ⟨S1x16x128x4x64, .f32⟩
  | 61 => ⟨S1x16x128x4x64, .f32⟩
  | 62 => ⟨S1x16x128x4x64, .f32⟩
  | 63 => ⟨S_, .f32⟩
  | 64 => ⟨S1x17x128x4x64, .f32⟩
  | 65 => ⟨S_, .f32⟩
  | 66 => ⟨S1x17x128x4x64, .f32⟩
  | 67 => ⟨S1x17x128x4x64, .f32⟩
  | 68 => ⟨S1x2176x4x64, .f32⟩
  | 69 => ⟨S1x128x4x64, .f32⟩
  | 70 => ⟨S1x2048x4x64, .f32⟩
  | 71 => ⟨S1x16x128x4x64, .f32⟩
  | 72 => ⟨S1x16x128x4x64, .f32⟩
  | 73 => ⟨S_, .f32⟩
  | 74 => ⟨S1x17x128x4x64, .f32⟩
  | 75 => ⟨S_, .f32⟩
  | 76 => ⟨S1x17x128x4x64, .f32⟩
  | 77 => ⟨S1x17x128x4x64, .f32⟩
  | 78 => ⟨S1x2176x4x64, .f32⟩
  | 79 => ⟨S1x128x4x64, .f32⟩
  | 80 => ⟨S1x2048x4x64, .f32⟩
  | 81 => ⟨S1x2048x4x64, .f32⟩
  | 82 => ⟨S1x1x2048x4x64, .f32⟩
  | 83 => ⟨S1x2048x1x4x64, .f32⟩
  | 84 => ⟨S1x2048x4x64, .f32⟩
  | 85 => ⟨S1x1x2048x4x64, .f32⟩
  | 86 => ⟨S1x2048x1x4x64, .f32⟩
  | 87 => ⟨S1x2048x4x64, .f32⟩
  | 88 => ⟨S1x1x2048x4x64, .f32⟩
  | 89 => ⟨S1x2048x1x4x64, .f32⟩
  | 90 => ⟨S1x2048x4x64, .f32⟩
  | 91 => ⟨S2048x256, .f32⟩
  | 92 => ⟨S2048x256, .f32⟩
  | 93 => ⟨S2048x256, .f32⟩
  | _ => ⟨S2048x256, .f32⟩

abbrev hbmTy (i : Nat) : BufTy := match i / 128 with
  | 0 => hbmTy0_0 i
  | 1 => hbmTy0_1 i
  | _ => ⟨S2048x256, .f32⟩

abbrev bufTy : (tb : Table) → Fin (tcTables nBuf tb) → BufTy
  | .hbm, ⟨i, _⟩ => hbmTy i
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_4 : Ref sig .tc := ⟨.hbm, 50, rfl⟩
abbrev main_v39 : Ref sig .tc := ⟨.hbm, 51, rfl⟩
abbrev main_v40 : Ref sig .tc := ⟨.hbm, 52, rfl⟩
abbrev main_c_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_c_6 : Ref sig .tc := ⟨.hbm, 66, rfl⟩
abbrev main_v53 : Ref sig .tc := ⟨.hbm, 67, rfl⟩
abbrev main_v54 : Ref sig .tc := ⟨.hbm, 68, rfl⟩
abbrev main_c_7 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_c_8 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_9 : Ref sig .tc := ⟨.hbm, 80, rfl⟩
abbrev main_call0_v0 : Ref sig .tc := ⟨.hbm, 81, rfl⟩
abbrev main_v64_1 : Ref sig .tc := ⟨.hbm, 82, rfl⟩
abbrev main_call0_v2 : Ref sig .tc := ⟨.hbm, 83, rfl⟩
abbrev main_v64_0 : Ref sig .tc := ⟨.hbm, 84, rfl⟩
abbrev main_call0_cst : Ref sig .tc := ⟨.hbm, 85, rfl⟩
abbrev main_v64_2 : Ref sig .tc := ⟨.hbm, 86, rfl⟩
abbrev main_cst_10 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_11 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_12 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_13 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_cst_14 : Ref sig .tc := ⟨.hbm, 129, rfl⟩
abbrev main_v103 : Ref sig .tc := ⟨.hbm, 130, rfl⟩
abbrev main_v104 : Ref sig .tc := ⟨.hbm, 131, rfl⟩
abbrev main_cst_15 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_cst_16 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_cst_17 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_cst_18 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_cst_19 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_call1_cst : Ref sig .tc := ⟨.hbm, 179, rfl⟩
abbrev main_call1_v0 : Ref sig .tc := ⟨.hbm, 180, rfl⟩
abbrev main_v147 : Ref sig .tc := ⟨.hbm, 181, rfl⟩
abbrev main_cst_20 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_cst_21 : Ref sig .tc := ⟨.hbm, 191, rfl⟩
abbrev main_v156 : Ref sig .tc := ⟨.hbm, 192, rfl⟩
abbrev main_cst_22 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_cst_23 : Ref sig .tc := ⟨.hbm, 201, rfl⟩
abbrev main_v164 : Ref sig .tc := ⟨.hbm, 202, rfl⟩
abbrev main_cst_24 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩

abbrev nD : Nat := 1
abbrev τ : Topo := Topo.v7x

variable {F : FTy → Type} [FloatOps F]
-- ==== Kernel4.lean ====
abbrev S2048x256 : Shape := ⟨2, ![2048, 256]⟩
abbrev S512x1024 : Shape := ⟨2, ![512, 1024]⟩
abbrev S128x1024 : Shape := ⟨2, ![128, 1024]⟩
abbrev S16x1x1 : Shape := ⟨3, ![16, 1, 1]⟩
abbrev S128x64 : Shape := ⟨2, ![128, 64]⟩
abbrev S1x128x64 : Shape := ⟨3, ![1, 128, 64]⟩
abbrev S16x128x64 : Shape := ⟨3, ![16, 128, 64]⟩
abbrev S1x128x128 : Shape := ⟨3, ![1, 128, 128]⟩
abbrev S16x128x128 : Shape := ⟨3, ![16, 128, 128]⟩
abbrev S16x128 : Shape := ⟨2, ![16, 128]⟩
abbrev S16x128x1 : Shape := ⟨3, ![16, 128, 1]⟩

abbrev nBuf : Space → Nat
  | .hbm => 13
  | .vmem => 22
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c1_i32 : BitVec 32 := 1#32
  let v1 : BitVec 32 := Scalar.muli v0 c1_i32
  let c1_i32_0 : BitVec 32 := 1#32
  let v2 : BitVec 32 := Scalar.subi v1 c1_i32_0
  let c0_i32 : BitVec 32 := 0#32
  let v3 : BitVec 32 := Scalar.maxsi v2 c0_i32
  let c0_i32_1 : BitVec 32 := 0#32
  ![v3.toNat, arg0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c1_i32 : BitVec 32 := 1#32
  let v1 : BitVec 32 := Scalar.muli v0 c1_i32
  let c1_i32_0 : BitVec 32 := 1#32
  let v2 : BitVec 32 := Scalar.subi v1 c1_i32_0
  let c0_i32 : BitVec 32 := 0#32
  let v3 : BitVec 32 := Scalar.maxsi v2 c0_i32
  let c0_i32_1 : BitVec 32 := 0#32
  ![v3.toNat, arg0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel4Ideal.lean ====
variable {F : FTy → Type} [FloatOps F] [Named F]
def κ : String → Option EReal := fun
  | "mask" => some ⊥
  | _ => none
-- ==== Reference4Ideal.lean ====
abbrev S2048x256 : Shape := ⟨2, ![2048, 256]⟩
abbrev S1x2048x4x64 : Shape := ⟨4, ![1, 2048, 4, 64]⟩
abbrev S1x512x4x4x64 : Shape := ⟨5, ![1, 512, 4, 4, 64]⟩
abbrev S1x4x512x4x64 : Shape := ⟨5, ![1, 4, 512, 4, 64]⟩
abbrev S4x512x4x64 : Shape := ⟨4, ![4, 512, 4, 64]⟩
abbrev S4x4x128x4x64 : Shape := ⟨5, ![4, 4, 128, 4, 64]⟩
abbrev S_ : Shape := ⟨0, ![]⟩
abbrev S4x128x4x64 : Shape := ⟨4, ![4, 128, 4, 64]⟩
abbrev S4x640x4x64 : Shape := ⟨4, ![4, 640, 4, 64]⟩
abbrev S4x5x128x4x64 : Shape := ⟨5, ![4, 5, 128, 4, 64]⟩
abbrev S4x4x256x4x64 : Shape := ⟨5, ![4, 4, 256, 4, 64]⟩
abbrev S4x4x4x128x256 : Shape := ⟨5, ![4, 4, 4, 128, 256]⟩
abbrev S4 : Shape := ⟨1, ![4]⟩
abbrev S4x1 : Shape := ⟨2, ![4, 1]⟩
abbrev S128 : Shape := ⟨1, ![128]⟩
abbrev S1x128 : Shape := ⟨2, ![1, 128]⟩
abbrev S4x128 : Shape := ⟨2, ![4, 128]⟩
abbrev S256 : Shape := ⟨1, ![256]⟩
abbrev S1x256 : Shape := ⟨2, ![1, 256]⟩
abbrev S4x256 : Shape := ⟨2, ![4, 256]⟩
abbrev S4x128x1 : Shape := ⟨3, ![4, 128, 1]⟩
abbrev S4x1x256 : Shape := ⟨3, ![4, 1, 256]⟩
abbrev S4x128x256 : Shape := ⟨3, ![4, 128, 256]⟩
abbrev S1x4x1x128x256 : Shape := ⟨5, ![1, 4, 1, 128, 256]⟩
abbrev S4x4x4x128 : Shape := ⟨4, ![4, 4, 4, 128]⟩
abbrev S4x4x4x128x1 : Shape := ⟨5, ![4, 4, 4, 128, 1]⟩
abbrev S4x4x4x64x128 : Shape := ⟨5, ![4, 4, 4, 64, 128]⟩
abbrev S4x4x128x4x1 : Shape := ⟨5, ![4, 4, 128, 4, 1]⟩
abbrev S4x4x128x4 : Shape := ⟨4, ![4, 4, 128, 4]⟩
abbrev S4x512x4 : Shape := ⟨3, ![4, 512, 4]⟩
abbrev S1x4x512x4 : Shape := ⟨4, ![1, 4, 512, 4]⟩
abbrev S1x512x4x4 : Shape := ⟨4, ![1, 512, 4, 4]⟩
abbrev S1x2048x4 : Shape := ⟨3, ![1, 2048, 4]⟩
abbrev S1x2048x4x1 : Shape := ⟨4, ![1, 2048, 4, 1]⟩
abbrev S2048x4 : Shape := ⟨2, ![2048, 4]⟩
abbrev S4x4x4x64x256 : Shape := ⟨5, ![4, 4, 4, 64, 256]⟩
abbrev S4x4x4x256x64 : Shape := ⟨5, ![4, 4, 4, 256, 64]⟩
abbrev S4x4x4x128x64 : Shape := ⟨5, ![4, 4, 4, 128, 64]⟩
abbrev S512x1024 : Shape := ⟨2, ![512, 1024]⟩

abbrev nBuf : Space → Nat
  | .hbm => 223
  | .vmem => 0
  | .smem => 0
  | _ => 0

abbrev hbmTy0_0 (i : Nat) : BufTy := match i % 128 with
  | 0 => ⟨S2048x256, .f32⟩
  | 1 => ⟨S2048x256, .f32⟩
  | 2 => ⟨S2048x256, .f32⟩
  | 3 => ⟨S2048x256, .f32⟩
  | 4 => ⟨S2048x256, .f32⟩
  | 5 => ⟨S1x2048x4x64, .f32⟩
  | 6 => ⟨S1x2048x4x64, .f32⟩
  | 7 => ⟨S1x2048x4x64, .f32⟩
  | 8 => ⟨S1x512x4x4x64, .f32⟩
  | 9 => ⟨S1x4x512x4x64, .f32⟩
  | 10 => ⟨S4x512x4x64, .f32⟩
  | 11 => ⟨S1x512x4x4x64, .f32⟩
  | 12 => ⟨S1x4x512x4x64, .f32⟩
  | 13 => ⟨S4x512x4x64, .f32⟩
  | 14 => ⟨S1x512x4x4x64, .f32⟩
  | 15 => ⟨S1x4x512x4x64, .f32⟩
  | 16 => ⟨S4x512x4x64, .f32⟩
  | 17 => ⟨S4x4x128x4x64, .f32⟩
  | 18 => ⟨S_, .f32⟩
  | 19 => ⟨S4x128x4x64, .f32⟩
  | 20 => ⟨S4x640x4x64, .f32⟩
  | 21 => ⟨S_, .f32⟩
  | 22 => ⟨S4x128x4x64, .f32⟩
  | 23 => ⟨S4x5x128x4x64, .f32⟩
  | 24 => ⟨S4x4x128x4x64, .f32⟩
  | 25 => ⟨S4x4x128x4x64, .f32⟩
  | 26 => ⟨S4x4x256x4x64, .f32⟩
  | 27 => ⟨S_, .f32⟩
  | 28 => ⟨S4x128x4x64, .f32⟩
  | 29 => ⟨S4x640x4x64, .f32⟩
  | 30 => ⟨S_, .f32⟩
  | 31 => ⟨S4x128x4x64, .f32⟩
  | 32 => ⟨S4x5x128x4x64, .f32⟩
  | 33 => ⟨S4x4x128x4x64, .f32⟩
  | 34 => ⟨S4x4x128x4x64, .f32⟩
  | 35 => ⟨S4x4x256x4x64, .f32⟩
  | 36 => ⟨S4x4x4x128x256, .f32⟩
  | 37 => ⟨S_, .f32⟩
  | 38 => ⟨S4x4x4x128x256, .f32⟩
  | 39 => ⟨S4x4x4x128x256, .f32⟩
  | 40 => ⟨S4, .i32⟩
  | 41 => ⟨S4x1, .i32⟩
  | 42 => ⟨S_, .i32⟩
  | 43 => ⟨S4x1, .i32⟩
  | 44 => ⟨S4x1, .i32⟩
  | 45 => ⟨S128, .i32⟩
  | 46 => ⟨S1x128, .i32⟩
  | 47 => ⟨S4x128, .i32⟩
  | 48 => ⟨S4x128, .i32⟩
  | 49 => ⟨S4x128, .i32⟩
  | 50 => ⟨S_, .i32⟩
  | 51 => ⟨S4x1, .i32⟩
  | 52 => ⟨S4x1, .i32⟩
  | 53 => ⟨S_, .i32⟩
  | 54 => ⟨S4x1, .i32⟩
  | 55 => ⟨S4x1, .i32⟩
  | 56 => ⟨S256, .i32⟩
  | 57 => ⟨S1x256, .i32⟩
  | 58 => ⟨S4x256, .i32⟩
  | 59 => ⟨S4x256, .i32⟩
  | 60 => ⟨S4x256, .i32⟩
  | 61 => ⟨S4x128x1, .i32⟩
  | 62 => ⟨S4x1x256, .i32⟩
  | 63 => ⟨S4x128x256, .i32⟩
  | 64 => ⟨S4x128x256, .i32⟩
  | 65 => ⟨S4x128x256, .i32⟩
  | 66 => ⟨S_, .i32⟩
  | 67 => ⟨S4x128x256, .i32⟩
  | 68 => ⟨S4x128x256, .i1⟩
  | 69 => ⟨S_, .i32⟩
  | 70 => ⟨S4x128x256, .i32⟩
  | 71 => ⟨S4x128x256, .i1⟩
  | 72 => ⟨S4x128x256, .i1⟩
  | 73 => ⟨S4x1x256, .i32⟩
  | 74 => ⟨S_, .i32⟩
  | 75 => ⟨S4x1x256, .i32⟩
  | 76 => ⟨S4x1x256, .i1⟩
  | 77 => ⟨S4x128x256, .i1⟩
  | 78 => ⟨S4x128x256, .i1⟩
  | 79 => ⟨S1x4x1x128x256, .i1⟩
  | 80 => ⟨S_, .f32⟩
  | 81 => ⟨S_, .f32⟩
  | 82 => ⟨S4x4x4x128x256, .i1⟩
  | 83 => ⟨S4x4x4x128x256, .f32⟩
  | 84 => ⟨S4x4x4x128x256, .f32⟩
  | 85 => ⟨S_, .f32⟩
  | 86 => ⟨S4x4x4x128x256, .f32⟩
  | 87 => ⟨S_, .f32⟩
  | 88 => ⟨S4x4x4x128, .f32⟩
  | 89 => ⟨S4x4x4x128x1, .f32⟩
  | 90 => ⟨S4x4x4x128x256, .f32⟩
  | 91 => ⟨S4x4x4x128x256, .i1⟩
  | 92 => ⟨S4x4x4x128x256, .f32⟩
  | 93 => ⟨S_, .f32⟩
  | 94 => ⟨S4x4x4x128, .f32⟩
  | 95 => ⟨S4x4x4x128x1, .f32⟩
  | 96 => ⟨S4x4x4x128x256, .f32⟩
  | 97 => ⟨S4x4x4x128x256, .f32⟩
  | 98 => ⟨S4x4x4x128x256, .f32⟩
  | 99 => ⟨S_, .f32⟩
  | 100 => ⟨S4x4x4x128, .f32⟩
  | 101 => ⟨S4x4x4x128x1, .f32⟩
  | 102 => ⟨S4x4x4x64x128, .f32⟩
  | 103 => ⟨S4x4x128x4x64, .f32⟩
  | 104 => ⟨S4x4x128x4x1, .f32⟩
  | 105 => ⟨S4x4x128x4x64, .f32⟩
  | 106 => ⟨S4x4x128x4x64, .f32⟩
  | 107 => ⟨S4x4x128x4x1, .f32⟩
  | 108 => ⟨S_, .f32⟩
  | 109 => ⟨S4x4x128x4x1, .f32⟩
  | 110 => ⟨S4x4x128x4x1, .f32⟩
  | 111 => ⟨S4x4x4x128x1, .f32⟩
  | 112 => ⟨S4x4x4x128x1, .f32⟩
  | 113 => ⟨S4x4x4x128, .f32⟩
  | 114 => ⟨S4x4x128x4, .f32⟩
  | 115 => ⟨S4x512x4x64, .f32⟩
  | 116 => ⟨S4x512x4, .f32⟩
  | 117 => ⟨S1x4x512x4x64, .f32⟩
  | 118 => ⟨S1x512x4x4x64, .f32⟩
  | 119 => ⟨S1x2048x4x64, .f32⟩
  | 120 => ⟨S1x4x512x4, .f32⟩
  | 121 => ⟨S1x512x4x4, .f32⟩
  | 122 => ⟨S1x2048x4, .f32⟩
  | 123 => ⟨S1x2048x4x1, .f32⟩
  | 124 => ⟨S1x2048x4x64, .f32⟩
  | 125 => ⟨S2048x256, .f32⟩
  | 126 => ⟨S2048x256, .f32⟩
  | 127 => ⟨S1x2048x4x64, .f32⟩
  | _ => ⟨S2048x256, .f32⟩

abbrev hbmTy0_1 (i : Nat) : BufTy := match i % 128 with
  | 0 => ⟨S1x2048x4x64, .f32⟩
  | 1 => ⟨S_, .f32⟩
  | 2 => ⟨S2048x4, .f32⟩
  | 3 => ⟨S1x2048x4x1, .f32⟩
  | 4 => ⟨S_, .f32⟩
  | 5 => ⟨S2048x4, .f32⟩
  | 6 => ⟨S1x2048x4, .f32⟩
  | 7 => ⟨S1x512x4x4, .f32⟩
  | 8 => ⟨S1x4x512x4, .f32⟩
  | 9 => ⟨S4x512x4, .f32⟩
  | 10 => ⟨S1x512x4x4x64, .f32⟩
  | 11 => ⟨S1x4x512x4x64, .f32⟩
  | 12 => ⟨S4x512x4x64, .f32⟩
  | 13 => ⟨S4x4x128x4, .f32⟩
  | 14 => ⟨S4x4x128x4x64, .f32⟩
  | 15 => ⟨S4x4x4x128, .f32⟩
  | 16 => ⟨S4x4x4x128x1, .f32⟩
  | 17 => ⟨S4x4x4x128x1, .f32⟩
  | 18 => ⟨S4x4x128x4x64, .f32⟩
  | 19 => ⟨S4x4x128x4x64, .f32⟩
  | 20 => ⟨S4x4x128x4x64, .f32⟩
  | 21 => ⟨S_, .f32⟩
  | 22 => ⟨S4x4x128x4, .f32⟩
  | 23 => ⟨S4x4x128x4x1, .f32⟩
  | 24 => ⟨S4x4x128x4x1, .f32⟩
  | 25 => ⟨S4x4x128x4x64, .f32⟩
  | 26 => ⟨S4x4x128x4x64, .f32⟩
  | 27 => ⟨S4x4x4x128x1, .f32⟩
  | 28 => ⟨S4x4x4x128x1, .f32⟩
  | 29 => ⟨S4x4x4x64x128, .f32⟩
  | 30 => ⟨S4x4x4x128x256, .f32⟩
  | 31 => ⟨S4x4x4x64x256, .f32⟩
  | 32 => ⟨S4x4x256x4x64, .f32⟩
  | 33 => ⟨S_, .f32⟩
  | 34 => ⟨S4x4x4x128, .f32⟩
  | 35 => ⟨S4x4x4x128x256, .f32⟩
  | 36 => ⟨S4x4x4x128x256, .f32⟩
  | 37 => ⟨S4x4x4x128x256, .f32⟩
  | 38 => ⟨S4x4x4x128x256, .f32⟩
  | 39 => ⟨S_, .f32⟩
  | 40 => ⟨S4x4x4x128, .f32⟩
  | 41 => ⟨S4x4x4x128x1, .f32⟩
  | 42 => ⟨S4x4x4x128x1, .f32⟩
  | 43 => ⟨S_, .f32⟩
  | 44 => ⟨S4x4x4x128, .f32⟩
  | 45 => ⟨S4x4x4x128, .f32⟩
  | 46 => ⟨S4x4x4x128x256, .f32⟩
  | 47 => ⟨S4x4x4x128x256, .f32⟩
  | 48 => ⟨S4x4x4x128x256, .f32⟩
  | 49 => ⟨S_, .f32⟩
  | 50 => ⟨S4x4x4x128x256, .f32⟩
  | 51 => ⟨S4x4x4x128x256, .f32⟩
  | 52 => ⟨S_, .f32⟩
  | 53 => ⟨S4x4x4x128x256, .f32⟩
  | 54 => ⟨S4x4x4x128x256, .f32⟩
  | 55 => ⟨S4x4x4x256x64, .f32⟩
  | 56 => ⟨S4x4x256x4x64, .f32⟩
  | 57 => ⟨S4x4x4x128x64, .f32⟩
  | 58 => ⟨S4x4x128x4x64, .f32⟩
  | 59 => ⟨S4x4x128x4x64, .f32⟩
  | 60 => ⟨S4x4x128x4x64, .f32⟩
  | 61 => ⟨S_, .f32⟩
  | 62 => ⟨S4x5x128x4x64, .f32⟩
  | 63 => ⟨S_, .f32⟩
  | 64 => ⟨S4x5x128x4x64, .f32⟩
  | 65 => ⟨S4x5x128x4x64, .f32⟩
  | 66 => ⟨S4x640x4x64, .f32⟩
  | 67 => ⟨S4x128x4x64, .f32⟩
  | 68 => ⟨S4x512x4x64, .f32⟩
  | 69 => ⟨S4x4x128x4x64, .f32⟩
  | 70 => ⟨S4x4x128x4x64, .f32⟩
  | 71 => ⟨S_, .f32⟩
  | 72 => ⟨S4x5x128x4x64, .f32⟩
  | 73 => ⟨S_, .f32⟩
  | 74 => ⟨S4x5x128x4x64, .f32⟩
  | 75 => ⟨S4x5x128x4x64, .f32⟩
  | 76 => ⟨S4x640x4x64, .f32⟩
  | 77 => ⟨S4x128x4x64, .f32⟩
  | 78 => ⟨S4x512x4x64, .f32⟩
  | 79 => ⟨S4x512x4x64, .f32⟩
  | 80 => ⟨S1x4x512x4x64, .f32⟩
  | 81 => ⟨S1x512x4x4x64, .f32⟩
  | 82 => ⟨S1x2048x4x64, .f32⟩
  | 83 => ⟨S1x4x512x4x64, .f32⟩
  | 84 => ⟨S1x512x4x4x64, .f32⟩
  | 85 => ⟨S1x2048x4x64, .f32⟩
  | 86 => ⟨S1x4x512x4x64, .f32⟩
  | 87 => ⟨S1x512x4x4x64, .f32⟩
  | 88 => ⟨S1x2048x4x64, .f32⟩
  | 89 => ⟨S2048x256, .f32⟩
  | 90 => ⟨S2048x256, .f32⟩
  | 91 => ⟨S2048x256, .f32⟩
  | 92 => ⟨S512x1024, .f32⟩
  | 93 => ⟨S512x1024, .f32⟩
  | 94 => ⟨S512x1024, .f32⟩
  | _ => ⟨S2048x256, .f32⟩

abbrev hbmTy (i : Nat) : BufTy := match i / 128 with
  | 0 => hbmTy0_0 i
  | 1 => hbmTy0_1 i
  | _ => ⟨S2048x256, .f32⟩

abbrev bufTy : (tb : Table) → Fin (tcTables nBuf tb) → BufTy
  | .hbm, ⟨i, _⟩ => hbmTy i
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_4 : Ref sig .tc := ⟨.hbm, 50, rfl⟩
abbrev main_v39 : Ref sig .tc := ⟨.hbm, 51, rfl⟩
abbrev main_v40 : Ref sig .tc := ⟨.hbm, 52, rfl⟩
abbrev main_c_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_c_6 : Ref sig .tc := ⟨.hbm, 66, rfl⟩
abbrev main_v53 : Ref sig .tc := ⟨.hbm, 67, rfl⟩
abbrev main_v54 : Ref sig .tc := ⟨.hbm, 68, rfl⟩
abbrev main_c_7 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_c_8 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_9 : Ref sig .tc := ⟨.hbm, 80, rfl⟩
abbrev main_call0_v0 : Ref sig .tc := ⟨.hbm, 81, rfl⟩
abbrev main_v64_1 : Ref sig .tc := ⟨.hbm, 82, rfl⟩
abbrev main_call0_v2 : Ref sig .tc := ⟨.hbm, 83, rfl⟩
abbrev main_v64_0 : Ref sig .tc := ⟨.hbm, 84, rfl⟩
abbrev main_call0_cst : Ref sig .tc := ⟨.hbm, 85, rfl⟩
abbrev main_v64_2 : Ref sig .tc := ⟨.hbm, 86, rfl⟩
abbrev main_cst_10 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_11 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_12 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_13 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_cst_14 : Ref sig .tc := ⟨.hbm, 129, rfl⟩
abbrev main_v103 : Ref sig .tc := ⟨.hbm, 130, rfl⟩
abbrev main_v104 : Ref sig .tc := ⟨.hbm, 131, rfl⟩
abbrev main_cst_15 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_cst_16 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_cst_17 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_cst_18 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_cst_19 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_call1_cst : Ref sig .tc := ⟨.hbm, 177, rfl⟩
abbrev main_call1_v0 : Ref sig .tc := ⟨.hbm, 178, rfl⟩
abbrev main_v145 : Ref sig .tc := ⟨.hbm, 179, rfl⟩
abbrev main_cst_20 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_cst_21 : Ref sig .tc := ⟨.hbm, 189, rfl⟩
abbrev main_v154 : Ref sig .tc := ⟨.hbm, 190, rfl⟩
abbrev main_cst_22 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_cst_23 : Ref sig .tc := ⟨.hbm, 199, rfl⟩
abbrev main_v162 : Ref sig .tc := ⟨.hbm, 200, rfl⟩
abbrev main_cst_24 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩

abbrev nD : Nat := 1
abbrev τ : Topo := Topo.v7x

variable {F : FTy → Type} [FloatOps F]
-- ==== Kernel16.lean ====
abbrev S2048x256 : Shape := ⟨2, ![2048, 256]⟩
abbrev S128x4096 : Shape := ⟨2, ![128, 4096]⟩
abbrev S128x1024 : Shape := ⟨2, ![128, 1024]⟩
abbrev S16x1x1 : Shape := ⟨3, ![16, 1, 1]⟩
abbrev S128x64 : Shape := ⟨2, ![128, 64]⟩
abbrev S1x128x64 : Shape := ⟨3, ![1, 128, 64]⟩
abbrev S16x128x64 : Shape := ⟨3, ![16, 128, 64]⟩
abbrev S1x128x128 : Shape := ⟨3, ![1, 128, 128]⟩
abbrev S16x128x128 : Shape := ⟨3, ![16, 128, 128]⟩
abbrev S16x128 : Shape := ⟨2, ![16, 128]⟩
abbrev S16x128x1 : Shape := ⟨3, ![16, 128, 1]⟩

abbrev nBuf : Space → Nat
  | .hbm => 13
  | .vmem => 22
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S128x4096, .f32⟩
  | .hbm, ⟨6, _⟩ => ⟨S128x4096, .f32⟩
  | .hbm, ⟨7, _⟩ => ⟨S128x4096, .f32⟩
  | .hbm, ⟨8, _⟩ => ⟨S128x4096, .f32⟩
  | .hbm, ⟨9, _⟩ => ⟨S128x4096, .f32⟩
  | .hbm, ⟨10, _⟩ => ⟨S128x4096, .f32⟩
  | .hbm, ⟨11, _⟩ => ⟨S128x4096, .f32⟩
  | .hbm, ⟨12, _⟩ => ⟨S128x4096, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c1_i32 : BitVec 32 := 1#32
  let v1 : BitVec 32 := Scalar.muli v0 c1_i32
  let c1_i32_0 : BitVec 32 := 1#32
  let v2 : BitVec 32 := Scalar.subi v1 c1_i32_0
  let c0_i32_1 : BitVec 32 := 0#32
  let v3 : BitVec 32 := Scalar.maxsi v2 c0_i32_1
  let c0_i32_2 : BitVec 32 := 0#32
  ![v3.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c1_i32 : BitVec 32 := 1#32
  let v1 : BitVec 32 := Scalar.muli v0 c1_i32
  let c1_i32_0 : BitVec 32 := 1#32
  let v2 : BitVec 32 := Scalar.subi v1 c1_i32_0
  let c0_i32_1 : BitVec 32 := 0#32
  let v3 : BitVec 32 := Scalar.maxsi v2 c0_i32_1
  let c0_i32_2 : BitVec 32 := 0#32
  ![v3.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  ![v0.toNat, arg0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel16Ideal.lean ====
variable {F : FTy → Type} [FloatOps F] [Named F]
def κ : String → Option EReal := fun
  | "mask" => some ⊥
  | _ => none
-- ==== Reference16Ideal.lean ====
abbrev S2048x256 : Shape := ⟨2, ![2048, 256]⟩
abbrev S1x2048x4x64 : Shape := ⟨4, ![1, 2048, 4, 64]⟩
abbrev S1x128x16x4x64 : Shape := ⟨5, ![1, 128, 16, 4, 64]⟩
abbrev S1x16x128x4x64 : Shape := ⟨5, ![1, 16, 128, 4, 64]⟩
abbrev S16x128x4x64 : Shape := ⟨4, ![16, 128, 4, 64]⟩
abbrev S16x1x128x4x64 : Shape := ⟨5, ![16, 1, 128, 4, 64]⟩
abbrev S_ : Shape := ⟨0, ![]⟩
abbrev S16x256x4x64 : Shape := ⟨4, ![16, 256, 4, 64]⟩
abbrev S16x2x128x4x64 : Shape := ⟨5, ![16, 2, 128, 4, 64]⟩
abbrev S16x1x256x4x64 : Shape := ⟨5, ![16, 1, 256, 4, 64]⟩
abbrev S16x1x4x128x256 : Shape := ⟨5, ![16, 1, 4, 128, 256]⟩
abbrev S1 : Shape := ⟨1, ![1]⟩
abbrev S1x1 : Shape := ⟨2, ![1, 1]⟩
abbrev S128 : Shape := ⟨1, ![128]⟩
abbrev S1x128 : Shape := ⟨2, ![1, 128]⟩
abbrev S256 : Shape := ⟨1, ![256]⟩
abbrev S1x256 : Shape := ⟨2, ![1, 256]⟩
abbrev S1x128x1 : Shape := ⟨3, ![1, 128, 1]⟩
abbrev S1x1x256 : Shape := ⟨3, ![1, 1, 256]⟩
abbrev S1x128x256 : Shape := ⟨3, ![1, 128, 256]⟩
abbrev S1x1x1x128x256 : Shape := ⟨5, ![1, 1, 1, 128, 256]⟩
abbrev S16x1x4x128 : Shape := ⟨4, ![16, 1, 4, 128]⟩
abbrev S16x1x4x128x1 : Shape := ⟨5, ![16, 1, 4, 128, 1]⟩
abbrev S16x1x4x64x128 : Shape := ⟨5, ![16, 1, 4, 64, 128]⟩
abbrev S16x1x128x4x1 : Shape := ⟨5, ![16, 1, 128, 4, 1]⟩
abbrev S16x1x128x4 : Shape := ⟨4, ![16, 1, 128, 4]⟩
abbrev S16x128x4 : Shape := ⟨3, ![16, 128, 4]⟩
abbrev S1x16x128x4 : Shape := ⟨4, ![1, 16, 128, 4]⟩
abbrev S1x128x16x4 : Shape := ⟨4, ![1, 128, 16, 4]⟩
abbrev S1x2048x4 : Shape := ⟨3, ![1, 2048, 4]⟩
abbrev S1x2048x4x1 : Shape := ⟨4, ![1, 2048, 4, 1]⟩
abbrev S2048x4 : Shape := ⟨2, ![2048, 4]⟩
abbrev S16x1x4x64x256 : Shape := ⟨5, ![16, 1, 4, 64, 256]⟩
abbrev S16x4x128 : Shape := ⟨3, ![16, 4, 128]⟩
abbrev S16x1x4x256x64 : Shape := ⟨5, ![16, 1, 4, 256, 64]⟩
abbrev S16x1x4x128x64 : Shape := ⟨5, ![16, 1, 4, 128, 64]⟩
abbrev S128x4096 : Shape := ⟨2, ![128, 4096]⟩

abbrev nBuf : Space → Nat
  | .hbm => 223
  | .vmem => 0
  | .smem => 0
  | _ => 0

abbrev hbmTy0_0 (i : Nat) : BufTy := match i % 128 with
  | 0 => ⟨S2048x256, .f32⟩
  | 1 => ⟨S2048x256, .f32⟩
  | 2 => ⟨S2048x256, .f32⟩
  | 3 => ⟨S2048x256, .f32⟩
  | 4 => ⟨S2048x256, .f32⟩
  | 5 => ⟨S1x2048x4x64, .f32⟩
  | 6 => ⟨S1x2048x4x64, .f32⟩
  | 7 => ⟨S1x2048x4x64, .f32⟩
  | 8 => ⟨S1x128x16x4x64, .f32⟩
  | 9 => ⟨S1x16x128x4x64, .f32⟩
  | 10 => ⟨S16x128x4x64, .f32⟩
  | 11 => ⟨S1x128x16x4x64, .f32⟩
  | 12 => ⟨S1x16x128x4x64, .f32⟩
  | 13 => ⟨S16x128x4x64, .f32⟩
  | 14 => ⟨S1x128x16x4x64, .f32⟩
  | 15 => ⟨S1x16x128x4x64, .f32⟩
  | 16 => ⟨S16x128x4x64, .f32⟩
  | 17 => ⟨S16x1x128x4x64, .f32⟩
  | 18 => ⟨S_, .f32⟩
  | 19 => ⟨S16x128x4x64, .f32⟩
  | 20 => ⟨S16x256x4x64, .f32⟩
  | 21 => ⟨S_, .f32⟩
  | 22 => ⟨S16x128x4x64, .f32⟩
  | 23 => ⟨S16x2x128x4x64, .f32⟩
  | 24 => ⟨S16x1x128x4x64, .f32⟩
  | 25 => ⟨S16x1x128x4x64, .f32⟩
  | 26 => ⟨S16x1x256x4x64, .f32⟩
  | 27 => ⟨S_, .f32⟩
  | 28 => ⟨S16x128x4x64, .f32⟩
  | 29 => ⟨S16x256x4x64, .f32⟩
  | 30 => ⟨S_, .f32⟩
  | 31 => ⟨S16x128x4x64, .f32⟩
  | 32 => ⟨S16x2x128x4x64, .f32⟩
  | 33 => ⟨S16x1x128x4x64, .f32⟩
  | 34 => ⟨S16x1x128x4x64, .f32⟩
  | 35 => ⟨S16x1x256x4x64, .f32⟩
  | 36 => ⟨S16x1x4x128x256, .f32⟩
  | 37 => ⟨S_, .f32⟩
  | 38 => ⟨S16x1x4x128x256, .f32⟩
  | 39 => ⟨S16x1x4x128x256, .f32⟩
  | 40 => ⟨S1, .i32⟩
  | 41 => ⟨S1x1, .i32⟩
  | 42 => ⟨S_, .i32⟩
  | 43 => ⟨S1x1, .i32⟩
  | 44 => ⟨S1x1, .i32⟩
  | 45 => ⟨S128, .i32⟩
  | 46 => ⟨S1x128, .i32⟩
  | 47 => ⟨S1x128, .i32⟩
  | 48 => ⟨S1x128, .i32⟩
  | 49 => ⟨S_, .i32⟩
  | 50 => ⟨S1x1, .i32⟩
  | 51 => ⟨S1x1, .i32⟩
  | 52 => ⟨S_, .i32⟩
  | 53 => ⟨S1x1, .i32⟩
  | 54 => ⟨S1x1, .i32⟩
  | 55 => ⟨S256, .i32⟩
  | 56 => ⟨S1x256, .i32⟩
  | 57 => ⟨S1x256, .i32⟩
  | 58 => ⟨S1x256, .i32⟩
  | 59 => ⟨S1x128x1, .i32⟩
  | 60 => ⟨S1x1x256, .i32⟩
  | 61 => ⟨S1x128x256, .i32⟩
  | 62 => ⟨S1x128x256, .i32⟩
  | 63 => ⟨S1x128x256, .i32⟩
  | 64 => ⟨S_, .i32⟩
  | 65 => ⟨S1x128x256, .i32⟩
  | 66 => ⟨S1x128x256, .i1⟩
  | 67 => ⟨S_, .i32⟩
  | 68 => ⟨S1x128x256, .i32⟩
  | 69 => ⟨S1x128x256, .i1⟩
  | 70 => ⟨S1x128x256, .i1⟩
  | 71 => ⟨S1x1x256, .i32⟩
  | 72 => ⟨S_, .i32⟩
  | 73 => ⟨S1x1x256, .i32⟩
  | 74 => ⟨S1x1x256, .i1⟩
  | 75 => ⟨S1x128x256, .i1⟩
  | 76 => ⟨S1x128x256, .i1⟩
  | 77 => ⟨S1x1x1x128x256, .i1⟩
  | 78 => ⟨S_, .f32⟩
  | 79 => ⟨S_, .f32⟩
  | 80 => ⟨S16x1x4x128x256, .i1⟩
  | 81 => ⟨S16x1x4x128x256, .f32⟩
  | 82 => ⟨S16x1x4x128x256, .f32⟩
  | 83 => ⟨S_, .f32⟩
  | 84 => ⟨S16x1x4x128x256, .f32⟩
  | 85 => ⟨S_, .f32⟩
  | 86 => ⟨S16x1x4x128, .f32⟩
  | 87 => ⟨S16x1x4x128x1, .f32⟩
  | 88 => ⟨S16x1x4x128x256, .f32⟩
  | 89 => ⟨S16x1x4x128x256, .i1⟩
  | 90 => ⟨S16x1x4x128x256, .f32⟩
  | 91 => ⟨S_, .f32⟩
  | 92 => ⟨S16x1x4x128, .f32⟩
  | 93 => ⟨S16x1x4x128x1, .f32⟩
  | 94 => ⟨S16x1x4x128x256, .f32⟩
  | 95 => ⟨S16x1x4x128x256, .f32⟩
  | 96 => ⟨S16x1x4x128x256, .f32⟩
  | 97 => ⟨S_, .f32⟩
  | 98 => ⟨S16x1x4x128, .f32⟩
  | 99 => ⟨S16x1x4x128x1, .f32⟩
  | 100 => ⟨S16x1x4x64x128, .f32⟩
  | 101 => ⟨S16x1x128x4x64, .f32⟩
  | 102 => ⟨S16x1x128x4x1, .f32⟩
  | 103 => ⟨S16x1x128x4x64, .f32⟩
  | 104 => ⟨S16x1x128x4x64, .f32⟩
  | 105 => ⟨S16x1x128x4x1, .f32⟩
  | 106 => ⟨S_, .f32⟩
  | 107 => ⟨S16x1x128x4x1, .f32⟩
  | 108 => ⟨S16x1x128x4x1, .f32⟩
  | 109 => ⟨S16x1x4x128x1, .f32⟩
  | 110 => ⟨S16x1x4x128x1, .f32⟩
  | 111 => ⟨S16x1x4x128, .f32⟩
  | 112 => ⟨S16x1x128x4, .f32⟩
  | 113 => ⟨S16x128x4x64, .f32⟩
  | 114 => ⟨S16x128x4, .f32⟩
  | 115 => ⟨S1x16x128x4x64, .f32⟩
  | 116 => ⟨S1x128x16x4x64, .f32⟩
  | 117 => ⟨S1x2048x4x64, .f32⟩
  | 118 => ⟨S1x16x128x4, .f32⟩
  | 119 => ⟨S1x128x16x4, .f32⟩
  | 120 => ⟨S1x2048x4, .f32⟩
  | 121 => ⟨S1x2048x4x1, .f32⟩
  | 122 => ⟨S1x2048x4x64, .f32⟩
  | 123 => ⟨S2048x256, .f32⟩
  | 124 => ⟨S2048x256, .f32⟩
  | 125 => ⟨S1x2048x4x64, .f32⟩
  | 126 => ⟨S1x2048x4x64, .f32⟩
  | 127 => ⟨S_, .f32⟩
  | _ => ⟨S2048x256, .f32⟩

abbrev hbmTy0_1 (i : Nat) : BufTy := match i % 128 with
  | 0 => ⟨S2048x4, .f32⟩
  | 1 => ⟨S1x2048x4x1, .f32⟩
  | 2 => ⟨S_, .f32⟩
  | 3 => ⟨S2048x4, .f32⟩
  | 4 => ⟨S1x2048x4, .f32⟩
  | 5 => ⟨S1x128x16x4, .f32⟩
  | 6 => ⟨S1x16x128x4, .f32⟩
  | 7 => ⟨S16x128x4, .f32⟩
  | 8 => ⟨S1x128x16x4x64, .f32⟩
  | 9 => ⟨S1x16x128x4x64, .f32⟩
  | 10 => ⟨S16x128x4x64, .f32⟩
  | 11 => ⟨S16x1x128x4, .f32⟩
  | 12 => ⟨S16x1x128x4x64, .f32⟩
  | 13 => ⟨S16x1x4x128, .f32⟩
  | 14 => ⟨S16x1x4x128x1, .f32⟩
  | 15 => ⟨S16x1x4x128x1, .f32⟩
  | 16 => ⟨S16x1x128x4x64, .f32⟩
  | 17 => ⟨S16x1x128x4x64, .f32⟩
  | 18 => ⟨S16x1x128x4x64, .f32⟩
  | 19 => ⟨S_, .f32⟩
  | 20 => ⟨S16x1x128x4, .f32⟩
  | 21 => ⟨S16x1x128x4x1, .f32⟩
  | 22 => ⟨S16x1x128x4x1, .f32⟩
  | 23 => ⟨S16x1x128x4x64, .f32⟩
  | 24 => ⟨S16x1x128x4x64, .f32⟩
  | 25 => ⟨S16x1x4x128x1, .f32⟩
  | 26 => ⟨S16x1x4x128x1, .f32⟩
  | 27 => ⟨S16x1x4x64x128, .f32⟩
  | 28 => ⟨S16x1x4x128x256, .f32⟩
  | 29 => ⟨S16x1x4x64x256, .f32⟩
  | 30 => ⟨S16x1x256x4x64, .f32⟩
  | 31 => ⟨S_, .f32⟩
  | 32 => ⟨S16x4x128, .f32⟩
  | 33 => ⟨S16x1x4x128, .f32⟩
  | 34 => ⟨S16x1x4x128x256, .f32⟩
  | 35 => ⟨S16x1x4x128x256, .f32⟩
  | 36 => ⟨S16x1x4x128x256, .f32⟩
  | 37 => ⟨S16x1x4x128x256, .f32⟩
  | 38 => ⟨S_, .f32⟩
  | 39 => ⟨S16x1x4x128, .f32⟩
  | 40 => ⟨S16x1x4x128x1, .f32⟩
  | 41 => ⟨S16x1x4x128x1, .f32⟩
  | 42 => ⟨S_, .f32⟩
  | 43 => ⟨S16x4x128, .f32⟩
  | 44 => ⟨S16x1x4x128, .f32⟩
  | 45 => ⟨S16x1x4x128, .f32⟩
  | 46 => ⟨S16x1x4x128x256, .f32⟩
  | 47 => ⟨S16x1x4x128x256, .f32⟩
  | 48 => ⟨S16x1x4x128x256, .f32⟩
  | 49 => ⟨S_, .f32⟩
  | 50 => ⟨S16x1x4x128x256, .f32⟩
  | 51 => ⟨S16x1x4x128x256, .f32⟩
  | 52 => ⟨S_, .f32⟩
  | 53 => ⟨S16x1x4x128x256, .f32⟩
  | 54 => ⟨S16x1x4x128x256, .f32⟩
  | 55 => ⟨S16x1x4x256x64, .f32⟩
  | 56 => ⟨S16x1x256x4x64, .f32⟩
  | 57 => ⟨S16x1x4x128x64, .f32⟩
  | 58 => ⟨S16x1x128x4x64, .f32⟩
  | 59 => ⟨S16x1x128x4x64, .f32⟩
  | 60 => ⟨S16x1x128x4x64, .f32⟩
  | 61 => ⟨S_, .f32⟩
  | 62 => ⟨S16x2x128x4x64, .f32⟩
  | 63 => ⟨S_, .f32⟩
  | 64 => ⟨S16x2x128x4x64, .f32⟩
  | 65 => ⟨S16x2x128x4x64, .f32⟩
  | 66 => ⟨S16x256x4x64, .f32⟩
  | 67 => ⟨S16x128x4x64, .f32⟩
  | 68 => ⟨S16x128x4x64, .f32⟩
  | 69 => ⟨S16x1x128x4x64, .f32⟩
  | 70 => ⟨S16x1x128x4x64, .f32⟩
  | 71 => ⟨S_, .f32⟩
  | 72 => ⟨S16x2x128x4x64, .f32⟩
  | 73 => ⟨S_, .f32⟩
  | 74 => ⟨S16x2x128x4x64, .f32⟩
  | 75 => ⟨S16x2x128x4x64, .f32⟩
  | 76 => ⟨S16x256x4x64, .f32⟩
  | 77 => ⟨S16x128x4x64, .f32⟩
  | 78 => ⟨S16x128x4x64, .f32⟩
  | 79 => ⟨S16x128x4x64, .f32⟩
  | 80 => ⟨S1x16x128x4x64, .f32⟩
  | 81 => ⟨S1x128x16x4x64, .f32⟩
  | 82 => ⟨S1x2048x4x64, .f32⟩
  | 83 => ⟨S1x16x128x4x64, .f32⟩
  | 84 => ⟨S1x128x16x4x64, .f32⟩
  | 85 => ⟨S1x2048x4x64, .f32⟩
  | 86 => ⟨S1x16x128x4x64, .f32⟩
  | 87 => ⟨S1x128x16x4x64, .f32⟩
  | 88 => ⟨S1x2048x4x64, .f32⟩
  | 89 => ⟨S2048x256, .f32⟩
  | 90 => ⟨S2048x256, .f32⟩
  | 91 => ⟨S2048x256, .f32⟩
  | 92 => ⟨S128x4096, .f32⟩
  | 93 => ⟨S128x4096, .f32⟩
  | 94 => ⟨S128x4096, .f32⟩
  | _ => ⟨S2048x256, .f32⟩

abbrev hbmTy (i : Nat) : BufTy := match i / 128 with
  | 0 => hbmTy0_0 i
  | 1 => hbmTy0_1 i
  | _ => ⟨S2048x256, .f32⟩

abbrev bufTy : (tb : Table) → Fin (tcTables nBuf tb) → BufTy
  | .hbm, ⟨i, _⟩ => hbmTy i
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_4 : Ref sig .tc := ⟨.hbm, 49, rfl⟩
abbrev main_v38 : Ref sig .tc := ⟨.hbm, 50, rfl⟩
abbrev main_v39 : Ref sig .tc := ⟨.hbm, 51, rfl⟩
abbrev main_c_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_c_6 : Ref sig .tc := ⟨.hbm, 64, rfl⟩
abbrev main_v51 : Ref sig .tc := ⟨.hbm, 65, rfl⟩
abbrev main_v52 : Ref sig .tc := ⟨.hbm, 66, rfl⟩
abbrev main_c_7 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_c_8 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_9 : Ref sig .tc := ⟨.hbm, 78, rfl⟩
abbrev main_call0_v0 : Ref sig .tc := ⟨.hbm, 79, rfl⟩
abbrev main_v62_1 : Ref sig .tc := ⟨.hbm, 80, rfl⟩
abbrev main_call0_v2 : Ref sig .tc := ⟨.hbm, 81, rfl⟩
abbrev main_v62_0 : Ref sig .tc := ⟨.hbm, 82, rfl⟩
abbrev main_call0_cst : Ref sig .tc := ⟨.hbm, 83, rfl⟩
abbrev main_v62_2 : Ref sig .tc := ⟨.hbm, 84, rfl⟩
abbrev main_cst_10 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_11 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_12 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_13 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_14 : Ref sig .tc := ⟨.hbm, 127, rfl⟩
abbrev main_v101 : Ref sig .tc := ⟨.hbm, 128, rfl⟩
abbrev main_v102 : Ref sig .tc := ⟨.hbm, 129, rfl⟩
abbrev main_cst_15 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_cst_16 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_cst_17 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_cst_18 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_cst_19 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_call1_cst : Ref sig .tc := ⟨.hbm, 177, rfl⟩
abbrev main_call1_v0 : Ref sig .tc := ⟨.hbm, 178, rfl⟩
abbrev main_v145 : Ref sig .tc := ⟨.hbm, 179, rfl⟩
abbrev main_cst_20 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_cst_21 : Ref sig .tc := ⟨.hbm, 189, rfl⟩
abbrev main_v154 : Ref sig .tc := ⟨.hbm, 190, rfl⟩
abbrev main_cst_22 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_cst_23 : Ref sig .tc := ⟨.hbm, 199, rfl⟩
abbrev main_v162 : Ref sig .tc := ⟨.hbm, 200, rfl⟩
abbrev main_cst_24 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩

abbrev nD : Nat := 1
abbrev τ : Topo := Topo.v7x

variable {F : FTy → Type} [FloatOps F]
-- ==== KernelFfn.lean ====
abbrev S2048x1024 : Shape := ⟨2, ![2048, 1024]⟩
abbrev S1024x2816 : Shape := ⟨2, ![1024, 2816]⟩
abbrev S2816x1024 : Shape := ⟨2, ![2816, 1024]⟩
abbrev S4x704x1024 : Shape := ⟨3, ![4, 704, 1024]⟩
abbrev S4x2048x704 : Shape := ⟨3, ![4, 2048, 704]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩
abbrev S1x2048x1024 : Shape := ⟨3, ![1, 2048, 1024]⟩
abbrev S1x2048x704 : Shape := ⟨3, ![1, 2048, 704]⟩
abbrev S2048x704 : Shape := ⟨2, ![2048, 704]⟩

abbrev nBuf : Space → Nat
  | .hbm => 26
  | .vmem => 39
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2048x1024, .f32⟩
  | .hbm, ⟨5, _⟩ => ⟨S2816x1024, .f32⟩
  | .hbm, ⟨6, _⟩ => ⟨S4x704x1024, .f32⟩
  | .hbm, ⟨7, _⟩ => ⟨S4x704x1024, .bf16⟩
  | .hbm, ⟨8, _⟩ => ⟨S2816x1024, .f32⟩
  | .hbm, ⟨9, _⟩ => ⟨S4x704x1024, .f32⟩
  | .hbm, ⟨10, _⟩ => ⟨S4x704x1024, .bf16⟩
  | .hbm, ⟨11, _⟩ => ⟨S4x704x1024, .f32⟩
  | .hbm, ⟨12, _⟩ => ⟨S4x704x1024, .bf16⟩
  | .hbm, ⟨13, _⟩ => ⟨S2048x1024, .bf16⟩
  | .hbm, ⟨14, _⟩ => ⟨S2048x1024, .bf16⟩
  | .hbm, ⟨15, _⟩ => ⟨S4x2048x704, .bf16⟩
  | .hbm, ⟨16, _⟩ => ⟨S4x2048x704, .bf16⟩
  | .hbm, ⟨17, _⟩ => ⟨S4x2048x704, .bf16⟩
  | .hbm, ⟨18, _⟩ => ⟨S1x2048x1024, .bf16⟩
  | .hbm, ⟨19, _⟩ => ⟨S4x704x1024, .f32⟩
  | .hbm, ⟨20, _⟩ => ⟨S4x2048x704, .bf16⟩
  | .hbm, ⟨21, _⟩ => ⟨S4x2048x704, .bf16⟩
  | .hbm, ⟨22, _⟩ => ⟨S1x2048x1024, .bf16⟩
  | .hbm, ⟨23, _⟩ => ⟨S4x704x1024, .f32⟩
  | .hbm, ⟨24, _⟩ => ⟨S1x2048x1024, .bf16⟩
  | .hbm, ⟨25, _⟩ => ⟨S4x704x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1x2048x704, .bf16⟩
  | .local _ .vmem, ⟨13, _⟩ => ⟨S1x2048x704, .bf16⟩
  | .local _ .vmem, ⟨14, _⟩ => ⟨S1x2048x1024, .bf16⟩
  | .local _ .vmem, ⟨15, _⟩ => ⟨S1x704x1024, .f32⟩
  | .local _ .vmem, ⟨16, _⟩ => ⟨S1x704x1024, .f32⟩
  | .local _ .vmem, ⟨17, _⟩ => ⟨S1024x1024, .bf16⟩
  | .local _ .vmem, ⟨18, _⟩ => ⟨S1024x1024, .bf16⟩
  | .local _ .vmem, ⟨19, _⟩ => ⟨S1x704x1024, .bf16⟩
  | .local _ .vmem, ⟨20, _⟩ => ⟨S1x704x1024, .bf16⟩
  | .local _ .vmem, ⟨21, _⟩ => ⟨S1x1024x704, .bf16⟩
  | .local _ .vmem, ⟨22, _⟩ => ⟨S1x1024x704, .bf16⟩
  | .local _ .vmem, ⟨23, _⟩ => ⟨S1x1024x704, .bf16⟩
  | .local _ .vmem, ⟨24, _⟩ => ⟨S1x1024x704, .bf16⟩
  | .local _ .vmem, ⟨25, _⟩ => ⟨S1x1024x704, .bf16⟩
  | .local _ .vmem, ⟨26, _⟩ => ⟨S1x1024x704, .bf16⟩
  | .local _ .vmem, ⟨27, _⟩ => ⟨S1x1024x704, .bf16⟩
  | .local _ .vmem, ⟨28, _⟩ => ⟨S1x1024x704, .bf16⟩
  | .local _ .vmem, ⟨29, _⟩ => ⟨S1x2048x704, .bf16⟩
  | .local _ .vmem, ⟨30, _⟩ => ⟨S1x2048x704, .bf16⟩
  | .local _ .vmem, ⟨31, _⟩ => ⟨S1x2048x1024, .bf16⟩
  | .local _ .vmem, ⟨32, _⟩ => ⟨S1x704x1024, .f32⟩
  | .local _ .vmem, ⟨33, _⟩ => ⟨S1x704x1024, .f32⟩
  | .local _ .vmem, ⟨34, _⟩ => ⟨S1x2048x704, .bf16⟩
  | .local _ .vmem, ⟨35, _⟩ => ⟨S1x2048x704, .bf16⟩
  | .local _ .vmem, ⟨36, _⟩ => ⟨S1x2048x1024, .bf16⟩
  | .local _ .vmem, ⟨37, _⟩ => ⟨S1x704x1024, .f32⟩
  | .local _ .vmem, ⟨38, _⟩ => ⟨S1x704x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg2_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg2_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26
abbrev cc2_sem5_0 : DmaSem sig := 27
abbrev cc2_sem5_1 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem2_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem2_1 : DmaSem sig := 38

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨4, ![4, 1, 1, 1], ![false, false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage1_0 : Fin 2 → Memref sig .tc .vmem S1x2048x704 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false, true]

abbrev stage1_1 : Fin 1 → Memref sig .tc .vmem S1x2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, true, true]

abbrev stage1_2 : Fin 2 → Memref sig .tc .vmem S1x704x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true, false]

abbrev grid2 : Pipeline.Grid := ⟨2, ![4, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x704x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1024x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1024x704 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1024x704 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x1024x704 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨4, ![4, 1, 1, 1], ![false, false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage3_0 : Fin 2 → Memref sig .tc .vmem S1x2048x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, false, true]

abbrev stage3_1 : Fin 1 → Memref sig .tc .vmem S1x2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false, true, true]

abbrev stage3_2 : Fin 2 → Memref sig .tc .vmem S1x704x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, true, false]

abbrev grid4 : Pipeline.Grid := ⟨4, ![4, 1, 1, 1], ![false, false, false, false]⟩

def cc4_transform_0 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage4_0 : Fin 2 → Memref sig .tc .vmem S1x2048x704 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true, false, true]

abbrev stage4_1 : Fin 1 → Memref sig .tc .vmem S1x2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false, true, true]

abbrev stage4_2 : Fin 2 → Memref sig .tc .vmem S1x704x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, true, false]
-- ==== ReferenceFfnIdeal.lean ====
abbrev S2048x1024 : Shape := ⟨2, ![2048, 1024]⟩
abbrev S1024x2816 : Shape := ⟨2, ![1024, 2816]⟩
abbrev S2816x1024 : Shape := ⟨2, ![2816, 1024]⟩
abbrev S2048x2816 : Shape := ⟨2, ![2048, 2816]⟩
abbrev S_ : Shape := ⟨0, ![]⟩
abbrev S4x704x1024 : Shape := ⟨3, ![4, 704, 1024]⟩

abbrev nBuf : Space → Nat
  | .hbm => 46
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2048x1024, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S_, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S1024x2816, .f32⟩
  | .hbm, ⟨29, _⟩ => ⟨S2816x1024, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2816x1024, .f32⟩
  | .hbm, ⟨34, _⟩ => ⟨S1024x2816, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2816x1024, .f32⟩
  | .hbm, ⟨40, _⟩ => ⟨S1024x2816, .f32⟩
  | .hbm, ⟨41, _⟩ => ⟨S2816x1024, .f32⟩
  | .hbm, ⟨42, _⟩ => ⟨S4x704x1024, .f32⟩
  | .hbm, ⟨43, _⟩ => ⟨S2816x1024, .f32⟩
  | .hbm, ⟨44, _⟩ => ⟨S4x704x1024, .f32⟩
  | .hbm, ⟨45, _⟩ => ⟨S4x704x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩

abbrev nD : Nat := 1
abbrev τ : Topo := Topo.v7x

variable {F : FTy → Type} [FloatOps F]
-- ==== KernelGateDx.lean ====
abbrev S1024x2816 : Shape := ⟨2, ![1024, 2816]⟩
abbrev S4x2048x704 : Shape := ⟨3, ![4, 2048, 704]⟩
abbrev S2816x1024 : Shape := ⟨2, ![2816, 1024]⟩
abbrev S4x704x1024 : Shape := ⟨3, ![4, 704, 1024]⟩
abbrev S2048x1024 : Shape := ⟨2, ![2048, 1024]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1024x2816, .f32⟩
  | .hbm, ⟨1, _⟩ => ⟨S4x2048x704, .f32⟩
  | .hbm, ⟨2, _⟩ => ⟨S2816x1024, .f32⟩
  | .hbm, ⟨3, _⟩ => ⟨S4x704x1024, .f32⟩
  | .hbm, ⟨4, _⟩ => ⟨S4x704x1024, .bf16⟩
  | .hbm, ⟨5, _⟩ => ⟨S4x2048x704, .bf16⟩
  | .hbm, ⟨6, _⟩ => ⟨S2048x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 4, 1], ![false, false, false, false]⟩

def k0_cond2 (i : grid0.Coords) : BitVec 1 :=
  let arg2 : BitVec 32 := BitVec.ofNat 32 (i 2).val
  let c3_i32 : BitVec 32 := 3#32
  let v3 : BitVec 1 := Scalar.cmpi .eq arg2 c3_i32
  let arg3 : BitVec 32 := BitVec.ofNat 32 (i 3).val
  let c0_i32_1 : BitVec 32 := 0#32
  let v4 : BitVec 1 := Scalar.cmpi .eq arg3 c0_i32_1
  let v5 : BitVec 1 := Scalar.andi v3 v4
  let v18 : BitVec 32 := Scalar.extui v5
  let c0_i32_12 : BitVec 32 := 0#32
  let v19 : BitVec 1 := Scalar.cmpi .ne v18 c0_i32_12
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== ReferenceGateDxIdeal.lean ====
abbrev S1024x2816 : Shape := ⟨2, ![1024, 2816]⟩
abbrev S4x2048x704 : Shape := ⟨3, ![4, 2048, 704]⟩
abbrev S_ : Shape := ⟨0, ![]⟩
abbrev S2048x1024 : Shape := ⟨2, ![2048, 1024]⟩
abbrev S2048x2816 : Shape := ⟨2, ![2048, 2816]⟩
abbrev S2048x4x704 : Shape := ⟨3, ![2048, 4, 704]⟩

abbrev nBuf : Space → Nat
  | .hbm => 8
  | .vmem => 0
  | .smem => 0
  | _ => 0

abbrev bufTy : (tb : Table) → Fin (tcTables nBuf tb) → BufTy
  | .hbm, ⟨0, _⟩ => ⟨S1024x2816, .f32⟩
  | .hbm, ⟨1, _⟩ => ⟨S4x2048x704, .f32⟩
  | .hbm, ⟨2, _⟩ => ⟨S_, .f32⟩
  | .hbm, ⟨3, _⟩ => ⟨S2048x1024, .f32⟩
  | .hbm, ⟨4, _⟩ => ⟨S2048x2816, .f32⟩
  | .hbm, ⟨5, _⟩ => ⟨S2048x4x704, .f32⟩
  | .hbm, ⟨6, _⟩ => ⟨S2048x2816, .f32⟩
  | .hbm, ⟨7, _⟩ => ⟨S2048x1024, .f32⟩
  | _, _ => ⟨S1024x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelUpDx.lean ====
abbrev S2048x1024 : Shape := ⟨2, ![2048, 1024]⟩
abbrev S1024 : Shape := ⟨1, ![1024]⟩
abbrev S1024x2816 : Shape := ⟨2, ![1024, 2816]⟩
abbrev S4x2048x704 : Shape := ⟨3, ![4, 2048, 704]⟩
abbrev S2816x1024 : Shape := ⟨2, ![2816, 1024]⟩
abbrev S4x704x1024 : Shape := ⟨3, ![4, 704, 1024]⟩
abbrev S1x1024 : Shape := ⟨2, ![1, 1024]⟩
abbrev S1x512x704 : Shape := ⟨3, ![1, 512, 704]⟩
abbrev S1x704x1024 : Shape := ⟨3, ![1, 704, 1024]⟩
abbrev S512x1024 : Shape := ⟨2, ![512, 1024]⟩
abbrev S512x704 : Shape := ⟨2, ![512, 704]⟩
abbrev S704x1024 : Shape := ⟨2, ![704, 1024]⟩
abbrev S512 : Shape := ⟨1, ![512]⟩
abbrev S512x1 : Shape := ⟨2, ![512, 1]⟩

abbrev nBuf : Space → Nat
  | .hbm => 14
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2816, .f32⟩
  | .hbm, ⟨3, _⟩ => ⟨S4x2048x704, .f32⟩
  | .hbm, ⟨4, _⟩ => ⟨S2048x1024, .f32⟩
  | .hbm, ⟨5, _⟩ => ⟨S2048x1024, .f32⟩
  | .hbm, ⟨6, _⟩ => ⟨S2816x1024, .f32⟩
  | .hbm, ⟨7, _⟩ => ⟨S4x704x1024, .f32⟩
  | .hbm, ⟨8, _⟩ => ⟨S4x704x1024, .bf16⟩
  | .hbm, ⟨9, _⟩ => ⟨S4x2048x704, .bf16⟩
  | .hbm, ⟨10, _⟩ => ⟨S1x1024, .f32⟩
  | .hbm, ⟨11, _⟩ => ⟨S2048x1024, .f32⟩
  | .hbm, ⟨12, _⟩ => ⟨S2048x1024, .bf16⟩
  | .hbm, ⟨13, _⟩ => ⟨S1x1024, .f32⟩
  | .local _ .vmem, ⟨0, _⟩ => ⟨S1x512x704, .bf16⟩
  | .local _ .vmem, ⟨1, _⟩ => ⟨S1x512x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨4, ![4, 1, 4, 1], ![false, false, false, false]⟩

def k0_cond2 (i : grid0.Coords) : BitVec 1 :=
  let arg2 : BitVec 32 := BitVec.ofNat 32 (i 2).val
  let c3_i32 : BitVec 32 := 3#32
  let v6 : BitVec 1 := Scalar.cmpi .eq arg2 c3_i32
  let arg3 : BitVec 32 := BitVec.ofNat 32 (i 3).val
  let c0_i32_3 : BitVec 32 := 0#32
  let v7 : BitVec 1 := Scalar.cmpi .eq arg3 c0_i32_3
  let v8 : BitVec 1 := Scalar.andi v6 v7
  let v21 : BitVec 32 := Scalar.extui v8
  let c0_i32_14 : BitVec 32 := 0#32
  let v22 : BitVec 1 := Scalar.cmpi .ne v21 c0_i32_14
  v22

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v68 : BitVec 32 := Scalar.extui v2
  let c0_i32_37 : BitVec 32 := 0#32
  let v69 : BitVec 1 := Scalar.cmpi .ne v68 c0_i32_37
  v69

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false, false]
-- ==== ReferenceUpDxIdeal.lean ====
abbrev S2048x1024 : Shape := ⟨2, ![2048, 1024]⟩
abbrev S1024 : Shape := ⟨1, ![1024]⟩
abbrev S1024x2816 : Shape := ⟨2, ![1024, 2816]⟩
abbrev S4x2048x704 : Shape := ⟨3, ![4, 2048, 704]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2816 : Shape := ⟨2, ![2048, 2816]⟩
abbrev S2048x4x704 : Shape := ⟨3, ![2048, 4, 704]⟩

abbrev nBuf : Space → Nat
  | .hbm => 59
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2816, .f32⟩
  | .hbm, ⟨3, _⟩ => ⟨S4x2048x704, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x2816, .f32⟩
  | .hbm, ⟨27, _⟩ => ⟨S2048x4x704, .f32⟩
  | .hbm, ⟨28, _⟩ => ⟨S2048x2816, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S1024, .f32⟩
  | .hbm, ⟨39, _⟩ => ⟨S2048x1024, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .bf16⟩
  | .hbm, ⟨58, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== KernelDown.lean ====
abbrev S4x2048x704 : Shape := ⟨3, ![4, 2048, 704]⟩
abbrev S2816x1024 : Shape := ⟨2, ![2816, 1024]⟩
abbrev S2048x1024 : Shape := ⟨2, ![2048, 1024]⟩
abbrev S4x704x1024 : Shape := ⟨3, ![4, 704, 1024]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4x2048x704, .f32⟩
  | .hbm, ⟨1, _⟩ => ⟨S2816x1024, .f32⟩
  | .hbm, ⟨2, _⟩ => ⟨S2048x1024, .f32⟩
  | .hbm, ⟨3, _⟩ => ⟨S4x704x1024, .f32⟩
  | .hbm, ⟨4, _⟩ => ⟨S4x704x1024, .bf16⟩
  | .hbm, ⟨5, _⟩ => ⟨S4x2048x704, .bf16⟩
  | .hbm, ⟨6, _⟩ => ⟨S2048x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 1, 4, 1], ![false, false, false, false]⟩

def k0_cond2 (i : grid0.Coords) : BitVec 1 :=
  let arg2 : BitVec 32 := BitVec.ofNat 32 (i 2).val
  let c3_i32 : BitVec 32 := 3#32
  let v3 : BitVec 1 := Scalar.cmpi .eq arg2 c3_i32
  let arg3 : BitVec 32 := BitVec.ofNat 32 (i 3).val
  let c0_i32_1 : BitVec 32 := 0#32
  let v4 : BitVec 1 := Scalar.cmpi .eq arg3 c0_i32_1
  let v5 : BitVec 1 := Scalar.andi v3 v4
  let v18 : BitVec 32 := Scalar.extui v5
  let c0_i32_12 : BitVec 32 := 0#32
  let v19 : BitVec 1 := Scalar.cmpi .ne v18 c0_i32_12
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]
-- ==== ReferenceDownIdeal.lean ====
abbrev S4x2048x704 : Shape := ⟨3, ![4, 2048, 704]⟩
abbrev S2816x1024 : Shape := ⟨2, ![2816, 1024]⟩
abbrev S2048x1024 : Shape := ⟨2, ![2048, 1024]⟩
abbrev S2048x4x704 : Shape := ⟨3, ![2048, 4, 704]⟩
abbrev S2048x2816 : Shape := ⟨2, ![2048, 2816]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x704, .f32⟩
  | .hbm, ⟨1, _⟩ => ⟨S2816x1024, .f32⟩
  | .hbm, ⟨2, _⟩ => ⟨S2048x1024, .f32⟩
  | .hbm, ⟨3, _⟩ => ⟨S2048x4x704, .f32⟩
  | .hbm, ⟨4, _⟩ => ⟨S2048x2816, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S2048x1024, .f32⟩
  | _, _ => ⟨S4x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelIn.lean ====
abbrev S2048x1024 : Shape := ⟨2, ![2048, 1024]⟩
abbrev S1024x6144 : Shape := ⟨2, ![1024, 6144]⟩
abbrev S1024x1792 : Shape := ⟨2, ![1024, 1792]⟩
abbrev S1024x2304 : Shape := ⟨2, ![1024, 2304]⟩
abbrev S1024x2048 : Shape := ⟨2, ![1024, 2048]⟩
abbrev S1x2048x1024 : Shape := ⟨3, ![1, 2048, 1024]⟩
abbrev S1x1024x1792 : Shape := ⟨3, ![1, 1024, 1792]⟩
abbrev S1x2048x1792 : Shape := ⟨3, ![1, 2048, 1792]⟩
abbrev S1x1024x1024 : Shape := ⟨3, ![1, 1024, 1024]⟩
abbrev S1x1024x896 : Shape := ⟨3, ![1, 1024, 896]⟩
abbrev S1024x1024 : Shape := ⟨2, ![1024, 1024]⟩
abbrev S1024x896 : Shape := ⟨2, ![1024, 896]⟩
abbrev S2048x1792 : Shape := ⟨2, ![2048, 1792]⟩
abbrev S1x1024x2304 : Shape := ⟨3, ![1, 1024, 2304]⟩
abbrev S1x2048x2304 : Shape := ⟨3, ![1, 2048, 2304]⟩
abbrev S1x1024x768 : Shape := ⟨3, ![1, 1024, 768]⟩
abbrev S1024x768 : Shape := ⟨2, ![1024, 768]⟩
abbrev S2048x2304 : Shape := ⟨2, ![2048, 2304]⟩
abbrev S1x1024x2048 : Shape := ⟨3, ![1, 1024, 2048]⟩
abbrev S1x2048x2048 : Shape := ⟨3, ![1, 2048, 2048]⟩
abbrev S2048x2048 : Shape := ⟨2, ![2048, 2048]⟩

abbrev nBuf : Space → Nat
  | .hbm => 19
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S1024x6144, .f32⟩
  | .hbm, ⟨2, _⟩ => ⟨S2048x1024, .bf16⟩
  | .hbm, ⟨3, _⟩ => ⟨S1024x6144, .bf16⟩
  | .hbm, ⟨4, _⟩ => ⟨S1024x1792, .bf16⟩
  | .hbm, ⟨5, _⟩ => ⟨S1024x2304, .bf16⟩
  | .hbm, ⟨6, _⟩ => ⟨S1024x2048, .bf16⟩
  | .hbm, ⟨7, _⟩ => ⟨S1x2048x1024, .bf16⟩
  | .hbm, ⟨8, _⟩ => ⟨S1x1024x1792, .bf16⟩
  | .hbm, ⟨9, _⟩ => ⟨S1x2048x1792, .f32⟩
  | .hbm, ⟨10, _⟩ => ⟨S2048x1792, .f32⟩
  | .hbm, ⟨11, _⟩ => ⟨S1x2048x1024, .bf16⟩
  | .hbm, ⟨12, _⟩ => ⟨S1x1024x2304, .bf16⟩
  | .hbm, ⟨13, _⟩ => ⟨S1x2048x2304, .f32⟩
  | .hbm, ⟨14, _⟩ => ⟨S2048x2304, .f32⟩
  | .hbm, ⟨15, _⟩ => ⟨S1x2048x1024, .bf16⟩
  | .hbm, ⟨16, _⟩ => ⟨S1x1024x2048, .bf16⟩
  | .hbm, ⟨17, _⟩ => ⟨S1x2048x2048, .f32⟩
  | .hbm, ⟨18, _⟩ => ⟨S2048x2048, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x896, .bf16⟩
  | .local _ .vmem, ⟨3, _⟩ => ⟨S1x1024x896, .bf16⟩
  | .local _ .vmem, ⟨4, _⟩ => ⟨S1x1024x896, .f32⟩
  | .local _ .vmem, ⟨5, _⟩ => ⟨S1x1024x896, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x768, .bf16⟩
  | .local _ .vmem, ⟨9, _⟩ => ⟨S1x1024x768, .bf16⟩
  | .local _ .vmem, ⟨10, _⟩ => ⟨S1x1024x768, .f32⟩
  | .local _ .vmem, ⟨11, _⟩ => ⟨S1x1024x768, .f32⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .f32⟩
  | .local _ .vmem, ⟨17, _⟩ => ⟨S1x1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨4, ![1, 2, 2, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev grid1 : Pipeline.Grid := ⟨4, ![1, 2, 3, 1], ![false, false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg3.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false, true]

abbrev stage1_1 : Fin 2 → Memref sig .tc .vmem S1x1024x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, false, true, true]

abbrev stage1_2 : Fin 2 → Memref sig .tc .vmem S1x1024x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true, false]

abbrev grid2 : Pipeline.Grid := ⟨4, ![1, 2, 2, 1], ![false, false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg3.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage2_0 : Fin 2 → Memref sig .tc .vmem S1x1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, false, true]

abbrev stage2_1 : Fin 2 → Memref sig .tc .vmem S1x1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, false, true, true]

abbrev stage2_2 : Fin 2 → Memref sig .tc .vmem S1x1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true, false]
-- ==== ReferenceInIdeal.lean ====
abbrev S2048x1024 : Shape := ⟨2, ![2048, 1024]⟩
abbrev S1024x6144 : Shape := ⟨2, ![1024, 6144]⟩
abbrev S2048x6144 : Shape := ⟨2, ![2048, 6144]⟩
abbrev S2048x1792 : Shape := ⟨2, ![2048, 1792]⟩
abbrev S2048x2304 : Shape := ⟨2, ![2048, 2304]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x6144, .f32⟩
  | .hbm, ⟨2, _⟩ => ⟨S2048x6144, .f32⟩
  | .hbm, ⟨3, _⟩ => ⟨S2048x1792, .f32⟩
  | .hbm, ⟨4, _⟩ => ⟨S2048x2304, .f32⟩
  | .hbm, ⟨5, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelInDw.lean ====
abbrev S2048x1024 : Shape := ⟨2, ![2048, 1024]⟩
abbrev S2048x1792 : Shape := ⟨2, ![2048, 1792]⟩
abbrev S2048x2304 : Shape := ⟨2, ![2048, 2304]⟩
abbrev S2048x2048 : Shape := ⟨2, ![2048, 2048]⟩
abbrev S1x2048x1024 : Shape := ⟨3, ![1, 2048, 1024]⟩
abbrev S1x2048x1792 : Shape := ⟨3, ![1, 2048, 1792]⟩
abbrev S1x1024x1792 : Shape := ⟨3, ![1, 1024, 1792]⟩
abbrev S1x2048x896 : Shape := ⟨3, ![1, 2048, 896]⟩
abbrev S1x1024x896 : Shape := ⟨3, ![1, 1024, 896]⟩
abbrev S2048x896 : Shape := ⟨2, ![2048, 896]⟩
abbrev S1024x896 : Shape := ⟨2, ![1024, 896]⟩
abbrev S1024x1792 : Shape := ⟨2, ![1024, 1792]⟩
abbrev S1x2048x2304 : Shape := ⟨3, ![1, 2048, 2304]⟩
abbrev S1x1024x2304 : Shape := ⟨3, ![1, 1024, 2304]⟩
abbrev S1x2048x768 : Shape := ⟨3, ![1, 2048, 768]⟩
abbrev S1x1024x768 : Shape := ⟨3, ![1, 1024, 768]⟩
abbrev S2048x768 : Shape := ⟨2, ![2048, 768]⟩
abbrev S1024x768 : Shape := ⟨2, ![1024, 768]⟩
abbrev S1024x2304 : Shape := ⟨2, ![1024, 2304]⟩
abbrev S1x2048x2048 : Shape := ⟨3, ![1, 2048, 2048]⟩
abbrev S1x1024x2048 : Shape := ⟨3, ![1, 1024, 2048]⟩
abbrev S1x1024x1024 : Shape := ⟨3, ![1, 1024, 1024]⟩
abbrev S1024x1024 : Shape := ⟨2, ![1024, 1024]⟩
abbrev S1024x2048 : Shape := ⟨2, ![1024, 2048]⟩
abbrev S1024x6144 : Shape := ⟨2, ![1024, 6144]⟩

abbrev nBuf : Space → Nat
  | .hbm => 21
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S2048x1792, .f32⟩
  | .hbm, ⟨2, _⟩ => ⟨S2048x2304, .f32⟩
  | .hbm, ⟨3, _⟩ => ⟨S2048x2048, .f32⟩
  | .hbm, ⟨4, _⟩ => ⟨S2048x1024, .bf16⟩
  | .hbm, ⟨5, _⟩ => ⟨S2048x1792, .bf16⟩
  | .hbm, ⟨6, _⟩ => ⟨S2048x2304, .bf16⟩
  | .hbm, ⟨7, _⟩ => ⟨S2048x2048, .bf16⟩
  | .hbm, ⟨8, _⟩ => ⟨S1x2048x1024, .bf16⟩
  | .hbm, ⟨9, _⟩ => ⟨S1x2048x1792, .bf16⟩
  | .hbm, ⟨10, _⟩ => ⟨S1x1024x1792, .f32⟩
  | .hbm, ⟨11, _⟩ => ⟨S1024x1792, .f32⟩
  | .hbm, ⟨12, _⟩ => ⟨S1x2048x1024, .bf16⟩
  | .hbm, ⟨13, _⟩ => ⟨S1x2048x2304, .bf16⟩
  | .hbm, ⟨14, _⟩ => ⟨S1x1024x2304, .f32⟩
  | .hbm, ⟨15, _⟩ => ⟨S1024x2304, .f32⟩
  | .hbm, ⟨16, _⟩ => ⟨S1x2048x1024, .bf16⟩
  | .hbm, ⟨17, _⟩ => ⟨S1x2048x2048, .bf16⟩
  | .hbm, ⟨18, _⟩ => ⟨S1x1024x2048, .f32⟩
  | .hbm, ⟨19, _⟩ => ⟨S1024x2048, .f32⟩
  | .hbm, ⟨20, _⟩ => ⟨S1024x6144, .f32⟩
  | .local _ .vmem, ⟨0, _⟩ => ⟨S1x2048x1024, .bf16⟩
  | .local _ .vmem, ⟨1, _⟩ => ⟨S1x2048x896, .bf16⟩
  | .local _ .vmem, ⟨2, _⟩ => ⟨S1x2048x896, .bf16⟩
  | .local _ .vmem, ⟨3, _⟩ => ⟨S1x1024x896, .f32⟩
  | .local _ .vmem, ⟨4, _⟩ => ⟨S1x1024x896, .f32⟩
  | .local _ .vmem, ⟨5, _⟩ => ⟨S1x2048x1024, .bf16⟩
  | .local _ .vmem, ⟨6, _⟩ => ⟨S1x2048x768, .bf16⟩
  | .local _ .vmem, ⟨7, _⟩ => ⟨S1x2048x768, .bf16⟩
  | .local _ .vmem, ⟨8, _⟩ => ⟨S1x1024x768, .f32⟩
  | .local _ .vmem, ⟨9, _⟩ => ⟨S1x1024x768, .f32⟩
  | .local _ .vmem, ⟨10, _⟩ => ⟨S1x2048x1024, .bf16⟩
  | .local _ .vmem, ⟨11, _⟩ => ⟨S1x2048x1024, .bf16⟩
  | .local _ .vmem, ⟨12, _⟩ => ⟨S1x2048x1024, .bf16⟩
  | .local _ .vmem, ⟨13, _⟩ => ⟨S1x1024x1024, .f32⟩
  | .local _ .vmem, ⟨14, _⟩ => ⟨S1x1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨4, ![1, 1, 2, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev grid1 : Pipeline.Grid := ⟨4, ![1, 1, 3, 1], ![false, false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage1_0 : Fin 1 → Memref sig .tc .vmem S1x2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true, false, true]

abbrev stage1_1 : Fin 2 → Memref sig .tc .vmem S1x2048x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, false, true, true]

abbrev stage1_2 : Fin 2 → Memref sig .tc .vmem S1x1024x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true, false]

abbrev grid2 : Pipeline.Grid := ⟨4, ![1, 1, 2, 1], ![false, false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage2_0 : Fin 1 → Memref sig .tc .vmem S1x2048x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, true, false, true]

abbrev stage2_1 : Fin 2 → Memref sig .tc .vmem S1x2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, false, true, true]

abbrev stage2_2 : Fin 2 → Memref sig .tc .vmem S1x1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true, false]
-- ==== ReferenceInDwIdeal.lean ====
abbrev S2048x1024 : Shape := ⟨2, ![2048, 1024]⟩
abbrev S2048x1792 : Shape := ⟨2, ![2048, 1792]⟩
abbrev S2048x2304 : Shape := ⟨2, ![2048, 2304]⟩
abbrev S2048x2048 : Shape := ⟨2, ![2048, 2048]⟩
abbrev S2048x6144 : Shape := ⟨2, ![2048, 6144]⟩
abbrev S_ : Shape := ⟨0, ![]⟩
abbrev S1024x6144 : Shape := ⟨2, ![1024, 6144]⟩
abbrev S6144x1024 : Shape := ⟨2, ![6144, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1792, .f32⟩
  | .hbm, ⟨2, _⟩ => ⟨S2048x2304, .f32⟩
  | .hbm, ⟨3, _⟩ => ⟨S2048x2048, .f32⟩
  | .hbm, ⟨4, _⟩ => ⟨S2048x6144, .f32⟩
  | .hbm, ⟨5, _⟩ => ⟨S_, .f32⟩
  | .hbm, ⟨6, _⟩ => ⟨S1024x6144, .f32⟩
  | .hbm, ⟨7, _⟩ => ⟨S2048x6144, .f32⟩
  | .hbm, ⟨8, _⟩ => ⟨S6144x1024, .f32⟩
  | .hbm, ⟨9, _⟩ => ⟨S1024x6144, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== KernelInDx.lean ====
abbrev S1024x6144 : Shape := ⟨2, ![1024, 6144]⟩
abbrev S2048x1792 : Shape := ⟨2, ![2048, 1792]⟩
abbrev S2048x2304 : Shape := ⟨2, ![2048, 2304]⟩
abbrev S1024x1792 : Shape := ⟨2, ![1024, 1792]⟩
abbrev S1024x2304 : Shape := ⟨2, ![1024, 2304]⟩
abbrev S1024x2048 : Shape := ⟨2, ![1024, 2048]⟩
abbrev S1x2048x1792 : Shape := ⟨3, ![1, 2048, 1792]⟩
abbrev S1x1024x1792 : Shape := ⟨3, ![1, 1024, 1792]⟩
abbrev S1x2048x1024 : Shape := ⟨3, ![1, 2048, 1024]⟩
abbrev S1x1024x1024 : Shape := ⟨3, ![1, 1024, 1024]⟩
abbrev S1024x1024 : Shape := ⟨2, ![1024, 1024]⟩
abbrev S2048x1024 : Shape := ⟨2, ![2048, 1024]⟩
abbrev S1x2048x2304 : Shape := ⟨3, ![1, 2048, 2304]⟩
abbrev S1x1024x2304 : Shape := ⟨3, ![1, 1024, 2304]⟩

abbrev nBuf : Space → Nat
  | .hbm => 18
  | .vmem => 12
  | .smem => 0
  | _ => 0

abbrev bufTy : (tb : Table) → Fin (tcTables nBuf tb) → BufTy
  | .hbm, ⟨0, _⟩ => ⟨S1024x6144, .f32⟩
  | .hbm, ⟨1, _⟩ => ⟨S2048x1792, .f32⟩
  | .hbm, ⟨2, _⟩ => ⟨S2048x2304, .f32⟩
  | .hbm, ⟨3, _⟩ => ⟨S1024x6144, .bf16⟩
  | .hbm, ⟨4, _⟩ => ⟨S1024x1792, .bf16⟩
  | .hbm, ⟨5, _⟩ => ⟨S1024x2304, .bf16⟩
  | .hbm, ⟨6, _⟩ => ⟨S1024x2048, .bf16⟩
  | .hbm, ⟨7, _⟩ => ⟨S2048x1792, .bf16⟩
  | .hbm, ⟨8, _⟩ => ⟨S1x2048x1792, .bf16⟩
  | .hbm, ⟨9, _⟩ => ⟨S1x1024x1792, .bf16⟩
  | .hbm, ⟨10, _⟩ => ⟨S1x2048x1024, .f32⟩
  | .hbm, ⟨11, _⟩ => ⟨S2048x1024, .f32⟩
  | .hbm, ⟨12, _⟩ => ⟨S2048x2304, .bf16⟩
  | .hbm, ⟨13, _⟩ => ⟨S1x2048x2304, .bf16⟩
  | .hbm, ⟨14, _⟩ => ⟨S1x1024x2304, .bf16⟩
  | .hbm, ⟨15, _⟩ => ⟨S1x2048x1024, .f32⟩
  | .hbm, ⟨16, _⟩ => ⟨S1x2048x1024, .f32⟩
  | .hbm, ⟨17, _⟩ => ⟨S2048x1024, .f32⟩
  | .local _ .vmem, ⟨0, _⟩ => ⟨S1x1024x1792, .bf16⟩
  | .local _ .vmem, ⟨1, _⟩ => ⟨S1x1024x1792, .bf16⟩
  | .local _ .vmem, ⟨2, _⟩ => ⟨S1x1024x1792, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1024x2304, .bf16⟩
  | .local _ .vmem, ⟨6, _⟩ => ⟨S1x1024x2304, .bf16⟩
  | .local _ .vmem, ⟨7, _⟩ => ⟨S1x1024x2304, .bf16⟩
  | .local _ .vmem, ⟨8, _⟩ => ⟨S1x1024x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x1024x1024, .f32⟩
  | _, _ => ⟨S1024x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨4, ![1, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S1x1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev grid1 : Pipeline.Grid := ⟨4, ![1, 2, 1, 1], ![false, false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg3.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat, arg3.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage1_0 : Fin 2 → Memref sig .tc .vmem S1x1024x2304 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false, true]

abbrev stage1_1 : Fin 1 → Memref sig .tc .vmem S1x1024x2304 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, true, true]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true, false]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true, false]
-- ==== ReferenceInDxIdeal.lean ====
abbrev S1024x6144 : Shape := ⟨2, ![1024, 6144]⟩
abbrev S2048x1792 : Shape := ⟨2, ![2048, 1792]⟩
abbrev S2048x2304 : Shape := ⟨2, ![2048, 2304]⟩
abbrev S1024x1792 : Shape := ⟨2, ![1024, 1792]⟩
abbrev S1024x2304 : Shape := ⟨2, ![1024, 2304]⟩
abbrev S1024x2048 : Shape := ⟨2, ![1024, 2048]⟩
abbrev S_ : Shape := ⟨0, ![]⟩
abbrev S2048x1024 : Shape := ⟨2, ![2048, 1024]⟩

abbrev nBuf : Space → Nat
  | .hbm => 13
  | .vmem => 0
  | .smem => 0
  | _ => 0

abbrev bufTy : (tb : Table) → Fin (tcTables nBuf tb) → BufTy
  | .hbm, ⟨0, _⟩ => ⟨S1024x6144, .f32⟩
  | .hbm, ⟨1, _⟩ => ⟨S2048x1792, .f32⟩
  | .hbm, ⟨2, _⟩ => ⟨S2048x2304, .f32⟩
  | .hbm, ⟨3, _⟩ => ⟨S1024x1792, .f32⟩
  | .hbm, ⟨4, _⟩ => ⟨S1024x2304, .f32⟩
  | .hbm, ⟨5, _⟩ => ⟨S1024x2048, .f32⟩
  | .hbm, ⟨6, _⟩ => ⟨S_, .f32⟩
  | .hbm, ⟨7, _⟩ => ⟨S2048x1024, .f32⟩
  | .hbm, ⟨8, _⟩ => ⟨S2048x1792, .f32⟩
  | .hbm, ⟨9, _⟩ => ⟨S2048x2304, .f32⟩
  | .hbm, ⟨10, _⟩ => ⟨S2048x1024, .f32⟩
  | .hbm, ⟨11, _⟩ => ⟨S2048x1024, .f32⟩
  | .hbm, ⟨12, _⟩ => ⟨S2048x1024, .f32⟩
  | _, _ => ⟨S1024x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== KernelInGateDx.lean ====
abbrev S2048x1024 : Shape := ⟨2, ![2048, 1024]⟩
abbrev S1024 : Shape := ⟨1, ![1024]⟩
abbrev S1024x6144 : Shape := ⟨2, ![1024, 6144]⟩
abbrev S2048x2048 : Shape := ⟨2, ![2048, 2048]⟩
abbrev S1024x1792 : Shape := ⟨2, ![1024, 1792]⟩
abbrev S1024x2304 : Shape := ⟨2, ![1024, 2304]⟩
abbrev S1024x2048 : Shape := ⟨2, ![1024, 2048]⟩
abbrev S1x1024 : Shape := ⟨2, ![1, 1024]⟩
abbrev S1x2048x2048 : Shape := ⟨3, ![1, 2048, 2048]⟩
abbrev S1x1024x2048 : Shape := ⟨3, ![1, 1024, 2048]⟩
abbrev S1x2048x1024 : Shape := ⟨3, ![1, 2048, 1024]⟩
abbrev S1x512x2048 : Shape := ⟨3, ![1, 512, 2048]⟩
abbrev S1x512x1024 : Shape := ⟨3, ![1, 512, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 18
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x6144, .f32⟩
  | .hbm, ⟨3, _⟩ => ⟨S2048x2048, .f32⟩
  | .hbm, ⟨4, _⟩ => ⟨S2048x1024, .f32⟩
  | .hbm, ⟨5, _⟩ => ⟨S2048x1024, .f32⟩
  | .hbm, ⟨6, _⟩ => ⟨S1024x6144, .bf16⟩
  | .hbm, ⟨7, _⟩ => ⟨S1024x1792, .bf16⟩
  | .hbm, ⟨8, _⟩ => ⟨S1024x2304, .bf16⟩
  | .hbm, ⟨9, _⟩ => ⟨S1024x2048, .bf16⟩
  | .hbm, ⟨10, _⟩ => ⟨S2048x2048, .bf16⟩
  | .hbm, ⟨11, _⟩ => ⟨S1x1024, .f32⟩
  | .hbm, ⟨12, _⟩ => ⟨S1x2048x2048, .bf16⟩
  | .hbm, ⟨13, _⟩ => ⟨S1x1024x2048, .bf16⟩
  | .hbm, ⟨14, _⟩ => ⟨S1x2048x1024, .f32⟩
  | .hbm, ⟨15, _⟩ => ⟨S2048x1024, .f32⟩
  | .hbm, ⟨16, _⟩ => ⟨S2048x1024, .bf16⟩
  | .hbm, ⟨17, _⟩ => ⟨S1x1024, .f32⟩
  | .local _ .vmem, ⟨0, _⟩ => ⟨S1x512x2048, .bf16⟩
  | .local _ .vmem, ⟨1, _⟩ => ⟨S1x512x2048, .bf16⟩
  | .local _ .vmem, ⟨2, _⟩ => ⟨S1x1024x2048, .bf16⟩
  | .local _ .vmem, ⟨3, _⟩ => ⟨S1x512x1024, .f32⟩
  | .local _ .vmem, ⟨4, _⟩ => ⟨S1x512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨4, ![1, 4, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false, false]
-- ==== ReferenceInGateDxIdeal.lean ====
abbrev S2048x1024 : Shape := ⟨2, ![2048, 1024]⟩
abbrev S1024 : Shape := ⟨1, ![1024]⟩
abbrev S1024x6144 : Shape := ⟨2, ![1024, 6144]⟩
abbrev S2048x2048 : Shape := ⟨2, ![2048, 2048]⟩
abbrev S1024x1792 : Shape := ⟨2, ![1024, 1792]⟩
abbrev S1024x2304 : Shape := ⟨2, ![1024, 2304]⟩
abbrev S1024x2048 : Shape := ⟨2, ![1024, 2048]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x6144, .f32⟩
  | .hbm, ⟨3, _⟩ => ⟨S2048x2048, .f32⟩
  | .hbm, ⟨4, _⟩ => ⟨S2048x1024, .f32⟩
  | .hbm, ⟨5, _⟩ => ⟨S2048x1024, .f32⟩
  | .hbm, ⟨6, _⟩ => ⟨S1024x1792, .f32⟩
  | .hbm, ⟨7, _⟩ => ⟨S1024x2304, .f32⟩
  | .hbm, ⟨8, _⟩ => ⟨S1024x2048, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x2048, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S1024, .f32⟩
  | .hbm, ⟨40, _⟩ => ⟨S2048x1024, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1, .f32⟩
  | .hbm, ⟨48, _⟩ => ⟨S_, .f32⟩
  | .hbm, ⟨49, _⟩ => ⟨S2048x1, .f32⟩
  | .hbm, ⟨50, _⟩ => ⟨S2048x1, .f32⟩
  | .hbm, ⟨51, _⟩ => ⟨S_, .f32⟩
  | .hbm, ⟨52, _⟩ => ⟨S2048, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .bf16⟩
  | .hbm, ⟨59, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Proof.Slot.lean ====
/- What one block of one head computes.  A `Slot` holds the eight tiles the backward kernel works on for one head and one
   block of 128 positions: queries, the block's own keys and values, the keys and values of the block before, the gradient of
   the attention's output and the gradient of its logarithmic sum, and whether there is a block before at all.  The functions
   below are the formulas of the gradient, written over the extended reals. -/
module

public import Idealize.ShloMosaic.PureOps.Ideal
public import Idealize.ShloMosaic.Lib.Pointwise

@[expose] public section

noncomputable section

namespace Cert.Attn

open Idealize.ShloMosaic

/-- A tile: 128 positions of one head of 64 lanes. -/
abbrev Tile := Fin 128 → Fin 64 → EReal

/-- The tiles of one head in one block. -/
structure Slot where
  /-- queries -/
  q : Tile
  /-- the block's own keys -/
  kc : Tile
  /-- keys of the block before -/
  kp : Tile
  /-- the block's own values -/
  vc : Tile
  /-- values of the block before -/
  vp : Tile
  /-- gradient of the output -/
  dy : Tile
  /-- gradient of the logarithmic sum, one copy per lane -/
  dl : Tile
  /-- there is a block before -/
  prev : Bool

/-- The scale of the scores, one over the square root of 64. -/
def eighth : EReal := Ideal.ofBits .f32 0x3E000000#32

namespace Slot

variable (S : Slot)

/-- Score of query `i` against key `j` of the same block; a later key is masked. -/
def sC (i j : Fin 128) : EReal := if j ≤ i then (∑ d, S.q i d * S.kc j d) * eighth else ⊥
/-- Score of query `i` against key `j` of the block before; a key more than 128 positions back is masked. -/
def sP (i j : Fin 128) : EReal := if i ≤ j ∧ S.prev then (∑ d, S.q i d * S.kp j d) * eighth else ⊥
/-- The greatest score of query `i`. -/
def mx (i : Fin 128) : EReal :=
  max (Finset.univ.fold max ⊥ fun j => S.sC i j) (Finset.univ.fold max ⊥ fun j => S.sP i j)
/-- Exponential of the shifted score, own block. -/
def eC (i j : Fin 128) : EReal := Ideal.exp (S.sC i j - S.mx i)
/-- Exponential of the shifted score, block before. -/
def eP (i j : Fin 128) : EReal := Ideal.exp (S.sP i j - S.mx i)
/-- The sum of the exponentials. -/
def den (i : Fin 128) : EReal := ∑ j, S.eC i j + ∑ j, S.eP i j
/-- The values summed with the exponentials as weights. -/
def num (i : Fin 128) (d : Fin 64) : EReal := ∑ j, S.eC i j * S.vc j d + ∑ j, S.eP i j * S.vp j d
/-- The gradient's sum over the lanes of the logarithmic sum's gradient. -/
def dls (i : Fin 128) : EReal := ∑ d, S.dl i d
/-- Gradient of the denominator. -/
def dden (i : Fin 128) : EReal :=
  Ideal.div (S.dls i) (S.den i) + -(∑ d, S.dy i d * Ideal.div 1 (S.den i * S.den i) * S.num i d)
/-- Gradient of the numerator. -/
def dnum (i : Fin 128) (d : Fin 64) : EReal := Ideal.div (S.dy i d) (S.den i)
/-- Gradient of the exponential times the exponential, own block. -/
def gC (i j : Fin 128) : EReal := (∑ d, S.dnum i d * S.vc j d + S.dden i) * S.eC i j
/-- Gradient of the exponential times the exponential, block before. -/
def gP (i j : Fin 128) : EReal := (∑ d, S.dnum i d * S.vp j d + S.dden i) * S.eP i j
/-- Gradient of the scaled score, own block. -/
def dsC (i j : Fin 128) : EReal := (if j ≤ i then S.gC i j else 0) * eighth
/-- Gradient of the scaled score, block before. -/
def dsP (i j : Fin 128) : EReal := (if i ≤ j ∧ S.prev then S.gP i j else 0) * eighth
/-- Gradient of the queries. -/
def dq : Tile := fun i d => ∑ j, S.dsP i j * S.kp j d + ∑ j, S.dsC i j * S.kc j d
/-- Part of the keys' gradient that falls on the block's own keys. -/
def dkC : Tile := fun j d => ∑ i, S.dsC i j * S.q i d
/-- Part of the keys' gradient that falls on the keys of the block before. -/
def dkP : Tile := fun j d => ∑ i, S.dsP i j * S.q i d
/-- Part of the values' gradient that falls on the block's own values. -/
def dvC : Tile := fun j d => ∑ i, S.eC i j * S.dnum i d
/-- Part of the values' gradient that falls on the values of the block before. -/
def dvP : Tile := fun j d => ∑ i, S.eP i j * S.dnum i d

end Slot

/-! ### The slots of the arrays -/

/-- An argument: 2048 rows of four heads of 64 lanes. -/
abbrev Arr := (⟨2, ![2048, 256]⟩ : Shape).Idx → EReal

/-- The tile of head `h` in block `b` of the rows that are `r` modulo `D`. -/
def tile (X : Arr) (D b r h : ℕ) : Tile := fun i d =>
  X (ix2 ⟨((b * 128 + i) * D + r) % 2048, Nat.mod_lt _ (by norm_num)⟩ ⟨(h * 64 + d) % 256, Nat.mod_lt _ (by norm_num)⟩)

/-- The slot of head `h` in block `b` of the rows that are `r` modulo `D`. -/
def slot (Q K V DY DL : Arr) (D b r h : ℕ) : Slot where
  q := tile Q D b r h
  kc := tile K D b r h
  kp := tile K D (b - 1) r h
  vc := tile V D b r h
  vp := tile V D (b - 1) r h
  dy := tile DY D b r h
  dl := tile DL D b r h
  prev := decide (0 < b)

/-- The gradient of the queries, at row `R` and column `C` of the array whose row holds `D` consecutive positions. -/
def dqAt (Q K V DY DL : Arr) (D R C : ℕ) : EReal :=
  (slot Q K V DY DL D (R / 128) (C / 256) (C % 256 / 64)).dq ⟨R % 128, Nat.mod_lt _ (by norm_num)⟩ ⟨C % 64, Nat.mod_lt _ (by norm_num)⟩

/-- The gradient of the keys: what the keys' own block gives, and what the next block gives, if there is one. -/
def dkAt (Q K V DY DL : Arr) (D R C : ℕ) : EReal :=
  (slot Q K V DY DL D (R / 128) (C / 256) (C % 256 / 64)).dkC ⟨R % 128, Nat.mod_lt _ (by norm_num)⟩ ⟨C % 64, Nat.mod_lt _ (by norm_num)⟩
  + if (R / 128 + 1) * D < 16 then
      (slot Q K V DY DL D (R / 128 + 1) (C / 256) (C % 256 / 64)).dkP ⟨R % 128, Nat.mod_lt _ (by norm_num)⟩ ⟨C % 64, Nat.mod_lt _ (by norm_num)⟩
    else 0

/-- The gradient of the values, likewise. -/
def dvAt (Q K V DY DL : Arr) (D R C : ℕ) : EReal :=
  (slot Q K V DY DL D (R / 128) (C / 256) (C % 256 / 64)).dvC ⟨R % 128, Nat.mod_lt _ (by norm_num)⟩ ⟨C % 64, Nat.mod_lt _ (by norm_num)⟩
  + if (R / 128 + 1) * D < 16 then
      (slot Q K V DY DL D (R / 128 + 1) (C / 256) (C % 256 / 64)).dvP ⟨R % 128, Nat.mod_lt _ (by norm_num)⟩ ⟨C % 64, Nat.mod_lt _ (by norm_num)⟩
    else 0

namespace Slot

/-! ### Where there is no block before, its tiles do not matter -/

variable (S : Slot)

theorem sP_noprev (h : S.prev = false) (i j : Fin 128) : S.sP i j = ⊥ := by
  simp [sP, h]

theorem eP_noprev (h : S.prev = false) (i j : Fin 128) : S.eP i j = 0 := by
  rw [eP, sP_noprev S h, EReal.bot_sub, Ideal.exp_bot]

theorem dsP_noprev (h : S.prev = false) (i j : Fin 128) : S.dsP i j = 0 := by
  simp [dsP, h]

/-- The slot with other tiles in the place of the block before. -/
def setP (kp vp : Tile) : Slot := { S with kp := kp, vp := vp }

variable (kp vp : Tile) (h : S.prev = false)

include h

theorem sP_setP : (S.setP kp vp).sP = S.sP := by
  funext i j; rw [sP_noprev S h, sP_noprev (S.setP kp vp) h]

theorem mx_setP : (S.setP kp vp).mx = S.mx := by
  funext i; unfold mx; rw [sP_setP S kp vp h]; rfl

theorem eC_setP : (S.setP kp vp).eC = S.eC := by
  funext i j; unfold eC; rw [mx_setP S kp vp h]; rfl

theorem eP_setP : (S.setP kp vp).eP = S.eP := by
  funext i j; rw [eP_noprev S h, eP_noprev (S.setP kp vp) h]

theorem den_setP : (S.setP kp vp).den = S.den := by
  funext i; unfold den; rw [eC_setP S kp vp h, eP_setP S kp vp h]

theorem num_setP : (S.setP kp vp).num = S.num := by
  funext i d; unfold num; rw [eC_setP S kp vp h, eP_setP S kp vp h]
  simp only [eP_noprev S h, zero_mul]; rfl

theorem dden_setP : (S.setP kp vp).dden = S.dden := by
  funext i; unfold dden; rw [den_setP S kp vp h, num_setP S kp vp h]; rfl

theorem dnum_setP : (S.setP kp vp).dnum = S.dnum := by
  funext i d; unfold dnum; rw [den_setP S kp vp h]; rfl

theorem dsC_setP : (S.setP kp vp).dsC = S.dsC := by
  funext i j; unfold dsC gC; rw [dnum_setP S kp vp h, dden_setP S kp vp h, eC_setP S kp vp h]; rfl

theorem dsP_setP : (S.setP kp vp).dsP = S.dsP := by
  funext i j; rw [dsP_noprev S h, dsP_noprev (S.setP kp vp) h]

theorem dq_setP : (S.setP kp vp).dq = S.dq := by
  funext i d; unfold dq; rw [dsP_setP S kp vp h, dsC_setP S kp vp h]
  simp only [dsP_noprev S h, zero_mul]; rfl

theorem dkC_setP : (S.setP kp vp).dkC = S.dkC := by
  funext j d; unfold dkC; rw [dsC_setP S kp vp h]; rfl

theorem dvC_setP : (S.setP kp vp).dvC = S.dvC := by
  funext j d; unfold dvC; rw [eC_setP S kp vp h, dnum_setP S kp vp h]

end Slot

/-- The slot as the reference has it: zeros in the place of a block before the first. -/
def zslot (Q K V DY DL : Arr) (D b r h : ℕ) : Slot :=
  (slot Q K V DY DL D b r h).setP (fun j d => if 0 < b then tile K D (b - 1) r h j d else 0)
    (fun j d => if 0 < b then tile V D (b - 1) r h j d else 0)

/-- It differs from the slot in tiles that do not matter. -/
theorem zslot_cases (Q K V DY DL : Arr) (D b r h : ℕ) : zslot Q K V DY DL D b r h = slot Q K V DY DL D b r h
    ∨ (slot Q K V DY DL D b r h).prev = false := by
  by_cases hb : 0 < b
  · left; simp only [zslot, Slot.setP, hb, if_true]; rfl
  · right; simp [slot, hb]

theorem zslot_pos (Q K V DY DL : Arr) (D b r h : ℕ) (hb : 0 < b) : zslot Q K V DY DL D b r h = slot Q K V DY DL D b r h := by
  simp only [zslot, Slot.setP, hb, if_true]; rfl

theorem zslot_dq (Q K V DY DL : Arr) (D b r h : ℕ) : (zslot Q K V DY DL D b r h).dq = (slot Q K V DY DL D b r h).dq := by
  rcases zslot_cases Q K V DY DL D b r h with e | e
  · rw [e]
  · exact Slot.dq_setP _ _ _ e

theorem zslot_dkC (Q K V DY DL : Arr) (D b r h : ℕ) : (zslot Q K V DY DL D b r h).dkC = (slot Q K V DY DL D b r h).dkC := by
  rcases zslot_cases Q K V DY DL D b r h with e | e
  · rw [e]
  · exact Slot.dkC_setP _ _ _ e

theorem zslot_dvC (Q K V DY DL : Arr) (D b r h : ℕ) : (zslot Q K V DY DL D b r h).dvC = (slot Q K V DY DL D b r h).dvC := by
  rcases zslot_cases Q K V DY DL D b r h with e | e
  · rw [e]
  · exact Slot.dvC_setP _ _ _ e

end Cert.Attn

end
-- ==== Proof.Words.lean ====
/- The words the programs compare and the constants they name, read once: a comparison of two positions, the mask, the
   scale, and sums and maxima over 256 keys cut into the two halves of 128. -/
module

public import proofs.«01_k».proof.Proof.Slot
public import Idealize.ShloMosaic.Lib.Pipeline.ValueKit

@[expose] public section

noncomputable section

namespace Cert.Attn

open Idealize.ShloMosaic

theorem eighth_eq : eighth = ((1 / 8 : ℝ) : EReal) := by
  unfold eighth
  simp [Ideal.ofBits, Ideal.ieee, -EReal.coe_mul]
  norm_num

theorem negInf_eq : Ideal.ofBits .f32 0xFF800000#32 = ⊥ := by
  simp [Ideal.ofBits, Ideal.ieee, -EReal.coe_mul]

theorem toInt_pos (i : Fin 128) : (BitVec.ofNat 32 i.val).toInt = (i.val : ℤ) := by
  have h := i.isLt
  rw [BitVec.toInt_eq_toNat_cond, BitVec.toNat_ofNat, Nat.mod_eq_of_lt (by omega)]
  simp; omega

/-- A tile's lower triangle, as the kernel selects it. -/
theorem select_ge (i j : Fin 128) (a b : EReal) :
    Scalar.select (IntOp.cmpi .sge (BitVec.ofNat 32 i.val) (BitVec.ofNat 32 j.val)) a b = if j ≤ i then a else b := by
  have hi := toInt_pos i
  have hj := toInt_pos j
  by_cases h : j ≤ i
  · have h' : (j.val : ℤ) ≤ i.val := by exact_mod_cast h
    simp [Scalar.select, IntOp.cmpi, BitVec.sle, hi, hj, h, h']
  · have h' : ¬ (j.val : ℤ) ≤ i.val := by exact_mod_cast h
    simp [Scalar.select, IntOp.cmpi, BitVec.sle, hi, hj, h, h']

/-- A tile's upper triangle, where there is a block before. -/
theorem select_le_and (i j : Fin 128) (p : Bool) (a b : EReal) :
    Scalar.select (IntOp.andi (IntOp.cmpi .sle (BitVec.ofNat 32 i.val) (BitVec.ofNat 32 j.val)) (BitVec.ofBool p)) a b
      = if i ≤ j ∧ p then a else b := by
  have hi := toInt_pos i
  have hj := toInt_pos j
  by_cases h : i ≤ j
  · have h' : (i.val : ℤ) ≤ j.val := by exact_mod_cast h
    cases p <;> simp [Scalar.select, IntOp.cmpi, IntOp.andi, BitVec.sle, hi, hj, h, h']
  · have h' : ¬ (i.val : ℤ) ≤ j.val := by exact_mod_cast h
    cases p <;> simp [Scalar.select, IntOp.cmpi, IntOp.andi, BitVec.sle, hi, hj, h, h']

/-- A maximum over 256 keys is the greater of the maxima over the two halves. -/
theorem fold_max_halves (f : Fin 256 → EReal) :
    Finset.univ.fold max ⊥ f = max (Finset.univ.fold max ⊥ fun j : Fin 128 => f ⟨128 + j, by omega⟩)
      (Finset.univ.fold max ⊥ fun j : Fin 128 => f ⟨j, by omega⟩) := by
  have h (n : ℕ) (g : Fin n → EReal) : Finset.univ.fold max ⊥ g = Finset.univ.sup g := rfl
  rw [h, h, h]
  apply le_antisymm
  · refine Finset.sup_le fun k _ => ?_
    by_cases hk : k.val < 128
    · exact le_max_of_le_right (Finset.le_sup (f := fun j : Fin 128 => f ⟨j, by omega⟩) (Finset.mem_univ ⟨k.val, hk⟩))
    · have e : k = ⟨128 + (⟨k.val - 128, by omega⟩ : Fin 128).val, by simp; omega⟩ := by apply Fin.ext; simp; omega
      rw [e]
      exact le_max_of_le_left (Finset.le_sup (f := fun j : Fin 128 => f ⟨128 + j, by omega⟩) (Finset.mem_univ _))
  · exact max_le (Finset.sup_le fun j _ => Finset.le_sup (f := f) (Finset.mem_univ _))
      (Finset.sup_le fun j _ => Finset.le_sup (f := f) (Finset.mem_univ _))

/-- A sum over 256 keys is the sum over the two halves. -/
theorem sum_halves (f : Fin 256 → EReal) :
    ∑ k, f k = (∑ j : Fin 128, f ⟨128 + j, by omega⟩) + ∑ j : Fin 128, f ⟨j, by omega⟩ := by
  rw [Fin.sum_univ_two_halves 128 128 rfl f, add_comm]

/-- A selection on a decided statement. -/
theorem select_ofBool (p : Prop) [Decidable p] (a b : EReal) : Scalar.select (BitVec.ofBool (decide p)) a b = if p then a else b := by
  by_cases h : p <;> simp [Scalar.select, h]

/-- The window of the reference: key `j` of the 256 that block `b` sees, against query `i`, is at most 128 positions back,
    not after the query, and not before the first position. -/
theorem window_word (b : ℕ) (hb : b < 16) (i : Fin 128) (j : ℕ) (hj : j < 256) :
    IntOp.andi (IntOp.andi
        (IntOp.cmpi .sge (IntOp.subi (IntOp.addi (IntOp.muli (BitVec.ofNat 32 b) 128#32) (BitVec.ofNat 32 i.val))
          (IntOp.addi (IntOp.subi (IntOp.muli (BitVec.ofNat 32 b) 128#32) 128#32) (BitVec.ofNat 32 j))) 0#32)
        (IntOp.cmpi .sle (IntOp.subi (IntOp.addi (IntOp.muli (BitVec.ofNat 32 b) 128#32) (BitVec.ofNat 32 i.val))
          (IntOp.addi (IntOp.subi (IntOp.muli (BitVec.ofNat 32 b) 128#32) 128#32) (BitVec.ofNat 32 j))) 128#32))
      (IntOp.cmpi .sge (IntOp.addi (IntOp.subi (IntOp.muli (BitVec.ofNat 32 b) 128#32) 128#32) (BitVec.ofNat 32 j)) 0#32)
      = BitVec.ofBool (decide (j ≤ i.val + 128 ∧ i.val ≤ j ∧ 128 ≤ b * 128 + j)) := by
  have hi := i.isLt
  have hn (n : ℕ) : BitVec.ofNat 32 n = BitVec.ofInt 32 n := (BitVec.ofInt_natCast 32 n).symm
  have hs (x y : ℤ) : BitVec.ofInt 32 (x - y) = BitVec.ofInt 32 x - BitVec.ofInt 32 y := by
    rw [sub_eq_add_neg, BitVec.ofInt_add, BitVec.ofInt_neg, BitVec.sub_eq_add_neg]
  have hK : IntOp.addi (IntOp.subi (IntOp.muli (BitVec.ofNat 32 b) 128#32) 128#32) (BitVec.ofNat 32 j)
      = BitVec.ofInt 32 ((b : ℤ) * 128 - 128 + j) := by
    simp only [IntOp.addi, IntOp.subi, IntOp.muli, hn]
    rw [BitVec.ofInt_add, hs, BitVec.ofInt_mul]; rfl
  have hD : IntOp.subi (IntOp.addi (IntOp.muli (BitVec.ofNat 32 b) 128#32) (BitVec.ofNat 32 i.val)) (BitVec.ofInt 32 ((b : ℤ) * 128 - 128 + j))
      = BitVec.ofInt 32 ((i.val : ℤ) - j + 128) := by
    have e : (i.val : ℤ) - j + 128 = (b : ℤ) * 128 + i.val - ((b : ℤ) * 128 - 128 + j) := by ring
    rw [e, hs, BitVec.ofInt_add ((b : ℤ) * 128) i.val, BitVec.ofInt_mul]
    simp only [IntOp.addi, IntOp.subi, IntOp.muli, hn]; rfl
  rw [hK, hD]
  have hti (z : ℤ) (h1 : -4096 < z) (h2 : z < 4096) : (BitVec.ofInt 32 z).toInt = z := by
    rw [BitVec.toInt_ofInt, Int.bmod_eq_of_le] <;> omega
  have t1 := hti ((i.val : ℤ) - j + 128) (by omega) (by omega)
  have t2 := hti ((b : ℤ) * 128 - 128 + j) (by omega) (by omega)
  have c1 : (0#32).toInt = 0 := rfl
  have c2 : (128#32).toInt = 128 := rfl
  simp only [IntOp.cmpi, IntOp.andi, BitVec.sle, t1, t2, c1, c2]
  by_cases h1 : j ≤ i.val + 128 <;> by_cases h2 : i.val ≤ j <;> by_cases h3 : 128 ≤ b * 128 + j
  all_goals
    have g1 : (decide ((0 : ℤ) ≤ (i.val : ℤ) - j + 128)) = decide (j ≤ i.val + 128) := by congr 1; apply propext; omega
    have g2 : (decide ((i.val : ℤ) - j + 128 ≤ 128)) = decide (i.val ≤ j) := by congr 1; apply propext; omega
    have g3 : (decide ((0 : ℤ) ≤ (b : ℤ) * 128 - 128 + j)) = decide (128 ≤ b * 128 + j) := by congr 1; apply propext; omega
    rw [g1, g2, g3]; simp [h1, h2, h3]

/-- The sum over a first axis of one place and a last axis. -/
theorem sum_first_last {n1 n2 n3 : ℕ} {t : Shape} (h : (⟨4, ![1, n1, n2, n3]⟩ : Shape).ReducesTo [0, 3] t) (e : t = ⟨2, ![n1, n2]⟩)
    (x : (⟨4, ![1, n1, n2, n3]⟩ : Shape).Idx → EReal) (c : EReal) (a : Fin n1) (b : Fin n2) :
    Ideal.hostReduceAdd h x c (e ▸ ix2 a b) = c + ∑ d : Fin n3, x (ix4 0 a b d) := by
  subst e
  refine congrArg (c + ·) (Finset.sum_filter_eq_sum_of_fiber _ (fun k : Fin n3 => (ix4 0 a b k : (⟨4, ![1, n1, n2, n3]⟩ : Shape).Idx)) (fun p q e => show p = q from congrFun e 3) (fun i => ?_) x)
  constructor
  · intro hi
    have h0 := congrArg Fin.val (congrFun hi 0)
    have h1 := congrArg Fin.val (congrFun hi 1)
    rw [Shape.ReducesTo.drop_apply_val] at h0 h1
    refine ⟨i 3, ?_⟩
    funext k; apply Fin.ext
    match k with
    | ⟨0, _⟩ => exact (Nat.lt_one_iff.1 (i 0).isLt).symm
    | ⟨1, _⟩ => exact h0.symm
    | ⟨2, _⟩ => exact h1.symm
    | ⟨3, _⟩ => rfl
  · rintro ⟨k, rfl⟩
    funext k; apply Fin.ext
    rw [Shape.ReducesTo.drop_apply_val]
    match k with
    | ⟨0, _⟩ => rfl
    | ⟨1, _⟩ => rfl

/-- The sum over a first and a last axis of one place, of five axes. -/
theorem sum_first_last_five {n1 n2 n3 : ℕ} {t : Shape} (h : (⟨5, ![1, n1, n2, n3, 1]⟩ : Shape).ReducesTo [0, 4] t) (e : t = ⟨3, ![n1, n2, n3]⟩)
    (x : (⟨5, ![1, n1, n2, n3, 1]⟩ : Shape).Idx → EReal) (c : EReal) (a : Fin n1) (b : Fin n2) (d : Fin n3) :
    Ideal.hostReduceAdd h x c (e ▸ ix3 a b d) = c + x (ix5 0 a b d 0) := by
  subst e
  refine (congrArg (c + ·) (Finset.sum_filter_eq_sum_of_fiber _ (fun k : Fin 1 => (ix5 0 a b d k : (⟨5, ![1, n1, n2, n3, 1]⟩ : Shape).Idx)) (fun p q e => show p = q from congrFun e 4) (fun i => ?_) x)).trans (by simp)
  constructor
  · intro hi
    have h0 := congrArg Fin.val (congrFun hi 0)
    have h1 := congrArg Fin.val (congrFun hi 1)
    have h2 := congrArg Fin.val (congrFun hi 2)
    rw [Shape.ReducesTo.drop_apply_val] at h0 h1 h2
    refine ⟨i 4, ?_⟩
    funext k; apply Fin.ext
    match k with
    | ⟨0, _⟩ => exact (Nat.lt_one_iff.1 (i 0).isLt).symm
    | ⟨1, _⟩ => exact h0.symm
    | ⟨2, _⟩ => exact h1.symm
    | ⟨3, _⟩ => exact h2.symm
    | ⟨4, _⟩ => rfl
  · rintro ⟨k, rfl⟩
    funext k; apply Fin.ext
    rw [Shape.ReducesTo.drop_apply_val]
    match k with
    | ⟨0, _⟩ => rfl
    | ⟨1, _⟩ => rfl
    | ⟨2, _⟩ => rfl

end Cert.Attn

end
-- ==== Proof.Core.lean ====
/- The gradient through the maximum vanishes.  The reference differentiates the logarithm of a sum of shifted exponentials, shift
   included; the shift's gradient is the gradient of the logarithmic sum less the sum of the exponentials' gradients, and
   that difference is zero — as an equation of real numbers, which is where the arguments must be finite. -/
module

public import proofs.«01_k».proof.Proof.Words

@[expose] public section

noncomputable section

namespace Cert.Attn

open Idealize.ShloMosaic

theorem coe_sum {n : ℕ} (f : Fin n → ℝ) : ∑ k, (f k : EReal) = ((∑ k, f k : ℝ) : EReal) := by
  induction n with
  | zero => simp
  | succ n ih => rw [Fin.sum_univ_succ, Fin.sum_univ_succ, ih, EReal.coe_add]

theorem coe_div (x y : ℝ) (h : y ≠ 0) : Ideal.div (x : EReal) (y : EReal) = ((x / y : ℝ) : EReal) := by
  rw [Ideal.div_coe h, ← EReal.coe_mul]; congr 1; ring

/-- A tile of real numbers. -/
def RealTile (t : Tile) : Prop := ∃ f : Fin 128 → Fin 64 → ℝ, t = fun i d => (f i d : EReal)

namespace Slot

variable (S : Slot)

/-- Every tile is of real numbers. -/
structure IsReal : Prop where
  q : RealTile S.q
  kc : RealTile S.kc
  kp : RealTile S.kp
  vc : RealTile S.vc
  vp : RealTile S.vp
  dy : RealTile S.dy
  dl : RealTile S.dl

variable {S}

theorem IsReal.sC_coe (h : S.IsReal) : ∃ f : Fin 128 → Fin 128 → ℝ, ∀ i j, S.sC i j = if j ≤ i then (f i j : EReal) else ⊥ := by
  obtain ⟨q, hq⟩ := h.q
  obtain ⟨k, hk⟩ := h.kc
  refine ⟨fun i j => (∑ d, q i d * k j d) * (1 / 8), fun i j => ?_⟩
  rw [sC, hq, hk, eighth_eq, EReal.coe_mul, ← coe_sum]
  simp only [EReal.coe_mul]

theorem IsReal.sP_coe (h : S.IsReal) : ∃ f : Fin 128 → Fin 128 → ℝ, ∀ i j, S.sP i j = if i ≤ j ∧ S.prev then (f i j : EReal) else ⊥ := by
  obtain ⟨q, hq⟩ := h.q
  obtain ⟨k, hk⟩ := h.kp
  refine ⟨fun i j => (∑ d, q i d * k j d) * (1 / 8), fun i j => ?_⟩
  rw [sP, hq, hk, eighth_eq, EReal.coe_mul, ← coe_sum]
  simp only [EReal.coe_mul]

/-- The greatest score is a real number: a query sees its own position. -/
theorem IsReal.mx_coe (h : S.IsReal) (i : Fin 128) : ∃ M : ℝ, S.mx i = (M : EReal) := by
  obtain ⟨f, hf⟩ := h.sC_coe
  obtain ⟨g, hg⟩ := h.sP_coe
  have e : S.mx i = max (Finset.univ.sup fun j => S.sC i j) (Finset.univ.sup fun j => S.sP i j) := rfl
  have hlt : S.mx i < ⊤ := by
    rw [e]
    refine max_lt ((Finset.sup_lt_iff bot_lt_top).2 fun j _ => ?_) ((Finset.sup_lt_iff bot_lt_top).2 fun j _ => ?_)
    · rw [hf]; split_ifs <;> simp [EReal.coe_lt_top]
    · rw [hg]; split_ifs <;> simp [EReal.coe_lt_top]
  have hgt : ⊥ < S.mx i := by
    rw [e]
    refine lt_of_lt_of_le ?_ ((Finset.le_sup (f := fun j => S.sC i j) (Finset.mem_univ i)).trans (le_max_left _ _))
    rw [hf, if_pos le_rfl]; exact EReal.bot_lt_coe _
  exact ⟨(S.mx i).toReal, (EReal.coe_toReal hlt.ne hgt.ne').symm⟩

theorem IsReal.eC_coe (h : S.IsReal) (i : Fin 128) : ∃ f : Fin 128 → ℝ, (∀ j, S.eC i j = (f j : EReal)) ∧ (∀ j, 0 ≤ f j) ∧ 0 < f i := by
  obtain ⟨f, hf⟩ := h.sC_coe
  obtain ⟨M, hM⟩ := h.mx_coe i
  refine ⟨fun j => if j ≤ i then Real.exp (f i j - M) else 0, fun j => ?_, fun j => ?_, ?_⟩
  · rw [eC, hf, hM]
    by_cases hj : j ≤ i
    · simp only [if_pos hj]; rw [← EReal.coe_sub, Ideal.exp_coe]
    · simp only [if_neg hj]; rw [EReal.bot_sub, Ideal.exp_bot, EReal.coe_zero]
  · dsimp only; split_ifs
    · exact (Real.exp_pos _).le
    · exact le_rfl
  · simp [Real.exp_pos]

theorem IsReal.eP_coe (h : S.IsReal) (i : Fin 128) : ∃ f : Fin 128 → ℝ, (∀ j, S.eP i j = (f j : EReal)) ∧ ∀ j, 0 ≤ f j := by
  obtain ⟨f, hf⟩ := h.sP_coe
  obtain ⟨M, hM⟩ := h.mx_coe i
  refine ⟨fun j => if i ≤ j ∧ S.prev then Real.exp (f i j - M) else 0, fun j => ?_, fun j => ?_⟩
  · rw [eP, hf, hM]
    by_cases hj : i ≤ j ∧ S.prev
    · simp only [if_pos hj]; rw [← EReal.coe_sub, Ideal.exp_coe]
    · simp only [if_neg hj]; rw [EReal.bot_sub, Ideal.exp_bot, EReal.coe_zero]
  · dsimp only; split_ifs
    · exact (Real.exp_pos _).le
    · exact le_rfl

/-- The equation of real numbers. -/
theorem shift_real (ec ep : Fin 128 → ℝ) (vc vp : Fin 128 → Fin 64 → ℝ) (y : Fin 64 → ℝ) (D L g : ℝ) (hL : L ≠ 0)
    (eL : L = ∑ j, ec j + ∑ j, ep j)
    (eg : g = D / L + -(∑ d, y d * (1 / (L * L)) * (∑ j, ec j * vc j d + ∑ j, ep j * vp j d))) :
    D + (∑ j, -((∑ d, y d / L * vc j d + g) * ec j) + ∑ j, -((∑ d, y d / L * vp j d + g) * ep j)) = 0 := by
  have swap (e : Fin 128 → ℝ) (v : Fin 128 → Fin 64 → ℝ) :
      ∑ j, -((∑ d, y d / L * v j d + g) * e j) = -(∑ d, y d / L * ∑ j, e j * v j d) - g * ∑ j, e j := by
    simp only [add_mul, neg_add, Finset.sum_add_distrib, Finset.sum_neg_distrib, Finset.sum_mul, Finset.mul_sum]
    rw [Finset.sum_comm]
    rw [sub_eq_add_neg]
    congr 2
    exact Finset.sum_congr rfl fun d _ => Finset.sum_congr rfl fun j _ => by ring
  rw [swap, swap]
  have n : ∑ d, y d * (1 / (L * L)) * (∑ j, ec j * vc j d + ∑ j, ep j * vp j d)
      = (∑ d, y d / L * ∑ j, ec j * vc j d + ∑ d, y d / L * ∑ j, ep j * vp j d) / L := by
    rw [← Finset.sum_add_distrib, Finset.sum_div]
    exact Finset.sum_congr rfl fun d _ => by field_simp
  rw [n] at eg
  generalize (∑ d, y d / L * ∑ j, ec j * vc j d) = A at *
  generalize (∑ d, y d / L * ∑ j, ep j * vp j d) = B at *
  have e : D + (-A - g * ∑ j, ec j + (-B - g * ∑ j, ep j)) = D - (A + B) - g * (∑ j, ec j + ∑ j, ep j) := by ring
  rw [e, ← eL, eg]
  field_simp
  ring

/-- THE SHIFT'S GRADIENT IS ZERO. -/
theorem IsReal.shift (h : S.IsReal) (i : Fin 128) : S.dls i + (∑ j, -S.gC i j + ∑ j, -S.gP i j) = 0 := by
  obtain ⟨ec, hec, ec0, ecp⟩ := h.eC_coe i
  obtain ⟨ep, hep, ep0⟩ := h.eP_coe i
  obtain ⟨vc, hvc⟩ := h.vc
  obtain ⟨vp, hvp⟩ := h.vp
  obtain ⟨y, hy⟩ := h.dy
  obtain ⟨dl, hdl⟩ := h.dl
  have hL : S.den i = ((∑ j, ec j + ∑ j, ep j : ℝ) : EReal) := by
    simp only [den, hec, hep, coe_sum, EReal.coe_add]
  have hpos : 0 < ∑ j, ec j + ∑ j, ep j :=
    add_pos_of_pos_of_nonneg (Finset.sum_pos' (fun j _ => ec0 j) ⟨i, Finset.mem_univ i, ecp⟩) (Finset.sum_nonneg fun j _ => ep0 j)
  generalize hLL : (∑ j, ec j + ∑ j, ep j : ℝ) = L at *
  have hL0 : L ≠ 0 := hpos.ne'
  have hLL0 : L * L ≠ 0 := mul_ne_zero hL0 hL0
  have hn (d : Fin 64) : S.num i d = ((∑ j, ec j * vc j d + ∑ j, ep j * vp j d : ℝ) : EReal) := by
    simp only [num, hec, hep, hvc, hvp, ← EReal.coe_mul, coe_sum, EReal.coe_add]
  have hd : S.dls i = ((∑ d, dl i d : ℝ) : EReal) := by
    simp only [dls, hdl, coe_sum]
  have h1 : Ideal.div 1 ((L * L : ℝ) : EReal) = ((1 / (L * L) : ℝ) : EReal) := by
    rw [← EReal.coe_one, coe_div _ _ hLL0]
  have hg : S.dden i = (((∑ d, dl i d) / L + -(∑ d, y i d * (1 / (L * L)) * (∑ j, ec j * vc j d + ∑ j, ep j * vp j d)) : ℝ) : EReal) := by
    simp only [dden, hd, hL, hn, hy, ← EReal.coe_mul, h1, coe_sum, coe_div _ _ hL0, ← EReal.coe_neg, ← EReal.coe_add]
  have hdn (d : Fin 64) : S.dnum i d = ((y i d / L : ℝ) : EReal) := by
    simp only [dnum, hL, hy, coe_div _ _ hL0]
  have key := shift_real ec ep vc vp (y i) (∑ d, dl i d) L _ hL0 hLL.symm rfl
  generalize hgg : (∑ d, dl i d) / L + -(∑ d, y i d * (1 / (L * L)) * (∑ j, ec j * vc j d + ∑ j, ep j * vp j d)) = g at *
  simp only [gC, gP, hd, hg, hdn, hec, hep, hvc, hvp, ← EReal.coe_mul, coe_sum, ← EReal.coe_add, ← EReal.coe_neg, key, EReal.coe_zero]

end Slot

/-- Equal places have equal parts. -/
theorem slot_part {Q K V DY DL : Arr} {D b b' r r' g g' : ℕ} (f : Slot → Tile) {i i' : Fin 128} {d d' : Fin 64}
    (hb : b = b') (hr : r = r') (hg : g = g') (hi : i = i') (hd : d = d') :
    f (slot Q K V DY DL D b r g) i d = f (slot Q K V DY DL D b' r' g') i' d' := by
  subst hb hr hg hi hd; rfl

/-- An array of real numbers. -/
def RealArr (X : Arr) : Prop := ∀ i, ∃ a : ℝ, X i = (a : EReal)

theorem RealArr.tile {X : Arr} (h : RealArr X) (D b r g : ℕ) : RealTile (tile X D b r g) := by
  choose f hf using h
  exact ⟨fun i d => f _, funext fun i => funext fun d => hf _⟩

theorem zslot_isReal {Q K V DY DL : Arr} (hQ : RealArr Q) (hK : RealArr K) (hV : RealArr V) (hDY : RealArr DY) (hDL : RealArr DL)
    (D b r g : ℕ) : (zslot Q K V DY DL D b r g).IsReal := by
  have z (X : Arr) (hX : RealArr X) : RealTile (fun j d => if 0 < b then Attn.tile X D (b - 1) r g j d else 0) := by
    obtain ⟨f, hf⟩ := hX.tile D (b - 1) r g
    refine ⟨fun j d => if 0 < b then f j d else 0, ?_⟩
    rw [hf]; funext j d; split_ifs <;> simp
  exact ⟨hQ.tile D b r g, hK.tile D b r g, z K hK, hV.tile D b r g, z V hV, hDY.tile D b r g, hDL.tile D b r g⟩

/-- A quotient of zero by a sum of non-negative terms, times one of these terms, is zero. -/
theorem div_zero_mul {n : ℕ} (f g : Fin n → EReal) (hf : ∀ j, 0 ≤ f j) (hg : ∀ j, 0 ≤ g j) :
    (∀ j, Ideal.div 0 (∑ j, f j + ∑ j, g j) * f j = 0) ∧ ∀ j, Ideal.div 0 (∑ j, f j + ∑ j, g j) * g j = 0 := by
  have sf : 0 ≤ ∑ j, f j := Finset.sum_nonneg fun j _ => hf j
  have sg : 0 ≤ ∑ j, g j := Finset.sum_nonneg fun j _ => hg j
  by_cases h : ∑ j, f j + ∑ j, g j = 0
  · have h1 : ∑ j, f j = 0 := le_antisymm (h ▸ le_add_of_nonneg_right sg) sf
    have h2 : ∑ j, g j = 0 := le_antisymm (h ▸ le_add_of_nonneg_left sf) sg
    have e1 := (Finset.sum_eq_zero_iff_of_nonneg fun j _ => hf j).1 h1
    have e2 := (Finset.sum_eq_zero_iff_of_nonneg fun j _ => hg j).1 h2
    exact ⟨fun j => by rw [e1 j (Finset.mem_univ j), mul_zero], fun j => by rw [e2 j (Finset.mem_univ j), mul_zero]⟩
  · have e : Ideal.div 0 (∑ j, f j + ∑ j, g j) = 0 := by
      unfold Ideal.div; rw [if_neg h, zero_mul]
    exact ⟨fun j => by rw [e, zero_mul], fun j => by rw [e, zero_mul]⟩

end Cert.Attn

end
-- ==== Proof.Finite.lean ====
/- The precondition: every entry of the five arguments is a real number. -/
module

public import proofs.«01_k».proof.Proof.Core
public import proofs.«01_k».proof.Proof.Gen.Pre_finite
public import Idealize.ShloMosaic.Lib.Pipeline.ValueKit

@[expose] public section

noncomputable section

namespace Cert.Attn

open Idealize.ShloMosaic

/-- An extended real whose absolute value lies below plus infinity is a real number. -/
theorem real_of_abs_lt {x : EReal} (h : max x (-x) < ⊤) : ∃ a : ℝ, x = (a : EReal) := by
  induction x using EReal.rec with
  | bot => simp at h
  | coe a => exact ⟨a, rfl⟩
  | top => simp at h

theorem and_bit {a b : BitVec 1} (h : a &&& b = 1#1) : a = 1#1 ∧ b = 1#1 := by revert a b; decide

theorem real_of_bit {x : EReal} (h : FloatOps.cmpf (F := Ideal) (φ := .f32) .olt (FloatOps.absf (F := Ideal) (φ := .f32) x) (FloatOps.ofBits (F := Ideal) .f32 0x7F800000#32) = 1#1) : ∃ a : ℝ, x = (a : EReal) := by
  have hinf : (FloatOps.ofBits (F := Ideal) .f32 0x7F800000#32 : EReal) = ⊤ := by
    change Ideal.ofBits .f32 0x7F800000#32 = ⊤
    simp [Ideal.ofBits, Ideal.ieee, -EReal.coe_mul]
  refine real_of_abs_lt ?_
  rw [← hinf]
  by_contra hn
  have : Ideal.cmp .olt (max x (-x)) (FloatOps.ofBits (F := Ideal) .f32 0x7F800000#32) = 0#1 := by
    generalize max x (-x) = y at hn ⊢
    simp only [Ideal.cmp, hn, decide_false]; rfl
  exact absurd (h.symm.trans this) (by decide)

theorem real_args (x0 x1 x2 x3 x4 : FVec Ideal Cert.Pre_finite.S2048x256 .f32) (h : Cert.Pre_finite.fn (F := Ideal) x0 x1 x2 x3 x4 = fun _ => 1#1) :
    RealArr x0 ∧ RealArr x1 ∧ RealArr x2 ∧ RealArr x3 ∧ RealArr x4 := by
  have e := fun i => and_bit (congrFun h i)
  have e3 := fun i => and_bit (e i).1
  have e2 := fun i => and_bit (e3 i).1
  have e1 := fun i => and_bit (e2 i).1
  exact ⟨fun i => real_of_bit (e1 i).1, fun i => real_of_bit (e1 i).2, fun i => real_of_bit (e2 i).2, fun i => real_of_bit (e3 i).2, fun i => real_of_bit (e i).2⟩

end Cert.Attn

end
-- ==== Proof.Lane1.lean ====
/- Where a batch entry of the kernel of dilation 1 lies in a block: its rows and its lanes. -/
module

public import Idealize.ShloMosaic.Lib.Pipeline.ValueKit

@[expose] public section

namespace Cert.Attn

theorem head_lt (h : Fin 4) (d : Fin 64) : 64 * h.val + d.val < 256 := by omega

theorem row_lt (z : Fin 16) (i : Fin 128) : 128 * (z.val / 4) + i.val < 512 := by omega

theorem col_lt (z : Fin 16) (d : Fin 64) : 64 * (z.val % 4) + d.val < 256 := by omega

end Cert.Attn
-- ==== Proof.KerTiles1.lean ====
/- The kernel of dilation 1, batch entry by batch entry: what each of its values is of the slots. -/
module

public import proofs.«01_k».proof.Proof.Lane1
public import proofs.«01_k».proof.Proof.Words
public import Idealize.ShloMosaic.Lib.Pipeline.ValueKit
public import proofs.«01_k».proof.Proof.Gen.KernelIdeal.Skeleton

@[expose] public section

set_option maxRecDepth 16384

noncomputable section

namespace Cert.Attn.K1

open Idealize.ShloMosaic Idealize.ShloMosaic.TcCoe Idealize.SL.Sem
open Cert.KernelIdeal Cert.KernelIdeal.Gen

theorem mask_bot : Named.named (F := Ideal) κ "mask" (φ := .f32) 0xF149F2CA#32 = (⊥ : EReal) :=
  IdealRules.named_const.ideal_named_scalar _ _ _ _ rfl

-- Sixteen slots, one per batch entry.
variable (S : Fin 16 → Slot)

section
variable {S} {v8 : IVec S16x1x1 1} {v49 v90 v131 v172 v213 v303 v259 v388 : FVec Ideal S16x128x64 .f32} {v313 v323 v333 v343 : FVec Ideal S4x128x64 .f32}
  {v236 v244 v247 v381 : FVec Ideal S16x128x128 .f32} {v241 v252 v262 : FVec Ideal S16x128x1 .f32}
  (h8 : ∀ z, v8 (ix3 z 0 0) = BitVec.ofBool (S z).prev)
  (h49 : ∀ z i d, v49 (ix3 z i d) = (S z).q i d)
  (h90 : ∀ z i d, v90 (ix3 z i d) = (S z).kp i d)
  (h131 : ∀ z i d, v131 (ix3 z i d) = (S z).kc i d)
  (h172 : ∀ z i d, v172 (ix3 z i d) = (S z).vp i d)
  (h213 : ∀ z i d, v213 (ix3 z i d) = (S z).vc i d)
  (h303 : ∀ z i d, v303 (ix3 z i d) = (S z).dy i d)
  (h344 : ∀ z i d, concatenate S16x128x64 0 [⟨S4x128x64, v313⟩, ⟨S4x128x64, v323⟩, ⟨S4x128x64, v333⟩, ⟨S4x128x64, v343⟩]
    concatenates_S4x128x64_S4x128x64_S4x128x64_S4x128x64_S16x128x64_d0 (ix3 z i d) = (S z).dl i d)
  (h236 : ∀ z i j, v236 (ix3 z i j) = (S z).sP i j)
  (h241 : ∀ z i, v241 (ix3 z i 0) = (S z).mx i)
  (h244 : ∀ z i j, v244 (ix3 z i j) = (S z).eC i j)
  (h247 : ∀ z i j, v247 (ix3 z i j) = (S z).eP i j)
  (h252 : ∀ z i, v252 (ix3 z i 0) = (S z).den i)
  (h259 : ∀ z i d, v259 (ix3 z i d) = (S z).num i d)
  (h262 : ∀ z i, v262 (ix3 z i 0) = Ideal.div 1 ((S z).den i * (S z).den i))
  (h381 : ∀ z i j, v381 (ix3 z i j) = (S z).gC i j)
  (h388 : ∀ z i d, v388 (ix3 z i d) = ∑ j, (S z).dsP i j * (S z).kp j d)
  (z : Fin 16) (i j : Fin 128) (d : Fin 64)

include h49 h131 in
theorem sC_at : k0_pay29 v49 v131 (ix3 z i j) = (S z).sC i j := by
  pointwise [k0_pay29, k0_pay28]
  rw [select_ge]
  simp only [h49, h131, mask_bot]
  rfl

include h8 h49 h90 in
theorem sP_at : k0_pay31 v8 v49 v90 (ix3 z i j) = (S z).sP i j := by
  pointwise [k0_pay31, k0_pay30]
  rw [h8, select_le_and]
  simp only [h49, h90, mask_bot]
  rfl

include h8 h49 h90 h131 in
theorem mx_at : k0_pay32 v8 v49 v90 v131 (ix3 z i 0) = (S z).mx i := by
  pointwise [k0_pay32]
  rw [negInf_eq]
  simp only [sC_at h49 h131, sP_at h8 h49 h90]
  rfl

include h8 h49 h90 h131 in
theorem eC_at : k0_pay33 v8 v49 v90 v131 (ix3 z i j) = (S z).eC i j := by
  pointwise [k0_pay33]
  simp only [sC_at h49 h131, mx_at h8 h49 h90 h131]
  rfl

include h236 h241 in
theorem eP_at : k0_pay34 v236 v241 (ix3 z i j) = (S z).eP i j := by
  pointwise [k0_pay34]
  simp only [h236, h241]
  rfl

include h236 h241 h244 in
theorem den_at : k0_pay35 v236 v241 v244 (ix3 z i 0) = (S z).den i := by
  pointwise [k0_pay35]
  simp only [h244, eP_at h236 h241]
  rfl

include h236 h241 h244 h172 h213 in
theorem num_at : k0_pay36 v172 v213 v236 v241 v244 (ix3 z i d) = (S z).num i d := by
  pointwise [k0_pay36]
  simp only [h244, eP_at h236 h241, h172, h213]
  rfl

include h236 h241 h244 in
theorem inv_at : k0_pay37 v236 v241 v244 (ix3 z i 0) = Ideal.div 1 ((S z).den i * (S z).den i) := by
  pointwise [k0_pay37]
  simp only [den_at h236 h241 h244]

include h252 h259 h262 h303 h344 in
theorem dden_at : k0_pay46 v252 v259 v262 v303 v313 v323 v333 v343 (ix3 z i 0) = (S z).dden i := by
  pointwise [k0_pay46]
  simp only [h252, h259, h262, h303]
  rw [zero_sub]
  refine congrArg (fun x => Ideal.div x ((S z).den i) + -(∑ d, (S z).dy i d * Ideal.div 1 ((S z).den i * (S z).den i) * (S z).num i d))
    (Finset.sum_congr rfl fun d _ => ?_)
  rw [← h344 z i d]
  pointwise []

include h252 h303 in
theorem dnum_at : k0_pay47 v252 v303 (ix3 z i d) = (S z).dnum i d := by
  pointwise [k0_pay47]
  simp only [h252, h303]
  rfl

include h252 h303 h247 in
theorem dvP_at : k0_pay48 v247 v252 v303 (ix3 z j d) = (S z).dvP j d := by
  pointwise [k0_pay48]
  simp only [dnum_at h303 h252, h247]
  rfl

include h252 h303 h244 in
theorem dvC_at : k0_pay49 v244 v252 v303 (ix3 z j d) = (S z).dvC j d := by
  pointwise [k0_pay49]
  simp only [dnum_at h303 h252, h244]
  rfl

include h213 h244 h252 h259 h262 h303 h344 in
theorem gC_at : k0_pay50 v213 v244 v252 v259 v262 v303 v313 v323 v333 v343 (ix3 z i j) = (S z).gC i j := by
  pointwise [k0_pay50]
  simp only [dden_at h303 h344 h252 h259 h262, dnum_at h303 h252, h213, h244, Fin.sum_univ_one]
  rfl

include h8 h172 h247 h252 h259 h262 h303 h344 in
theorem dsP_at : k0_pay51 v172 (k0_pay30 v8) v247 v252 v259 v262 v303 v313 v323 v333 v343 (ix3 z i j) = (S z).dsP i j := by
  pointwise [k0_pay51, k0_pay30]
  rw [h8, select_le_and]
  simp only [dden_at h303 h344 h252 h259 h262, dnum_at h303 h252, h172, h247, Fin.sum_univ_one]
  show _ = (if i ≤ j ∧ (S z).prev = true then _ else 0) * eighth
  rw [ite_mul, zero_mul]
  rfl

include h8 h90 h172 h247 h252 h259 h262 h303 h344 in
theorem dqP_at : k0_pay52 v90 v172 (k0_pay30 v8) v247 v252 v259 v262 v303 v313 v323 v333 v343 (ix3 z i d) = ∑ j, (S z).dsP i j * (S z).kp j d := by
  pointwise [k0_pay52]
  simp only [dsP_at h8 h172 h303 h344 h247 h252 h259 h262, h90]

include h8 h49 h172 h247 h252 h259 h262 h303 h344 in
theorem dkP_at : k0_pay55 (k0_pay53 v172 (k0_pay30 v8) v247 v252 v259 v262 v303 v313 v323 v333 v343) (k0_pay54 v49) (ix3 z j d) = (S z).dkP j d := by
  pointwise [k0_pay55, k0_pay54, k0_pay53]
  simp only [dsP_at h8 h172 h303 h344 h247 h252 h259 h262, h49]
  rfl

include h381 in
theorem dsC_at : k0_pay56 k0_pay28 v381 (ix3 z i j) = (S z).dsC i j := by
  pointwise [k0_pay56, k0_pay28]
  rw [select_ge]
  simp only [h381]
  show _ = (if j ≤ i then _ else 0) * eighth
  rw [ite_mul, zero_mul]
  rfl

include h381 h49 in
theorem dkC_at : k0_pay57 v49 k0_pay28 v381 (ix3 z j d) = (S z).dkC j d := by
  pointwise [k0_pay57]
  simp only [dsC_at h381, h49]
  rfl

end

/-! ### From the blocks to the batch -/

-- The four row blocks of a block.
abbrev rows0 (x : Vec Ideal S512x256 .f32) : Vec Ideal S128x256 .f32 := View.ld x (Rect.unit (s := S512x256) ![0, 0] S128x256.size inb_S512x256_S128x256_0_0)
abbrev rows1 (x : Vec Ideal S512x256 .f32) : Vec Ideal S128x256 .f32 := View.ld x (Rect.unit (s := S512x256) ![128, 0] S128x256.size inb_S512x256_S128x256_128_0)
abbrev rows2 (x : Vec Ideal S512x256 .f32) : Vec Ideal S128x256 .f32 := View.ld x (Rect.unit (s := S512x256) ![256, 0] S128x256.size inb_S512x256_S128x256_256_0)
abbrev rows3 (x : Vec Ideal S512x256 .f32) : Vec Ideal S128x256 .f32 := View.ld x (Rect.unit (s := S512x256) ![384, 0] S128x256.size inb_S512x256_S128x256_384_0)

section
variable (p : Vec Ideal S128x256 .f32) (x : Vec Ideal S512x256 .f32) (z : Fin 16) (i : Fin 128) (d : Fin 64)

abbrev w49 := k0_pay14 (k0_pay7 (rows0 x)) (k0_pay8 (rows1 x)) (k0_pay9 (rows2 x)) (k0_pay10 (rows3 x)) (k0_pay11 (rows3 x)) (k0_pay12 (rows3 x)) (k0_pay13 (rows3 x))
abbrev w90 := k0_pay15 p (rows0 x) (rows1 x) (rows2 x)
abbrev w131 := k0_pay19 (rows0 x) (k0_pay16 (rows0 x)) (k0_pay17 (rows0 x)) (k0_pay18 (rows0 x)) (rows1 x) (rows2 x) (rows3 x)
abbrev w172 := k0_pay23 (k0_pay20 p) (rows0 x) (k0_pay21 (rows0 x)) (k0_pay22 (rows0 x)) (rows1 x) (rows2 x)
abbrev w213 := k0_pay27 (k0_pay24 (rows0 x)) (k0_pay25 (rows1 x)) (rows2 x) (k0_pay26 (rows2 x)) (rows3 x)
abbrev w303 := k0_pay41 (k0_pay38 (rows0 x)) (k0_pay39 (rows1 x)) (k0_pay40 (rows2 x)) (rows3 x)
abbrev w344 := concatenate S16x128x64 0 [⟨S4x128x64, k0_pay42 (rows0 x)⟩, ⟨S4x128x64, k0_pay43 (rows1 x)⟩, ⟨S4x128x64, k0_pay44 (rows2 x)⟩, ⟨S4x128x64, k0_pay45 (rows3 x)⟩]
    concatenates_S4x128x64_S4x128x64_S4x128x64_S4x128x64_S16x128x64_d0

theorem stack49 : w49 x (ix3 z i d) = x (ix2 (⟨128 * (z / 4) + i, row_lt z i⟩ : Fin 512) (⟨64 * (z % 4) + d, col_lt z d⟩ : Fin 256)) := by
  pointwise [k0_pay14, k0_pay7, k0_pay8, k0_pay9, k0_pay10, k0_pay11, k0_pay12, k0_pay13, rows0, rows1, rows2, rows3]; blk_point []

theorem stack131 : w131 x (ix3 z i d) = x (ix2 (⟨128 * (z / 4) + i, row_lt z i⟩ : Fin 512) (⟨64 * (z % 4) + d, col_lt z d⟩ : Fin 256)) := by
  pointwise [k0_pay19, k0_pay16, k0_pay17, k0_pay18, rows0, rows1, rows2, rows3]; blk_point []

theorem stack213 : w213 x (ix3 z i d) = x (ix2 (⟨128 * (z / 4) + i, row_lt z i⟩ : Fin 512) (⟨64 * (z % 4) + d, col_lt z d⟩ : Fin 256)) := by
  pointwise [k0_pay27, k0_pay24, k0_pay25, k0_pay26, rows0, rows1, rows2, rows3]; blk_point []

theorem stack303 : w303 x (ix3 z i d) = x (ix2 (⟨128 * (z / 4) + i, row_lt z i⟩ : Fin 512) (⟨64 * (z % 4) + d, col_lt z d⟩ : Fin 256)) := by
  pointwise [k0_pay41, k0_pay38, k0_pay39, k0_pay40, rows0, rows1, rows2, rows3]; blk_point []

theorem stack344 : w344 x (ix3 z i d) = x (ix2 (⟨128 * (z / 4) + i, row_lt z i⟩ : Fin 512) (⟨64 * (z % 4) + d, col_lt z d⟩ : Fin 256)) := by
  pointwise [k0_pay42, k0_pay43, k0_pay44, k0_pay45, rows0, rows1, rows2, rows3]; blk_point []

end

/-- The keys and the values of the block before: the block handed in first, then the row blocks of the block itself. -/
def before (p : Vec Ideal S128x256 .f32) (x : Vec Ideal S512x256 .f32) (z : Fin 16) (i : Fin 128) (d : Fin 64) : EReal :=
  if h : z.val < 4 then p (ix2 i (⟨64 * (z % 4) + d, col_lt z d⟩ : Fin 256))
  else x (ix2 (⟨128 * (z / 4 - 1) + i, by omega⟩ : Fin 512) (⟨64 * (z % 4) + d, col_lt z d⟩ : Fin 256))

section
variable (p : Vec Ideal S128x256 .f32) (x : Vec Ideal S512x256 .f32) (z : Fin 16) (i : Fin 128) (d : Fin 64)

theorem stack90 : w90 p x (ix3 z i d) = before p x z i d := by
  unfold before; pointwise [k0_pay15, rows0, rows1, rows2]; blk_point []

theorem stack172 : w172 p x (ix3 z i d) = before p x z i d := by
  unfold before; pointwise [k0_pay23, k0_pay20, k0_pay21, k0_pay22, rows0, rows1, rows2]; blk_point []

end

end Cert.Attn.K1

end
-- ==== Proof.KerRows1.lean ====
/- The kernel of dilation 1, batch entry by batch entry: how a batch is laid out as a block again. -/
module

public import proofs.«01_k».proof.Proof.Lane1
public import proofs.«01_k».proof.Proof.Slot
public import Idealize.ShloMosaic.Lib.Pipeline.ValueKit
public import proofs.«01_k».proof.Proof.Gen.KernelIdeal.Skeleton

@[expose] public section

set_option maxRecDepth 16384

noncomputable section

namespace Cert.Attn.K1

open Idealize.ShloMosaic Idealize.ShloMosaic.TcCoe Idealize.SL.Sem
open Cert.KernelIdeal Cert.KernelIdeal.Gen

/-- The batch entry of head `h` in the row block that starts at entry `k`. -/
def entry (k : Fin 13) (h : Fin 4) : Fin 16 := ⟨k.val + h.val, by omega⟩

section
variable (h : Fin 4) (i : Fin 128) (d : Fin 64) (v w : FVec Ideal S16x128x64 .f32) (a : Vec Ideal S128x256 .f32)

/-- Four pieces side by side, read at a lane of one of them. -/
theorem side_by_side (f : Fin 4 → FVec Ideal S128x64 .f32) :
    concatenate S128x256 1 [⟨S128x64, f 0⟩, ⟨S128x64, f 1⟩, ⟨S128x64, f 2⟩, ⟨S128x64, f 3⟩] concatenates_S128x64_S128x64_S128x64_S128x64_S128x256_d1 (ix2 i (⟨64 * h + d, head_lt h d⟩ : Fin 256)) = f h (ix2 i d) :=
  concatenate_ofFn_apply (t := S128x256) (s₁ := S128x64) 1 f concatenates_S128x64_S128x64_S128x64_S128x64_S128x256_d1 rfl 64 rfl _ h (by show (64 * h.val + d.val) / 64 = h.val; omega) _
    (by show d.val = (64 * h.val + d.val) % 64; omega)
    (fun b hb => by
      match b with
      | ⟨0, _⟩ => rfl
      | ⟨1, _⟩ => exact absurd rfl hb)

/-- One head of a row block. -/
theorem cut_at (u : FVec Ideal S4x128x64 .f32) (k : ℕ) (hs : S4x128x64.Slices ![k, 0, 0] S1x128x64) (hk : k < 4) :
    shapeCast S128x64 (extractStridedSlice S1x128x64 ![k, 0, 0] u hs) shapeCasts_S1x128x64_S128x64 (ix2 i d) = u (ix3 ⟨k, hk⟩ i d) := by
  pointwise []

/-- The four heads of a row block side by side. -/
theorem heads_at (u : FVec Ideal S4x128x64 .f32) :
    concatenate S128x256 1 [⟨S128x64, shapeCast S128x64 (extractStridedSlice S1x128x64 ![0, 0, 0] u slices_S4x128x64_o0_0_0_S1x128x64) shapeCasts_S1x128x64_S128x64⟩, ⟨S128x64, shapeCast S128x64 (extractStridedSlice S1x128x64 ![1, 0, 0] u slices_S4x128x64_o1_0_0_S1x128x64) shapeCasts_S1x128x64_S128x64⟩, ⟨S128x64, shapeCast S128x64 (extractStridedSlice S1x128x64 ![2, 0, 0] u slices_S4x128x64_o2_0_0_S1x128x64) shapeCasts_S1x128x64_S128x64⟩, ⟨S128x64, shapeCast S128x64 (extractStridedSlice S1x128x64 ![3, 0, 0] u slices_S4x128x64_o3_0_0_S1x128x64) shapeCasts_S1x128x64_S128x64⟩] concatenates_S128x64_S128x64_S128x64_S128x64_S128x256_d1
      (ix2 i (⟨64 * h + d, head_lt h d⟩ : Fin 256)) = u (ix3 h i d) := by
  refine (side_by_side h i d ![ shapeCast S128x64 (extractStridedSlice S1x128x64 ![0, 0, 0] u slices_S4x128x64_o0_0_0_S1x128x64) shapeCasts_S1x128x64_S128x64,
    shapeCast S128x64 (extractStridedSlice S1x128x64 ![1, 0, 0] u slices_S4x128x64_o1_0_0_S1x128x64) shapeCasts_S1x128x64_S128x64,
    shapeCast S128x64 (extractStridedSlice S1x128x64 ![2, 0, 0] u slices_S4x128x64_o2_0_0_S1x128x64) shapeCasts_S1x128x64_S128x64,
    shapeCast S128x64 (extractStridedSlice S1x128x64 ![3, 0, 0] u slices_S4x128x64_o3_0_0_S1x128x64) shapeCasts_S1x128x64_S128x64]).trans ?_
  match h with
  | ⟨0, _⟩ => exact cut_at i d u 0 slices_S4x128x64_o0_0_0_S1x128x64 _
  | ⟨1, _⟩ => exact cut_at i d u 1 slices_S4x128x64_o1_0_0_S1x128x64 _
  | ⟨2, _⟩ => exact cut_at i d u 2 slices_S4x128x64_o2_0_0_S1x128x64 _
  | ⟨3, _⟩ => exact cut_at i d u 3 slices_S4x128x64_o3_0_0_S1x128x64 _
  | ⟨n + 4, hn⟩ => exact absurd hn (by omega)

/-- A row block of a batch. -/
theorem part_at (k : Fin 13) (hs : S16x128x64.Slices ![k.val, 0, 0] S4x128x64) :
    extractStridedSlice S4x128x64 ![k.val, 0, 0] v hs (ix3 h i d) = v (ix3 (entry k h) i d) := by
  unfold entry
  pointwise []

/-! ### The keys' gradient: own part `v`, and part `w` that falls on the block before -/

theorem lay59 : k0_pay59 w v (ix2 i (⟨64 * h + d, head_lt h d⟩ : Fin 256)) = v (ix3 (entry 0 h) i d) + w (ix3 (entry 4 h) i d) :=
  congrArg₂ (· + ·) ((heads_at h i d _).trans (part_at h i d v 0 slices_S16x128x64_o0_0_0_S4x128x64)) ((heads_at h i d _).trans (part_at h i d w 4 slices_S16x128x64_o4_0_0_S4x128x64))

theorem lay60 : k0_pay60 w v (ix2 i (⟨64 * h + d, head_lt h d⟩ : Fin 256)) = v (ix3 (entry 4 h) i d) + w (ix3 (entry 8 h) i d) :=
  congrArg₂ (· + ·) ((heads_at h i d _).trans (part_at h i d v 4 slices_S16x128x64_o4_0_0_S4x128x64)) ((heads_at h i d _).trans (part_at h i d w 8 slices_S16x128x64_o8_0_0_S4x128x64))

theorem lay65 : k0_pay65 v (k0_pay61 w) (k0_pay62 w) (k0_pay63 w) (k0_pay64 w) (ix2 i (⟨64 * h + d, head_lt h d⟩ : Fin 256)) = v (ix3 (entry 8 h) i d) + w (ix3 (entry 12 h) i d) :=
  congrArg₂ (· + ·) ((heads_at h i d _).trans (part_at h i d v 8 slices_S16x128x64_o8_0_0_S4x128x64)) ((heads_at h i d _).trans (part_at h i d w 12 slices_S16x128x64_o12_0_0_S4x128x64))

theorem lay66 : k0_pay66 v a (ix2 i (⟨64 * h + d, head_lt h d⟩ : Fin 256)) = v (ix3 (entry 12 h) i d) + a (ix2 i (⟨64 * h + d, head_lt h d⟩ : Fin 256)) :=
  congrArg (· + a _) ((heads_at h i d _).trans (part_at h i d v 12 slices_S16x128x64_o12_0_0_S4x128x64))

theorem lay67 : k0_pay67 v (ix2 i (⟨64 * h + d, head_lt h d⟩ : Fin 256)) = v (ix3 (entry 0 h) i d) := by
  unfold k0_pay67
  rw [shapeCast_self]
  exact ((heads_at h i d _).trans (part_at h i d v 0 slices_S16x128x64_o0_0_0_S4x128x64))

/-! ### The values' gradient, likewise -/

theorem lay73 : k0_pay73 v (k0_pay69 w) (k0_pay70 w) (k0_pay71 w) (k0_pay72 w) (ix2 i (⟨64 * h + d, head_lt h d⟩ : Fin 256)) = v (ix3 (entry 0 h) i d) + w (ix3 (entry 4 h) i d) :=
  congrArg₂ (· + ·) ((heads_at h i d _).trans (part_at h i d v 0 slices_S16x128x64_o0_0_0_S4x128x64)) ((heads_at h i d _).trans (part_at h i d w 4 slices_S16x128x64_o4_0_0_S4x128x64))

theorem lay74 : k0_pay74 w v (ix2 i (⟨64 * h + d, head_lt h d⟩ : Fin 256)) = v (ix3 (entry 4 h) i d) + w (ix3 (entry 8 h) i d) :=
  congrArg₂ (· + ·) ((heads_at h i d _).trans (part_at h i d v 4 slices_S16x128x64_o4_0_0_S4x128x64)) ((heads_at h i d _).trans (part_at h i d w 8 slices_S16x128x64_o8_0_0_S4x128x64))

theorem lay1 : k0_pay1 (k0_pay75 w) (k0_pay77 v) (k0_pay78 v) (k0_pay79 v) (k0_pay80 v) (ix2 i (⟨64 * h + d, head_lt h d⟩ : Fin 256)) = v (ix3 (entry 8 h) i d) + w (ix3 (entry 12 h) i d) :=
  congrArg₂ (· + ·) ((heads_at h i d _).trans (part_at h i d v 8 slices_S16x128x64_o8_0_0_S4x128x64)) ((heads_at h i d _).trans (part_at h i d w 12 slices_S16x128x64_o12_0_0_S4x128x64))

theorem lay2 : k0_pay2 v a (ix2 i (⟨64 * h + d, head_lt h d⟩ : Fin 256)) = v (ix3 (entry 12 h) i d) + a (ix2 i (⟨64 * h + d, head_lt h d⟩ : Fin 256)) :=
  congrArg (· + a _) ((heads_at h i d _).trans (part_at h i d v 12 slices_S16x128x64_o12_0_0_S4x128x64))

theorem lay3 : k0_pay3 v (ix2 i (⟨64 * h + d, head_lt h d⟩ : Fin 256)) = v (ix3 (entry 0 h) i d) := by
  unfold k0_pay3
  rw [shapeCast_self]
  exact ((heads_at h i d _).trans (part_at h i d v 0 slices_S16x128x64_o0_0_0_S4x128x64))

/-! ### The queries' gradient -/

/-- Four row blocks one below the other, read at a row of one of them. -/
theorem stacked (f : Fin 4 → FVec Ideal S128x256 .f32) (b : Fin 4) (c : Fin 256) (hb : 128 * b.val + i.val < 512) :
    concatenate S512x256 0 [⟨S128x256, f 0⟩, ⟨S128x256, f 1⟩, ⟨S128x256, f 2⟩, ⟨S128x256, f 3⟩] concatenates_S128x256_S128x256_S128x256_S128x256_S512x256_d0 (ix2 (⟨128 * b + i, hb⟩ : Fin 512) c) = f b (ix2 i c) :=
  concatenate_ofFn_apply (t := S512x256) (s₁ := S128x256) 0 f concatenates_S128x256_S128x256_S128x256_S128x256_S512x256_d0 rfl 128 rfl _ b (by show (128 * b.val + i.val) / 128 = b.val; omega) _
    (by show i.val = (128 * b.val + i.val) % 128; omega)
    (fun e he => by
      match e with
      | ⟨0, _⟩ => exact absurd rfl he
      | ⟨1, _⟩ => rfl)

/-- The row blocks of a batch. -/
def blocks : Fin 4 → FVec Ideal S128x256 .f32 :=
  ![(concatenate S128x256 1 [⟨S128x64, shapeCast S128x64 (extractStridedSlice S1x128x64 ![0, 0, 0] (extractStridedSlice S4x128x64 ![0, 0, 0] v slices_S16x128x64_o0_0_0_S4x128x64) slices_S4x128x64_o0_0_0_S1x128x64) shapeCasts_S1x128x64_S128x64⟩, ⟨S128x64, shapeCast S128x64 (extractStridedSlice S1x128x64 ![1, 0, 0] (extractStridedSlice S4x128x64 ![0, 0, 0] v slices_S16x128x64_o0_0_0_S4x128x64) slices_S4x128x64_o1_0_0_S1x128x64) shapeCasts_S1x128x64_S128x64⟩, ⟨S128x64, shapeCast S128x64 (extractStridedSlice S1x128x64 ![2, 0, 0] (extractStridedSlice S4x128x64 ![0, 0, 0] v slices_S16x128x64_o0_0_0_S4x128x64) slices_S4x128x64_o2_0_0_S1x128x64) shapeCasts_S1x128x64_S128x64⟩, ⟨S128x64, shapeCast S128x64 (extractStridedSlice S1x128x64 ![3, 0, 0] (extractStridedSlice S4x128x64 ![0, 0, 0] v slices_S16x128x64_o0_0_0_S4x128x64) slices_S4x128x64_o3_0_0_S1x128x64) shapeCasts_S1x128x64_S128x64⟩] concatenates_S128x64_S128x64_S128x64_S128x64_S128x256_d1),
    (concatenate S128x256 1 [⟨S128x64, shapeCast S128x64 (extractStridedSlice S1x128x64 ![0, 0, 0] (extractStridedSlice S4x128x64 ![4, 0, 0] v slices_S16x128x64_o4_0_0_S4x128x64) slices_S4x128x64_o0_0_0_S1x128x64) shapeCasts_S1x128x64_S128x64⟩, ⟨S128x64, shapeCast S128x64 (extractStridedSlice S1x128x64 ![1, 0, 0] (extractStridedSlice S4x128x64 ![4, 0, 0] v slices_S16x128x64_o4_0_0_S4x128x64) slices_S4x128x64_o1_0_0_S1x128x64) shapeCasts_S1x128x64_S128x64⟩, ⟨S128x64, shapeCast S128x64 (extractStridedSlice S1x128x64 ![2, 0, 0] (extractStridedSlice S4x128x64 ![4, 0, 0] v slices_S16x128x64_o4_0_0_S4x128x64) slices_S4x128x64_o2_0_0_S1x128x64) shapeCasts_S1x128x64_S128x64⟩, ⟨S128x64, shapeCast S128x64 (extractStridedSlice S1x128x64 ![3, 0, 0] (extractStridedSlice S4x128x64 ![4, 0, 0] v slices_S16x128x64_o4_0_0_S4x128x64) slices_S4x128x64_o3_0_0_S1x128x64) shapeCasts_S1x128x64_S128x64⟩] concatenates_S128x64_S128x64_S128x64_S128x64_S128x256_d1),
    (concatenate S128x256 1 [⟨S128x64, shapeCast S128x64 (extractStridedSlice S1x128x64 ![0, 0, 0] (extractStridedSlice S4x128x64 ![8, 0, 0] v slices_S16x128x64_o8_0_0_S4x128x64) slices_S4x128x64_o0_0_0_S1x128x64) shapeCasts_S1x128x64_S128x64⟩, ⟨S128x64, shapeCast S128x64 (extractStridedSlice S1x128x64 ![1, 0, 0] (extractStridedSlice S4x128x64 ![8, 0, 0] v slices_S16x128x64_o8_0_0_S4x128x64) slices_S4x128x64_o1_0_0_S1x128x64) shapeCasts_S1x128x64_S128x64⟩, ⟨S128x64, shapeCast S128x64 (extractStridedSlice S1x128x64 ![2, 0, 0] (extractStridedSlice S4x128x64 ![8, 0, 0] v slices_S16x128x64_o8_0_0_S4x128x64) slices_S4x128x64_o2_0_0_S1x128x64) shapeCasts_S1x128x64_S128x64⟩, ⟨S128x64, shapeCast S128x64 (extractStridedSlice S1x128x64 ![3, 0, 0] (extractStridedSlice S4x128x64 ![8, 0, 0] v slices_S16x128x64_o8_0_0_S4x128x64) slices_S4x128x64_o3_0_0_S1x128x64) shapeCasts_S1x128x64_S128x64⟩] concatenates_S128x64_S128x64_S128x64_S128x64_S128x256_d1),
    (concatenate S128x256 1 [⟨S128x64, shapeCast S128x64 (extractStridedSlice S1x128x64 ![0, 0, 0] (extractStridedSlice S4x128x64 ![12, 0, 0] v slices_S16x128x64_o12_0_0_S4x128x64) slices_S4x128x64_o0_0_0_S1x128x64) shapeCasts_S1x128x64_S128x64⟩, ⟨S128x64, shapeCast S128x64 (extractStridedSlice S1x128x64 ![1, 0, 0] (extractStridedSlice S4x128x64 ![12, 0, 0] v slices_S16x128x64_o12_0_0_S4x128x64) slices_S4x128x64_o1_0_0_S1x128x64) shapeCasts_S1x128x64_S128x64⟩, ⟨S128x64, shapeCast S128x64 (extractStridedSlice S1x128x64 ![2, 0, 0] (extractStridedSlice S4x128x64 ![12, 0, 0] v slices_S16x128x64_o12_0_0_S4x128x64) slices_S4x128x64_o2_0_0_S1x128x64) shapeCasts_S1x128x64_S128x64⟩, ⟨S128x64, shapeCast S128x64 (extractStridedSlice S1x128x64 ![3, 0, 0] (extractStridedSlice S4x128x64 ![12, 0, 0] v slices_S16x128x64_o12_0_0_S4x128x64) slices_S4x128x64_o3_0_0_S1x128x64) shapeCasts_S1x128x64_S128x64⟩] concatenates_S128x64_S128x64_S128x64_S128x64_S128x256_d1)]

theorem blocks_at (b : Fin 4) (z : Fin 16) (hz : z.val = 4 * b.val + h.val) : blocks v b (ix2 i (⟨64 * h + d, head_lt h d⟩ : Fin 256)) = v (ix3 z i d) := by
  match b with
  | ⟨0, _⟩ => rw [show z = entry 0 h from Fin.ext hz]; exact ((heads_at h i d _).trans (part_at h i d v 0 slices_S16x128x64_o0_0_0_S4x128x64))
  | ⟨1, _⟩ => rw [show z = entry 4 h from Fin.ext hz]; exact ((heads_at h i d _).trans (part_at h i d v 4 slices_S16x128x64_o4_0_0_S4x128x64))
  | ⟨2, _⟩ => rw [show z = entry 8 h from Fin.ext hz]; exact ((heads_at h i d _).trans (part_at h i d v 8 slices_S16x128x64_o8_0_0_S4x128x64))
  | ⟨3, _⟩ => rw [show z = entry 12 h from Fin.ext hz]; exact ((heads_at h i d _).trans (part_at h i d v 12 slices_S16x128x64_o12_0_0_S4x128x64))
  | ⟨n + 4, hn⟩ => exact absurd hn (by omega)

end

end Cert.Attn.K1

end
-- ==== Proof.KerBlock1.lean ====
/- The kernel of dilation 1: what one step computes of the blocks it is handed. -/
module

public import proofs.«01_k».proof.Proof.KerTiles1
public import proofs.«01_k».proof.Proof.KerRows1

@[expose] public section

set_option maxRecDepth 16384

noncomputable section

namespace Cert.Attn.K1

open Idealize.ShloMosaic Idealize.ShloMosaic.TcCoe Idealize.SL.Sem
open Cert.KernelIdeal Cert.KernelIdeal.Gen

variable (g : grid0.Coords) (x0 : Vec Ideal S512x256 .f32) (x1 : Vec Ideal S128x256 .f32) (x2 : Vec Ideal S512x256 .f32)
  (x3 : Vec Ideal S128x256 .f32) (x4 x5 x6 : Vec Ideal S512x256 .f32)

/-! ### The step's values, named -/

abbrev w236 := k0_pay31 (k0_pay6 g) (w49 x0) (w90 x1 x2)
abbrev w241 := k0_pay32 (k0_pay6 g) (w49 x0) (w90 x1 x2) (w131 x2)
abbrev w244 := k0_pay33 (k0_pay6 g) (w49 x0) (w90 x1 x2) (w131 x2)
abbrev w247 := k0_pay34 (w236 g x0 x1 x2) (w241 g x0 x1 x2)
abbrev w252 := k0_pay35 (w236 g x0 x1 x2) (w241 g x0 x1 x2) (w244 g x0 x1 x2)
abbrev w259 := k0_pay36 (w172 x3 x4) (w213 x4) (w236 g x0 x1 x2) (w241 g x0 x1 x2) (w244 g x0 x1 x2)
abbrev w262 := k0_pay37 (w236 g x0 x1 x2) (w241 g x0 x1 x2) (w244 g x0 x1 x2)
abbrev w364 := k0_pay48 (w247 g x0 x1 x2) (w252 g x0 x1 x2) (w303 x5)
abbrev w371 := k0_pay49 (w244 g x0 x1 x2) (w252 g x0 x1 x2) (w303 x5)
abbrev w381 := k0_pay50 (w213 x4) (w244 g x0 x1 x2) (w252 g x0 x1 x2) (w259 g x0 x1 x2 x3 x4) (w262 g x0 x1 x2) (w303 x5)
    (k0_pay42 (rows0 x6)) (k0_pay43 (rows1 x6)) (k0_pay44 (rows2 x6)) (k0_pay45 (rows3 x6))
abbrev w388 := k0_pay52 (w90 x1 x2) (w172 x3 x4) (k0_pay30 (k0_pay6 g)) (w247 g x0 x1 x2) (w252 g x0 x1 x2) (w259 g x0 x1 x2 x3 x4)
    (w262 g x0 x1 x2) (w303 x5) (k0_pay42 (rows0 x6)) (k0_pay43 (rows1 x6)) (k0_pay44 (rows2 x6)) (k0_pay45 (rows3 x6))
abbrev w392 := k0_pay55 (k0_pay53 (w172 x3 x4) (k0_pay30 (k0_pay6 g)) (w247 g x0 x1 x2) (w252 g x0 x1 x2) (w259 g x0 x1 x2 x3 x4)
    (w262 g x0 x1 x2) (w303 x5) (k0_pay42 (rows0 x6)) (k0_pay43 (rows1 x6)) (k0_pay44 (rows2 x6)) (k0_pay45 (rows3 x6))) (k0_pay54 (w49 x0))
abbrev w403 := k0_pay57 (w49 x0) k0_pay28 (w381 g x0 x1 x2 x3 x4 x5 x6)

/-- The blocks of a step hold the tiles of sixteen slots, four row blocks of four heads. -/
structure Holds (S : Fin 16 → Slot) : Prop where
  q : ∀ (z : Fin 16) (i : Fin 128) (d : Fin 64), x0 (ix2 (⟨128 * (z / 4) + i, row_lt z i⟩ : Fin 512) (⟨64 * (z % 4) + d, col_lt z d⟩ : Fin 256)) = (S z).q i d
  kp : ∀ (z : Fin 16) (i : Fin 128) (d : Fin 64), before x1 x2 z i d = (S z).kp i d
  kc : ∀ (z : Fin 16) (i : Fin 128) (d : Fin 64), x2 (ix2 (⟨128 * (z / 4) + i, row_lt z i⟩ : Fin 512) (⟨64 * (z % 4) + d, col_lt z d⟩ : Fin 256)) = (S z).kc i d
  vp : ∀ (z : Fin 16) (i : Fin 128) (d : Fin 64), before x3 x4 z i d = (S z).vp i d
  vc : ∀ (z : Fin 16) (i : Fin 128) (d : Fin 64), x4 (ix2 (⟨128 * (z / 4) + i, row_lt z i⟩ : Fin 512) (⟨64 * (z % 4) + d, col_lt z d⟩ : Fin 256)) = (S z).vc i d
  dy : ∀ (z : Fin 16) (i : Fin 128) (d : Fin 64), x5 (ix2 (⟨128 * (z / 4) + i, row_lt z i⟩ : Fin 512) (⟨64 * (z % 4) + d, col_lt z d⟩ : Fin 256)) = (S z).dy i d
  dl : ∀ (z : Fin 16) (i : Fin 128) (d : Fin 64), x6 (ix2 (⟨128 * (z / 4) + i, row_lt z i⟩ : Fin 512) (⟨64 * (z % 4) + d, col_lt z d⟩ : Fin 256)) = (S z).dl i d
  prev : ∀ z : Fin 16, k0_pay6 g (ix3 z 0 0) = BitVec.ofBool (S z).prev

variable {g x0 x1 x2 x3 x4 x5 x6} {S : Fin 16 → Slot} (H : Holds g x0 x1 x2 x3 x4 x5 x6 S)
  (z : Fin 16) (i j : Fin 128) (d : Fin 64)

include H

theorem is49 : w49 x0 (ix3 z i d) = (S z).q i d := (stack49 x0 z i d).trans (H.q z i d)
theorem is90 : w90 x1 x2 (ix3 z i d) = (S z).kp i d := (stack90 x1 x2 z i d).trans (H.kp z i d)
theorem is131 : w131 x2 (ix3 z i d) = (S z).kc i d := (stack131 x2 z i d).trans (H.kc z i d)
theorem is172 : w172 x3 x4 (ix3 z i d) = (S z).vp i d := (stack172 x3 x4 z i d).trans (H.vp z i d)
theorem is213 : w213 x4 (ix3 z i d) = (S z).vc i d := (stack213 x4 z i d).trans (H.vc z i d)
theorem is303 : w303 x5 (ix3 z i d) = (S z).dy i d := (stack303 x5 z i d).trans (H.dy z i d)
theorem is344 : w344 x6 (ix3 z i d) = (S z).dl i d := (stack344 x6 z i d).trans (H.dl z i d)
theorem is236 : w236 g x0 x1 x2 (ix3 z i j) = (S z).sP i j := sP_at H.prev (is49 H) (is90 H) z i j
theorem is241 : w241 g x0 x1 x2 (ix3 z i 0) = (S z).mx i := mx_at H.prev (is49 H) (is90 H) (is131 H) z i
theorem is244 : w244 g x0 x1 x2 (ix3 z i j) = (S z).eC i j := eC_at H.prev (is49 H) (is90 H) (is131 H) z i j
theorem is247 : w247 g x0 x1 x2 (ix3 z i j) = (S z).eP i j := eP_at (is236 H) (is241 H) z i j
theorem is252 : w252 g x0 x1 x2 (ix3 z i 0) = (S z).den i := den_at (is236 H) (is241 H) (is244 H) z i
theorem is259 : w259 g x0 x1 x2 x3 x4 (ix3 z i d) = (S z).num i d := num_at (is172 H) (is213 H) (is236 H) (is241 H) (is244 H) z i d
theorem is262 : w262 g x0 x1 x2 (ix3 z i 0) = Ideal.div 1 ((S z).den i * (S z).den i) := inv_at (is236 H) (is241 H) (is244 H) z i
theorem is364 : w364 g x0 x1 x2 x5 (ix3 z j d) = (S z).dvP j d := dvP_at (is303 H) (is247 H) (is252 H) z j d
theorem is371 : w371 g x0 x1 x2 x5 (ix3 z j d) = (S z).dvC j d := dvC_at (is303 H) (is244 H) (is252 H) z j d
theorem is381 : w381 g x0 x1 x2 x3 x4 x5 x6 (ix3 z i j) = (S z).gC i j :=
  gC_at (is213 H) (is303 H) (is344 H) (is244 H) (is252 H) (is259 H) (is262 H) z i j
theorem is388 : w388 g x0 x1 x2 x3 x4 x5 x6 (ix3 z i d) = ∑ j, (S z).dsP i j * (S z).kp j d :=
  dqP_at H.prev (is90 H) (is172 H) (is303 H) (is344 H) (is247 H) (is252 H) (is259 H) (is262 H) z i d
theorem is392 : w392 g x0 x1 x2 x3 x4 x5 x6 (ix3 z j d) = (S z).dkP j d :=
  dkP_at H.prev (is49 H) (is172 H) (is303 H) (is344 H) (is247 H) (is252 H) (is259 H) (is262 H) z j d
theorem is403 : w403 g x0 x1 x2 x3 x4 x5 x6 (ix3 z j d) = (S z).dkC j d := dkC_at (is49 H) (is381 H) z j d

/-! ### What the step stores -/

theorem dq_step (b h : Fin 4) (hb : 128 * b.val + i.val < 512) (hz : z.val = 4 * b.val + h.val) :
    k0_pay58 (w131 x2) k0_pay28 (w381 g x0 x1 x2 x3 x4 x5 x6) (w388 g x0 x1 x2 x3 x4 x5 x6)
      (ix2 (⟨128 * b + i, hb⟩ : Fin 512) (⟨64 * h + d, head_lt h d⟩ : Fin 256)) = (S z).dq i d := by
  unfold k0_pay58
  refine (stacked i (blocks _) b _ hb).trans ((blocks_at h i d _ b z hz).trans ?_)
  pointwise []
  simp only [dsC_at (is381 H), is388 H, is131 H]
  rfl

end Cert.Attn.K1

end
-- ==== Proof.KerOut1.lean ====
/- The kernel of dilation 1: the three arrays it leaves. -/
module

public import proofs.«01_k».proof.Proof.KerBlock1
public import proofs.«01_k».proof.Proof.Core
public import proofs.«01_k».proof.Proof.Gen.KernelIdeal.Value

@[expose] public section

set_option maxRecDepth 16384

noncomputable section

namespace Cert.Attn.K1

open Idealize.ShloMosaic Idealize.ShloMosaic.TcCoe Idealize.SL.Sem
open Cert.KernelIdeal Cert.KernelIdeal.Gen

/-- A batch entry has a block before it if it is not in the first row block, or the step is not the last. -/
theorem before_at (g : grid0.Coords) (z : Fin 16) : k0_pay6 g (ix3 z 0 0) = BitVec.ofBool (decide (4 ≤ z.val ∨ (g 1).val < 3)) := by
  pointwise [k0_pay6]
  have hg : (g 1).val < 4 := (g 1).isLt
  generalize (g 1).val = n at hg ⊢
  fin_vals z with hz <;> interval_cases n <;> simp only [hz] <;> decide

theorem zeros4 (i : Fin 128) (c : Fin 256) : (k0_pay4 : FVec Ideal S128x256 .f32) (ix2 i c) = 0 := by
  pointwise [k0_pay4]

theorem zeros5 (i : Fin 128) (c : Fin 256) : (k0_pay5 : FVec Ideal S128x256 .f32) (ix2 i c) = 0 := by
  pointwise [k0_pay5]

variable (m : (ℓ : Loc nD τ sig) → Buf (Elt Ideal) ℓ) (c : Dev nD)

/-- Step `t` works on blocks `4 * (3 - t)` and the three after it, and on the block before them. -/
theorem idx : ∀ t : Fin cfg0.N, win0_0.index t = ![3 - t.val, 0] ∧ win0_1.index t = ![4 * (3 - t.val) - 1, 0] ∧ win0_2.index t = ![3 - t.val, 0]
    ∧ win0_3.index t = ![4 * (3 - t.val) - 1, 0] ∧ win0_4.index t = ![3 - t.val, 0] ∧ win0_5.index t = ![3 - t.val, 0] ∧ win0_6.index t = ![3 - t.val, 0]
    ∧ win0_7.index t = ![3 - t.val, 0] ∧ win0_8.index t = ![3 - t.val, 0] ∧ win0_9.index t = ![3 - t.val, 0]
    ∧ (grid0.coords t 1).val = t.val := (by decide +kernel : ∀ t : Fin grid0.N, _)

abbrev aQ : Arr := m ((c : Thread nD τ).loc main_arg0)
abbrev aK : Arr := m ((c : Thread nD τ).loc main_arg1)
abbrev aV : Arr := m ((c : Thread nD τ).loc main_arg2)
abbrev aDY : Arr := m ((c : Thread nD τ).loc main_arg3)
abbrev aDL : Arr := m ((c : Thread nD τ).loc main_arg4)

/-- The slots of the four blocks from block `n` on: four heads each. -/
def slots (n : ℕ) (z : Fin 16) : Slot := slot (aQ m c) (aK m c) (aV m c) (aDY m c) (aDL m c) 1 (n + z / 4) 0 (z % 4)

theorem holds (t : Fin cfg0.N) : Holds (grid0.coords t) (iblk m c 0 t) (iblk m c 1 t) (iblk m c 2 t) (iblk m c 3 t) (iblk m c 4 t)
    (iblk m c 5 t) (iblk m c 6 t) (slots m c (4 * (3 - t))) where
  q z i d := by simp only [slots, slot]; unfold tile; blk_point [iblk, V, idx t]
  kp z i d := by
    simp only [slots, slot]; unfold tile before
    by_cases hz : z.val < 4
    · rw [dif_pos hz]; blk_point [iblk, V, idx t]
    · rw [dif_neg hz]; blk_point [iblk, V, idx t]
  kc z i d := by simp only [slots, slot]; unfold tile; blk_point [iblk, V, idx t]
  vp z i d := by
    simp only [slots, slot]; unfold tile before
    by_cases hz : z.val < 4
    · rw [dif_pos hz]; blk_point [iblk, V, idx t]
    · rw [dif_neg hz]; blk_point [iblk, V, idx t]
  vc z i d := by simp only [slots, slot]; unfold tile; blk_point [iblk, V, idx t]
  dy z i d := by simp only [slots, slot]; unfold tile; blk_point [iblk, V, idx t]
  dl z i d := by simp only [slots, slot]; unfold tile; blk_point [iblk, V, idx t]
  prev z := by
    rw [before_at]
    simp only [slots, slot, idx t]
    congr 2
    exact propext (by omega)

/-! ### Places -/

/-- A place of a row block is a lane of one of its four pieces. -/
theorem place (y : S128x256.Idx) : ∃ (k : Fin 4) (i : Fin 128) (d : Fin 64), y = ix2 i (⟨64 * k + d, head_lt k d⟩ : Fin 256) ∧ (y 0).val = i.val ∧ (y 1).val = 64 * k.val + d.val := by
  have h0 : (y 0).val < 128 := (y 0).isLt
  have h1 : (y 1).val < 256 := (y 1).isLt
  refine ⟨⟨(y 1).val / 64, by omega⟩, ⟨(y 0).val, h0⟩, ⟨(y 1).val % 64, by omega⟩, ?_, rfl, (Nat.div_add_mod (y 1).val 64).symm⟩
  funext b
  match b with
  | ⟨0, _⟩ => rfl
  | ⟨1, _⟩ => exact Fin.ext (Nat.div_add_mod (y 1).val 64).symm

theorem block_lt (b : Fin 4) (i : Fin 128) : 128 * b.val + i.val < 512 := by omega

/-- A place of a block is a lane of one of its sixteen pieces. -/
theorem place4 (y : S512x256.Idx) : ∃ (b k : Fin 4) (i : Fin 128) (d : Fin 64),
    y = ix2 (⟨128 * b + i, block_lt b i⟩ : Fin 512) (⟨64 * k + d, head_lt k d⟩ : Fin 256) := by
  have h0 : (y 0).val < 512 := (y 0).isLt
  have h1 : (y 1).val < 256 := (y 1).isLt
  refine ⟨⟨(y 0).val / 128, by omega⟩, ⟨(y 1).val / 64, by omega⟩, ⟨(y 0).val % 128, by omega⟩, ⟨(y 1).val % 64, by omega⟩, ?_⟩
  funext b
  match b with
  | ⟨0, _⟩ => exact Fin.ext (Nat.div_add_mod (y 0).val 128).symm
  | ⟨1, _⟩ => exact Fin.ext (Nat.div_add_mod (y 1).val 64).symm

variable (z : Fin 16) (i : Fin 128) (d : Fin 64)

/-- The slot of a piece is the one the array's row and column name. -/
theorem at_row (f : Slot → Tile) {n R C : ℕ} (hR : R = (n + z.val / 4) * 128 + i) (hC : C = 64 * (z.val % 4) + d) :
    f (slots m c n z) i d = f (slot (aQ m c) (aK m c) (aV m c) (aDY m c) (aDL m c) 1 (R / 128) (C / 256) (C % 256 / 64))
      ⟨R % 128, Nat.mod_lt _ (by norm_num)⟩ ⟨C % 64, Nat.mod_lt _ (by norm_num)⟩ :=
  slot_part f (by omega) (by omega) (by omega) (Fin.ext (by show i.val = R % 128; omega)) (Fin.ext (by show d.val = C % 64; omega))

theorem at_next (f : Slot → Tile) {n R C : ℕ} (hR : R + 128 = (n + z.val / 4) * 128 + i) (hC : C = 64 * (z.val % 4) + d) :
    f (slots m c n z) i d = f (slot (aQ m c) (aK m c) (aV m c) (aDY m c) (aDL m c) 1 (R / 128 + 1) (C / 256) (C % 256 / 64))
      ⟨R % 128, Nat.mod_lt _ (by norm_num)⟩ ⟨C % 64, Nat.mod_lt _ (by norm_num)⟩ :=
  slot_part f (by omega) (by omega) (by omega) (Fin.ext (by show i.val = R % 128; omega)) (Fin.ext (by show d.val = C % 64; omega))

/-- A row block that has another one after it in its array. -/
theorem dk_spot (w : Fin 16) {n n' R C : ℕ} (hR : R = (n + z.val / 4) * 128 + i) (hC : C = 64 * (z.val % 4) + d)
    (hR' : R + 128 = (n' + w.val / 4) * 128 + i) (hC' : C = 64 * (w.val % 4) + d) (hlt : R + 128 < 2048) :
    (slots m c n z).dkC i d + (slots m c n' w).dkP i d = dkAt (aQ m c) (aK m c) (aV m c) (aDY m c) (aDL m c) 1 R C := by
  rw [dkAt, if_pos (by omega)]
  exact congrArg₂ (· + ·) (at_row m c z i d Slot.dkC hR hC) (at_next m c w i d Slot.dkP hR' hC')

/-- The last row block of the array. -/
theorem dk_last {n R C : ℕ} (hR : R = (n + z.val / 4) * 128 + i) (hC : C = 64 * (z.val % 4) + d) (hlt : 2048 ≤ R + 128) :
    (slots m c n z).dkC i d + 0 = dkAt (aQ m c) (aK m c) (aV m c) (aDY m c) (aDL m c) 1 R C := by
  rw [dkAt, if_neg (by omega)]
  exact congrArg (· + 0) (at_row m c z i d Slot.dkC hR hC)

/-- A row block that has another one after it in its array. -/
theorem dv_spot (w : Fin 16) {n n' R C : ℕ} (hR : R = (n + z.val / 4) * 128 + i) (hC : C = 64 * (z.val % 4) + d)
    (hR' : R + 128 = (n' + w.val / 4) * 128 + i) (hC' : C = 64 * (w.val % 4) + d) (hlt : R + 128 < 2048) :
    (slots m c n z).dvC i d + (slots m c n' w).dvP i d = dvAt (aQ m c) (aK m c) (aV m c) (aDY m c) (aDL m c) 1 R C := by
  rw [dvAt, if_pos (by omega)]
  exact congrArg₂ (· + ·) (at_row m c z i d Slot.dvC hR hC) (at_next m c w i d Slot.dvP hR' hC')

/-- The last row block of the array. -/
theorem dv_last {n R C : ℕ} (hR : R = (n + z.val / 4) * 128 + i) (hC : C = 64 * (z.val % 4) + d) (hlt : 2048 ≤ R + 128) :
    (slots m c n z).dvC i d + 0 = dvAt (aQ m c) (aK m c) (aV m c) (aDY m c) (aDL m c) 1 R C := by
  rw [dvAt, if_neg (by omega)]
  exact congrArg (· + 0) (at_row m c z i d Slot.dvC hR hC)

/-! ### What a step leaves -/

variable (t : Fin cfg0.N)

theorem left_dq (b k : Fin 4) (hz : z.val = 4 * b.val + k.val) :
    (outsAt0 m c t.val t.isLt).1 (ix2 (⟨128 * b + i, block_lt b i⟩ : Fin 512) (⟨64 * k + d, head_lt k d⟩ : Fin 256)) = (slots m c (4 * (3 - t)) z).dq i d := by
  by_cases h : t.val % 4 = 0
  · rw [outsAt0_A m c t h]
    frame_out
    exact dq_step (holds m c t) z i d b k _ hz
  · rw [outsAt0_B m c t h]
    frame_out
    exact dq_step (holds m c t) z i d b k _ hz

theorem left_dkP (k : Fin 4) : (outsAt0 m c t.val t.isLt).2.2.2.1 (ix2 i (⟨64 * k + d, head_lt k d⟩ : Fin 256)) = (slots m c (4 * (3 - t)) (entry 0 k)).dkP i d := by
  by_cases h : t.val % 4 = 0
  · rw [outsAt0_A m c t h]
    frame_out
    exact (lay67 k i d _).trans (is392 (holds m c t) _ i d)
  · rw [outsAt0_B m c t h]
    frame_out
    exact (lay67 k i d _).trans (is392 (holds m c t) _ i d)

theorem left_dvP (k : Fin 4) : (outsAt0 m c t.val t.isLt).2.2.2.2 (ix2 i (⟨64 * k + d, head_lt k d⟩ : Fin 256)) = (slots m c (4 * (3 - t)) (entry 0 k)).dvP i d := by
  by_cases h : t.val % 4 = 0
  · rw [outsAt0_A m c t h]
    frame_out
    exact (lay3 k i d _).trans (is364 (holds m c t) _ i d)
  · rw [outsAt0_B m c t h]
    frame_out
    exact (lay3 k i d _).trans (is364 (holds m c t) _ i d)

theorem left_dk (y : S512x256.Idx) {R C : ℕ} (eR : R = (3 - t.val) * 512 + y 0) (eC : C = y 1) :
    (outsAt0 m c t.val t.isLt).2.1 y = dkAt (aQ m c) (aK m c) (aV m c) (aDY m c) (aDL m c) 1 R C := by
  have ht : t.val < 4 := t.isLt
  have e0 : ∀ k : Fin 4, (entry 0 k).val = k.val := fun k => Nat.zero_add _
  by_cases first : t.val % 4 = 0
  · rw [outsAt0_A m c t first]
    frame_out
    canon_tiles x h <;> obtain ⟨k, i, d, rfl, hi, hd⟩ := place x
    case piece0 =>
      have e1 : (entry 12 k).val = 12 + k.val := rfl
      exact (lay66 k i d _ _).trans ((congrArg₂ (· + ·) (is403 (holds m c t) _ i d) (zeros4 i _)).trans
        (dk_last m c _ i d (by omega) (by omega) (by omega)))
    case piece1 =>
      have e1 : (entry 8 k).val = 8 + k.val := rfl
      have e2 : (entry 12 k).val = 12 + k.val := rfl
      exact (lay65 k i d _ _).trans ((congrArg₂ (· + ·) (is403 (holds m c t) _ i d) (is392 (holds m c t) _ i d)).trans
        (dk_spot m c _ i d _ (by omega) (by omega) (by omega) (by omega) (by omega)))
    case piece2 =>
      have e1 : (entry 4 k).val = 4 + k.val := rfl
      have e2 : (entry 8 k).val = 8 + k.val := rfl
      exact (lay60 k i d _ _).trans ((congrArg₂ (· + ·) (is403 (holds m c t) _ i d) (is392 (holds m c t) _ i d)).trans
        (dk_spot m c _ i d _ (by omega) (by omega) (by omega) (by omega) (by omega)))
    case piece3 =>
      have e1 : (entry 0 k).val = 0 + k.val := rfl
      have e2 : (entry 4 k).val = 4 + k.val := rfl
      exact (lay59 k i d _ _).trans ((congrArg₂ (· + ·) (is403 (holds m c t) _ i d) (is392 (holds m c t) _ i d)).trans
        (dk_spot m c _ i d _ (by omega) (by omega) (by omega) (by omega) (by omega)))
  · rw [outsAt0_B m c t first]
    frame_out
    canon_tiles x h <;> obtain ⟨k, i, d, rfl, hi, hd⟩ := place x
    case piece0 =>
      have e1 : (entry 12 k).val = 12 + k.val := rfl
      have back : 4 * (3 - (t.val - 1)) = 4 * (3 - t.val) + 4 := by omega
      refine (lay66 k i d _ _).trans ((congrArg₂ (· + ·) (is403 (holds m c t) _ i d)
        (Eq.trans ?_ (left_dkP m c i d ⟨t.val - 1, by omega⟩ k))).trans
        (dk_spot m c _ i d _ (by omega) (by omega) (by simp only [back, e0]; omega) (by simp only [e0]; omega) (by omega)))
      exact congrFun (Memref.IsWhole.read_unread _ _) _
    case piece1 =>
      have e1 : (entry 8 k).val = 8 + k.val := rfl
      have e2 : (entry 12 k).val = 12 + k.val := rfl
      exact (lay65 k i d _ _).trans ((congrArg₂ (· + ·) (is403 (holds m c t) _ i d) (is392 (holds m c t) _ i d)).trans
        (dk_spot m c _ i d _ (by omega) (by omega) (by omega) (by omega) (by omega)))
    case piece2 =>
      have e1 : (entry 4 k).val = 4 + k.val := rfl
      have e2 : (entry 8 k).val = 8 + k.val := rfl
      exact (lay60 k i d _ _).trans ((congrArg₂ (· + ·) (is403 (holds m c t) _ i d) (is392 (holds m c t) _ i d)).trans
        (dk_spot m c _ i d _ (by omega) (by omega) (by omega) (by omega) (by omega)))
    case piece3 =>
      have e1 : (entry 0 k).val = 0 + k.val := rfl
      have e2 : (entry 4 k).val = 4 + k.val := rfl
      exact (lay59 k i d _ _).trans ((congrArg₂ (· + ·) (is403 (holds m c t) _ i d) (is392 (holds m c t) _ i d)).trans
        (dk_spot m c _ i d _ (by omega) (by omega) (by omega) (by omega) (by omega)))

theorem left_dv (y : S512x256.Idx) {R C : ℕ} (eR : R = (3 - t.val) * 512 + y 0) (eC : C = y 1) :
    (outsAt0 m c t.val t.isLt).2.2.1 y = dvAt (aQ m c) (aK m c) (aV m c) (aDY m c) (aDL m c) 1 R C := by
  have ht : t.val < 4 := t.isLt
  have e0 : ∀ k : Fin 4, (entry 0 k).val = k.val := fun k => Nat.zero_add _
  by_cases first : t.val % 4 = 0
  · rw [outsAt0_A m c t first]
    frame_out
    canon_tiles x h <;> obtain ⟨k, i, d, rfl, hi, hd⟩ := place x
    case piece0 =>
      have e1 : (entry 12 k).val = 12 + k.val := rfl
      exact (lay2 k i d _ _).trans ((congrArg₂ (· + ·) (is371 (holds m c t) _ i d) (zeros5 i _)).trans
        (dv_last m c _ i d (by omega) (by omega) (by omega)))
    case piece1 =>
      have e1 : (entry 8 k).val = 8 + k.val := rfl
      have e2 : (entry 12 k).val = 12 + k.val := rfl
      exact (lay1 k i d _ _).trans ((congrArg₂ (· + ·) (is371 (holds m c t) _ i d) (is364 (holds m c t) _ i d)).trans
        (dv_spot m c _ i d _ (by omega) (by omega) (by omega) (by omega) (by omega)))
    case piece2 =>
      have e1 : (entry 4 k).val = 4 + k.val := rfl
      have e2 : (entry 8 k).val = 8 + k.val := rfl
      exact (lay74 k i d _ _).trans ((congrArg₂ (· + ·) (is371 (holds m c t) _ i d) (is364 (holds m c t) _ i d)).trans
        (dv_spot m c _ i d _ (by omega) (by omega) (by omega) (by omega) (by omega)))
    case piece3 =>
      have e1 : (entry 0 k).val = 0 + k.val := rfl
      have e2 : (entry 4 k).val = 4 + k.val := rfl
      exact (lay73 k i d _ _).trans ((congrArg₂ (· + ·) (is371 (holds m c t) _ i d) (is364 (holds m c t) _ i d)).trans
        (dv_spot m c _ i d _ (by omega) (by omega) (by omega) (by omega) (by omega)))
  · rw [outsAt0_B m c t first]
    frame_out
    canon_tiles x h <;> obtain ⟨k, i, d, rfl, hi, hd⟩ := place x
    case piece0 =>
      have e1 : (entry 12 k).val = 12 + k.val := rfl
      have back : 4 * (3 - (t.val - 1)) = 4 * (3 - t.val) + 4 := by omega
      refine (lay2 k i d _ _).trans ((congrArg₂ (· + ·) (is371 (holds m c t) _ i d)
        (Eq.trans ?_ (left_dvP m c i d ⟨t.val - 1, by omega⟩ k))).trans
        (dv_spot m c _ i d _ (by omega) (by omega) (by simp only [back, e0]; omega) (by simp only [e0]; omega) (by omega)))
      exact congrFun (Memref.IsWhole.read_unread _ _) _
    case piece1 =>
      have e1 : (entry 8 k).val = 8 + k.val := rfl
      have e2 : (entry 12 k).val = 12 + k.val := rfl
      exact (lay1 k i d _ _).trans ((congrArg₂ (· + ·) (is371 (holds m c t) _ i d) (is364 (holds m c t) _ i d)).trans
        (dv_spot m c _ i d _ (by omega) (by omega) (by omega) (by omega) (by omega)))
    case piece2 =>
      have e1 : (entry 4 k).val = 4 + k.val := rfl
      have e2 : (entry 8 k).val = 8 + k.val := rfl
      exact (lay74 k i d _ _).trans ((congrArg₂ (· + ·) (is371 (holds m c t) _ i d) (is364 (holds m c t) _ i d)).trans
        (dv_spot m c _ i d _ (by omega) (by omega) (by omega) (by omega) (by omega)))
    case piece3 =>
      have e1 : (entry 0 k).val = 0 + k.val := rfl
      have e2 : (entry 4 k).val = 4 + k.val := rfl
      exact (lay73 k i d _ _).trans ((congrArg₂ (· + ·) (is371 (holds m c t) _ i d) (is364 (holds m c t) _ i d)).trans
        (dv_spot m c _ i d _ (by omega) (by omega) (by omega) (by omega) (by omega)))

/-! ### The arrays -/

theorem dq_array : (dats m 0 c).arrAt 7 cfg0.N = fun j : S2048x256.Idx => dqAt (aQ m c) (aK m c) (aV m c) (aDY m c) (aDL m c) 1 (j 0) (j 1) := by
  refine (dats m 0 c).arrAt_eq_of_covers 7 _ (by decide +kernel) fun t hf y => ?_
  blk_simp
  rw [after0_7]
  obtain ⟨b, k, i, d, rfl⟩ := place4 y
  refine (left_dq m c ⟨4 * b.val + k.val, by omega⟩ i d t b k rfl).trans (at_row m c _ i d Slot.dq ?_ ?_) <;> rw [(idx t).2.2.2.2.2.2.2.1]
  · show (3 - t.val) * 512 + (128 * b.val + i.val) = (4 * (3 - t.val) + (4 * b.val + k.val) / 4) * 128 + i.val
    omega
  · show 0 * 256 + (64 * k.val + d.val) = 64 * ((4 * b.val + k.val) % 4) + d.val
    omega

theorem dk_array : (dats m 0 c).arrAt 8 cfg0.N = fun j : S2048x256.Idx => dkAt (aQ m c) (aK m c) (aV m c) (aDY m c) (aDL m c) 1 (j 0) (j 1) := by
  refine (dats m 0 c).arrAt_eq_of_covers 8 _ (by decide +kernel) fun t hf y => ?_
  blk_simp
  rw [after0_8]
  refine left_dk m c t y ?_ ?_ <;> rw [(idx t).2.2.2.2.2.2.2.2.1]
  · rfl
  · exact Nat.zero_add _

theorem dv_array : (dats m 0 c).arrAt 9 cfg0.N = fun j : S2048x256.Idx => dvAt (aQ m c) (aK m c) (aV m c) (aDY m c) (aDL m c) 1 (j 0) (j 1) := by
  refine (dats m 0 c).arrAt_eq_of_covers 9 _ (by decide +kernel) fun t hf y => ?_
  blk_simp
  rw [after0_9]
  refine left_dv m c t y ?_ ?_ <;> rw [(idx t).2.2.2.2.2.2.2.2.2.1]
  · rfl
  · exact Nat.zero_add _

end Cert.Attn.K1

end
-- ==== Proof.RefTiles1.lean ====
/- The reference of dilation 1, read tile by tile: its rearranged arguments, its window and its scores are the slots'. -/
module

public import proofs.«01_k».proof.Proof.Core
public import proofs.«01_k».proof.Proof.Gen.ReferenceIdeal.Read

@[expose] public section

set_option maxRecDepth 16384

noncomputable section

namespace Cert.Attn.R1

open Idealize.ShloMosaic Idealize.ShloMosaic.TcCoe Idealize.SL.Sem
open Cert.ReferenceIdeal Cert.ReferenceIdeal.Gen Cert.ReferenceIdeal.Read

variable (x0 x1 x2 x3 x4 : FVec Ideal S2048x256 .f32) (b : Fin 16) (h : Fin 4)

theorem q_at (i : Fin 128) (d : Fin 64) : val_main_v12 (F := Ideal) x0 (ix5 0 b i h d) = (zslot x0 x1 x2 x3 x4 1 b 0 h).q i d := by
  pointwise [val_main_v12, val_main_v5, val_main_v4, val_main_v3, val_main_v0]
  show _ = x0 (ix2 _ _)
  refine congrArg x0 ((ix2_inj ..).2 ⟨Fin.ext ?_, Fin.ext ?_⟩) <;> dsimp only <;> omega

theorem dy_at (i : Fin 128) (d : Fin 64) : val_main_v114 (F := Ideal) x3 (ix5 0 b i h d) = (zslot x0 x1 x2 x3 x4 1 b 0 h).dy i d := by
  pointwise [val_main_v114, val_main_v112, val_main_v111, val_main_v110, val_main_v102]
  show _ = x3 (ix2 _ _)
  refine congrArg x3 ((ix2_inj ..).2 ⟨Fin.ext ?_, Fin.ext ?_⟩) <;> dsimp only <;> omega

theorem kC_at (j : Fin 128) (d : Fin 64) :
    val_main_v19 (F := Ideal) x1 (ix5 0 b (⟨128 + j, by omega⟩ : Fin 256) h d) = (zslot x0 x1 x2 x3 x4 1 b 0 h).kc j d := by
  pointwise [val_main_v19, val_main_v18, val_main_v17, val_main_v16, val_main_v14, val_main_v8, val_main_v7, val_main_v6, val_main_v1]
  try rw [dif_neg (by omega)]
  show _ = x1 (ix2 _ _)
  refine congrArg x1 ((ix2_inj ..).2 ⟨Fin.ext ?_, Fin.ext ?_⟩) <;> dsimp only <;> omega

theorem vC_at (j : Fin 128) (d : Fin 64) :
    val_main_v26 (F := Ideal) x2 (ix5 0 b (⟨128 + j, by omega⟩ : Fin 256) h d) = (zslot x0 x1 x2 x3 x4 1 b 0 h).vc j d := by
  pointwise [val_main_v26, val_main_v25, val_main_v24, val_main_v23, val_main_v21, val_main_v11, val_main_v10, val_main_v9, val_main_v2]
  try rw [dif_neg (by omega)]
  show _ = x2 (ix2 _ _)
  refine congrArg x2 ((ix2_inj ..).2 ⟨Fin.ext ?_, Fin.ext ?_⟩) <;> dsimp only <;> omega

theorem kP_at (j : Fin 128) (d : Fin 64) :
    val_main_v19 (F := Ideal) x1 (ix5 0 b (⟨j, by omega⟩ : Fin 256) h d) = (zslot x0 x1 x2 x3 x4 1 b 0 h).kp j d := by
  pointwise [val_main_v19, val_main_v18, val_main_v17, val_main_v16, val_main_v14, val_main_v13, val_main_v8, val_main_v7, val_main_v6, val_main_v1, val_main_cst]
  show _ = if 0 < b.val then x1 (ix2 _ _) else 0
  by_cases hb : 0 < b.val
  · rw [if_pos hb]
    try rw [dif_neg (by omega)]
    refine congrArg x1 ((ix2_inj ..).2 ⟨Fin.ext ?_, Fin.ext ?_⟩) <;> dsimp only <;> omega
  · rw [if_neg hb]
    try rw [dif_pos (by omega)]

theorem vP_at (j : Fin 128) (d : Fin 64) :
    val_main_v26 (F := Ideal) x2 (ix5 0 b (⟨j, by omega⟩ : Fin 256) h d) = (zslot x0 x1 x2 x3 x4 1 b 0 h).vp j d := by
  pointwise [val_main_v26, val_main_v25, val_main_v24, val_main_v23, val_main_v21, val_main_v20, val_main_v11, val_main_v10, val_main_v9, val_main_v2, val_main_cst_1]
  show _ = if 0 < b.val then x2 (ix2 _ _) else 0
  by_cases hb : 0 < b.val
  · rw [if_pos hb]
    try rw [dif_neg (by omega)]
    refine congrArg x2 ((ix2_inj ..).2 ⟨Fin.ext ?_, Fin.ext ?_⟩) <;> dsimp only <;> omega
  · rw [if_neg hb]
    try rw [dif_pos (by omega)]

theorem window (i : Fin 128) (j : Fin 256) : val_main_v62 (F := Ideal) (ix3 b i j)
    = BitVec.ofBool (decide (j.val ≤ i.val + 128 ∧ i.val ≤ j.val ∧ 128 ≤ b.val * 128 + j.val)) := by
  rw [← window_word b.val (by omega) i j.val j.isLt]
  pointwise [val_main_v62, val_main_v61, val_main_v60, val_main_v59, val_main_v58, val_main_v57, val_main_v56, val_main_v55,
    val_main_v54, val_main_v53, val_main_v52, val_main_v51, val_main_v50, val_main_v49, val_main_v48, val_main_v47, val_main_v46,
    val_main_v45, val_main_v44, val_main_v43, val_main_v42, val_main_v41, val_main_v40, val_main_v39, val_main_v38, val_main_v37,
    val_main_v36, val_main_v35, val_main_v34, val_main_v33, val_main_v32, val_main_v31, val_main_v30, val_main_c, val_main_c_4,
    val_main_c_5, val_main_c_6, val_main_c_7, val_main_c_8]

theorem dl_at (i : Fin 128) : val_main_v115 (F := Ideal) x4 (ix4 0 b h i) = (zslot x0 x1 x2 x3 x4 1 b 0 h).dls i := by
  pointwise [val_main_v115, val_main_v113, val_main_v109, val_main_v108, val_main_v107, val_main_v106, val_main_v105, val_main_v104, val_main_v103, val_main_v101, val_main_cst_14, val_main_cst_15]
  refine (sum_first_last _ rfl _ _ _ _).trans ?_
  rw [zero_add, Fin.sum_univ_one]
  pointwise []
  refine (sum_first_last _ rfl _ _ _ _).trans ?_
  pointwise []
  refine Finset.sum_congr rfl fun d _ => ?_
  show _ = x4 (ix2 _ _)
  refine congrArg x4 ((ix2_inj ..).2 ⟨Fin.ext ?_, Fin.ext ?_⟩) <;> dsimp only <;> omega

theorem sC_at (i j : Fin 128) :
    val_main_v64_0 (F := Ideal) x0 x1 (ix5 0 b h i (⟨128 + j, by omega⟩ : Fin 256)) = (zslot x0 x1 x2 x3 x4 1 b 0 h).sC i j := by
  pointwise [val_main_v64_0, val_main_v64_1, val_main_v63, val_main_v29, val_main_v28, val_main_v27, val_main_call0_v2, val_main_call0_v0, val_main_cst_9, val_main_cst_3]
  simp only [window, select_ofBool, q_at x0 x1 x2 x3 x4, kC_at x0 x1 x2 x3 x4]
  show (if _ then _ else Ideal.ofBits .f32 0xFF800000#32) = if j ≤ i then _ else ⊥
  rw [negInf_eq]
  exact if_congr ⟨fun hh => Fin.le_def.2 (by omega), fun hh => ⟨by have := Fin.le_def.1 hh; omega, by omega, by omega⟩⟩ rfl rfl

theorem sP_at (i j : Fin 128) :
    val_main_v64_0 (F := Ideal) x0 x1 (ix5 0 b h i (⟨j, by omega⟩ : Fin 256)) = (zslot x0 x1 x2 x3 x4 1 b 0 h).sP i j := by
  pointwise [val_main_v64_0, val_main_v64_1, val_main_v63, val_main_v29, val_main_v28, val_main_v27, val_main_call0_v2, val_main_call0_v0, val_main_cst_9, val_main_cst_3]
  simp only [window, select_ofBool, q_at x0 x1 x2 x3 x4, kP_at x0 x1 x2 x3 x4]
  show (if _ then _ else Ideal.ofBits .f32 0xFF800000#32) = if i ≤ j ∧ decide (0 < b.val) = true then _ else ⊥
  rw [negInf_eq]
  refine if_congr ⟨fun hh => ⟨Fin.le_def.2 (by omega), decide_eq_true (by omega)⟩, fun hh => ?_⟩ rfl rfl
  have h1 := Fin.le_def.1 hh.1
  have h2 := of_decide_eq_true hh.2
  exact ⟨by omega, by omega, by omega⟩

end Cert.Attn.R1

end
-- ==== Proof.RefGrad1.lean ====
/- The reference of dilation 1: exponentials, sums, and the gradients of the scores, are the slots'. -/
module

public import proofs.«01_k».proof.Proof.RefTiles1

@[expose] public section

set_option maxRecDepth 16384

noncomputable section

namespace Cert.Attn.R1

open Idealize.ShloMosaic Idealize.ShloMosaic.TcCoe Idealize.SL.Sem
open Cert.ReferenceIdeal Cert.ReferenceIdeal.Gen Cert.ReferenceIdeal.Read

variable (x0 x1 x2 x3 x4 : FVec Ideal S2048x256 .f32) (b : Fin 16) (h : Fin 4)

theorem mx_at (i : Fin 128) : val_main_v65 (F := Ideal) x0 x1 (ix4 0 b h i) = (zslot x0 x1 x2 x3 x4 1 b 0 h).mx i := by
  pointwise [val_main_v65, val_main_cst_10]
  rw [negInf_eq, fold_max_halves]
  simp only [sC_at x0 x1 x2 x3 x4, sP_at x0 x1 x2 x3 x4]
  rfl

theorem eC_at (i j : Fin 128) :
    val_main_v74 (F := Ideal) x0 x1 (ix5 0 b h i (⟨128 + j, by omega⟩ : Fin 256)) = (zslot x0 x1 x2 x3 x4 1 b 0 h).eC i j := by
  pointwise [val_main_v74, val_main_v73, val_main_v72, val_main_v71]
  simp only [sC_at x0 x1 x2 x3 x4, mx_at x0 x1 x2 x3 x4]
  rfl

theorem eP_at (i j : Fin 128) :
    val_main_v74 (F := Ideal) x0 x1 (ix5 0 b h i (⟨j, by omega⟩ : Fin 256)) = (zslot x0 x1 x2 x3 x4 1 b 0 h).eP i j := by
  pointwise [val_main_v74, val_main_v73, val_main_v72, val_main_v71]
  simp only [sP_at x0 x1 x2 x3 x4, mx_at x0 x1 x2 x3 x4]
  rfl

theorem den_at (i : Fin 128) : val_main_v75 (F := Ideal) x0 x1 (ix4 0 b h i) = (zslot x0 x1 x2 x3 x4 1 b 0 h).den i := by
  pointwise [val_main_v75, val_main_cst_12]
  rw [sum_halves]
  simp only [eC_at x0 x1 x2 x3 x4, eP_at x0 x1 x2 x3 x4]
  rfl

theorem num_at (i : Fin 128) (d : Fin 64) : val_main_v78 (F := Ideal) x0 x1 x2 (ix5 0 b i h d) = (zslot x0 x1 x2 x3 x4 1 b 0 h).num i d := by
  pointwise [val_main_v78, val_main_v77]
  rw [sum_halves]
  simp only [eC_at x0 x1 x2 x3 x4, eP_at x0 x1 x2 x3 x4, vC_at x0 x1 x2 x3 x4, vP_at x0 x1 x2 x3 x4, mul_comm (Slot.vc _ _ _), mul_comm (Slot.vp _ _ _)]
  rfl

theorem dden_at (i : Fin 128) : val_main_v127 (F := Ideal) x0 x1 x2 x3 x4 (ix5 0 b h i 0) = (zslot x0 x1 x2 x3 x4 1 b 0 h).dden i := by
  pointwise [val_main_v127, val_main_v126, val_main_v123, val_main_v122, val_main_v121, val_main_v120, val_main_v119, val_main_v118, val_main_v117,
    val_main_v116, val_main_v84, val_main_v83, val_main_v82, val_main_v79, val_main_v76, val_main_cst_13, val_main_cst_16]
  simp only [dl_at x0 x1 x2 x3 x4, den_at x0 x1 x2 x3 x4, num_at x0 x1 x2 x3 x4, dy_at x0 x1 x2 x3 x4]
  rfl

theorem dnum_at (i : Fin 128) (d : Fin 64) : val_main_v125 (F := Ideal) x0 x1 x3 (ix5 0 b i h d) = (zslot x0 x1 x2 x3 x4 1 b 0 h).dnum i d := by
  pointwise [val_main_v125, val_main_v124, val_main_v79, val_main_v76]
  simp only [den_at x0 x1 x2 x3 x4, dy_at x0 x1 x2 x3 x4]
  rfl

theorem gC_at (i j : Fin 128) :
    val_main_v136 (F := Ideal) x0 x1 x2 x3 x4 (ix5 0 b h i (⟨128 + j, by omega⟩ : Fin 256)) = (zslot x0 x1 x2 x3 x4 1 b 0 h).gC i j := by
  pointwise [val_main_v136, val_main_v135, val_main_v134, val_main_v133, val_main_v132, val_main_v129, val_main_v128, val_main_cst_17]
  rw [show (_ : EReal) = _ from sum_first_last_five _ rfl _ _ _ _ _]
  simp only [zero_add, dden_at x0 x1 x2 x3 x4, dnum_at x0 x1 x2 x3 x4, vC_at x0 x1 x2 x3 x4, eC_at x0 x1 x2 x3 x4]
  rfl

theorem gP_at (i j : Fin 128) :
    val_main_v136 (F := Ideal) x0 x1 x2 x3 x4 (ix5 0 b h i (⟨j, by omega⟩ : Fin 256)) = (zslot x0 x1 x2 x3 x4 1 b 0 h).gP i j := by
  pointwise [val_main_v136, val_main_v135, val_main_v134, val_main_v133, val_main_v132, val_main_v129, val_main_v128, val_main_cst_17]
  rw [show (_ : EReal) = _ from sum_first_last_five _ rfl _ _ _ _ _]
  simp only [zero_add, dden_at x0 x1 x2 x3 x4, dnum_at x0 x1 x2 x3 x4, vP_at x0 x1 x2 x3 x4, eP_at x0 x1 x2 x3 x4]
  rfl

/-- The gradient that reaches the maximum is zero. -/
theorem shift_at (hr : (zslot x0 x1 x2 x3 x4 1 b 0 h).IsReal) (i : Fin 128) :
    val_main_v141 (F := Ideal) x0 x1 x2 x3 x4 (ix3 b h i) = 0 := by
  refine Eq.trans ?_ (hr.shift i)
  pointwise [val_main_v141, val_main_v140, val_main_v139, val_main_v138, val_main_v137, val_main_v116, val_main_cst_18, val_main_cst_19]
  rw [show (_ : EReal) = _ from sum_first_last_five _ rfl _ _ _ _ _]
  pointwise []
  rw [sum_halves]
  simp only [gC_at x0 x1 x2 x3 x4, gP_at x0 x1 x2 x3 x4, dl_at x0 x1 x2 x3 x4]
  try rfl

/-- The indicator of the greatest score is not negative. -/
theorem ind_nonneg (i : Fin 128) (j : Fin 256) : (0 : EReal) ≤ val_main_v69 (F := Ideal) x0 x1 (ix5 0 b h i j) := by
  pointwise [val_main_v69]
  exact EReal.coe_nonneg.2 (Nat.cast_nonneg _)

theorem count_at (i : Fin 128) : val_main_v70 (F := Ideal) x0 x1 (ix4 0 b h i)
    = (∑ j : Fin 128, val_main_v69 (F := Ideal) x0 x1 (ix5 0 b h i (⟨128 + j, by omega⟩ : Fin 256)))
      + ∑ j : Fin 128, val_main_v69 (F := Ideal) x0 x1 (ix5 0 b h i (⟨j, by omega⟩ : Fin 256)) := by
  pointwise [val_main_v70, val_main_cst_11]
  exact sum_halves _

theorem dsC_at (hr : (zslot x0 x1 x2 x3 x4 1 b 0 h).IsReal) (i j : Fin 128) :
    val_main_v149 (F := Ideal) x0 x1 x2 x3 x4 (ix5 0 b h i (⟨128 + j, by omega⟩ : Fin 256)) = (zslot x0 x1 x2 x3 x4 1 b 0 h).dsC i j := by
  pointwise [val_main_v149, val_main_v148, val_main_v147, val_main_v146, val_main_v145, val_main_v144, val_main_v143, val_main_v64_1, val_main_v142, val_main_v63,
    val_main_call1_v0, val_main_call1_cst, val_main_cst_20]
  rw [shift_at x0 x1 x2 x3 x4 b h hr, count_at]
  rw [(div_zero_mul _ _ (fun j => ind_nonneg x0 x1 b h i _) fun j => ind_nonneg x0 x1 b h i _).1 j]
  simp only [window, select_ofBool, gC_at x0 x1 x2 x3 x4, add_zero]
  show _ = (if j ≤ i then _ else 0) * eighth
  rw [ite_mul, zero_mul eighth]
  exact if_congr ⟨fun hh => Fin.le_def.2 (by omega), fun hh => ⟨by have := Fin.le_def.1 hh; omega, by omega, by omega⟩⟩ rfl rfl

theorem dsP_at (hr : (zslot x0 x1 x2 x3 x4 1 b 0 h).IsReal) (i j : Fin 128) :
    val_main_v149 (F := Ideal) x0 x1 x2 x3 x4 (ix5 0 b h i (⟨j, by omega⟩ : Fin 256)) = (zslot x0 x1 x2 x3 x4 1 b 0 h).dsP i j := by
  pointwise [val_main_v149, val_main_v148, val_main_v147, val_main_v146, val_main_v145, val_main_v144, val_main_v143, val_main_v64_1, val_main_v142, val_main_v63,
    val_main_call1_v0, val_main_call1_cst, val_main_cst_20]
  rw [shift_at x0 x1 x2 x3 x4 b h hr, count_at]
  rw [(div_zero_mul _ _ (fun j => ind_nonneg x0 x1 b h i _) fun j => ind_nonneg x0 x1 b h i _).2 j]
  simp only [window, select_ofBool, gP_at x0 x1 x2 x3 x4, add_zero]
  show _ = (if i ≤ j ∧ decide (0 < b.val) = true then _ else 0) * eighth
  rw [ite_mul, zero_mul eighth]
  refine if_congr ⟨fun hh => ⟨Fin.le_def.2 (by omega), decide_eq_true (by omega)⟩, fun hh => ?_⟩ rfl rfl
  have h1 := Fin.le_def.1 hh.1
  have h2 := of_decide_eq_true hh.2
  exact ⟨by omega, by omega, by omega⟩

theorem dkC_at (hr : (zslot x0 x1 x2 x3 x4 1 b 0 h).IsReal) (j : Fin 128) (d : Fin 64) :
    val_main_v151 (F := Ideal) x0 x1 x2 x3 x4 (ix5 0 b (⟨128 + j, by omega⟩ : Fin 256) h d) = (zslot x0 x1 x2 x3 x4 1 b 0 h).dkC j d := by
  pointwise [val_main_v151, val_main_v150]
  simp only [dsC_at x0 x1 x2 x3 x4 b h hr, q_at x0 x1 x2 x3 x4]
  rfl

theorem dkP_at (hr : (zslot x0 x1 x2 x3 x4 1 b 0 h).IsReal) (j : Fin 128) (d : Fin 64) :
    val_main_v151 (F := Ideal) x0 x1 x2 x3 x4 (ix5 0 b (⟨j, by omega⟩ : Fin 256) h d) = (zslot x0 x1 x2 x3 x4 1 b 0 h).dkP j d := by
  pointwise [val_main_v151, val_main_v150]
  simp only [dsP_at x0 x1 x2 x3 x4 b h hr, q_at x0 x1 x2 x3 x4]
  rfl

theorem dvC_at (j : Fin 128) (d : Fin 64) :
    val_main_v131 (F := Ideal) x0 x1 x3 (ix5 0 b (⟨128 + j, by omega⟩ : Fin 256) h d) = (zslot x0 x1 x2 x3 x4 1 b 0 h).dvC j d := by
  pointwise [val_main_v131, val_main_v130, val_main_v128]
  simp only [eC_at x0 x1 x2 x3 x4, dnum_at x0 x1 x2 x3 x4, mul_comm (Slot.dnum _ _ _)]
  rfl

theorem dvP_at (j : Fin 128) (d : Fin 64) :
    val_main_v131 (F := Ideal) x0 x1 x3 (ix5 0 b (⟨j, by omega⟩ : Fin 256) h d) = (zslot x0 x1 x2 x3 x4 1 b 0 h).dvP j d := by
  pointwise [val_main_v131, val_main_v130, val_main_v128]
  simp only [eP_at x0 x1 x2 x3 x4, dnum_at x0 x1 x2 x3 x4, mul_comm (Slot.dnum _ _ _)]
  rfl

theorem dq_at (hr : (zslot x0 x1 x2 x3 x4 1 b 0 h).IsReal) (i : Fin 128) (d : Fin 64) :
    val_main_v153 (F := Ideal) x0 x1 x2 x3 x4 (ix5 0 b i h d) = (zslot x0 x1 x2 x3 x4 1 b 0 h).dq i d := by
  pointwise [val_main_v153, val_main_v152]
  rw [sum_halves, add_comm]
  simp only [dsC_at x0 x1 x2 x3 x4 b h hr, dsP_at x0 x1 x2 x3 x4 b h hr, kC_at x0 x1 x2 x3 x4, kP_at x0 x1 x2 x3 x4]
  rfl

end Cert.Attn.R1

end
-- ==== Proof.RefOut1.lean ====
/- The results of the reference of dilation 1, at a row and a column. -/
module

public import proofs.«01_k».proof.Proof.RefGrad1

@[expose] public section

set_option maxRecDepth 16384

noncomputable section

namespace Cert.Attn.R1

open Idealize.ShloMosaic Idealize.ShloMosaic.TcCoe Idealize.SL.Sem
open Cert.ReferenceIdeal Cert.ReferenceIdeal.Gen Cert.ReferenceIdeal.Read

variable (x0 x1 x2 x3 x4 : FVec Ideal S2048x256 .f32)

/-! ### The gradients of a tile, at the row and the column of the array that name it -/

theorem dkC_spot {R C : ℕ} {b : Fin 16} {h : Fin 4} {J : Fin 256} {d : Fin 64} (hR : (zslot x0 x1 x2 x3 x4 1 b 0 h).IsReal) (hb : b.val = R / 128) (hr : 0 = C / 256) (hh : h.val = C % 256 / 64) (hJ : J.val = 128 + R % 128)
    (hd : d.val = C % 64) : val_main_v151 (F := Ideal) x0 x1 x2 x3 x4 (ix5 0 b J h d) = (slot x0 x1 x2 x3 x4 1 (R / 128) (C / 256) (C % 256 / 64)).dkC ⟨R % 128, Nat.mod_lt _ (by norm_num)⟩ ⟨C % 64, Nat.mod_lt _ (by norm_num)⟩ := by
  rw [show J = ⟨128 + (⟨R % 128, Nat.mod_lt _ (by norm_num)⟩ : Fin 128), by dsimp only; omega⟩ from Fin.ext hJ]
  refine (dkC_at x0 x1 x2 x3 x4 b h hR ⟨R % 128, Nat.mod_lt _ (by norm_num)⟩ d).trans ?_
  refine (congrFun (congrFun (zslot_dkC x0 x1 x2 x3 x4 1 _ _ _) _) _).trans ?_
  exact slot_part Slot.dkC hb hr hh rfl (Fin.ext hd)

theorem dkP_spot {R C : ℕ} {b : Fin 16} {h : Fin 4} {J : Fin 256} {d : Fin 64} (hR : (zslot x0 x1 x2 x3 x4 1 b 0 h).IsReal) (hb : b.val = R / 128 + 1) (hr : 0 = C / 256) (hh : h.val = C % 256 / 64) (hJ : J.val = R % 128)
    (hd : d.val = C % 64) : val_main_v151 (F := Ideal) x0 x1 x2 x3 x4 (ix5 0 b J h d) = (slot x0 x1 x2 x3 x4 1 (R / 128 + 1) (C / 256) (C % 256 / 64)).dkP ⟨R % 128, Nat.mod_lt _ (by norm_num)⟩ ⟨C % 64, Nat.mod_lt _ (by norm_num)⟩ := by
  rw [show J = ⟨(⟨R % 128, Nat.mod_lt _ (by norm_num)⟩ : Fin 128), by dsimp only; omega⟩ from Fin.ext hJ]
  refine (dkP_at x0 x1 x2 x3 x4 b h hR ⟨R % 128, Nat.mod_lt _ (by norm_num)⟩ d).trans ?_
  refine (congrArg (fun S : Slot => S.dkP ⟨R % 128, Nat.mod_lt _ (by norm_num)⟩ d) (zslot_pos x0 x1 x2 x3 x4 1 _ _ _ (by omega))).trans ?_
  exact slot_part Slot.dkP hb hr hh rfl (Fin.ext hd)

theorem dvC_spot {R C : ℕ} {b : Fin 16} {h : Fin 4} {J : Fin 256} {d : Fin 64} (hb : b.val = R / 128) (hr : 0 = C / 256) (hh : h.val = C % 256 / 64) (hJ : J.val = 128 + R % 128)
    (hd : d.val = C % 64) : val_main_v131 (F := Ideal) x0 x1 x3 (ix5 0 b J h d) = (slot x0 x1 x2 x3 x4 1 (R / 128) (C / 256) (C % 256 / 64)).dvC ⟨R % 128, Nat.mod_lt _ (by norm_num)⟩ ⟨C % 64, Nat.mod_lt _ (by norm_num)⟩ := by
  rw [show J = ⟨128 + (⟨R % 128, Nat.mod_lt _ (by norm_num)⟩ : Fin 128), by dsimp only; omega⟩ from Fin.ext hJ]
  refine (dvC_at x0 x1 x2 x3 x4 b h ⟨R % 128, Nat.mod_lt _ (by norm_num)⟩ d).trans ?_
  refine (congrFun (congrFun (zslot_dvC x0 x1 x2 x3 x4 1 _ _ _) _) _).trans ?_
  exact slot_part Slot.dvC hb hr hh rfl (Fin.ext hd)

theorem dvP_spot {R C : ℕ} {b : Fin 16} {h : Fin 4} {J : Fin 256} {d : Fin 64} (hb : b.val = R / 128 + 1) (hr : 0 = C / 256) (hh : h.val = C % 256 / 64) (hJ : J.val = R % 128)
    (hd : d.val = C % 64) : val_main_v131 (F := Ideal) x0 x1 x3 (ix5 0 b J h d) = (slot x0 x1 x2 x3 x4 1 (R / 128 + 1) (C / 256) (C % 256 / 64)).dvP ⟨R % 128, Nat.mod_lt _ (by norm_num)⟩ ⟨C % 64, Nat.mod_lt _ (by norm_num)⟩ := by
  rw [show J = ⟨(⟨R % 128, Nat.mod_lt _ (by norm_num)⟩ : Fin 128), by dsimp only; omega⟩ from Fin.ext hJ]
  refine (dvP_at x0 x1 x2 x3 x4 b h ⟨R % 128, Nat.mod_lt _ (by norm_num)⟩ d).trans ?_
  refine (congrArg (fun S : Slot => S.dvP ⟨R % 128, Nat.mod_lt _ (by norm_num)⟩ d) (zslot_pos x0 x1 x2 x3 x4 1 _ _ _ (by omega))).trans ?_
  exact slot_part Slot.dvP hb hr hh rfl (Fin.ext hd)

/-! ### The results -/

theorem dq_out (h0 : RealArr x0) (h1 : RealArr x1) (h2 : RealArr x2) (h3 : RealArr x3) (h4 : RealArr x4) (R : Fin 2048) (C : Fin 256) :
    val_main_v182 (F := Ideal) x0 x1 x2 x3 x4 (ix2 R C) = dqAt x0 x1 x2 x3 x4 1 R C := by
  pointwise [val_main_v182, val_main_v179, val_main_v178, val_main_v177, val_main_v170]
  refine (dq_at x0 x1 x2 x3 x4 _ _ (zslot_isReal h0 h1 h2 h3 h4 ..) _ _).trans ?_
  refine (congrFun (congrFun (zslot_dq x0 x1 x2 x3 x4 1 _ _ _) _) _).trans ?_
  unfold dqAt
  exact slot_part Slot.dq (by (try dsimp only) <;> omega) (by (try dsimp only) <;> omega) (by (try dsimp only) <;> omega) (Fin.ext (by (try dsimp only) <;> omega)) (Fin.ext (by (try dsimp only) <;> omega))

theorem dk_out (h0 : RealArr x0) (h1 : RealArr x1) (h2 : RealArr x2) (h3 : RealArr x3) (h4 : RealArr x4) (R : Fin 2048) (C : Fin 256) :
    val_main_v181 (F := Ideal) x0 x1 x2 x3 x4 (ix2 R C) = dkAt x0 x1 x2 x3 x4 1 R C := by
  pointwise [val_main_v181, val_main_v176, val_main_v175, val_main_v174, val_main_v169, val_main_v167, val_main_v166, val_main_v165, val_main_v164, val_main_v163, val_main_v162, val_main_cst_23, val_main_cst_24]
  unfold dkAt
  refine congrArg₂ (fun a b : EReal => a + b) ?_ ?_
  · rw [dif_pos (by omega)]
    exact dkC_spot x0 x1 x2 x3 x4 (zslot_isReal h0 h1 h2 h3 h4 ..) (by (try dsimp only) <;> omega) (by (try dsimp only) <;> omega) (by (try dsimp only) <;> omega) (by (try dsimp only) <;> omega) (by (try dsimp only) <;> omega)
  · by_cases hb : (R.val / 128 + 1) * 1 < 16
    · rewrite [dif_pos (by omega)]
      refine Eq.trans ?_ (if_pos hb).symm
      exact dkP_spot x0 x1 x2 x3 x4 (zslot_isReal h0 h1 h2 h3 h4 ..) (by (try dsimp only) <;> omega) (by (try dsimp only) <;> omega) (by (try dsimp only) <;> omega) (by (try dsimp only) <;> omega) (by (try dsimp only) <;> omega)
    · rw [dif_neg (by omega), if_neg hb]

theorem dv_out (R : Fin 2048) (C : Fin 256) :
    val_main_v180 (F := Ideal) x0 x1 x3 (ix2 R C) = dvAt x0 x1 x2 x3 x4 1 R C := by
  pointwise [val_main_v180, val_main_v173, val_main_v172, val_main_v171, val_main_v161, val_main_v159, val_main_v158, val_main_v157, val_main_v156, val_main_v155, val_main_v154, val_main_cst_21, val_main_cst_22]
  unfold dvAt
  refine congrArg₂ (fun a b : EReal => a + b) ?_ ?_
  · rw [dif_pos (by omega)]
    exact dvC_spot x0 x1 x2 x3 x4 (by (try dsimp only) <;> omega) (by (try dsimp only) <;> omega) (by (try dsimp only) <;> omega) (by (try dsimp only) <;> omega) (by (try dsimp only) <;> omega)
  · by_cases hb : (R.val / 128 + 1) * 1 < 16
    · rewrite [dif_pos (by omega)]
      refine Eq.trans ?_ (if_pos hb).symm
      exact dvP_spot x0 x1 x2 x3 x4 (by (try dsimp only) <;> omega) (by (try dsimp only) <;> omega) (by (try dsimp only) <;> omega) (by (try dsimp only) <;> omega) (by (try dsimp only) <;> omega)
    · rw [dif_neg (by omega), if_neg hb]

end Cert.Attn.R1

end
-- ==== Proof.Alg1.lean ====
/- Dilation 1: the kernel's three gradients are the reference's. -/
module

public import proofs.«01_k».proof.Proof.Finite
public import proofs.«01_k».proof.Proof.KerOut1
public import proofs.«01_k».proof.Proof.RefOut1
public import proofs.«01_k».proof.Defs

@[expose] public section

noncomputable section

namespace Cert.Attn

open Idealize.ShloMosaic Idealize.ShloMosaic.StableHlo Idealize.SL.Sem

theorem algebraic1 : Cert.algebraic_KernelIdeal_ReferenceIdeal_pre_finite := by
  intro m g m' g' hpre hargs
  refine ⟨fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    Cert.KernelIdeal.Value.run_blocks m g, ?_⟩
  refine (θ_run _ _ _).mono (fun r h c => ?_) (Cert.ReferenceIdeal.Value.run m' g')
  obtain ⟨h0, h1, h2, hk⟩ := h c
  obtain ⟨e0, e1, e2, e3, e4⟩ := hargs c
  obtain ⟨f0, f1, f2, f3, f4⟩ := real_args _ _ _ _ _ (hpre c)
  refine ⟨h0.trans ?_, h1.trans ?_, h2.trans ?_, hk⟩
  · refine (Cert.ReferenceIdeal.Read.val_main_v182_eq (launchContents m' c)).trans ?_
    refine Eq.trans ?_ (K1.dq_array m c).symm
    rw [launchContents_devRef, launchContents_devRef, launchContents_devRef, launchContents_devRef, launchContents_devRef, e0, e1, e2, e3, e4]
    funext j
    rw [eq_ix2 j]
    exact R1.dq_out _ _ _ _ _ f0 f1 f2 f3 f4 _ _
  · refine (Cert.ReferenceIdeal.Read.val_main_v181_eq (launchContents m' c)).trans ?_
    refine Eq.trans ?_ (K1.dk_array m c).symm
    rw [launchContents_devRef, launchContents_devRef, launchContents_devRef, launchContents_devRef, launchContents_devRef, e0, e1, e2, e3, e4]
    funext j
    rw [eq_ix2 j]
    exact R1.dk_out _ _ _ _ _ f0 f1 f2 f3 f4 _ _
  · refine (Cert.ReferenceIdeal.Read.val_main_v180_eq (launchContents m' c)).trans ?_
    refine Eq.trans ?_ (K1.dv_array m c).symm
    rw [launchContents_devRef, launchContents_devRef, launchContents_devRef, e0, e1, e3]
    funext j
    rw [eq_ix2 j]
    exact R1.dv_out _ _ _ _ _ _ _

end Cert.Attn

end
-- ==== Proof.Lane.lean ====
/- Where a lane of a piece lies among sixteen pieces side by side. -/
module

public import Mathlib.Tactic.Linarith

@[expose] public section

namespace Cert.Attn

theorem lane_lt (z : Fin 16) (d : Fin 64) : 64 * z.val + d.val < 1024 := by omega

end Cert.Attn
-- ==== Proof.KerTiles4.lean ====
/- The kernel of dilation 4, batch entry by batch entry: what each of its values is of the slots. -/
module

public import proofs.«01_k».proof.Proof.Lane
public import proofs.«01_k».proof.Proof.Words
public import Idealize.ShloMosaic.Lib.Pipeline.ValueKit
public import proofs.«01_k».proof.Proof.Gen.Kernel4Ideal.Skeleton

@[expose] public section

set_option maxRecDepth 16384

noncomputable section

namespace Cert.Attn.K4

open Idealize.ShloMosaic Idealize.ShloMosaic.TcCoe Idealize.SL.Sem
open Cert.Kernel4Ideal Cert.Kernel4Ideal.Gen

theorem mask_bot : Named.named (F := Ideal) κ "mask" (φ := .f32) 0xF149F2CA#32 = (⊥ : EReal) :=
  IdealRules.named_const.ideal_named_scalar _ _ _ _ rfl

-- Sixteen slots, one per batch entry.
variable (S : Fin 16 → Slot)

section
variable {S} {v8 : IVec S16x1x1 1} {v43 v78 v113 v148 v183 v267 v315 v321 v229 : FVec Ideal S16x128x64 .f32} {v268 : Vec Ideal S128x1024 .f32}
  {v206 v214 v217 v318 v320 : FVec Ideal S16x128x128 .f32} {v211 v222 v232 v313 : FVec Ideal S16x128x1 .f32}
  (h8 : ∀ z, v8 (ix3 z 0 0) = BitVec.ofBool (S z).prev)
  (h43 : ∀ z i d, v43 (ix3 z i d) = (S z).q i d)
  (h78 : ∀ z i d, v78 (ix3 z i d) = (S z).kp i d)
  (h113 : ∀ z i d, v113 (ix3 z i d) = (S z).kc i d)
  (h148 : ∀ z i d, v148 (ix3 z i d) = (S z).vp i d)
  (h183 : ∀ z i d, v183 (ix3 z i d) = (S z).vc i d)
  (h267 : ∀ z i d, v267 (ix3 z i d) = (S z).dy i d)
  (h268 : ∀ (z : Fin 16) (i : Fin 128) (d : Fin 64), v268 (ix2 i (⟨64 * z + d, lane_lt z d⟩ : Fin 1024)) = (S z).dl i d)
  (h206 : ∀ z i j, v206 (ix3 z i j) = (S z).sP i j)
  (h211 : ∀ z i, v211 (ix3 z i 0) = (S z).mx i)
  (h214 : ∀ z i j, v214 (ix3 z i j) = (S z).eC i j)
  (h217 : ∀ z i j, v217 (ix3 z i j) = (S z).eP i j)
  (h222 : ∀ z i, v222 (ix3 z i 0) = (S z).den i)
  (h229 : ∀ z i d, v229 (ix3 z i d) = (S z).num i d)
  (h232 : ∀ z i, v232 (ix3 z i 0) = Ideal.div 1 ((S z).den i * (S z).den i))
  (h313 : ∀ z i, v313 (ix3 z i 0) = (S z).dden i)
  (h315 : ∀ z i d, v315 (ix3 z i d) = (S z).dnum i d)
  (h318 : ∀ z i j, v318 (ix3 z i j) = ∑ d, (S z).dnum i d * (S z).vp j d)
  (z : Fin 16) (i j : Fin 128) (d : Fin 64)

include h43 h113 in
theorem sC_at : k0_pay45 v43 v113 (ix3 z i j) = (S z).sC i j := by
  pointwise [k0_pay45, k0_pay44]
  rw [select_ge]
  simp only [h43, h113, mask_bot]
  rfl

include h8 h43 h78 in
theorem sP_at : k0_pay47 v8 v43 v78 (ix3 z i j) = (S z).sP i j := by
  pointwise [k0_pay47, k0_pay46]
  rw [h8, select_le_and]
  simp only [h43, h78, mask_bot]
  rfl

include h8 h43 h78 h113 in
theorem mx_at : k0_pay48 v8 v43 v78 v113 (ix3 z i 0) = (S z).mx i := by
  pointwise [k0_pay48]
  rw [negInf_eq]
  simp only [sC_at h43 h113, sP_at h8 h43 h78]
  rfl

include h8 h43 h78 h113 in
theorem eC_at : k0_pay49 v8 v43 v78 v113 (ix3 z i j) = (S z).eC i j := by
  pointwise [k0_pay49]
  simp only [sC_at h43 h113, mx_at h8 h43 h78 h113]
  rfl

include h206 h211 in
theorem eP_at : k0_pay50 v206 v211 (ix3 z i j) = (S z).eP i j := by
  pointwise [k0_pay50]
  simp only [h206, h211]
  rfl

include h206 h211 h214 in
theorem den_at : k0_pay51 v206 v211 v214 (ix3 z i 0) = (S z).den i := by
  pointwise [k0_pay51]
  simp only [h214, eP_at h206 h211]
  rfl

include h206 h211 h214 h148 h183 in
theorem num_at : k0_pay52 v148 v183 v206 v211 v214 (ix3 z i d) = (S z).num i d := by
  pointwise [k0_pay52]
  simp only [h214, eP_at h206 h211, h148, h183]
  rfl

include h206 h211 h214 in
theorem inv_at : k0_pay53 v206 v211 v214 (ix3 z i 0) = Ideal.div 1 ((S z).den i * (S z).den i) := by
  pointwise [k0_pay53]
  simp only [den_at h206 h211 h214]

include h222 h229 h232 h267 h268 in
theorem dden_at : k0_pay55 v222 v229 v232 v267 v268 (ix3 z i 0) = (S z).dden i := by
  pointwise [k0_pay55]
  simp only [h222, h229, h232, h267]
  rw [zero_sub]
  refine congrArg (fun x => Ideal.div x ((S z).den i) + -(∑ d, (S z).dy i d * Ideal.div 1 ((S z).den i * (S z).den i) * (S z).num i d))
    (Finset.sum_congr rfl fun d _ => ?_)
  rw [← h268 z i d]
  blk_point []

include h222 h267 in
theorem dnum_at : k0_pay56 v222 v267 (ix3 z i d) = (S z).dnum i d := by
  pointwise [k0_pay56]
  simp only [h222, h267]
  rfl

include h222 h267 h148 in
theorem aP_at : k0_pay57 v148 v222 v267 (ix3 z i j) = ∑ d, (S z).dnum i d * (S z).vp j d := by
  pointwise [k0_pay57]
  simp only [dnum_at h267 h222, h148]

include h222 h267 h217 in
theorem dvP_at : k0_pay60 (k0_pay58 v217) (k0_pay59 v222 v267) (ix3 z j d) = (S z).dvP j d := by
  pointwise [k0_pay60, k0_pay58, k0_pay59]
  simp only [dnum_at h267 h222, h217]
  rfl

include h214 h315 in
theorem dvC_at : k0_pay61 v214 v315 (ix3 z j d) = (S z).dvC j d := by
  pointwise [k0_pay61]
  simp only [h214, h315]
  rfl

include h8 h217 h313 h318 in
theorem dsP_at : k0_pay62 (k0_pay46 v8) v217 v313 v318 (ix3 z i j) = (S z).dsP i j := by
  pointwise [k0_pay62, k0_pay46]
  rw [h8, select_le_and]
  simp only [h217, h313, h318, Fin.sum_univ_one]
  show _ = (if i ≤ j ∧ (S z).prev = true then _ else 0) * eighth
  rw [ite_mul, zero_mul]
  rfl

include h8 h217 h313 h318 h43 in
theorem dkP_at : k0_pay63 v43 (k0_pay46 v8) v217 v313 v318 (ix3 z j d) = (S z).dkP j d := by
  pointwise [k0_pay63]
  simp only [dsP_at h8 h217 h313 h318, h43]
  rfl

include h183 h214 h313 h315 in
theorem dsC_at : k0_pay64 v183 k0_pay44 v214 v313 v315 (ix3 z i j) = (S z).dsC i j := by
  pointwise [k0_pay64, k0_pay44]
  rw [select_ge]
  simp only [h183, h214, h313, h315, Fin.sum_univ_one]
  show _ = (if j ≤ i then _ else 0) * eighth
  rw [ite_mul, zero_mul]
  rfl

include h183 h214 h313 h315 h43 in
theorem dkC_at : k0_pay65 v43 v183 k0_pay44 v214 v313 v315 (ix3 z j d) = (S z).dkC j d := by
  pointwise [k0_pay65]
  simp only [dsC_at h183 h214 h313 h315, h43]
  rfl

include h8 h78 h113 h183 h214 h217 h313 h315 h318 in
theorem dq_at : k0_pay66 v78 v113 v183 k0_pay44 (k0_pay46 v8) v214 v217 v313 v315 v318 (ix3 z i d) = (S z).dq i d := by
  pointwise [k0_pay66]
  simp only [dsP_at h8 h217 h313 h318, dsC_at h183 h214 h313 h315, h78, h113]
  rfl

end

/-! ### From the block to the batch and back -/

section
variable (x : Vec Ideal S128x1024 .f32) (z : Fin 16) (i : Fin 128) (d : Fin 64)

theorem stack5 : k0_pay5 x (ix3 z i d) = x (ix2 i (⟨64 * z + d, lane_lt z d⟩ : Fin 1024)) := by
  pointwise [k0_pay5]; blk_point []

theorem stack10 : k0_pay10 (k0_pay6 x) (k0_pay7 x) (k0_pay8 x) (k0_pay9 x) (ix3 z i d) = x (ix2 i (⟨64 * z + d, lane_lt z d⟩ : Fin 1024)) := by
  pointwise [k0_pay10, k0_pay9, k0_pay8, k0_pay7, k0_pay6]; blk_point []

theorem stack28 : k0_pay28 (k0_pay12 x) (k0_pay13 x) (k0_pay14 x) (k0_pay15 x) (k0_pay16 x) (k0_pay17 x) (k0_pay18 x) (k0_pay19 x)
    (k0_pay20 x) (k0_pay21 x) (k0_pay22 x) (k0_pay23 x) (k0_pay24 x) (k0_pay25 x) (k0_pay26 x) (k0_pay27 x) (ix3 z i d)
    = x (ix2 i (⟨64 * z + d, lane_lt z d⟩ : Fin 1024)) := by
  pointwise [k0_pay28, k0_pay12, k0_pay13, k0_pay14, k0_pay15, k0_pay16, k0_pay17, k0_pay18, k0_pay19, k0_pay20, k0_pay21, k0_pay22, k0_pay23,
    k0_pay24, k0_pay25, k0_pay26, k0_pay27, k0_pay11]; blk_point []

theorem stack29 : k0_pay29 x (ix3 z i d) = x (ix2 i (⟨64 * z + d, lane_lt z d⟩ : Fin 1024)) := by
  pointwise [k0_pay29]; blk_point []

theorem stack43 : k0_pay43 (k0_pay30 x) (k0_pay31 x) (k0_pay32 x) (k0_pay33 x) (k0_pay34 x) (k0_pay35 x) (k0_pay36 x) (k0_pay37 x)
    (k0_pay38 x) (k0_pay39 x) (k0_pay40 x) (k0_pay41 x) (k0_pay42 x) (ix3 z i d)
    = x (ix2 i (⟨64 * z + d, lane_lt z d⟩ : Fin 1024)) := by
  pointwise [k0_pay43, k0_pay30, k0_pay31, k0_pay32, k0_pay33, k0_pay34, k0_pay35, k0_pay36, k0_pay37, k0_pay38, k0_pay39, k0_pay40, k0_pay41,
    k0_pay42]; blk_point []

theorem stack54 : k0_pay54 x (ix3 z i d) = x (ix2 i (⟨64 * z + d, lane_lt z d⟩ : Fin 1024)) := by
  pointwise [k0_pay54]; blk_point []

end

end Cert.Attn.K4

end
-- ==== Proof.KerRows4.lean ====
/- The kernel of dilation 4, batch entry by batch entry: how a batch is laid out as a block again. -/
module

public import proofs.«01_k».proof.Proof.Lane
public import proofs.«01_k».proof.Proof.Slot
public import Idealize.ShloMosaic.Lib.Pipeline.ValueKit
public import proofs.«01_k».proof.Proof.Gen.Kernel4Ideal.Skeleton

@[expose] public section

set_option maxRecDepth 16384

noncomputable section

namespace Cert.Attn.K4

open Idealize.ShloMosaic Idealize.ShloMosaic.TcCoe Idealize.SL.Sem
open Cert.Kernel4Ideal Cert.Kernel4Ideal.Gen

section
variable (z : Fin 16) (i : Fin 128) (d : Fin 64)
variable (v : FVec Ideal S16x128x64 .f32)

/-- Sixteen pieces side by side, read at a lane of one of them. -/
theorem side_by_side (f : Fin 16 → FVec Ideal S128x64 .f32) :
    concatenate S128x1024 1 [⟨S128x64, f 0⟩, ⟨S128x64, f 1⟩, ⟨S128x64, f 2⟩, ⟨S128x64, f 3⟩, ⟨S128x64, f 4⟩, ⟨S128x64, f 5⟩, ⟨S128x64, f 6⟩, ⟨S128x64, f 7⟩, ⟨S128x64, f 8⟩, ⟨S128x64, f 9⟩, ⟨S128x64, f 10⟩, ⟨S128x64, f 11⟩, ⟨S128x64, f 12⟩, ⟨S128x64, f 13⟩, ⟨S128x64, f 14⟩, ⟨S128x64, f 15⟩] concatenates_S128x64_S128x64_S128x64_S128x64_S128x64_S128x64_S128x64_S128x64_S128x64_S128x64_S128x64_S128x64_S128x64_S128x64_S128x64_S128x64_S128x1024_d1 (ix2 i (⟨64 * z + d, lane_lt z d⟩ : Fin 1024)) = f z (ix2 i d) :=
  concatenate_ofFn_apply (t := S128x1024) (s₁ := S128x64) 1 f concatenates_S128x64_S128x64_S128x64_S128x64_S128x64_S128x64_S128x64_S128x64_S128x64_S128x64_S128x64_S128x64_S128x64_S128x64_S128x64_S128x64_S128x1024_d1 rfl 64 rfl _ z (by show (64 * z.val + d.val) / 64 = z.val; omega) _
    (by show d.val = (64 * z.val + d.val) % 64; omega)
    (fun b hb => by
      match b with
      | ⟨0, _⟩ => rfl
      | ⟨1, _⟩ => exact absurd rfl hb)

/-- The pieces a batch is cut into. -/
def pieces : Fin 16 → FVec Ideal S128x64 .f32 :=
  ![shapeCast S128x64 (extractStridedSlice S1x128x64 ![0, 0, 0] v slices_S16x128x64_o0_0_0_S1x128x64) shapeCasts_S1x128x64_S128x64, shapeCast S128x64 (extractStridedSlice S1x128x64 ![1, 0, 0] v slices_S16x128x64_o1_0_0_S1x128x64) shapeCasts_S1x128x64_S128x64, shapeCast S128x64 (extractStridedSlice S1x128x64 ![2, 0, 0] v slices_S16x128x64_o2_0_0_S1x128x64) shapeCasts_S1x128x64_S128x64, shapeCast S128x64 (extractStridedSlice S1x128x64 ![3, 0, 0] v slices_S16x128x64_o3_0_0_S1x128x64) shapeCasts_S1x128x64_S128x64, shapeCast S128x64 (extractStridedSlice S1x128x64 ![4, 0, 0] v slices_S16x128x64_o4_0_0_S1x128x64) shapeCasts_S1x128x64_S128x64, shapeCast S128x64 (extractStridedSlice S1x128x64 ![5, 0, 0] v slices_S16x128x64_o5_0_0_S1x128x64) shapeCasts_S1x128x64_S128x64, shapeCast S128x64 (extractStridedSlice S1x128x64 ![6, 0, 0] v slices_S16x128x64_o6_0_0_S1x128x64) shapeCasts_S1x128x64_S128x64, shapeCast S128x64 (extractStridedSlice S1x128x64 ![7, 0, 0] v slices_S16x128x64_o7_0_0_S1x128x64) shapeCasts_S1x128x64_S128x64, shapeCast S128x64 (extractStridedSlice S1x128x64 ![8, 0, 0] v slices_S16x128x64_o8_0_0_S1x128x64) shapeCasts_S1x128x64_S128x64, shapeCast S128x64 (extractStridedSlice S1x128x64 ![9, 0, 0] v slices_S16x128x64_o9_0_0_S1x128x64) shapeCasts_S1x128x64_S128x64, shapeCast S128x64 (extractStridedSlice S1x128x64 ![10, 0, 0] v slices_S16x128x64_o10_0_0_S1x128x64) shapeCasts_S1x128x64_S128x64, shapeCast S128x64 (extractStridedSlice S1x128x64 ![11, 0, 0] v slices_S16x128x64_o11_0_0_S1x128x64) shapeCasts_S1x128x64_S128x64, shapeCast S128x64 (extractStridedSlice S1x128x64 ![12, 0, 0] v slices_S16x128x64_o12_0_0_S1x128x64) shapeCasts_S1x128x64_S128x64, shapeCast S128x64 (extractStridedSlice S1x128x64 ![13, 0, 0] v slices_S16x128x64_o13_0_0_S1x128x64) shapeCasts_S1x128x64_S128x64, shapeCast S128x64 (extractStridedSlice S1x128x64 ![14, 0, 0] v slices_S16x128x64_o14_0_0_S1x128x64) shapeCasts_S1x128x64_S128x64, shapeCast S128x64 (extractStridedSlice S1x128x64 ![15, 0, 0] v slices_S16x128x64_o15_0_0_S1x128x64) shapeCasts_S1x128x64_S128x64]

theorem cut_at (k : ℕ) (h : S16x128x64.Slices ![k, 0, 0] S1x128x64) (hk : k < 16) :
    shapeCast S128x64 (extractStridedSlice S1x128x64 ![k, 0, 0] v h) shapeCasts_S1x128x64_S128x64 (ix2 i d) = v (ix3 ⟨k, hk⟩ i d) := by
  pointwise []

theorem pieces_at : pieces v z (ix2 i d) = v (ix3 z i d) := by
  match z with
  | ⟨0, _⟩ => exact cut_at i d v 0 slices_S16x128x64_o0_0_0_S1x128x64 _
  | ⟨1, _⟩ => exact cut_at i d v 1 slices_S16x128x64_o1_0_0_S1x128x64 _
  | ⟨2, _⟩ => exact cut_at i d v 2 slices_S16x128x64_o2_0_0_S1x128x64 _
  | ⟨3, _⟩ => exact cut_at i d v 3 slices_S16x128x64_o3_0_0_S1x128x64 _
  | ⟨4, _⟩ => exact cut_at i d v 4 slices_S16x128x64_o4_0_0_S1x128x64 _
  | ⟨5, _⟩ => exact cut_at i d v 5 slices_S16x128x64_o5_0_0_S1x128x64 _
  | ⟨6, _⟩ => exact cut_at i d v 6 slices_S16x128x64_o6_0_0_S1x128x64 _
  | ⟨7, _⟩ => exact cut_at i d v 7 slices_S16x128x64_o7_0_0_S1x128x64 _
  | ⟨8, _⟩ => exact cut_at i d v 8 slices_S16x128x64_o8_0_0_S1x128x64 _
  | ⟨9, _⟩ => exact cut_at i d v 9 slices_S16x128x64_o9_0_0_S1x128x64 _
  | ⟨10, _⟩ => exact cut_at i d v 10 slices_S16x128x64_o10_0_0_S1x128x64 _
  | ⟨11, _⟩ => exact cut_at i d v 11 slices_S16x128x64_o11_0_0_S1x128x64 _
  | ⟨12, _⟩ => exact cut_at i d v 12 slices_S16x128x64_o12_0_0_S1x128x64 _
  | ⟨13, _⟩ => exact cut_at i d v 13 slices_S16x128x64_o13_0_0_S1x128x64 _
  | ⟨14, _⟩ => exact cut_at i d v 14 slices_S16x128x64_o14_0_0_S1x128x64 _
  | ⟨15, _⟩ => exact cut_at i d v 15 slices_S16x128x64_o15_0_0_S1x128x64 _
  | ⟨n + 16, hn⟩ => exact absurd hn (by omega)

theorem rows84 (a : Vec Ideal S128x1024 .f32) : k0_pay84 v a (k0_pay71 v) (k0_pay72 v) (k0_pay73 v) (k0_pay74 v) (k0_pay75 v) (k0_pay76 v) (k0_pay77 v)
    (k0_pay78 v) (k0_pay79 v) (k0_pay80 v) (k0_pay81 v) (k0_pay82 v) (k0_pay83 v) (ix2 i (⟨64 * z + d, lane_lt z d⟩ : Fin 1024))
    = v (ix3 z i d) + a (ix2 i (⟨64 * z + d, lane_lt z d⟩ : Fin 1024)) := by
  rw [← pieces_at z i d v]
  exact congrArg (· + a _) (side_by_side z i d (pieces v))

theorem rows85 : k0_pay85 v (ix2 i (⟨64 * z + d, lane_lt z d⟩ : Fin 1024)) = v (ix3 z i d) := by
  rw [← pieces_at z i d v]
  unfold k0_pay85
  rw [shapeCast_self]
  exact side_by_side z i d (pieces v)

theorem rows70 (v364 v366 v368 : FVec Ideal S128x64 .f32) (h0 : v364 = pieces v 0) (h1 : v366 = pieces v 1) (h2 : v368 = pieces v 2) :
    k0_pay70 v v364 v366 v368 (ix2 i (⟨64 * z + d, lane_lt z d⟩ : Fin 1024)) = v (ix3 z i d) := by
  rw [← pieces_at z i d v, h0, h1, h2]
  exact side_by_side z i d (pieces v)

theorem rows89 (a : Vec Ideal S128x1024 .f32) : k0_pay89 v a (k0_pay86 v) (k0_pay87 v) (k0_pay88 v) (ix2 i (⟨64 * z + d, lane_lt z d⟩ : Fin 1024))
    = v (ix3 z i d) + a (ix2 i (⟨64 * z + d, lane_lt z d⟩ : Fin 1024)) := by
  rw [← pieces_at z i d v]
  exact congrArg (· + a _) (side_by_side z i d (pieces v))

theorem rows1 : k0_pay1 v (k0_pay90 v) (k0_pay91 v) (k0_pay92 v) (k0_pay93 v) (k0_pay94 v) (k0_pay95 v) (k0_pay96 v) (k0_pay97 v)
    (k0_pay98 v) (k0_pay99 v) (k0_pay100 v) (k0_pay101 v) (k0_pay102 v) (k0_pay103 v) (ix2 i (⟨64 * z + d, lane_lt z d⟩ : Fin 1024)) = v (ix3 z i d) := by
  rw [← pieces_at z i d v]
  unfold k0_pay1
  rw [shapeCast_self]
  exact side_by_side z i d (pieces v)

end

theorem zeros2 (i : Fin 128) (c : Fin 1024) : (k0_pay2 : FVec Ideal S128x1024 .f32) (ix2 i c) = 0 := by
  pointwise [k0_pay2]

theorem zeros3 (i : Fin 128) (c : Fin 1024) : (k0_pay3 : FVec Ideal S128x1024 .f32) (ix2 i c) = 0 := by
  pointwise [k0_pay3]

/-- Every batch entry has a block before it unless the step is the last. -/
theorem before_at (g : grid0.Coords) (z : Fin 16) : k0_pay4 g (ix3 z 0 0) = BitVec.ofBool (decide ((g 1).val < 3)) := by
  pointwise [k0_pay4]
  have hg : (g 1).val < 4 := (g 1).isLt
  generalize (g 1).val = n at hg ⊢
  fin_vals z with hz <;> interval_cases n <;> simp only [hz] <;> decide

end Cert.Attn.K4

end
-- ==== Proof.KerBlock4.lean ====
/- The kernel of dilation 4: what one step computes of the blocks it is handed. -/
module

public import proofs.«01_k».proof.Proof.KerTiles4
public import proofs.«01_k».proof.Proof.KerRows4

@[expose] public section

set_option maxRecDepth 16384

noncomputable section

namespace Cert.Attn.K4

open Idealize.ShloMosaic Idealize.ShloMosaic.TcCoe Idealize.SL.Sem
open Cert.Kernel4Ideal Cert.Kernel4Ideal.Gen

variable (g : grid0.Coords) (x0 x1 x2 x3 x4 x5 x6 a : Vec Ideal S128x1024 .f32)

/-! ### The step's values, named -/

abbrev w43 := k0_pay5 x0
abbrev w78 := k0_pay10 (k0_pay6 x1) (k0_pay7 x1) (k0_pay8 x1) (k0_pay9 x1)
abbrev w113 := k0_pay28 (k0_pay12 x2) (k0_pay13 x2) (k0_pay14 x2) (k0_pay15 x2) (k0_pay16 x2) (k0_pay17 x2) (k0_pay18 x2) (k0_pay19 x2)
    (k0_pay20 x2) (k0_pay21 x2) (k0_pay22 x2) (k0_pay23 x2) (k0_pay24 x2) (k0_pay25 x2) (k0_pay26 x2) (k0_pay27 x2)
abbrev w148 := k0_pay29 x3
abbrev w183 := k0_pay43 (k0_pay30 x4) (k0_pay31 x4) (k0_pay32 x4) (k0_pay33 x4) (k0_pay34 x4) (k0_pay35 x4) (k0_pay36 x4) (k0_pay37 x4)
    (k0_pay38 x4) (k0_pay39 x4) (k0_pay40 x4) (k0_pay41 x4) (k0_pay42 x4)
abbrev w206 := k0_pay47 (k0_pay4 g) (w43 x0) (w78 x1)
abbrev w211 := k0_pay48 (k0_pay4 g) (w43 x0) (w78 x1) (w113 x2)
abbrev w214 := k0_pay49 (k0_pay4 g) (w43 x0) (w78 x1) (w113 x2)
abbrev w217 := k0_pay50 (w206 g x0 x1) (w211 g x0 x1 x2)
abbrev w222 := k0_pay51 (w206 g x0 x1) (w211 g x0 x1 x2) (w214 g x0 x1 x2)
abbrev w229 := k0_pay52 (w148 x3) (w183 x4) (w206 g x0 x1) (w211 g x0 x1 x2) (w214 g x0 x1 x2)
abbrev w232 := k0_pay53 (w206 g x0 x1) (w211 g x0 x1 x2) (w214 g x0 x1 x2)
abbrev w267 := k0_pay54 x5
abbrev w313 := k0_pay55 (w222 g x0 x1 x2) (w229 g x0 x1 x2 x3 x4) (w232 g x0 x1 x2) (w267 x5) x6
abbrev w315 := k0_pay56 (w222 g x0 x1 x2) (w267 x5)
abbrev w318 := k0_pay57 (w148 x3) (w222 g x0 x1 x2) (w267 x5)
abbrev w362 := k0_pay66 (w78 x1) (w113 x2) (w183 x4) k0_pay44 (k0_pay46 (k0_pay4 g)) (w214 g x0 x1 x2) (w217 g x0 x1 x2)
    (w313 g x0 x1 x2 x3 x4 x5 x6) (w315 g x0 x1 x2 x5) (w318 g x0 x1 x2 x3 x5)
abbrev w361 := k0_pay65 (w43 x0) (w183 x4) k0_pay44 (w214 g x0 x1 x2) (w313 g x0 x1 x2 x3 x4 x5 x6) (w315 g x0 x1 x2 x5)
abbrev w350 := k0_pay63 (w43 x0) (k0_pay46 (k0_pay4 g)) (w217 g x0 x1 x2) (w313 g x0 x1 x2 x3 x4 x5 x6) (w318 g x0 x1 x2 x3 x5)
abbrev w329 := k0_pay61 (w214 g x0 x1 x2) (w315 g x0 x1 x2 x5)
abbrev w322 := k0_pay60 (k0_pay58 (w217 g x0 x1 x2)) (k0_pay59 (w222 g x0 x1 x2) (w267 x5))

/-- The blocks of a step hold the tiles of sixteen slots side by side. -/
structure Holds (S : Fin 16 → Slot) : Prop where
  q : ∀ (z : Fin 16) (i : Fin 128) (d : Fin 64), x0 (ix2 i (⟨64 * z + d, lane_lt z d⟩ : Fin 1024)) = (S z).q i d
  kp : ∀ (z : Fin 16) (i : Fin 128) (d : Fin 64), x1 (ix2 i (⟨64 * z + d, lane_lt z d⟩ : Fin 1024)) = (S z).kp i d
  kc : ∀ (z : Fin 16) (i : Fin 128) (d : Fin 64), x2 (ix2 i (⟨64 * z + d, lane_lt z d⟩ : Fin 1024)) = (S z).kc i d
  vp : ∀ (z : Fin 16) (i : Fin 128) (d : Fin 64), x3 (ix2 i (⟨64 * z + d, lane_lt z d⟩ : Fin 1024)) = (S z).vp i d
  vc : ∀ (z : Fin 16) (i : Fin 128) (d : Fin 64), x4 (ix2 i (⟨64 * z + d, lane_lt z d⟩ : Fin 1024)) = (S z).vc i d
  dy : ∀ (z : Fin 16) (i : Fin 128) (d : Fin 64), x5 (ix2 i (⟨64 * z + d, lane_lt z d⟩ : Fin 1024)) = (S z).dy i d
  dl : ∀ (z : Fin 16) (i : Fin 128) (d : Fin 64), x6 (ix2 i (⟨64 * z + d, lane_lt z d⟩ : Fin 1024)) = (S z).dl i d
  prev : ∀ z : Fin 16, k0_pay4 g (ix3 z 0 0) = BitVec.ofBool (S z).prev

variable {g x0 x1 x2 x3 x4 x5 x6} {S : Fin 16 → Slot} (H : Holds g x0 x1 x2 x3 x4 x5 x6 S)
  (z : Fin 16) (i j : Fin 128) (d : Fin 64)

include H

theorem is43 : w43 x0 (ix3 z i d) = (S z).q i d := (stack5 x0 z i d).trans (H.q z i d)
theorem is78 : w78 x1 (ix3 z i d) = (S z).kp i d := (stack10 x1 z i d).trans (H.kp z i d)
theorem is113 : w113 x2 (ix3 z i d) = (S z).kc i d := (stack28 x2 z i d).trans (H.kc z i d)
theorem is148 : w148 x3 (ix3 z i d) = (S z).vp i d := (stack29 x3 z i d).trans (H.vp z i d)
theorem is183 : w183 x4 (ix3 z i d) = (S z).vc i d := (stack43 x4 z i d).trans (H.vc z i d)
theorem is267 : w267 x5 (ix3 z i d) = (S z).dy i d := (stack54 x5 z i d).trans (H.dy z i d)
theorem is206 : w206 g x0 x1 (ix3 z i j) = (S z).sP i j := sP_at H.prev (is43 H) (is78 H) z i j
theorem is211 : w211 g x0 x1 x2 (ix3 z i 0) = (S z).mx i := mx_at H.prev (is43 H) (is78 H) (is113 H) z i
theorem is214 : w214 g x0 x1 x2 (ix3 z i j) = (S z).eC i j := eC_at H.prev (is43 H) (is78 H) (is113 H) z i j
theorem is217 : w217 g x0 x1 x2 (ix3 z i j) = (S z).eP i j := eP_at (is206 H) (is211 H) z i j
theorem is222 : w222 g x0 x1 x2 (ix3 z i 0) = (S z).den i := den_at (is206 H) (is211 H) (is214 H) z i
theorem is229 : w229 g x0 x1 x2 x3 x4 (ix3 z i d) = (S z).num i d := num_at (is148 H) (is183 H) (is206 H) (is211 H) (is214 H) z i d
theorem is232 : w232 g x0 x1 x2 (ix3 z i 0) = Ideal.div 1 ((S z).den i * (S z).den i) := inv_at (is206 H) (is211 H) (is214 H) z i
theorem is313 : w313 g x0 x1 x2 x3 x4 x5 x6 (ix3 z i 0) = (S z).dden i := dden_at (is267 H) H.dl (is222 H) (is229 H) (is232 H) z i
theorem is315 : w315 g x0 x1 x2 x5 (ix3 z i d) = (S z).dnum i d := dnum_at (is267 H) (is222 H) z i d
theorem is318 : w318 g x0 x1 x2 x3 x5 (ix3 z i j) = ∑ d, (S z).dnum i d * (S z).vp j d := aP_at (is148 H) (is267 H) (is222 H) z i j

/-! ### What the step stores -/

theorem dq_step (v364 v366 v368 : FVec Ideal S128x64 .f32) (h0 : v364 = pieces (w362 g x0 x1 x2 x3 x4 x5 x6) 0)
    (h1 : v366 = pieces (w362 g x0 x1 x2 x3 x4 x5 x6) 1) (h2 : v368 = pieces (w362 g x0 x1 x2 x3 x4 x5 x6) 2) :
    k0_pay70 (w362 g x0 x1 x2 x3 x4 x5 x6) v364 v366 v368 (ix2 i (⟨64 * z + d, lane_lt z d⟩ : Fin 1024)) = (S z).dq i d :=
  (rows70 z i d _ _ _ _ h0 h1 h2).trans
    (dq_at H.prev (is78 H) (is113 H) (is183 H) (is214 H) (is217 H) (is313 H) (is315 H) (is318 H) z i d)

theorem dk_step : k0_pay84 (w361 g x0 x1 x2 x3 x4 x5 x6) a (k0_pay71 (w361 g x0 x1 x2 x3 x4 x5 x6)) (k0_pay72 (w361 g x0 x1 x2 x3 x4 x5 x6))
      (k0_pay73 (w361 g x0 x1 x2 x3 x4 x5 x6)) (k0_pay74 (w361 g x0 x1 x2 x3 x4 x5 x6)) (k0_pay75 (w361 g x0 x1 x2 x3 x4 x5 x6))
      (k0_pay76 (w361 g x0 x1 x2 x3 x4 x5 x6)) (k0_pay77 (w361 g x0 x1 x2 x3 x4 x5 x6)) (k0_pay78 (w361 g x0 x1 x2 x3 x4 x5 x6))
      (k0_pay79 (w361 g x0 x1 x2 x3 x4 x5 x6)) (k0_pay80 (w361 g x0 x1 x2 x3 x4 x5 x6)) (k0_pay81 (w361 g x0 x1 x2 x3 x4 x5 x6))
      (k0_pay82 (w361 g x0 x1 x2 x3 x4 x5 x6)) (k0_pay83 (w361 g x0 x1 x2 x3 x4 x5 x6)) (ix2 i (⟨64 * z + d, lane_lt z d⟩ : Fin 1024))
    = (S z).dkC i d + a (ix2 i (⟨64 * z + d, lane_lt z d⟩ : Fin 1024)) :=
  (rows84 z i d _ a).trans (congrArg (· + a _) (dkC_at (is43 H) (is183 H) (is214 H) (is313 H) (is315 H) z i d))

theorem dk_carry : k0_pay85 (w350 g x0 x1 x2 x3 x4 x5 x6) (ix2 i (⟨64 * z + d, lane_lt z d⟩ : Fin 1024)) = (S z).dkP i d :=
  (rows85 z i d _).trans (dkP_at H.prev (is43 H) (is217 H) (is313 H) (is318 H) z i d)

theorem dv_step : k0_pay89 (w329 g x0 x1 x2 x5) a (k0_pay86 (w329 g x0 x1 x2 x5)) (k0_pay87 (w329 g x0 x1 x2 x5)) (k0_pay88 (w329 g x0 x1 x2 x5))
      (ix2 i (⟨64 * z + d, lane_lt z d⟩ : Fin 1024))
    = (S z).dvC i d + a (ix2 i (⟨64 * z + d, lane_lt z d⟩ : Fin 1024)) :=
  (rows89 z i d _ a).trans (congrArg (· + a _) (dvC_at (is214 H) (is315 H) z i d))

theorem dv_carry : k0_pay1 (w322 g x0 x1 x2 x5) (k0_pay90 (w322 g x0 x1 x2 x5)) (k0_pay91 (w322 g x0 x1 x2 x5)) (k0_pay92 (w322 g x0 x1 x2 x5))
      (k0_pay93 (w322 g x0 x1 x2 x5)) (k0_pay94 (w322 g x0 x1 x2 x5)) (k0_pay95 (w322 g x0 x1 x2 x5)) (k0_pay96 (w322 g x0 x1 x2 x5))
      (k0_pay97 (w322 g x0 x1 x2 x5)) (k0_pay98 (w322 g x0 x1 x2 x5)) (k0_pay99 (w322 g x0 x1 x2 x5)) (k0_pay100 (w322 g x0 x1 x2 x5))
      (k0_pay101 (w322 g x0 x1 x2 x5)) (k0_pay102 (w322 g x0 x1 x2 x5)) (k0_pay103 (w322 g x0 x1 x2 x5))
      (ix2 i (⟨64 * z + d, lane_lt z d⟩ : Fin 1024)) = (S z).dvP i d :=
  (rows1 z i d _).trans (dvP_at (is267 H) (is217 H) (is222 H) z i d)

end Cert.Attn.K4

end
-- ==== Proof.KerOut4.lean ====
/- The kernel of dilation 4: the three arrays it leaves. -/
module

public import proofs.«01_k».proof.Proof.KerBlock4
public import proofs.«01_k».proof.Proof.Core
public import proofs.«01_k».proof.Proof.Gen.Kernel4Ideal.Value

@[expose] public section

set_option maxRecDepth 16384

noncomputable section

namespace Cert.Attn.K4

open Idealize.ShloMosaic Idealize.ShloMosaic.TcCoe Idealize.SL.Sem
open Cert.Kernel4Ideal Cert.Kernel4Ideal.Gen

variable (m : (ℓ : Loc nD τ sig) → Buf (Elt Ideal) ℓ) (c : Dev nD)

/-- Step `t` works on block `3 - t`, and on the block before it. -/
theorem idx : ∀ t : Fin cfg0.N, win0_0.index t = ![3 - t.val, 0] ∧ win0_1.index t = ![2 - t.val, 0] ∧ win0_2.index t = ![3 - t.val, 0]
    ∧ win0_3.index t = ![2 - t.val, 0] ∧ win0_4.index t = ![3 - t.val, 0] ∧ win0_5.index t = ![3 - t.val, 0] ∧ win0_6.index t = ![3 - t.val, 0]
    ∧ win0_7.index t = ![3 - t.val, 0] ∧ win0_8.index t = ![3 - t.val, 0] ∧ win0_9.index t = ![3 - t.val, 0]
    ∧ (grid0.coords t 1).val = t.val := (by decide +kernel : ∀ t : Fin grid0.N, _)

abbrev aQ : Arr := m ((c : Thread nD τ).loc main_arg0)
abbrev aK : Arr := m ((c : Thread nD τ).loc main_arg1)
abbrev aV : Arr := m ((c : Thread nD τ).loc main_arg2)
abbrev aDY : Arr := m ((c : Thread nD τ).loc main_arg3)
abbrev aDL : Arr := m ((c : Thread nD τ).loc main_arg4)

/-- The slots of block `b`: four residues of four heads. -/
def slots (b : ℕ) (z : Fin 16) : Slot := slot (aQ m c) (aK m c) (aV m c) (aDY m c) (aDL m c) 4 b (z / 4) (z % 4)

theorem holds (t : Fin cfg0.N) : Holds (grid0.coords t) (iblk m c 0 t) (iblk m c 1 t) (iblk m c 2 t) (iblk m c 3 t) (iblk m c 4 t)
    (iblk m c 5 t) (iblk m c 6 t) (slots m c (3 - t)) where
  q z i d := by simp only [slots, slot]; unfold tile; blk_point [iblk, V, idx t]
  kp z i d := by simp only [slots, slot]; unfold tile; blk_point [iblk, V, idx t]
  kc z i d := by simp only [slots, slot]; unfold tile; blk_point [iblk, V, idx t]
  vp z i d := by simp only [slots, slot]; unfold tile; blk_point [iblk, V, idx t]
  vc z i d := by simp only [slots, slot]; unfold tile; blk_point [iblk, V, idx t]
  dy z i d := by simp only [slots, slot]; unfold tile; blk_point [iblk, V, idx t]
  dl z i d := by simp only [slots, slot]; unfold tile; blk_point [iblk, V, idx t]
  prev z := by
    rw [before_at]
    simp only [slots, slot, idx t]
    congr 2
    exact propext (by omega)

/-! ### What a step leaves -/

variable (t : Fin cfg0.N) (z : Fin 16) (i : Fin 128) (d : Fin 64)

theorem left_dq : (outsAt0 m c t.val t.isLt).1 (ix2 i (⟨64 * z + d, lane_lt z d⟩ : Fin 1024)) = (slots m c (3 - t) z).dq i d := by
  by_cases h : t.val % 4 = 0
  · rw [outsAt0_A m c t h]
    frame_out
    exact dq_step (holds m c t) z i d _ _ _ rfl rfl rfl
  · rw [outsAt0_B m c t h]
    frame_out
    exact dq_step (holds m c t) z i d _ _ _ rfl rfl rfl

theorem left_dkP : (outsAt0 m c t.val t.isLt).2.2.2.1 (ix2 i (⟨64 * z + d, lane_lt z d⟩ : Fin 1024)) = (slots m c (3 - t) z).dkP i d := by
  by_cases h : t.val % 4 = 0
  · rw [outsAt0_A m c t h]
    frame_out
    exact dk_carry (holds m c t) z i d
  · rw [outsAt0_B m c t h]
    frame_out
    exact dk_carry (holds m c t) z i d

theorem left_dvP : (outsAt0 m c t.val t.isLt).2.2.2.2 (ix2 i (⟨64 * z + d, lane_lt z d⟩ : Fin 1024)) = (slots m c (3 - t) z).dvP i d := by
  by_cases h : t.val % 4 = 0
  · rw [outsAt0_A m c t h]
    frame_out
    exact dv_carry (holds m c t) z i d
  · rw [outsAt0_B m c t h]
    frame_out
    exact dv_carry (holds m c t) z i d

theorem left_dk : (outsAt0 m c t.val t.isLt).2.1 (ix2 i (⟨64 * z + d, lane_lt z d⟩ : Fin 1024))
    = (slots m c (3 - t) z).dkC i d + if 0 < t.val then (slots m c (4 - t) z).dkP i d else 0 := by
  have ht : t.val < 4 := t.isLt
  by_cases h : t.val % 4 = 0
  · rw [outsAt0_A m c t h]
    frame_out
    refine (dk_step _ (holds m c t) z i d).trans ?_
    rw [if_neg (by omega)]
    exact congrArg ((slots m c (3 - t) z).dkC i d + ·) (zeros2 i _)
  · rw [outsAt0_B m c t h]
    frame_out
    refine (dk_step _ (holds m c t) z i d).trans ?_
    rw [if_pos (by omega)]
    refine congrArg ((slots m c (3 - t) z).dkC i d + ·) ?_
    refine Eq.trans ?_ ((left_dkP m c ⟨t.val - 1, by omega⟩ z i d).trans ?_)
    · exact congrFun (Memref.IsWhole.read_unread _ _) _
    · rw [show 3 - (t.val - 1) = 4 - t.val by omega]

theorem left_dv : (outsAt0 m c t.val t.isLt).2.2.1 (ix2 i (⟨64 * z + d, lane_lt z d⟩ : Fin 1024))
    = (slots m c (3 - t) z).dvC i d + if 0 < t.val then (slots m c (4 - t) z).dvP i d else 0 := by
  have ht : t.val < 4 := t.isLt
  by_cases h : t.val % 4 = 0
  · rw [outsAt0_A m c t h]
    frame_out
    refine (dv_step _ (holds m c t) z i d).trans ?_
    rw [if_neg (by omega)]
    exact congrArg ((slots m c (3 - t) z).dvC i d + ·) (zeros3 i _)
  · rw [outsAt0_B m c t h]
    frame_out
    refine (dv_step _ (holds m c t) z i d).trans ?_
    rw [if_pos (by omega)]
    refine congrArg ((slots m c (3 - t) z).dvC i d + ·) ?_
    refine Eq.trans ?_ ((left_dvP m c ⟨t.val - 1, by omega⟩ z i d).trans ?_)
    · exact congrFun (Memref.IsWhole.read_unread _ _) _
    · rw [show 3 - (t.val - 1) = 4 - t.val by omega]

/-! ### The arrays -/

/-- A place of a block is a lane of one of its sixteen pieces. -/
theorem place (y : S128x1024.Idx) : ∃ (z : Fin 16) (i : Fin 128) (d : Fin 64), y = ix2 i (⟨64 * z + d, lane_lt z d⟩ : Fin 1024) := by
  have h0 : (y 0).val < 128 := (y 0).isLt
  have h1 : (y 1).val < 1024 := (y 1).isLt
  refine ⟨⟨(y 1).val / 64, by omega⟩, ⟨(y 0).val, h0⟩, ⟨(y 1).val % 64, by omega⟩, ?_⟩
  funext b
  match b with
  | ⟨0, _⟩ => rfl
  | ⟨1, _⟩ => exact Fin.ext (Nat.div_add_mod (y 1).val 64).symm

/-- The slot of a piece is the one the array's row and column name. -/
theorem at_row (f : Slot → Tile) {b R C : ℕ} (hR : R = b * 128 + i) (hC : C = 64 * z + d) :
    f (slots m c b z) i d = f (slot (aQ m c) (aK m c) (aV m c) (aDY m c) (aDL m c) 4 (R / 128) (C / 256) (C % 256 / 64))
      ⟨R % 128, Nat.mod_lt _ (by norm_num)⟩ ⟨C % 64, Nat.mod_lt _ (by norm_num)⟩ :=
  slot_part f (by omega) (by omega) (by omega) (Fin.ext (by show i.val = R % 128; omega)) (Fin.ext (by show d.val = C % 64; omega))

theorem at_next (f : Slot → Tile) {b R C : ℕ} (hR : R + 128 = b * 128 + i) (hC : C = 64 * z + d) :
    f (slots m c b z) i d = f (slot (aQ m c) (aK m c) (aV m c) (aDY m c) (aDL m c) 4 (R / 128 + 1) (C / 256) (C % 256 / 64))
      ⟨R % 128, Nat.mod_lt _ (by norm_num)⟩ ⟨C % 64, Nat.mod_lt _ (by norm_num)⟩ :=
  slot_part f (by omega) (by omega) (by omega) (Fin.ext (by show i.val = R % 128; omega)) (Fin.ext (by show d.val = C % 64; omega))

variable {R C : ℕ} (hR : R = (3 - t) * 128 + i) (hC : C = 64 * z + d)

include hR hC

theorem dk_spot : ((slots m c (3 - t) z).dkC i d + if 0 < t.val then (slots m c (4 - t) z).dkP i d else 0)
    = dkAt (aQ m c) (aK m c) (aV m c) (aDY m c) (aDL m c) 4 R C := by
  have ht : t.val < 4 := t.isLt
  rw [dkAt]
  refine congrArg₂ (· + ·) (at_row m c z i d Slot.dkC hR hC) ?_
  by_cases h : 0 < t.val
  · rw [if_pos h, if_pos (by omega)]
    exact at_next m c z i d Slot.dkP (by omega) hC
  · rw [if_neg h, if_neg (by omega)]

theorem dv_spot : ((slots m c (3 - t) z).dvC i d + if 0 < t.val then (slots m c (4 - t) z).dvP i d else 0)
    = dvAt (aQ m c) (aK m c) (aV m c) (aDY m c) (aDL m c) 4 R C := by
  have ht : t.val < 4 := t.isLt
  rw [dvAt]
  refine congrArg₂ (· + ·) (at_row m c z i d Slot.dvC hR hC) ?_
  by_cases h : 0 < t.val
  · rw [if_pos h, if_pos (by omega)]
    exact at_next m c z i d Slot.dvP (by omega) hC
  · rw [if_neg h, if_neg (by omega)]

omit hR hC

theorem dq_array : (dats m 0 c).arrAt 7 cfg0.N = fun j : S512x1024.Idx => dqAt (aQ m c) (aK m c) (aV m c) (aDY m c) (aDL m c) 4 (j 0) (j 1) := by
  refine (dats m 0 c).arrAt_eq_of_covers 7 _ (by decide +kernel) fun t hf y => ?_
  blk_simp
  rw [after0_7]
  obtain ⟨z, i, d, rfl⟩ := place y
  refine (left_dq m c t z i d).trans (at_row m c z i d Slot.dq ?_ ?_) <;> rw [(idx t).2.2.2.2.2.2.2.1]
  · rfl
  · exact Nat.zero_add _

theorem dk_array : (dats m 0 c).arrAt 8 cfg0.N = fun j : S512x1024.Idx => dkAt (aQ m c) (aK m c) (aV m c) (aDY m c) (aDL m c) 4 (j 0) (j 1) := by
  refine (dats m 0 c).arrAt_eq_of_covers 8 _ (by decide +kernel) fun t hf y => ?_
  blk_simp
  rw [after0_8]
  obtain ⟨z, i, d, rfl⟩ := place y
  refine (left_dk m c t z i d).trans (dk_spot m c t z i d ?_ ?_) <;> rw [(idx t).2.2.2.2.2.2.2.2.1]
  · rfl
  · exact Nat.zero_add _

theorem dv_array : (dats m 0 c).arrAt 9 cfg0.N = fun j : S512x1024.Idx => dvAt (aQ m c) (aK m c) (aV m c) (aDY m c) (aDL m c) 4 (j 0) (j 1) := by
  refine (dats m 0 c).arrAt_eq_of_covers 9 _ (by decide +kernel) fun t hf y => ?_
  blk_simp
  rw [after0_9]
  obtain ⟨z, i, d, rfl⟩ := place y
  refine (left_dv m c t z i d).trans (dv_spot m c t z i d ?_ ?_) <;> rw [(idx t).2.2.2.2.2.2.2.2.2.1]
  · rfl
  · exact Nat.zero_add _

end Cert.Attn.K4

end
-- ==== Proof.RefTiles4.lean ====
/- The reference of dilation 4, read tile by tile: its rearranged arguments, its window and its scores are the slots'. -/
module

public import proofs.«01_k».proof.Proof.Core
public import proofs.«01_k».proof.Proof.Gen.Reference4Ideal.Read

@[expose] public section

set_option maxRecDepth 16384

noncomputable section

namespace Cert.Attn.R4

open Idealize.ShloMosaic Idealize.ShloMosaic.TcCoe Idealize.SL.Sem
open Cert.Reference4Ideal Cert.Reference4Ideal.Gen Cert.Reference4Ideal.Read

variable (x0 x1 x2 x3 x4 : FVec Ideal S2048x256 .f32) (r b h : Fin 4)

theorem q_at (i : Fin 128) (d : Fin 64) : val_main_v12 (F := Ideal) x0 (ix5 r b i h d) = (zslot x0 x1 x2 x3 x4 4 b r h).q i d := by
  pointwise [val_main_v12, val_main_v5, val_main_v4, val_main_v3, val_main_v0]
  show _ = x0 (ix2 _ _)
  refine congrArg x0 ((ix2_inj ..).2 ⟨Fin.ext ?_, Fin.ext ?_⟩) <;> dsimp only <;> omega

theorem dy_at (i : Fin 128) (d : Fin 64) : val_main_v114 (F := Ideal) x3 (ix5 r b i h d) = (zslot x0 x1 x2 x3 x4 4 b r h).dy i d := by
  pointwise [val_main_v114, val_main_v112, val_main_v111, val_main_v110, val_main_v102]
  show _ = x3 (ix2 _ _)
  refine congrArg x3 ((ix2_inj ..).2 ⟨Fin.ext ?_, Fin.ext ?_⟩) <;> dsimp only <;> omega

theorem kC_at (j : Fin 128) (d : Fin 64) :
    val_main_v19 (F := Ideal) x1 (ix5 r b (⟨128 + j, by omega⟩ : Fin 256) h d) = (zslot x0 x1 x2 x3 x4 4 b r h).kc j d := by
  pointwise [val_main_v19, val_main_v18, val_main_v17, val_main_v16, val_main_v14, val_main_v8, val_main_v7, val_main_v6, val_main_v1]
  try rw [dif_neg (by omega)]
  show _ = x1 (ix2 _ _)
  refine congrArg x1 ((ix2_inj ..).2 ⟨Fin.ext ?_, Fin.ext ?_⟩) <;> dsimp only <;> omega

theorem vC_at (j : Fin 128) (d : Fin 64) :
    val_main_v26 (F := Ideal) x2 (ix5 r b (⟨128 + j, by omega⟩ : Fin 256) h d) = (zslot x0 x1 x2 x3 x4 4 b r h).vc j d := by
  pointwise [val_main_v26, val_main_v25, val_main_v24, val_main_v23, val_main_v21, val_main_v11, val_main_v10, val_main_v9, val_main_v2]
  try rw [dif_neg (by omega)]
  show _ = x2 (ix2 _ _)
  refine congrArg x2 ((ix2_inj ..).2 ⟨Fin.ext ?_, Fin.ext ?_⟩) <;> dsimp only <;> omega

theorem kP_at (j : Fin 128) (d : Fin 64) :
    val_main_v19 (F := Ideal) x1 (ix5 r b (⟨j, by omega⟩ : Fin 256) h d) = (zslot x0 x1 x2 x3 x4 4 b r h).kp j d := by
  pointwise [val_main_v19, val_main_v18, val_main_v17, val_main_v16, val_main_v14, val_main_v13, val_main_v8, val_main_v7, val_main_v6, val_main_v1, val_main_cst]
  show _ = if 0 < b.val then x1 (ix2 _ _) else 0
  by_cases hb : 0 < b.val
  · rw [if_pos hb]
    try rw [dif_neg (by omega)]
    refine congrArg x1 ((ix2_inj ..).2 ⟨Fin.ext ?_, Fin.ext ?_⟩) <;> dsimp only <;> omega
  · rw [if_neg hb]
    try rw [dif_pos (by omega)]

theorem vP_at (j : Fin 128) (d : Fin 64) :
    val_main_v26 (F := Ideal) x2 (ix5 r b (⟨j, by omega⟩ : Fin 256) h d) = (zslot x0 x1 x2 x3 x4 4 b r h).vp j d := by
  pointwise [val_main_v26, val_main_v25, val_main_v24, val_main_v23, val_main_v21, val_main_v20, val_main_v11, val_main_v10, val_main_v9, val_main_v2, val_main_cst_1]
  show _ = if 0 < b.val then x2 (ix2 _ _) else 0
  by_cases hb : 0 < b.val
  · rw [if_pos hb]
    try rw [dif_neg (by omega)]
    refine congrArg x2 ((ix2_inj ..).2 ⟨Fin.ext ?_, Fin.ext ?_⟩) <;> dsimp only <;> omega
  · rw [if_neg hb]
    try rw [dif_pos (by omega)]

theorem window (i : Fin 128) (j : Fin 256) : val_main_v62 (F := Ideal) (ix3 b i j)
    = BitVec.ofBool (decide (j.val ≤ i.val + 128 ∧ i.val ≤ j.val ∧ 128 ≤ b.val * 128 + j.val)) := by
  rw [← window_word b.val (by omega) i j.val j.isLt]
  pointwise [val_main_v62, val_main_v61, val_main_v60, val_main_v59, val_main_v58, val_main_v57, val_main_v56, val_main_v55,
    val_main_v54, val_main_v53, val_main_v52, val_main_v51, val_main_v50, val_main_v49, val_main_v48, val_main_v47, val_main_v46,
    val_main_v45, val_main_v44, val_main_v43, val_main_v42, val_main_v41, val_main_v40, val_main_v39, val_main_v38, val_main_v37,
    val_main_v36, val_main_v35, val_main_v34, val_main_v33, val_main_v32, val_main_v31, val_main_v30, val_main_c, val_main_c_4,
    val_main_c_5, val_main_c_6, val_main_c_7, val_main_c_8]

theorem dl_at (i : Fin 128) : val_main_v115 (F := Ideal) x4 (ix4 r b h i) = (zslot x0 x1 x2 x3 x4 4 b r h).dls i := by
  pointwise [val_main_v115, val_main_v113, val_main_v109, val_main_v108, val_main_v107, val_main_v106, val_main_v105, val_main_v104, val_main_v103, val_main_v101, val_main_cst_14, val_main_cst_15]
  refine (sum_first_last _ rfl _ _ _ _).trans ?_
  rw [zero_add, Fin.sum_univ_one]
  pointwise []
  refine (sum_first_last _ rfl _ _ _ _).trans ?_
  pointwise []
  refine Finset.sum_congr rfl fun d _ => ?_
  show _ = x4 (ix2 _ _)
  refine congrArg x4 ((ix2_inj ..).2 ⟨Fin.ext ?_, Fin.ext ?_⟩) <;> dsimp only <;> omega

theorem sC_at (i j : Fin 128) :
    val_main_v64_0 (F := Ideal) x0 x1 (ix5 r b h i (⟨128 + j, by omega⟩ : Fin 256)) = (zslot x0 x1 x2 x3 x4 4 b r h).sC i j := by
  pointwise [val_main_v64_0, val_main_v64_1, val_main_v63, val_main_v29, val_main_v28, val_main_v27, val_main_call0_v2, val_main_call0_v0, val_main_cst_9, val_main_cst_3]
  simp only [window, select_ofBool, q_at x0 x1 x2 x3 x4, kC_at x0 x1 x2 x3 x4]
  show (if _ then _ else Ideal.ofBits .f32 0xFF800000#32) = if j ≤ i then _ else ⊥
  rw [negInf_eq]
  exact if_congr ⟨fun hh => Fin.le_def.2 (by omega), fun hh => ⟨by have := Fin.le_def.1 hh; omega, by omega, by omega⟩⟩ rfl rfl

theorem sP_at (i j : Fin 128) :
    val_main_v64_0 (F := Ideal) x0 x1 (ix5 r b h i (⟨j, by omega⟩ : Fin 256)) = (zslot x0 x1 x2 x3 x4 4 b r h).sP i j := by
  pointwise [val_main_v64_0, val_main_v64_1, val_main_v63, val_main_v29, val_main_v28, val_main_v27, val_main_call0_v2, val_main_call0_v0, val_main_cst_9, val_main_cst_3]
  simp only [window, select_ofBool, q_at x0 x1 x2 x3 x4, kP_at x0 x1 x2 x3 x4]
  show (if _ then _ else Ideal.ofBits .f32 0xFF800000#32) = if i ≤ j ∧ decide (0 < b.val) = true then _ else ⊥
  rw [negInf_eq]
  refine if_congr ⟨fun hh => ⟨Fin.le_def.2 (by omega), decide_eq_true (by omega)⟩, fun hh => ?_⟩ rfl rfl
  have h1 := Fin.le_def.1 hh.1
  have h2 := of_decide_eq_true hh.2
  exact ⟨by omega, by omega, by omega⟩

end Cert.Attn.R4

end
-- ==== Proof.RefGrad4.lean ====
/- The reference of dilation 4: exponentials, sums, and the gradients of the scores, are the slots'. -/
module

public import proofs.«01_k».proof.Proof.RefTiles4

@[expose] public section

set_option maxRecDepth 16384

noncomputable section

namespace Cert.Attn.R4

open Idealize.ShloMosaic Idealize.ShloMosaic.TcCoe Idealize.SL.Sem
open Cert.Reference4Ideal Cert.Reference4Ideal.Gen Cert.Reference4Ideal.Read

variable (x0 x1 x2 x3 x4 : FVec Ideal S2048x256 .f32) (r b h : Fin 4)

theorem mx_at (i : Fin 128) : val_main_v65 (F := Ideal) x0 x1 (ix4 r b h i) = (zslot x0 x1 x2 x3 x4 4 b r h).mx i := by
  pointwise [val_main_v65, val_main_cst_10]
  rw [negInf_eq, fold_max_halves]
  simp only [sC_at x0 x1 x2 x3 x4, sP_at x0 x1 x2 x3 x4]
  rfl

theorem eC_at (i j : Fin 128) :
    val_main_v74 (F := Ideal) x0 x1 (ix5 r b h i (⟨128 + j, by omega⟩ : Fin 256)) = (zslot x0 x1 x2 x3 x4 4 b r h).eC i j := by
  pointwise [val_main_v74, val_main_v73, val_main_v72, val_main_v71]
  simp only [sC_at x0 x1 x2 x3 x4, mx_at x0 x1 x2 x3 x4]
  rfl

theorem eP_at (i j : Fin 128) :
    val_main_v74 (F := Ideal) x0 x1 (ix5 r b h i (⟨j, by omega⟩ : Fin 256)) = (zslot x0 x1 x2 x3 x4 4 b r h).eP i j := by
  pointwise [val_main_v74, val_main_v73, val_main_v72, val_main_v71]
  simp only [sP_at x0 x1 x2 x3 x4, mx_at x0 x1 x2 x3 x4]
  rfl

theorem den_at (i : Fin 128) : val_main_v75 (F := Ideal) x0 x1 (ix4 r b h i) = (zslot x0 x1 x2 x3 x4 4 b r h).den i := by
  pointwise [val_main_v75, val_main_cst_12]
  rw [sum_halves]
  simp only [eC_at x0 x1 x2 x3 x4, eP_at x0 x1 x2 x3 x4]
  rfl

theorem num_at (i : Fin 128) (d : Fin 64) : val_main_v78 (F := Ideal) x0 x1 x2 (ix5 r b i h d) = (zslot x0 x1 x2 x3 x4 4 b r h).num i d := by
  pointwise [val_main_v78, val_main_v77]
  rw [sum_halves]
  simp only [eC_at x0 x1 x2 x3 x4, eP_at x0 x1 x2 x3 x4, vC_at x0 x1 x2 x3 x4, vP_at x0 x1 x2 x3 x4, mul_comm (Slot.vc _ _ _), mul_comm (Slot.vp _ _ _)]
  rfl

theorem dden_at (i : Fin 128) : val_main_v127 (F := Ideal) x0 x1 x2 x3 x4 (ix5 r b h i 0) = (zslot x0 x1 x2 x3 x4 4 b r h).dden i := by
  pointwise [val_main_v127, val_main_v126, val_main_v123, val_main_v122, val_main_v121, val_main_v120, val_main_v119, val_main_v118, val_main_v117,
    val_main_v116, val_main_v84, val_main_v83, val_main_v82, val_main_v79, val_main_v76, val_main_cst_13, val_main_cst_16]
  simp only [dl_at x0 x1 x2 x3 x4, den_at x0 x1 x2 x3 x4, num_at x0 x1 x2 x3 x4, dy_at x0 x1 x2 x3 x4]
  rfl

theorem dnum_at (i : Fin 128) (d : Fin 64) : val_main_v125 (F := Ideal) x0 x1 x3 (ix5 r b i h d) = (zslot x0 x1 x2 x3 x4 4 b r h).dnum i d := by
  pointwise [val_main_v125, val_main_v124, val_main_v79, val_main_v76]
  simp only [den_at x0 x1 x2 x3 x4, dy_at x0 x1 x2 x3 x4]
  rfl

theorem gC_at (i j : Fin 128) :
    val_main_v135 (F := Ideal) x0 x1 x2 x3 x4 (ix5 r b h i (⟨128 + j, by omega⟩ : Fin 256)) = (zslot x0 x1 x2 x3 x4 4 b r h).gC i j := by
  pointwise [val_main_v135, val_main_v134, val_main_v133, val_main_v132, val_main_v129, val_main_v128, val_main_cst_17]
  try rw [Fin.sum_univ_one]
  simp only [dden_at x0 x1 x2 x3 x4, dnum_at x0 x1 x2 x3 x4, vC_at x0 x1 x2 x3 x4, eC_at x0 x1 x2 x3 x4]
  rfl

theorem gP_at (i j : Fin 128) :
    val_main_v135 (F := Ideal) x0 x1 x2 x3 x4 (ix5 r b h i (⟨j, by omega⟩ : Fin 256)) = (zslot x0 x1 x2 x3 x4 4 b r h).gP i j := by
  pointwise [val_main_v135, val_main_v134, val_main_v133, val_main_v132, val_main_v129, val_main_v128, val_main_cst_17]
  try rw [Fin.sum_univ_one]
  simp only [dden_at x0 x1 x2 x3 x4, dnum_at x0 x1 x2 x3 x4, vP_at x0 x1 x2 x3 x4, eP_at x0 x1 x2 x3 x4]
  rfl

/-- The gradient that reaches the maximum is zero. -/
theorem shift_at (hr : (zslot x0 x1 x2 x3 x4 4 b r h).IsReal) (i : Fin 128) :
    val_main_v140 (F := Ideal) x0 x1 x2 x3 x4 (ix4 r b h i) = 0 := by
  refine Eq.trans ?_ (hr.shift i)
  pointwise [val_main_v140, val_main_v139, val_main_v138, val_main_v137, val_main_v136, val_main_v116, val_main_cst_18, val_main_cst_19]
  try rw [Fin.sum_univ_one]
  rw [sum_halves]
  simp only [gC_at x0 x1 x2 x3 x4, gP_at x0 x1 x2 x3 x4, dl_at x0 x1 x2 x3 x4]
  try rfl

/-- The indicator of the greatest score is not negative. -/
theorem ind_nonneg (i : Fin 128) (j : Fin 256) : (0 : EReal) ≤ val_main_v69 (F := Ideal) x0 x1 (ix5 r b h i j) := by
  pointwise [val_main_v69]
  exact EReal.coe_nonneg.2 (Nat.cast_nonneg _)

theorem count_at (i : Fin 128) : val_main_v70 (F := Ideal) x0 x1 (ix4 r b h i)
    = (∑ j : Fin 128, val_main_v69 (F := Ideal) x0 x1 (ix5 r b h i (⟨128 + j, by omega⟩ : Fin 256)))
      + ∑ j : Fin 128, val_main_v69 (F := Ideal) x0 x1 (ix5 r b h i (⟨j, by omega⟩ : Fin 256)) := by
  pointwise [val_main_v70, val_main_cst_11]
  exact sum_halves _

theorem dsC_at (hr : (zslot x0 x1 x2 x3 x4 4 b r h).IsReal) (i j : Fin 128) :
    val_main_v147 (F := Ideal) x0 x1 x2 x3 x4 (ix5 r b h i (⟨128 + j, by omega⟩ : Fin 256)) = (zslot x0 x1 x2 x3 x4 4 b r h).dsC i j := by
  pointwise [val_main_v147, val_main_v146, val_main_v145, val_main_v144, val_main_v143, val_main_v142, val_main_v141, val_main_v64_1, val_main_v63,
    val_main_call1_v0, val_main_call1_cst, val_main_cst_20]
  rw [shift_at x0 x1 x2 x3 x4 r b h hr, count_at]
  rw [(div_zero_mul _ _ (fun j => ind_nonneg x0 x1 r b h i _) fun j => ind_nonneg x0 x1 r b h i _).1 j]
  simp only [window, select_ofBool, gC_at x0 x1 x2 x3 x4, add_zero]
  show _ = (if j ≤ i then _ else 0) * eighth
  rw [ite_mul, zero_mul eighth]
  exact if_congr ⟨fun hh => Fin.le_def.2 (by omega), fun hh => ⟨by have := Fin.le_def.1 hh; omega, by omega, by omega⟩⟩ rfl rfl

theorem dsP_at (hr : (zslot x0 x1 x2 x3 x4 4 b r h).IsReal) (i j : Fin 128) :
    val_main_v147 (F := Ideal) x0 x1 x2 x3 x4 (ix5 r b h i (⟨j, by omega⟩ : Fin 256)) = (zslot x0 x1 x2 x3 x4 4 b r h).dsP i j := by
  pointwise [val_main_v147, val_main_v146, val_main_v145, val_main_v144, val_main_v143, val_main_v142, val_main_v141, val_main_v64_1, val_main_v63,
    val_main_call1_v0, val_main_call1_cst, val_main_cst_20]
  rw [shift_at x0 x1 x2 x3 x4 r b h hr, count_at]
  rw [(div_zero_mul _ _ (fun j => ind_nonneg x0 x1 r b h i _) fun j => ind_nonneg x0 x1 r b h i _).2 j]
  simp only [window, select_ofBool, gP_at x0 x1 x2 x3 x4, add_zero]
  show _ = (if i ≤ j ∧ decide (0 < b.val) = true then _ else 0) * eighth
  rw [ite_mul, zero_mul eighth]
  refine if_congr ⟨fun hh => ⟨Fin.le_def.2 (by omega), decide_eq_true (by omega)⟩, fun hh => ?_⟩ rfl rfl
  have h1 := Fin.le_def.1 hh.1
  have h2 := of_decide_eq_true hh.2
  exact ⟨by omega, by omega, by omega⟩

theorem dkC_at (hr : (zslot x0 x1 x2 x3 x4 4 b r h).IsReal) (j : Fin 128) (d : Fin 64) :
    val_main_v149 (F := Ideal) x0 x1 x2 x3 x4 (ix5 r b (⟨128 + j, by omega⟩ : Fin 256) h d) = (zslot x0 x1 x2 x3 x4 4 b r h).dkC j d := by
  pointwise [val_main_v149, val_main_v148]
  simp only [dsC_at x0 x1 x2 x3 x4 r b h hr, q_at x0 x1 x2 x3 x4]
  rfl

theorem dkP_at (hr : (zslot x0 x1 x2 x3 x4 4 b r h).IsReal) (j : Fin 128) (d : Fin 64) :
    val_main_v149 (F := Ideal) x0 x1 x2 x3 x4 (ix5 r b (⟨j, by omega⟩ : Fin 256) h d) = (zslot x0 x1 x2 x3 x4 4 b r h).dkP j d := by
  pointwise [val_main_v149, val_main_v148]
  simp only [dsP_at x0 x1 x2 x3 x4 r b h hr, q_at x0 x1 x2 x3 x4]
  rfl

theorem dvC_at (j : Fin 128) (d : Fin 64) :
    val_main_v131 (F := Ideal) x0 x1 x3 (ix5 r b (⟨128 + j, by omega⟩ : Fin 256) h d) = (zslot x0 x1 x2 x3 x4 4 b r h).dvC j d := by
  pointwise [val_main_v131, val_main_v130, val_main_v128]
  simp only [eC_at x0 x1 x2 x3 x4, dnum_at x0 x1 x2 x3 x4, mul_comm (Slot.dnum _ _ _)]
  rfl

theorem dvP_at (j : Fin 128) (d : Fin 64) :
    val_main_v131 (F := Ideal) x0 x1 x3 (ix5 r b (⟨j, by omega⟩ : Fin 256) h d) = (zslot x0 x1 x2 x3 x4 4 b r h).dvP j d := by
  pointwise [val_main_v131, val_main_v130, val_main_v128]
  simp only [eP_at x0 x1 x2 x3 x4, dnum_at x0 x1 x2 x3 x4, mul_comm (Slot.dnum _ _ _)]
  rfl

theorem dq_at (hr : (zslot x0 x1 x2 x3 x4 4 b r h).IsReal) (i : Fin 128) (d : Fin 64) :
    val_main_v151 (F := Ideal) x0 x1 x2 x3 x4 (ix5 r b i h d) = (zslot x0 x1 x2 x3 x4 4 b r h).dq i d := by
  pointwise [val_main_v151, val_main_v150]
  rw [sum_halves, add_comm]
  simp only [dsC_at x0 x1 x2 x3 x4 r b h hr, dsP_at x0 x1 x2 x3 x4 r b h hr, kC_at x0 x1 x2 x3 x4, kP_at x0 x1 x2 x3 x4]
  rfl

end Cert.Attn.R4

end
-- ==== Proof.RefOut4.lean ====
/- The results of the reference of dilation 4, at a row and a column. -/
module

public import proofs.«01_k».proof.Proof.RefGrad4

@[expose] public section

set_option maxRecDepth 16384

noncomputable section

namespace Cert.Attn.R4

open Idealize.ShloMosaic Idealize.ShloMosaic.TcCoe Idealize.SL.Sem
open Cert.Reference4Ideal Cert.Reference4Ideal.Gen Cert.Reference4Ideal.Read

variable (x0 x1 x2 x3 x4 : FVec Ideal S2048x256 .f32)

/-! ### The gradients of a tile, at the row and the column of the array that name it -/

theorem dkC_spot {R C : ℕ} {r b h : Fin 4} {J : Fin 256} {d : Fin 64} (hR : (zslot x0 x1 x2 x3 x4 4 b r h).IsReal) (hb : b.val = R / 128) (hr : r.val = C / 256) (hh : h.val = C % 256 / 64) (hJ : J.val = 128 + R % 128)
    (hd : d.val = C % 64) : val_main_v149 (F := Ideal) x0 x1 x2 x3 x4 (ix5 r b J h d) = (slot x0 x1 x2 x3 x4 4 (R / 128) (C / 256) (C % 256 / 64)).dkC ⟨R % 128, Nat.mod_lt _ (by norm_num)⟩ ⟨C % 64, Nat.mod_lt _ (by norm_num)⟩ := by
  rw [show J = ⟨128 + (⟨R % 128, Nat.mod_lt _ (by norm_num)⟩ : Fin 128), by dsimp only; omega⟩ from Fin.ext hJ]
  refine (dkC_at x0 x1 x2 x3 x4 r b h hR ⟨R % 128, Nat.mod_lt _ (by norm_num)⟩ d).trans ?_
  refine (congrFun (congrFun (zslot_dkC x0 x1 x2 x3 x4 4 _ _ _) _) _).trans ?_
  exact slot_part Slot.dkC hb hr hh rfl (Fin.ext hd)

theorem dkP_spot {R C : ℕ} {r b h : Fin 4} {J : Fin 256} {d : Fin 64} (hR : (zslot x0 x1 x2 x3 x4 4 b r h).IsReal) (hb : b.val = R / 128 + 1) (hr : r.val = C / 256) (hh : h.val = C % 256 / 64) (hJ : J.val = R % 128)
    (hd : d.val = C % 64) : val_main_v149 (F := Ideal) x0 x1 x2 x3 x4 (ix5 r b J h d) = (slot x0 x1 x2 x3 x4 4 (R / 128 + 1) (C / 256) (C % 256 / 64)).dkP ⟨R % 128, Nat.mod_lt _ (by norm_num)⟩ ⟨C % 64, Nat.mod_lt _ (by norm_num)⟩ := by
  rw [show J = ⟨(⟨R % 128, Nat.mod_lt _ (by norm_num)⟩ : Fin 128), by dsimp only; omega⟩ from Fin.ext hJ]
  refine (dkP_at x0 x1 x2 x3 x4 r b h hR ⟨R % 128, Nat.mod_lt _ (by norm_num)⟩ d).trans ?_
  refine (congrArg (fun S : Slot => S.dkP ⟨R % 128, Nat.mod_lt _ (by norm_num)⟩ d) (zslot_pos x0 x1 x2 x3 x4 4 _ _ _ (by omega))).trans ?_
  exact slot_part Slot.dkP hb hr hh rfl (Fin.ext hd)

theorem dvC_spot {R C : ℕ} {r b h : Fin 4} {J : Fin 256} {d : Fin 64} (hb : b.val = R / 128) (hr : r.val = C / 256) (hh : h.val = C % 256 / 64) (hJ : J.val = 128 + R % 128)
    (hd : d.val = C % 64) : val_main_v131 (F := Ideal) x0 x1 x3 (ix5 r b J h d) = (slot x0 x1 x2 x3 x4 4 (R / 128) (C / 256) (C % 256 / 64)).dvC ⟨R % 128, Nat.mod_lt _ (by norm_num)⟩ ⟨C % 64, Nat.mod_lt _ (by norm_num)⟩ := by
  rw [show J = ⟨128 + (⟨R % 128, Nat.mod_lt _ (by norm_num)⟩ : Fin 128), by dsimp only; omega⟩ from Fin.ext hJ]
  refine (dvC_at x0 x1 x2 x3 x4 r b h ⟨R % 128, Nat.mod_lt _ (by norm_num)⟩ d).trans ?_
  refine (congrFun (congrFun (zslot_dvC x0 x1 x2 x3 x4 4 _ _ _) _) _).trans ?_
  exact slot_part Slot.dvC hb hr hh rfl (Fin.ext hd)

theorem dvP_spot {R C : ℕ} {r b h : Fin 4} {J : Fin 256} {d : Fin 64} (hb : b.val = R / 128 + 1) (hr : r.val = C / 256) (hh : h.val = C % 256 / 64) (hJ : J.val = R % 128)
    (hd : d.val = C % 64) : val_main_v131 (F := Ideal) x0 x1 x3 (ix5 r b J h d) = (slot x0 x1 x2 x3 x4 4 (R / 128 + 1) (C / 256) (C % 256 / 64)).dvP ⟨R % 128, Nat.mod_lt _ (by norm_num)⟩ ⟨C % 64, Nat.mod_lt _ (by norm_num)⟩ := by
  rw [show J = ⟨(⟨R % 128, Nat.mod_lt _ (by norm_num)⟩ : Fin 128), by dsimp only; omega⟩ from Fin.ext hJ]
  refine (dvP_at x0 x1 x2 x3 x4 r b h ⟨R % 128, Nat.mod_lt _ (by norm_num)⟩ d).trans ?_
  refine (congrArg (fun S : Slot => S.dvP ⟨R % 128, Nat.mod_lt _ (by norm_num)⟩ d) (zslot_pos x0 x1 x2 x3 x4 4 _ _ _ (by omega))).trans ?_
  exact slot_part Slot.dvP hb hr hh rfl (Fin.ext hd)

/-! ### The results -/

theorem dq_out (h0 : RealArr x0) (h1 : RealArr x1) (h2 : RealArr x2) (h3 : RealArr x3) (h4 : RealArr x4) (R : Fin 512) (C : Fin 1024) :
    val_main_v181 (F := Ideal) x0 x1 x2 x3 x4 (ix2 R C) = dqAt x0 x1 x2 x3 x4 4 R C := by
  pointwise [val_main_v181, val_main_v180, val_main_v177, val_main_v176, val_main_v175, val_main_v168]
  refine (dq_at x0 x1 x2 x3 x4 _ _ _ (zslot_isReal h0 h1 h2 h3 h4 ..) _ _).trans ?_
  refine (congrFun (congrFun (zslot_dq x0 x1 x2 x3 x4 4 _ _ _) _) _).trans ?_
  unfold dqAt
  exact slot_part Slot.dq (by (try dsimp only) <;> omega) (by (try dsimp only) <;> omega) (by (try dsimp only) <;> omega) (Fin.ext (by (try dsimp only) <;> omega)) (Fin.ext (by (try dsimp only) <;> omega))

theorem dk_out (h0 : RealArr x0) (h1 : RealArr x1) (h2 : RealArr x2) (h3 : RealArr x3) (h4 : RealArr x4) (R : Fin 512) (C : Fin 1024) :
    val_main_v182 (F := Ideal) x0 x1 x2 x3 x4 (ix2 R C) = dkAt x0 x1 x2 x3 x4 4 R C := by
  pointwise [val_main_v182, val_main_v179, val_main_v174, val_main_v173, val_main_v172, val_main_v167, val_main_v165, val_main_v164, val_main_v163, val_main_v162, val_main_v161, val_main_v160, val_main_cst_23, val_main_cst_24]
  unfold dkAt
  refine congrArg₂ (fun a b : EReal => a + b) ?_ ?_
  · rw [dif_pos (by omega)]
    exact dkC_spot x0 x1 x2 x3 x4 (zslot_isReal h0 h1 h2 h3 h4 ..) (by (try dsimp only) <;> omega) (by (try dsimp only) <;> omega) (by (try dsimp only) <;> omega) (by (try dsimp only) <;> omega) (by (try dsimp only) <;> omega)
  · by_cases hb : (R.val / 128 + 1) * 4 < 16
    · rewrite [dif_pos (by omega)]
      refine Eq.trans ?_ (if_pos hb).symm
      exact dkP_spot x0 x1 x2 x3 x4 (zslot_isReal h0 h1 h2 h3 h4 ..) (by (try dsimp only) <;> omega) (by (try dsimp only) <;> omega) (by (try dsimp only) <;> omega) (by (try dsimp only) <;> omega) (by (try dsimp only) <;> omega)
    · rw [dif_neg (by omega), if_neg hb]

theorem dv_out (R : Fin 512) (C : Fin 1024) :
    val_main_v183 (F := Ideal) x0 x1 x3 (ix2 R C) = dvAt x0 x1 x2 x3 x4 4 R C := by
  pointwise [val_main_v183, val_main_v178, val_main_v171, val_main_v170, val_main_v169, val_main_v159, val_main_v157, val_main_v156, val_main_v155, val_main_v154, val_main_v153, val_main_v152, val_main_cst_21, val_main_cst_22]
  unfold dvAt
  refine congrArg₂ (fun a b : EReal => a + b) ?_ ?_
  · rw [dif_pos (by omega)]
    exact dvC_spot x0 x1 x2 x3 x4 (by (try dsimp only) <;> omega) (by (try dsimp only) <;> omega) (by (try dsimp only) <;> omega) (by (try dsimp only) <;> omega) (by (try dsimp only) <;> omega)
  · by_cases hb : (R.val / 128 + 1) * 4 < 16
    · rewrite [dif_pos (by omega)]
      refine Eq.trans ?_ (if_pos hb).symm
      exact dvP_spot x0 x1 x2 x3 x4 (by (try dsimp only) <;> omega) (by (try dsimp only) <;> omega) (by (try dsimp only) <;> omega) (by (try dsimp only) <;> omega) (by (try dsimp only) <;> omega)
    · rw [dif_neg (by omega), if_neg hb]

end Cert.Attn.R4

end
-- ==== Proof.Alg4.lean ====
/- Dilation 4: the kernel's three gradients are the reference's. -/
module

public import proofs.«01_k».proof.Proof.Finite
public import proofs.«01_k».proof.Proof.KerOut4
public import proofs.«01_k».proof.Proof.RefOut4
public import proofs.«01_k».proof.Defs

@[expose] public section

noncomputable section

namespace Cert.Attn

open Idealize.ShloMosaic Idealize.ShloMosaic.StableHlo Idealize.SL.Sem

theorem algebraic4 : Cert.algebraic_Kernel4Ideal_Reference4Ideal_pre_finite := by
  intro m g m' g' hpre hargs
  refine ⟨fun c => (Cert.Kernel4Ideal.Gen.dats m 0 c).arrAt 7 Cert.Kernel4Ideal.cfg0.N,
    fun c => (Cert.Kernel4Ideal.Gen.dats m 0 c).arrAt 8 Cert.Kernel4Ideal.cfg0.N,
    fun c => (Cert.Kernel4Ideal.Gen.dats m 0 c).arrAt 9 Cert.Kernel4Ideal.cfg0.N,
    Cert.Kernel4Ideal.Value.run_blocks m g, ?_⟩
  refine (θ_run _ _ _).mono (fun r h c => ?_) (Cert.Reference4Ideal.Value.run m' g')
  obtain ⟨h0, h1, h2, hk⟩ := h c
  obtain ⟨e0, e1, e2, e3, e4⟩ := hargs c
  obtain ⟨f0, f1, f2, f3, f4⟩ := real_args _ _ _ _ _ (hpre c)
  refine ⟨h0.trans ?_, h1.trans ?_, h2.trans ?_, hk⟩
  · refine (Cert.Reference4Ideal.Read.val_main_v181_eq (launchContents m' c)).trans ?_
    refine Eq.trans ?_ (K4.dq_array m c).symm
    rw [launchContents_devRef, launchContents_devRef, launchContents_devRef, launchContents_devRef, launchContents_devRef, e0, e1, e2, e3, e4]
    funext j
    rw [eq_ix2 j]
    exact R4.dq_out _ _ _ _ _ f0 f1 f2 f3 f4 _ _
  · refine (Cert.Reference4Ideal.Read.val_main_v182_eq (launchContents m' c)).trans ?_
    refine Eq.trans ?_ (K4.dk_array m c).symm
    rw [launchContents_devRef, launchContents_devRef, launchContents_devRef, launchContents_devRef, launchContents_devRef, e0, e1, e2, e3, e4]
    funext j
    rw [eq_ix2 j]
    exact R4.dk_out _ _ _ _ _ f0 f1 f2 f3 f4 _ _
  · refine (Cert.Reference4Ideal.Read.val_main_v183_eq (launchContents m' c)).trans ?_
    refine Eq.trans ?_ (K4.dv_array m c).symm
    rw [launchContents_devRef, launchContents_devRef, launchContents_devRef, e0, e1, e3]
    funext j
    rw [eq_ix2 j]
    exact R4.dv_out _ _ _ _ _ _ _

end Cert.Attn

end
-- ==== Proof.KerTiles16.lean ====
/- The kernel of dilation 16, batch entry by batch entry: what each of its values is of the slots. -/
module

public import proofs.«01_k».proof.Proof.Lane
public import proofs.«01_k».proof.Proof.Words
public import Idealize.ShloMosaic.Lib.Pipeline.ValueKit
public import proofs.«01_k».proof.Proof.Gen.Kernel16Ideal.Skeleton

@[expose] public section

set_option maxRecDepth 16384

noncomputable section

namespace Cert.Attn.K16

open Idealize.ShloMosaic Idealize.ShloMosaic.TcCoe Idealize.SL.Sem
open Cert.Kernel16Ideal Cert.Kernel16Ideal.Gen

theorem mask_bot : Named.named (F := Ideal) κ "mask" (φ := .f32) 0xF149F2CA#32 = (⊥ : EReal) :=
  IdealRules.named_const.ideal_named_scalar _ _ _ _ rfl

-- Sixteen slots, one per batch entry.
variable (S : Fin 16 → Slot)

section
variable {S} {v8 : IVec S16x1x1 1} {v43 v78 v113 v148 v183 v267 v315 v321 v229 : FVec Ideal S16x128x64 .f32} {v268 : Vec Ideal S128x1024 .f32}
  {v206 v214 v217 v318 v320 : FVec Ideal S16x128x128 .f32} {v211 v222 v232 v313 : FVec Ideal S16x128x1 .f32}
  (h8 : ∀ z, v8 (ix3 z 0 0) = BitVec.ofBool (S z).prev)
  (h43 : ∀ z i d, v43 (ix3 z i d) = (S z).q i d)
  (h78 : ∀ z i d, v78 (ix3 z i d) = (S z).kp i d)
  (h113 : ∀ z i d, v113 (ix3 z i d) = (S z).kc i d)
  (h148 : ∀ z i d, v148 (ix3 z i d) = (S z).vp i d)
  (h183 : ∀ z i d, v183 (ix3 z i d) = (S z).vc i d)
  (h267 : ∀ z i d, v267 (ix3 z i d) = (S z).dy i d)
  (h268 : ∀ (z : Fin 16) (i : Fin 128) (d : Fin 64), v268 (ix2 i (⟨64 * z + d, lane_lt z d⟩ : Fin 1024)) = (S z).dl i d)
  (h206 : ∀ z i j, v206 (ix3 z i j) = (S z).sP i j)
  (h211 : ∀ z i, v211 (ix3 z i 0) = (S z).mx i)
  (h214 : ∀ z i j, v214 (ix3 z i j) = (S z).eC i j)
  (h217 : ∀ z i j, v217 (ix3 z i j) = (S z).eP i j)
  (h222 : ∀ z i, v222 (ix3 z i 0) = (S z).den i)
  (h229 : ∀ z i d, v229 (ix3 z i d) = (S z).num i d)
  (h232 : ∀ z i, v232 (ix3 z i 0) = Ideal.div 1 ((S z).den i * (S z).den i))
  (h313 : ∀ z i, v313 (ix3 z i 0) = (S z).dden i)
  (h315 : ∀ z i d, v315 (ix3 z i d) = (S z).dnum i d)
  (h318 : ∀ z i j, v318 (ix3 z i j) = ∑ d, (S z).dnum i d * (S z).vp j d)
  (z : Fin 16) (i j : Fin 128) (d : Fin 64)

include h43 h113 in
theorem sC_at : k0_pay45 v43 v113 (ix3 z i j) = (S z).sC i j := by
  pointwise [k0_pay45, k0_pay44]
  rw [select_ge]
  simp only [h43, h113, mask_bot]
  rfl

include h8 h43 h78 in
theorem sP_at : k0_pay47 v8 v43 v78 (ix3 z i j) = (S z).sP i j := by
  pointwise [k0_pay47, k0_pay46]
  rw [h8, select_le_and]
  simp only [h43, h78, mask_bot]
  rfl

include h8 h43 h78 h113 in
theorem mx_at : k0_pay48 v8 v43 v78 v113 (ix3 z i 0) = (S z).mx i := by
  pointwise [k0_pay48]
  rw [negInf_eq]
  simp only [sC_at h43 h113, sP_at h8 h43 h78]
  rfl

include h8 h43 h78 h113 in
theorem eC_at : k0_pay49 v8 v43 v78 v113 (ix3 z i j) = (S z).eC i j := by
  pointwise [k0_pay49]
  simp only [sC_at h43 h113, mx_at h8 h43 h78 h113]
  rfl

include h206 h211 in
theorem eP_at : k0_pay50 v206 v211 (ix3 z i j) = (S z).eP i j := by
  pointwise [k0_pay50]
  simp only [h206, h211]
  rfl

include h206 h211 h214 in
theorem den_at : k0_pay51 v206 v211 v214 (ix3 z i 0) = (S z).den i := by
  pointwise [k0_pay51]
  simp only [h214, eP_at h206 h211]
  rfl

include h206 h211 h214 h148 h183 in
theorem num_at : k0_pay52 v148 v183 v206 v211 v214 (ix3 z i d) = (S z).num i d := by
  pointwise [k0_pay52]
  simp only [h214, eP_at h206 h211, h148, h183]
  rfl

include h206 h211 h214 in
theorem inv_at : k0_pay53 v206 v211 v214 (ix3 z i 0) = Ideal.div 1 ((S z).den i * (S z).den i) := by
  pointwise [k0_pay53]
  simp only [den_at h206 h211 h214]

include h222 h229 h232 h267 h268 in
theorem dden_at : k0_pay55 v222 v229 v232 v267 v268 (ix3 z i 0) = (S z).dden i := by
  pointwise [k0_pay55]
  simp only [h222, h229, h232, h267]
  rw [zero_sub]
  refine congrArg (fun x => Ideal.div x ((S z).den i) + -(∑ d, (S z).dy i d * Ideal.div 1 ((S z).den i * (S z).den i) * (S z).num i d))
    (Finset.sum_congr rfl fun d _ => ?_)
  rw [← h268 z i d]
  blk_point []

include h222 h267 in
theorem dnum_at : k0_pay56 v222 v267 (ix3 z i d) = (S z).dnum i d := by
  pointwise [k0_pay56]
  simp only [h222, h267]
  rfl

include h222 h267 h148 in
theorem aP_at : k0_pay57 v148 v222 v267 (ix3 z i j) = ∑ d, (S z).dnum i d * (S z).vp j d := by
  pointwise [k0_pay57]
  simp only [dnum_at h267 h222, h148]

include h222 h267 h217 in
theorem dvP_at : k0_pay60 (k0_pay58 v217) (k0_pay59 v222 v267) (ix3 z j d) = (S z).dvP j d := by
  pointwise [k0_pay60, k0_pay58, k0_pay59]
  simp only [dnum_at h267 h222, h217]
  rfl

include h214 h315 in
theorem dvC_at : k0_pay61 v214 v315 (ix3 z j d) = (S z).dvC j d := by
  pointwise [k0_pay61]
  simp only [h214, h315]
  rfl

include h8 h217 h313 h318 in
theorem dsP_at : k0_pay62 (k0_pay46 v8) v217 v313 v318 (ix3 z i j) = (S z).dsP i j := by
  pointwise [k0_pay62, k0_pay46]
  rw [h8, select_le_and]
  simp only [h217, h313, h318, Fin.sum_univ_one]
  show _ = (if i ≤ j ∧ (S z).prev = true then _ else 0) * eighth
  rw [ite_mul, zero_mul]
  rfl

include h8 h217 h313 h318 h43 in
theorem dkP_at : k0_pay63 v43 (k0_pay46 v8) v217 v313 v318 (ix3 z j d) = (S z).dkP j d := by
  pointwise [k0_pay63]
  simp only [dsP_at h8 h217 h313 h318, h43]
  rfl

include h183 h214 h313 h315 in
theorem dsC_at : k0_pay64 v183 k0_pay44 v214 v313 v315 (ix3 z i j) = (S z).dsC i j := by
  pointwise [k0_pay64, k0_pay44]
  rw [select_ge]
  simp only [h183, h214, h313, h315, Fin.sum_univ_one]
  show _ = (if j ≤ i then _ else 0) * eighth
  rw [ite_mul, zero_mul]
  rfl

include h183 h214 h313 h315 h43 in
theorem dkC_at : k0_pay65 v43 v183 k0_pay44 v214 v313 v315 (ix3 z j d) = (S z).dkC j d := by
  pointwise [k0_pay65]
  simp only [dsC_at h183 h214 h313 h315, h43]
  rfl

include h8 h78 h113 h183 h214 h217 h313 h315 h318 in
theorem dq_at : k0_pay66 v78 v113 v183 k0_pay44 (k0_pay46 v8) v214 v217 v313 v315 v318 (ix3 z i d) = (S z).dq i d := by
  pointwise [k0_pay66]
  simp only [dsP_at h8 h217 h313 h318, dsC_at h183 h214 h313 h315, h78, h113]
  rfl

end

/-! ### From the block to the batch and back -/

section
variable (x : Vec Ideal S128x1024 .f32) (z : Fin 16) (i : Fin 128) (d : Fin 64)

theorem stack5 : k0_pay5 x (ix3 z i d) = x (ix2 i (⟨64 * z + d, lane_lt z d⟩ : Fin 1024)) := by
  pointwise [k0_pay5]; blk_point []

theorem stack10 : k0_pay10 (k0_pay6 x) (k0_pay7 x) (k0_pay8 x) (k0_pay9 x) (ix3 z i d) = x (ix2 i (⟨64 * z + d, lane_lt z d⟩ : Fin 1024)) := by
  pointwise [k0_pay10, k0_pay9, k0_pay8, k0_pay7, k0_pay6]; blk_point []

theorem stack28 : k0_pay28 (k0_pay12 x) (k0_pay13 x) (k0_pay14 x) (k0_pay15 x) (k0_pay16 x) (k0_pay17 x) (k0_pay18 x) (k0_pay19 x)
    (k0_pay20 x) (k0_pay21 x) (k0_pay22 x) (k0_pay23 x) (k0_pay24 x) (k0_pay25 x) (k0_pay26 x) (k0_pay27 x) (ix3 z i d)
    = x (ix2 i (⟨64 * z + d, lane_lt z d⟩ : Fin 1024)) := by
  pointwise [k0_pay28, k0_pay12, k0_pay13, k0_pay14, k0_pay15, k0_pay16, k0_pay17, k0_pay18, k0_pay19, k0_pay20, k0_pay21, k0_pay22, k0_pay23,
    k0_pay24, k0_pay25, k0_pay26, k0_pay27, k0_pay11]; blk_point []

theorem stack29 : k0_pay29 x (ix3 z i d) = x (ix2 i (⟨64 * z + d, lane_lt z d⟩ : Fin 1024)) := by
  pointwise [k0_pay29]; blk_point []

theorem stack43 : k0_pay43 (k0_pay30 x) (k0_pay31 x) (k0_pay32 x) (k0_pay33 x) (k0_pay34 x) (k0_pay35 x) (k0_pay36 x) (k0_pay37 x)
    (k0_pay38 x) (k0_pay39 x) (k0_pay40 x) (k0_pay41 x) (k0_pay42 x) (ix3 z i d)
    = x (ix2 i (⟨64 * z + d, lane_lt z d⟩ : Fin 1024)) := by
  pointwise [k0_pay43, k0_pay30, k0_pay31, k0_pay32, k0_pay33, k0_pay34, k0_pay35, k0_pay36, k0_pay37, k0_pay38, k0_pay39, k0_pay40, k0_pay41,
    k0_pay42]; blk_point []

theorem stack54 : k0_pay54 x (ix3 z i d) = x (ix2 i (⟨64 * z + d, lane_lt z d⟩ : Fin 1024)) := by
  pointwise [k0_pay54]; blk_point []

end

end Cert.Attn.K16

end
-- ==== Proof.KerRows16.lean ====
/- The kernel of dilation 16, batch entry by batch entry: how a batch is laid out as a block again. -/
module

public import proofs.«01_k».proof.Proof.Lane
public import proofs.«01_k».proof.Proof.Slot
public import Idealize.ShloMosaic.Lib.Pipeline.ValueKit
public import proofs.«01_k».proof.Proof.Gen.Kernel16Ideal.Skeleton

@[expose] public section

set_option maxRecDepth 16384

noncomputable section

namespace Cert.Attn.K16

open Idealize.ShloMosaic Idealize.ShloMosaic.TcCoe Idealize.SL.Sem
open Cert.Kernel16Ideal Cert.Kernel16Ideal.Gen

section
variable (z : Fin 16) (i : Fin 128) (d : Fin 64)
variable (v : FVec Ideal S16x128x64 .f32)

/-- Sixteen pieces side by side, read at a lane of one of them. -/
theorem side_by_side (f : Fin 16 → FVec Ideal S128x64 .f32) :
    concatenate S128x1024 1 [⟨S128x64, f 0⟩, ⟨S128x64, f 1⟩, ⟨S128x64, f 2⟩, ⟨S128x64, f 3⟩, ⟨S128x64, f 4⟩, ⟨S128x64, f 5⟩, ⟨S128x64, f 6⟩, ⟨S128x64, f 7⟩, ⟨S128x64, f 8⟩, ⟨S128x64, f 9⟩, ⟨S128x64, f 10⟩, ⟨S128x64, f 11⟩, ⟨S128x64, f 12⟩, ⟨S128x64, f 13⟩, ⟨S128x64, f 14⟩, ⟨S128x64, f 15⟩] concatenates_S128x64_S128x64_S128x64_S128x64_S128x64_S128x64_S128x64_S128x64_S128x64_S128x64_S128x64_S128x64_S128x64_S128x64_S128x64_S128x64_S128x1024_d1 (ix2 i (⟨64 * z + d, lane_lt z d⟩ : Fin 1024)) = f z (ix2 i d) :=
  concatenate_ofFn_apply (t := S128x1024) (s₁ := S128x64) 1 f concatenates_S128x64_S128x64_S128x64_S128x64_S128x64_S128x64_S128x64_S128x64_S128x64_S128x64_S128x64_S128x64_S128x64_S128x64_S128x64_S128x64_S128x1024_d1 rfl 64 rfl _ z (by show (64 * z.val + d.val) / 64 = z.val; omega) _
    (by show d.val = (64 * z.val + d.val) % 64; omega)
    (fun b hb => by
      match b with
      | ⟨0, _⟩ => rfl
      | ⟨1, _⟩ => exact absurd rfl hb)

/-- The pieces a batch is cut into. -/
def pieces : Fin 16 → FVec Ideal S128x64 .f32 :=
  ![shapeCast S128x64 (extractStridedSlice S1x128x64 ![0, 0, 0] v slices_S16x128x64_o0_0_0_S1x128x64) shapeCasts_S1x128x64_S128x64, shapeCast S128x64 (extractStridedSlice S1x128x64 ![1, 0, 0] v slices_S16x128x64_o1_0_0_S1x128x64) shapeCasts_S1x128x64_S128x64, shapeCast S128x64 (extractStridedSlice S1x128x64 ![2, 0, 0] v slices_S16x128x64_o2_0_0_S1x128x64) shapeCasts_S1x128x64_S128x64, shapeCast S128x64 (extractStridedSlice S1x128x64 ![3, 0, 0] v slices_S16x128x64_o3_0_0_S1x128x64) shapeCasts_S1x128x64_S128x64, shapeCast S128x64 (extractStridedSlice S1x128x64 ![4, 0, 0] v slices_S16x128x64_o4_0_0_S1x128x64) shapeCasts_S1x128x64_S128x64, shapeCast S128x64 (extractStridedSlice S1x128x64 ![5, 0, 0] v slices_S16x128x64_o5_0_0_S1x128x64) shapeCasts_S1x128x64_S128x64, shapeCast S128x64 (extractStridedSlice S1x128x64 ![6, 0, 0] v slices_S16x128x64_o6_0_0_S1x128x64) shapeCasts_S1x128x64_S128x64, shapeCast S128x64 (extractStridedSlice S1x128x64 ![7, 0, 0] v slices_S16x128x64_o7_0_0_S1x128x64) shapeCasts_S1x128x64_S128x64, shapeCast S128x64 (extractStridedSlice S1x128x64 ![8, 0, 0] v slices_S16x128x64_o8_0_0_S1x128x64) shapeCasts_S1x128x64_S128x64, shapeCast S128x64 (extractStridedSlice S1x128x64 ![9, 0, 0] v slices_S16x128x64_o9_0_0_S1x128x64) shapeCasts_S1x128x64_S128x64, shapeCast S128x64 (extractStridedSlice S1x128x64 ![10, 0, 0] v slices_S16x128x64_o10_0_0_S1x128x64) shapeCasts_S1x128x64_S128x64, shapeCast S128x64 (extractStridedSlice S1x128x64 ![11, 0, 0] v slices_S16x128x64_o11_0_0_S1x128x64) shapeCasts_S1x128x64_S128x64, shapeCast S128x64 (extractStridedSlice S1x128x64 ![12, 0, 0] v slices_S16x128x64_o12_0_0_S1x128x64) shapeCasts_S1x128x64_S128x64, shapeCast S128x64 (extractStridedSlice S1x128x64 ![13, 0, 0] v slices_S16x128x64_o13_0_0_S1x128x64) shapeCasts_S1x128x64_S128x64, shapeCast S128x64 (extractStridedSlice S1x128x64 ![14, 0, 0] v slices_S16x128x64_o14_0_0_S1x128x64) shapeCasts_S1x128x64_S128x64, shapeCast S128x64 (extractStridedSlice S1x128x64 ![15, 0, 0] v slices_S16x128x64_o15_0_0_S1x128x64) shapeCasts_S1x128x64_S128x64]

theorem cut_at (k : ℕ) (h : S16x128x64.Slices ![k, 0, 0] S1x128x64) (hk : k < 16) :
    shapeCast S128x64 (extractStridedSlice S1x128x64 ![k, 0, 0] v h) shapeCasts_S1x128x64_S128x64 (ix2 i d) = v (ix3 ⟨k, hk⟩ i d) := by
  pointwise []

theorem pieces_at : pieces v z (ix2 i d) = v (ix3 z i d) := by
  match z with
  | ⟨0, _⟩ => exact cut_at i d v 0 slices_S16x128x64_o0_0_0_S1x128x64 _
  | ⟨1, _⟩ => exact cut_at i d v 1 slices_S16x128x64_o1_0_0_S1x128x64 _
  | ⟨2, _⟩ => exact cut_at i d v 2 slices_S16x128x64_o2_0_0_S1x128x64 _
  | ⟨3, _⟩ => exact cut_at i d v 3 slices_S16x128x64_o3_0_0_S1x128x64 _
  | ⟨4, _⟩ => exact cut_at i d v 4 slices_S16x128x64_o4_0_0_S1x128x64 _
  | ⟨5, _⟩ => exact cut_at i d v 5 slices_S16x128x64_o5_0_0_S1x128x64 _
  | ⟨6, _⟩ => exact cut_at i d v 6 slices_S16x128x64_o6_0_0_S1x128x64 _
  | ⟨7, _⟩ => exact cut_at i d v 7 slices_S16x128x64_o7_0_0_S1x128x64 _
  | ⟨8, _⟩ => exact cut_at i d v 8 slices_S16x128x64_o8_0_0_S1x128x64 _
  | ⟨9, _⟩ => exact cut_at i d v 9 slices_S16x128x64_o9_0_0_S1x128x64 _
  | ⟨10, _⟩ => exact cut_at i d v 10 slices_S16x128x64_o10_0_0_S1x128x64 _
  | ⟨11, _⟩ => exact cut_at i d v 11 slices_S16x128x64_o11_0_0_S1x128x64 _
  | ⟨12, _⟩ => exact cut_at i d v 12 slices_S16x128x64_o12_0_0_S1x128x64 _
  | ⟨13, _⟩ => exact cut_at i d v 13 slices_S16x128x64_o13_0_0_S1x128x64 _
  | ⟨14, _⟩ => exact cut_at i d v 14 slices_S16x128x64_o14_0_0_S1x128x64 _
  | ⟨15, _⟩ => exact cut_at i d v 15 slices_S16x128x64_o15_0_0_S1x128x64 _
  | ⟨n + 16, hn⟩ => exact absurd hn (by omega)

theorem rows84 (a : Vec Ideal S128x1024 .f32) : k0_pay84 v a (k0_pay71 v) (k0_pay72 v) (k0_pay73 v) (k0_pay74 v) (k0_pay75 v) (k0_pay76 v) (k0_pay77 v)
    (k0_pay78 v) (k0_pay79 v) (k0_pay80 v) (k0_pay81 v) (k0_pay82 v) (k0_pay83 v) (ix2 i (⟨64 * z + d, lane_lt z d⟩ : Fin 1024))
    = v (ix3 z i d) + a (ix2 i (⟨64 * z + d, lane_lt z d⟩ : Fin 1024)) := by
  rw [← pieces_at z i d v]
  exact congrArg (· + a _) (side_by_side z i d (pieces v))

theorem rows85 : k0_pay85 v (ix2 i (⟨64 * z + d, lane_lt z d⟩ : Fin 1024)) = v (ix3 z i d) := by
  rw [← pieces_at z i d v]
  unfold k0_pay85
  rw [shapeCast_self]
  exact side_by_side z i d (pieces v)

theorem rows70 (v364 v366 v368 : FVec Ideal S128x64 .f32) (h0 : v364 = pieces v 0) (h1 : v366 = pieces v 1) (h2 : v368 = pieces v 2) :
    k0_pay70 v v364 v366 v368 (ix2 i (⟨64 * z + d, lane_lt z d⟩ : Fin 1024)) = v (ix3 z i d) := by
  rw [← pieces_at z i d v, h0, h1, h2]
  exact side_by_side z i d (pieces v)

theorem rows89 (a : Vec Ideal S128x1024 .f32) : k0_pay89 v a (k0_pay86 v) (k0_pay87 v) (k0_pay88 v) (ix2 i (⟨64 * z + d, lane_lt z d⟩ : Fin 1024))
    = v (ix3 z i d) + a (ix2 i (⟨64 * z + d, lane_lt z d⟩ : Fin 1024)) := by
  rw [← pieces_at z i d v]
  exact congrArg (· + a _) (side_by_side z i d (pieces v))

theorem rows1 : k0_pay1 v (k0_pay90 v) (k0_pay91 v) (k0_pay92 v) (k0_pay93 v) (k0_pay94 v) (k0_pay95 v) (k0_pay96 v) (k0_pay97 v)
    (k0_pay98 v) (k0_pay99 v) (k0_pay100 v) (k0_pay101 v) (k0_pay102 v) (k0_pay103 v) (ix2 i (⟨64 * z + d, lane_lt z d⟩ : Fin 1024)) = v (ix3 z i d) := by
  rw [← pieces_at z i d v]
  unfold k0_pay1
  rw [shapeCast_self]
  exact side_by_side z i d (pieces v)

end

theorem zeros2 (i : Fin 128) (c : Fin 1024) : (k0_pay2 : FVec Ideal S128x1024 .f32) (ix2 i c) = 0 := by
  pointwise [k0_pay2]

theorem zeros3 (i : Fin 128) (c : Fin 1024) : (k0_pay3 : FVec Ideal S128x1024 .f32) (ix2 i c) = 0 := by
  pointwise [k0_pay3]

/-- There is one step for every residue, and no block before its block. -/
theorem before_at (g : grid0.Coords) (z : Fin 16) : k0_pay4 g (ix3 z 0 0) = BitVec.ofBool false := by
  pointwise [k0_pay4]
  have hg : (g 1).val < 1 := (g 1).isLt
  generalize (g 1).val = n at hg ⊢
  fin_vals z with hz <;> interval_cases n <;> simp only [hz] <;> decide

end Cert.Attn.K16

end
-- ==== Proof.KerBlock16.lean ====
/- The kernel of dilation 16: what one step computes of the blocks it is handed. -/
module

public import proofs.«01_k».proof.Proof.KerTiles16
public import proofs.«01_k».proof.Proof.KerRows16

@[expose] public section

set_option maxRecDepth 16384

noncomputable section

namespace Cert.Attn.K16

open Idealize.ShloMosaic Idealize.ShloMosaic.TcCoe Idealize.SL.Sem
open Cert.Kernel16Ideal Cert.Kernel16Ideal.Gen

variable (g : grid0.Coords) (x0 x1 x2 x3 x4 x5 x6 a : Vec Ideal S128x1024 .f32)

/-! ### The step's values, named -/

abbrev w43 := k0_pay5 x0
abbrev w78 := k0_pay10 (k0_pay6 x1) (k0_pay7 x1) (k0_pay8 x1) (k0_pay9 x1)
abbrev w113 := k0_pay28 (k0_pay12 x2) (k0_pay13 x2) (k0_pay14 x2) (k0_pay15 x2) (k0_pay16 x2) (k0_pay17 x2) (k0_pay18 x2) (k0_pay19 x2)
    (k0_pay20 x2) (k0_pay21 x2) (k0_pay22 x2) (k0_pay23 x2) (k0_pay24 x2) (k0_pay25 x2) (k0_pay26 x2) (k0_pay27 x2)
abbrev w148 := k0_pay29 x3
abbrev w183 := k0_pay43 (k0_pay30 x4) (k0_pay31 x4) (k0_pay32 x4) (k0_pay33 x4) (k0_pay34 x4) (k0_pay35 x4) (k0_pay36 x4) (k0_pay37 x4)
    (k0_pay38 x4) (k0_pay39 x4) (k0_pay40 x4) (k0_pay41 x4) (k0_pay42 x4)
abbrev w206 := k0_pay47 (k0_pay4 g) (w43 x0) (w78 x1)
abbrev w211 := k0_pay48 (k0_pay4 g) (w43 x0) (w78 x1) (w113 x2)
abbrev w214 := k0_pay49 (k0_pay4 g) (w43 x0) (w78 x1) (w113 x2)
abbrev w217 := k0_pay50 (w206 g x0 x1) (w211 g x0 x1 x2)
abbrev w222 := k0_pay51 (w206 g x0 x1) (w211 g x0 x1 x2) (w214 g x0 x1 x2)
abbrev w229 := k0_pay52 (w148 x3) (w183 x4) (w206 g x0 x1) (w211 g x0 x1 x2) (w214 g x0 x1 x2)
abbrev w232 := k0_pay53 (w206 g x0 x1) (w211 g x0 x1 x2) (w214 g x0 x1 x2)
abbrev w267 := k0_pay54 x5
abbrev w313 := k0_pay55 (w222 g x0 x1 x2) (w229 g x0 x1 x2 x3 x4) (w232 g x0 x1 x2) (w267 x5) x6
abbrev w315 := k0_pay56 (w222 g x0 x1 x2) (w267 x5)
abbrev w318 := k0_pay57 (w148 x3) (w222 g x0 x1 x2) (w267 x5)
abbrev w362 := k0_pay66 (w78 x1) (w113 x2) (w183 x4) k0_pay44 (k0_pay46 (k0_pay4 g)) (w214 g x0 x1 x2) (w217 g x0 x1 x2)
    (w313 g x0 x1 x2 x3 x4 x5 x6) (w315 g x0 x1 x2 x5) (w318 g x0 x1 x2 x3 x5)
abbrev w361 := k0_pay65 (w43 x0) (w183 x4) k0_pay44 (w214 g x0 x1 x2) (w313 g x0 x1 x2 x3 x4 x5 x6) (w315 g x0 x1 x2 x5)
abbrev w350 := k0_pay63 (w43 x0) (k0_pay46 (k0_pay4 g)) (w217 g x0 x1 x2) (w313 g x0 x1 x2 x3 x4 x5 x6) (w318 g x0 x1 x2 x3 x5)
abbrev w329 := k0_pay61 (w214 g x0 x1 x2) (w315 g x0 x1 x2 x5)
abbrev w322 := k0_pay60 (k0_pay58 (w217 g x0 x1 x2)) (k0_pay59 (w222 g x0 x1 x2) (w267 x5))

/-- The blocks of a step hold the tiles of sixteen slots side by side. -/
structure Holds (S : Fin 16 → Slot) : Prop where
  q : ∀ (z : Fin 16) (i : Fin 128) (d : Fin 64), x0 (ix2 i (⟨64 * z + d, lane_lt z d⟩ : Fin 1024)) = (S z).q i d
  kp : ∀ (z : Fin 16) (i : Fin 128) (d : Fin 64), x1 (ix2 i (⟨64 * z + d, lane_lt z d⟩ : Fin 1024)) = (S z).kp i d
  kc : ∀ (z : Fin 16) (i : Fin 128) (d : Fin 64), x2 (ix2 i (⟨64 * z + d, lane_lt z d⟩ : Fin 1024)) = (S z).kc i d
  vp : ∀ (z : Fin 16) (i : Fin 128) (d : Fin 64), x3 (ix2 i (⟨64 * z + d, lane_lt z d⟩ : Fin 1024)) = (S z).vp i d
  vc : ∀ (z : Fin 16) (i : Fin 128) (d : Fin 64), x4 (ix2 i (⟨64 * z + d, lane_lt z d⟩ : Fin 1024)) = (S z).vc i d
  dy : ∀ (z : Fin 16) (i : Fin 128) (d : Fin 64), x5 (ix2 i (⟨64 * z + d, lane_lt z d⟩ : Fin 1024)) = (S z).dy i d
  dl : ∀ (z : Fin 16) (i : Fin 128) (d : Fin 64), x6 (ix2 i (⟨64 * z + d, lane_lt z d⟩ : Fin 1024)) = (S z).dl i d
  prev : ∀ z : Fin 16, k0_pay4 g (ix3 z 0 0) = BitVec.ofBool (S z).prev

variable {g x0 x1 x2 x3 x4 x5 x6} {S : Fin 16 → Slot} (H : Holds g x0 x1 x2 x3 x4 x5 x6 S)
  (z : Fin 16) (i j : Fin 128) (d : Fin 64)

include H

theorem is43 : w43 x0 (ix3 z i d) = (S z).q i d := (stack5 x0 z i d).trans (H.q z i d)
theorem is78 : w78 x1 (ix3 z i d) = (S z).kp i d := (stack10 x1 z i d).trans (H.kp z i d)
theorem is113 : w113 x2 (ix3 z i d) = (S z).kc i d := (stack28 x2 z i d).trans (H.kc z i d)
theorem is148 : w148 x3 (ix3 z i d) = (S z).vp i d := (stack29 x3 z i d).trans (H.vp z i d)
theorem is183 : w183 x4 (ix3 z i d) = (S z).vc i d := (stack43 x4 z i d).trans (H.vc z i d)
theorem is267 : w267 x5 (ix3 z i d) = (S z).dy i d := (stack54 x5 z i d).trans (H.dy z i d)
theorem is206 : w206 g x0 x1 (ix3 z i j) = (S z).sP i j := sP_at H.prev (is43 H) (is78 H) z i j
theorem is211 : w211 g x0 x1 x2 (ix3 z i 0) = (S z).mx i := mx_at H.prev (is43 H) (is78 H) (is113 H) z i
theorem is214 : w214 g x0 x1 x2 (ix3 z i j) = (S z).eC i j := eC_at H.prev (is43 H) (is78 H) (is113 H) z i j
theorem is217 : w217 g x0 x1 x2 (ix3 z i j) = (S z).eP i j := eP_at (is206 H) (is211 H) z i j
theorem is222 : w222 g x0 x1 x2 (ix3 z i 0) = (S z).den i := den_at (is206 H) (is211 H) (is214 H) z i
theorem is229 : w229 g x0 x1 x2 x3 x4 (ix3 z i d) = (S z).num i d := num_at (is148 H) (is183 H) (is206 H) (is211 H) (is214 H) z i d
theorem is232 : w232 g x0 x1 x2 (ix3 z i 0) = Ideal.div 1 ((S z).den i * (S z).den i) := inv_at (is206 H) (is211 H) (is214 H) z i
theorem is313 : w313 g x0 x1 x2 x3 x4 x5 x6 (ix3 z i 0) = (S z).dden i := dden_at (is267 H) H.dl (is222 H) (is229 H) (is232 H) z i
theorem is315 : w315 g x0 x1 x2 x5 (ix3 z i d) = (S z).dnum i d := dnum_at (is267 H) (is222 H) z i d
theorem is318 : w318 g x0 x1 x2 x3 x5 (ix3 z i j) = ∑ d, (S z).dnum i d * (S z).vp j d := aP_at (is148 H) (is267 H) (is222 H) z i j

/-! ### What the step stores -/

theorem dq_step (v364 v366 v368 : FVec Ideal S128x64 .f32) (h0 : v364 = pieces (w362 g x0 x1 x2 x3 x4 x5 x6) 0)
    (h1 : v366 = pieces (w362 g x0 x1 x2 x3 x4 x5 x6) 1) (h2 : v368 = pieces (w362 g x0 x1 x2 x3 x4 x5 x6) 2) :
    k0_pay70 (w362 g x0 x1 x2 x3 x4 x5 x6) v364 v366 v368 (ix2 i (⟨64 * z + d, lane_lt z d⟩ : Fin 1024)) = (S z).dq i d :=
  (rows70 z i d _ _ _ _ h0 h1 h2).trans
    (dq_at H.prev (is78 H) (is113 H) (is183 H) (is214 H) (is217 H) (is313 H) (is315 H) (is318 H) z i d)

theorem dk_step : k0_pay84 (w361 g x0 x1 x2 x3 x4 x5 x6) a (k0_pay71 (w361 g x0 x1 x2 x3 x4 x5 x6)) (k0_pay72 (w361 g x0 x1 x2 x3 x4 x5 x6))
      (k0_pay73 (w361 g x0 x1 x2 x3 x4 x5 x6)) (k0_pay74 (w361 g x0 x1 x2 x3 x4 x5 x6)) (k0_pay75 (w361 g x0 x1 x2 x3 x4 x5 x6))
      (k0_pay76 (w361 g x0 x1 x2 x3 x4 x5 x6)) (k0_pay77 (w361 g x0 x1 x2 x3 x4 x5 x6)) (k0_pay78 (w361 g x0 x1 x2 x3 x4 x5 x6))
      (k0_pay79 (w361 g x0 x1 x2 x3 x4 x5 x6)) (k0_pay80 (w361 g x0 x1 x2 x3 x4 x5 x6)) (k0_pay81 (w361 g x0 x1 x2 x3 x4 x5 x6))
      (k0_pay82 (w361 g x0 x1 x2 x3 x4 x5 x6)) (k0_pay83 (w361 g x0 x1 x2 x3 x4 x5 x6)) (ix2 i (⟨64 * z + d, lane_lt z d⟩ : Fin 1024))
    = (S z).dkC i d + a (ix2 i (⟨64 * z + d, lane_lt z d⟩ : Fin 1024)) :=
  (rows84 z i d _ a).trans (congrArg (· + a _) (dkC_at (is43 H) (is183 H) (is214 H) (is313 H) (is315 H) z i d))

theorem dk_carry : k0_pay85 (w350 g x0 x1 x2 x3 x4 x5 x6) (ix2 i (⟨64 * z + d, lane_lt z d⟩ : Fin 1024)) = (S z).dkP i d :=
  (rows85 z i d _).trans (dkP_at H.prev (is43 H) (is217 H) (is313 H) (is318 H) z i d)

theorem dv_step : k0_pay89 (w329 g x0 x1 x2 x5) a (k0_pay86 (w329 g x0 x1 x2 x5)) (k0_pay87 (w329 g x0 x1 x2 x5)) (k0_pay88 (w329 g x0 x1 x2 x5))
      (ix2 i (⟨64 * z + d, lane_lt z d⟩ : Fin 1024))
    = (S z).dvC i d + a (ix2 i (⟨64 * z + d, lane_lt z d⟩ : Fin 1024)) :=
  (rows89 z i d _ a).trans (congrArg (· + a _) (dvC_at (is214 H) (is315 H) z i d))

theorem dv_carry : k0_pay1 (w322 g x0 x1 x2 x5) (k0_pay90 (w322 g x0 x1 x2 x5)) (k0_pay91 (w322 g x0 x1 x2 x5)) (k0_pay92 (w322 g x0 x1 x2 x5))
      (k0_pay93 (w322 g x0 x1 x2 x5)) (k0_pay94 (w322 g x0 x1 x2 x5)) (k0_pay95 (w322 g x0 x1 x2 x5)) (k0_pay96 (w322 g x0 x1 x2 x5))
      (k0_pay97 (w322 g x0 x1 x2 x5)) (k0_pay98 (w322 g x0 x1 x2 x5)) (k0_pay99 (w322 g x0 x1 x2 x5)) (k0_pay100 (w322 g x0 x1 x2 x5))
      (k0_pay101 (w322 g x0 x1 x2 x5)) (k0_pay102 (w322 g x0 x1 x2 x5)) (k0_pay103 (w322 g x0 x1 x2 x5))
      (ix2 i (⟨64 * z + d, lane_lt z d⟩ : Fin 1024)) = (S z).dvP i d :=
  (rows1 z i d _).trans (dvP_at (is267 H) (is217 H) (is222 H) z i d)

end Cert.Attn.K16

end
-- ==== Proof.KerOut16.lean ====
/- The kernel of dilation 16: the three arrays it leaves. -/
module

public import proofs.«01_k».proof.Proof.KerBlock16
public import proofs.«01_k».proof.Proof.Core
public import proofs.«01_k».proof.Proof.Gen.Kernel16Ideal.Value

@[expose] public section

set_option maxRecDepth 16384

noncomputable section

namespace Cert.Attn.K16

open Idealize.ShloMosaic Idealize.ShloMosaic.TcCoe Idealize.SL.Sem
open Cert.Kernel16Ideal Cert.Kernel16Ideal.Gen

variable (m : (ℓ : Loc nD τ sig) → Buf (Elt Ideal) ℓ) (c : Dev nD)

/-- Step `t` works on the columns of four residues. -/
theorem idx : ∀ t : Fin cfg0.N, win0_0.index t = ![0, t.val] ∧ win0_1.index t = ![0, t.val] ∧ win0_2.index t = ![0, t.val] ∧ win0_3.index t = ![0, t.val] ∧ win0_4.index t = ![0, t.val] ∧ win0_5.index t = ![0, t.val] ∧ win0_6.index t = ![0, t.val] ∧ win0_7.index t = ![0, t.val] ∧ win0_8.index t = ![0, t.val] ∧ win0_9.index t = ![0, t.val] :=
  (by decide +kernel : ∀ t : Fin grid0.N, _)

abbrev aQ : Arr := m ((c : Thread nD τ).loc main_arg0)
abbrev aK : Arr := m ((c : Thread nD τ).loc main_arg1)
abbrev aV : Arr := m ((c : Thread nD τ).loc main_arg2)
abbrev aDY : Arr := m ((c : Thread nD τ).loc main_arg3)
abbrev aDL : Arr := m ((c : Thread nD τ).loc main_arg4)

/-- The slots of four residues: every residue has four heads, and one block. -/
def slots (n : ℕ) (z : Fin 16) : Slot := slot (aQ m c) (aK m c) (aV m c) (aDY m c) (aDL m c) 16 0 (4 * n + z / 4) (z % 4)

theorem holds (t : Fin cfg0.N) : Holds (grid0.coords t) (iblk m c 0 t) (iblk m c 1 t) (iblk m c 2 t) (iblk m c 3 t) (iblk m c 4 t)
    (iblk m c 5 t) (iblk m c 6 t) (slots m c t) where
  q z i d := by simp only [slots, slot]; unfold tile; blk_point [iblk, V, idx t]
  kp z i d := by simp only [slots, slot]; unfold tile; blk_point [iblk, V, idx t]
  kc z i d := by simp only [slots, slot]; unfold tile; blk_point [iblk, V, idx t]
  vp z i d := by simp only [slots, slot]; unfold tile; blk_point [iblk, V, idx t]
  vc z i d := by simp only [slots, slot]; unfold tile; blk_point [iblk, V, idx t]
  dy z i d := by simp only [slots, slot]; unfold tile; blk_point [iblk, V, idx t]
  dl z i d := by simp only [slots, slot]; unfold tile; blk_point [iblk, V, idx t]
  prev z := before_at _ z

/-! ### What a step leaves -/

variable (t : Fin cfg0.N) (z : Fin 16) (i : Fin 128) (d : Fin 64)

theorem left_dq : (outsAt0 m c t).1 (ix2 i (⟨64 * z + d, lane_lt z d⟩ : Fin 1024)) = (slots m c t z).dq i d := by
  unfold outsAt0
  frame_out
  exact dq_step (holds m c t) z i d _ _ _ rfl rfl rfl

theorem left_dk : (outsAt0 m c t).2.1 (ix2 i (⟨64 * z + d, lane_lt z d⟩ : Fin 1024)) = (slots m c t z).dkC i d + 0 := by
  unfold outsAt0
  frame_out
  exact (dk_step _ (holds m c t) z i d).trans (congrArg ((slots m c t z).dkC i d + ·) (zeros2 i _))

theorem left_dv : (outsAt0 m c t).2.2 (ix2 i (⟨64 * z + d, lane_lt z d⟩ : Fin 1024)) = (slots m c t z).dvC i d + 0 := by
  unfold outsAt0
  frame_out
  exact (dv_step _ (holds m c t) z i d).trans (congrArg ((slots m c t z).dvC i d + ·) (zeros3 i _))

/-! ### The arrays -/

/-- A place of a block is a lane of one of its sixteen pieces. -/
theorem place (y : S128x1024.Idx) : ∃ (z : Fin 16) (i : Fin 128) (d : Fin 64), y = ix2 i (⟨64 * z + d, lane_lt z d⟩ : Fin 1024) := by
  have h0 : (y 0).val < 128 := (y 0).isLt
  have h1 : (y 1).val < 1024 := (y 1).isLt
  refine ⟨⟨(y 1).val / 64, by omega⟩, ⟨(y 0).val, h0⟩, ⟨(y 1).val % 64, by omega⟩, ?_⟩
  funext b
  match b with
  | ⟨0, _⟩ => rfl
  | ⟨1, _⟩ => exact Fin.ext (Nat.div_add_mod (y 1).val 64).symm

/-- The slot of a piece is the one the array's row and column name. -/
theorem at_row (f : Slot → Tile) {n R C : ℕ} (hR : R = i) (hC : C = n * 1024 + (64 * z + d)) :
    f (slots m c n z) i d = f (slot (aQ m c) (aK m c) (aV m c) (aDY m c) (aDL m c) 16 (R / 128) (C / 256) (C % 256 / 64))
      ⟨R % 128, Nat.mod_lt _ (by norm_num)⟩ ⟨C % 64, Nat.mod_lt _ (by norm_num)⟩ :=
  slot_part f (by omega) (by omega) (by omega) (Fin.ext (by show i.val = R % 128; omega)) (Fin.ext (by show d.val = C % 64; omega))

variable {R C : ℕ} (hR : R = i) (hC : C = t * 1024 + (64 * z + d))

include hR hC

theorem dk_spot : (slots m c t z).dkC i d + 0 = dkAt (aQ m c) (aK m c) (aV m c) (aDY m c) (aDL m c) 16 R C := by
  rw [dkAt, if_neg (by omega)]
  exact congrArg (· + 0) (at_row m c z i d Slot.dkC hR hC)

theorem dv_spot : (slots m c t z).dvC i d + 0 = dvAt (aQ m c) (aK m c) (aV m c) (aDY m c) (aDL m c) 16 R C := by
  rw [dvAt, if_neg (by omega)]
  exact congrArg (· + 0) (at_row m c z i d Slot.dvC hR hC)

omit hR hC

theorem dq_array : (dats m 0 c).arrAt 7 cfg0.N = fun j : S128x4096.Idx => dqAt (aQ m c) (aK m c) (aV m c) (aDY m c) (aDL m c) 16 (j 0) (j 1) := by
  refine (dats m 0 c).arrAt_eq_of_covers 7 _ (by decide +kernel) fun t hf y => ?_
  blk_simp
  rw [after0_7]
  obtain ⟨z, i, d, rfl⟩ := place y
  refine (left_dq m c t z i d).trans (at_row m c z i d Slot.dq ?_ ?_) <;> rw [(idx t).2.2.2.2.2.2.2.1]
  · exact Nat.zero_add _
  · rfl

theorem dk_array : (dats m 0 c).arrAt 8 cfg0.N = fun j : S128x4096.Idx => dkAt (aQ m c) (aK m c) (aV m c) (aDY m c) (aDL m c) 16 (j 0) (j 1) := by
  refine (dats m 0 c).arrAt_eq_of_covers 8 _ (by decide +kernel) fun t hf y => ?_
  blk_simp
  rw [after0_8]
  obtain ⟨z, i, d, rfl⟩ := place y
  refine (left_dk m c t z i d).trans (dk_spot m c t z i d ?_ ?_) <;> rw [(idx t).2.2.2.2.2.2.2.2.1]
  · exact Nat.zero_add _
  · rfl

theorem dv_array : (dats m 0 c).arrAt 9 cfg0.N = fun j : S128x4096.Idx => dvAt (aQ m c) (aK m c) (aV m c) (aDY m c) (aDL m c) 16 (j 0) (j 1) := by
  refine (dats m 0 c).arrAt_eq_of_covers 9 _ (by decide +kernel) fun t hf y => ?_
  blk_simp
  rw [after0_9]
  obtain ⟨z, i, d, rfl⟩ := place y
  refine (left_dv m c t z i d).trans (dv_spot m c t z i d ?_ ?_) <;> rw [(idx t).2.2.2.2.2.2.2.2.2]
  · exact Nat.zero_add _
  · rfl

end Cert.Attn.K16

end
-- ==== Proof.RefTiles16.lean ====
/- The reference of dilation 16, read tile by tile: its rearranged arguments, its window and its scores are the slots'. -/
module

public import proofs.«01_k».proof.Proof.Core
public import proofs.«01_k».proof.Proof.Gen.Reference16Ideal.Read

@[expose] public section

set_option maxRecDepth 16384

noncomputable section

namespace Cert.Attn.R16

open Idealize.ShloMosaic Idealize.ShloMosaic.TcCoe Idealize.SL.Sem
open Cert.Reference16Ideal Cert.Reference16Ideal.Gen Cert.Reference16Ideal.Read

variable (x0 x1 x2 x3 x4 : FVec Ideal S2048x256 .f32) (r : Fin 16) (h : Fin 4)

theorem q_at (i : Fin 128) (d : Fin 64) : val_main_v12 (F := Ideal) x0 (ix5 r 0 i h d) = (zslot x0 x1 x2 x3 x4 16 0 r h).q i d := by
  pointwise [val_main_v12, val_main_v5, val_main_v4, val_main_v3, val_main_v0]
  show _ = x0 (ix2 _ _)
  refine congrArg x0 ((ix2_inj ..).2 ⟨Fin.ext ?_, Fin.ext ?_⟩) <;> dsimp only <;> omega

theorem dy_at (i : Fin 128) (d : Fin 64) : val_main_v112 (F := Ideal) x3 (ix5 r 0 i h d) = (zslot x0 x1 x2 x3 x4 16 0 r h).dy i d := by
  pointwise [val_main_v112, val_main_v110, val_main_v109, val_main_v108, val_main_v100]
  show _ = x3 (ix2 _ _)
  refine congrArg x3 ((ix2_inj ..).2 ⟨Fin.ext ?_, Fin.ext ?_⟩) <;> dsimp only <;> omega

theorem kC_at (j : Fin 128) (d : Fin 64) :
    val_main_v19 (F := Ideal) x1 (ix5 r 0 (⟨128 + j, by omega⟩ : Fin 256) h d) = (zslot x0 x1 x2 x3 x4 16 0 r h).kc j d := by
  pointwise [val_main_v19, val_main_v18, val_main_v17, val_main_v16, val_main_v14, val_main_v8, val_main_v7, val_main_v6, val_main_v1]
  try rw [dif_neg (by omega)]
  show _ = x1 (ix2 _ _)
  refine congrArg x1 ((ix2_inj ..).2 ⟨Fin.ext ?_, Fin.ext ?_⟩) <;> dsimp only <;> omega

theorem vC_at (j : Fin 128) (d : Fin 64) :
    val_main_v26 (F := Ideal) x2 (ix5 r 0 (⟨128 + j, by omega⟩ : Fin 256) h d) = (zslot x0 x1 x2 x3 x4 16 0 r h).vc j d := by
  pointwise [val_main_v26, val_main_v25, val_main_v24, val_main_v23, val_main_v21, val_main_v11, val_main_v10, val_main_v9, val_main_v2]
  try rw [dif_neg (by omega)]
  show _ = x2 (ix2 _ _)
  refine congrArg x2 ((ix2_inj ..).2 ⟨Fin.ext ?_, Fin.ext ?_⟩) <;> dsimp only <;> omega

theorem kP_at (j : Fin 128) (d : Fin 64) :
    val_main_v19 (F := Ideal) x1 (ix5 r 0 (⟨j, by omega⟩ : Fin 256) h d) = (zslot x0 x1 x2 x3 x4 16 0 r h).kp j d := by
  pointwise [val_main_v19, val_main_v18, val_main_v17, val_main_v16, val_main_v14, val_main_v13, val_main_v8, val_main_v7, val_main_v6, val_main_v1, val_main_cst]
  rfl

theorem vP_at (j : Fin 128) (d : Fin 64) :
    val_main_v26 (F := Ideal) x2 (ix5 r 0 (⟨j, by omega⟩ : Fin 256) h d) = (zslot x0 x1 x2 x3 x4 16 0 r h).vp j d := by
  pointwise [val_main_v26, val_main_v25, val_main_v24, val_main_v23, val_main_v21, val_main_v20, val_main_v11, val_main_v10, val_main_v9, val_main_v2, val_main_cst_1]
  rfl

theorem window_any (b : Fin 1) (i : Fin 128) (j : Fin 256) : val_main_v60 (F := Ideal) (ix3 b i j)
    = BitVec.ofBool (decide (j.val ≤ i.val + 128 ∧ i.val ≤ j.val ∧ 128 ≤ b.val * 128 + j.val)) := by
  rw [← window_word b.val (by omega) i j.val j.isLt]
  pointwise [val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_c, val_main_c_4,
    val_main_c_5, val_main_c_6, val_main_c_7, val_main_c_8]

theorem window (i : Fin 128) (j : Fin 256) : val_main_v60 (F := Ideal) (ix3 0 i j)
    = BitVec.ofBool (decide (j.val ≤ i.val + 128 ∧ i.val ≤ j.val ∧ 128 ≤ 0 * 128 + j.val)) := window_any 0 i j

theorem dl_at (i : Fin 128) : val_main_v113 (F := Ideal) x4 (ix4 r 0 h i) = (zslot x0 x1 x2 x3 x4 16 0 r h).dls i := by
  pointwise [val_main_v113, val_main_v111, val_main_v107, val_main_v106, val_main_v105, val_main_v104, val_main_v103, val_main_v102, val_main_v101, val_main_v99, val_main_cst_14, val_main_cst_15]
  refine (sum_first_last _ rfl _ _ _ _).trans ?_
  rw [zero_add, Fin.sum_univ_one]
  pointwise []
  refine (sum_first_last _ rfl _ _ _ _).trans ?_
  pointwise []
  refine Finset.sum_congr rfl fun d _ => ?_
  show _ = x4 (ix2 _ _)
  refine congrArg x4 ((ix2_inj ..).2 ⟨Fin.ext ?_, Fin.ext ?_⟩) <;> dsimp only <;> omega

theorem sC_at (i j : Fin 128) :
    val_main_v62_0 (F := Ideal) x0 x1 (ix5 r 0 h i (⟨128 + j, by omega⟩ : Fin 256)) = (zslot x0 x1 x2 x3 x4 16 0 r h).sC i j := by
  pointwise [val_main_v62_0, val_main_v62_1, val_main_v61, val_main_v29, val_main_v28, val_main_v27, val_main_call0_v2, val_main_call0_v0, val_main_cst_9, val_main_cst_3]
  simp only [window, select_ofBool, q_at x0 x1 x2 x3 x4, kC_at x0 x1 x2 x3 x4]
  show (if _ then _ else Ideal.ofBits .f32 0xFF800000#32) = if j ≤ i then _ else ⊥
  rw [negInf_eq]
  exact if_congr ⟨fun hh => Fin.le_def.2 (by omega), fun hh => ⟨by have := Fin.le_def.1 hh; omega, by omega, by omega⟩⟩ rfl rfl

theorem sP_at (i j : Fin 128) :
    val_main_v62_0 (F := Ideal) x0 x1 (ix5 r 0 h i (⟨j, by omega⟩ : Fin 256)) = (zslot x0 x1 x2 x3 x4 16 0 r h).sP i j := by
  pointwise [val_main_v62_0, val_main_v62_1, val_main_v61, val_main_v29, val_main_v28, val_main_v27, val_main_call0_v2, val_main_call0_v0, val_main_cst_9, val_main_cst_3]
  simp only [window, select_ofBool, q_at x0 x1 x2 x3 x4, kP_at x0 x1 x2 x3 x4]
  show (if _ then _ else Ideal.ofBits .f32 0xFF800000#32) = if i ≤ j ∧ decide (0 < 0) = true then _ else ⊥
  rw [negInf_eq]
  refine if_congr ⟨fun hh => ⟨Fin.le_def.2 (by omega), decide_eq_true (by omega)⟩, fun hh => ?_⟩ rfl rfl
  have h1 := Fin.le_def.1 hh.1
  have h2 := of_decide_eq_true hh.2
  exact ⟨by omega, by omega, by omega⟩

end Cert.Attn.R16

end
-- ==== Proof.Sums.lean ====
/- One more sum over axes of one place. -/
module

public import proofs.«01_k».proof.Proof.Words

@[expose] public section

noncomputable section

namespace Cert.Attn

open Idealize.ShloMosaic

/-- The sum over the second and the last axis, of one place each, of five axes. -/
theorem sum_second_last_five {n0 n2 n3 : ℕ} {t : Shape} (h : (⟨5, ![n0, 1, n2, n3, 1]⟩ : Shape).ReducesTo [1, 4] t) (e : t = ⟨3, ![n0, n2, n3]⟩)
    (x : (⟨5, ![n0, 1, n2, n3, 1]⟩ : Shape).Idx → EReal) (c : EReal) (a : Fin n0) (b : Fin n2) (d : Fin n3) :
    Ideal.hostReduceAdd h x c (e ▸ ix3 a b d) = c + x (ix5 a 0 b d 0) := by
  subst e
  refine (congrArg (c + ·) (Finset.sum_filter_eq_sum_of_fiber _ (fun k : Fin 1 => (ix5 a 0 b d k : (⟨5, ![n0, 1, n2, n3, 1]⟩ : Shape).Idx)) (fun p q e => show p = q from congrFun e 4) (fun i => ?_) x)).trans (by simp)
  constructor
  · intro hi
    have h0 := congrArg Fin.val (congrFun hi 0)
    have h1 := congrArg Fin.val (congrFun hi 1)
    have h2 := congrArg Fin.val (congrFun hi 2)
    rw [Shape.ReducesTo.drop_apply_val] at h0 h1 h2
    refine ⟨i 4, ?_⟩
    funext k; apply Fin.ext
    match k with
    | ⟨0, _⟩ => exact h0.symm
    | ⟨1, _⟩ => exact (Nat.lt_one_iff.1 (i 1).isLt).symm
    | ⟨2, _⟩ => exact h1.symm
    | ⟨3, _⟩ => exact h2.symm
    | ⟨4, _⟩ => rfl
  · rintro ⟨k, rfl⟩
    funext k; apply Fin.ext
    rw [Shape.ReducesTo.drop_apply_val]
    match k with
    | ⟨0, _⟩ => rfl
    | ⟨1, _⟩ => rfl
    | ⟨2, _⟩ => rfl

end Cert.Attn

end
-- ==== Proof.RefGrad16.lean ====
/- The reference of dilation 16: exponentials, sums, and the gradients of the scores, are the slots'. -/
module

public import proofs.«01_k».proof.Proof.RefTiles16
public import proofs.«01_k».proof.Proof.Sums

@[expose] public section

set_option maxRecDepth 16384

noncomputable section

namespace Cert.Attn.R16

open Idealize.ShloMosaic Idealize.ShloMosaic.TcCoe Idealize.SL.Sem
open Cert.Reference16Ideal Cert.Reference16Ideal.Gen Cert.Reference16Ideal.Read

variable (x0 x1 x2 x3 x4 : FVec Ideal S2048x256 .f32) (r : Fin 16) (h : Fin 4)

theorem mx_at (i : Fin 128) : val_main_v63 (F := Ideal) x0 x1 (ix4 r 0 h i) = (zslot x0 x1 x2 x3 x4 16 0 r h).mx i := by
  pointwise [val_main_v63, val_main_cst_10]
  rw [negInf_eq, fold_max_halves]
  simp only [sC_at x0 x1 x2 x3 x4, sP_at x0 x1 x2 x3 x4]
  rfl

theorem eC_at (i j : Fin 128) :
    val_main_v72 (F := Ideal) x0 x1 (ix5 r 0 h i (⟨128 + j, by omega⟩ : Fin 256)) = (zslot x0 x1 x2 x3 x4 16 0 r h).eC i j := by
  pointwise [val_main_v72, val_main_v71, val_main_v70, val_main_v69]
  simp only [sC_at x0 x1 x2 x3 x4, mx_at x0 x1 x2 x3 x4]
  rfl

theorem eP_at (i j : Fin 128) :
    val_main_v72 (F := Ideal) x0 x1 (ix5 r 0 h i (⟨j, by omega⟩ : Fin 256)) = (zslot x0 x1 x2 x3 x4 16 0 r h).eP i j := by
  pointwise [val_main_v72, val_main_v71, val_main_v70, val_main_v69]
  simp only [sP_at x0 x1 x2 x3 x4, mx_at x0 x1 x2 x3 x4]
  rfl

theorem den_at (i : Fin 128) : val_main_v73 (F := Ideal) x0 x1 (ix4 r 0 h i) = (zslot x0 x1 x2 x3 x4 16 0 r h).den i := by
  pointwise [val_main_v73, val_main_cst_12]
  rw [sum_halves]
  simp only [eC_at x0 x1 x2 x3 x4, eP_at x0 x1 x2 x3 x4]
  rfl

theorem num_at (i : Fin 128) (d : Fin 64) : val_main_v76 (F := Ideal) x0 x1 x2 (ix5 r 0 i h d) = (zslot x0 x1 x2 x3 x4 16 0 r h).num i d := by
  pointwise [val_main_v76, val_main_v75]
  rw [sum_halves]
  simp only [eC_at x0 x1 x2 x3 x4, eP_at x0 x1 x2 x3 x4, vC_at x0 x1 x2 x3 x4, vP_at x0 x1 x2 x3 x4, mul_comm (Slot.vc _ _ _), mul_comm (Slot.vp _ _ _)]
  rfl

theorem dden_at (i : Fin 128) : val_main_v125 (F := Ideal) x0 x1 x2 x3 x4 (ix5 r 0 h i 0) = (zslot x0 x1 x2 x3 x4 16 0 r h).dden i := by
  pointwise [val_main_v125, val_main_v124, val_main_v121, val_main_v120, val_main_v119, val_main_v118, val_main_v117, val_main_v116, val_main_v115,
    val_main_v114, val_main_v82, val_main_v81, val_main_v80, val_main_v77, val_main_v74, val_main_cst_13, val_main_cst_16]
  simp only [dl_at x0 x1 x2 x3 x4, den_at x0 x1 x2 x3 x4, num_at x0 x1 x2 x3 x4, dy_at x0 x1 x2 x3 x4]
  rfl

theorem dnum_at (i : Fin 128) (d : Fin 64) : val_main_v123 (F := Ideal) x0 x1 x3 (ix5 r 0 i h d) = (zslot x0 x1 x2 x3 x4 16 0 r h).dnum i d := by
  pointwise [val_main_v123, val_main_v122, val_main_v77, val_main_v74]
  simp only [den_at x0 x1 x2 x3 x4, dy_at x0 x1 x2 x3 x4]
  rfl

theorem gC_at (i j : Fin 128) :
    val_main_v134 (F := Ideal) x0 x1 x2 x3 x4 (ix5 r 0 h i (⟨128 + j, by omega⟩ : Fin 256)) = (zslot x0 x1 x2 x3 x4 16 0 r h).gC i j := by
  pointwise [val_main_v134, val_main_v133, val_main_v132, val_main_v131, val_main_v130, val_main_v127, val_main_v126, val_main_cst_17]
  rw [show (_ : EReal) = _ from sum_second_last_five _ rfl _ _ _ _ _]
  simp only [zero_add, dden_at x0 x1 x2 x3 x4, dnum_at x0 x1 x2 x3 x4, vC_at x0 x1 x2 x3 x4, eC_at x0 x1 x2 x3 x4]
  rfl

theorem gP_at (i j : Fin 128) :
    val_main_v134 (F := Ideal) x0 x1 x2 x3 x4 (ix5 r 0 h i (⟨j, by omega⟩ : Fin 256)) = (zslot x0 x1 x2 x3 x4 16 0 r h).gP i j := by
  pointwise [val_main_v134, val_main_v133, val_main_v132, val_main_v131, val_main_v130, val_main_v127, val_main_v126, val_main_cst_17]
  rw [show (_ : EReal) = _ from sum_second_last_five _ rfl _ _ _ _ _]
  simp only [zero_add, dden_at x0 x1 x2 x3 x4, dnum_at x0 x1 x2 x3 x4, vP_at x0 x1 x2 x3 x4, eP_at x0 x1 x2 x3 x4]
  rfl

/-- The gradient that reaches the maximum is zero. -/
theorem shift_at (hr : (zslot x0 x1 x2 x3 x4 16 0 r h).IsReal) (i : Fin 128) :
    val_main_v139 (F := Ideal) x0 x1 x2 x3 x4 (ix3 r h i) = 0 := by
  refine Eq.trans ?_ (hr.shift i)
  pointwise [val_main_v139, val_main_v138, val_main_v137, val_main_v136, val_main_v135, val_main_v114, val_main_cst_18, val_main_cst_19]
  rw [show (_ : EReal) = _ from sum_second_last_five _ rfl _ _ _ _ _]
  pointwise []
  rw [sum_halves]
  simp only [gC_at x0 x1 x2 x3 x4, gP_at x0 x1 x2 x3 x4, dl_at x0 x1 x2 x3 x4]
  try rfl

/-- The indicator of the greatest score is not negative. -/
theorem ind_nonneg (i : Fin 128) (j : Fin 256) : (0 : EReal) ≤ val_main_v67 (F := Ideal) x0 x1 (ix5 r 0 h i j) := by
  pointwise [val_main_v67]
  exact EReal.coe_nonneg.2 (Nat.cast_nonneg _)

theorem count_at (i : Fin 128) : val_main_v68 (F := Ideal) x0 x1 (ix4 r 0 h i)
    = (∑ j : Fin 128, val_main_v67 (F := Ideal) x0 x1 (ix5 r 0 h i (⟨128 + j, by omega⟩ : Fin 256)))
      + ∑ j : Fin 128, val_main_v67 (F := Ideal) x0 x1 (ix5 r 0 h i (⟨j, by omega⟩ : Fin 256)) := by
  pointwise [val_main_v68, val_main_cst_11]
  exact sum_halves _

theorem dsC_at (hr : (zslot x0 x1 x2 x3 x4 16 0 r h).IsReal) (i j : Fin 128) :
    val_main_v147 (F := Ideal) x0 x1 x2 x3 x4 (ix5 r 0 h i (⟨128 + j, by omega⟩ : Fin 256)) = (zslot x0 x1 x2 x3 x4 16 0 r h).dsC i j := by
  pointwise [val_main_v147, val_main_v146, val_main_v145, val_main_v144, val_main_v143, val_main_v142, val_main_v141, val_main_v62_1, val_main_v140, val_main_v61,
    val_main_call1_v0, val_main_call1_cst, val_main_cst_20]
  rw [shift_at x0 x1 x2 x3 x4 r h hr, count_at]
  rw [(div_zero_mul _ _ (fun j => ind_nonneg x0 x1 r h i _) fun j => ind_nonneg x0 x1 r h i _).1 j]
  simp only [window, select_ofBool, gC_at x0 x1 x2 x3 x4, add_zero]
  show _ = (if j ≤ i then _ else 0) * eighth
  rw [ite_mul, zero_mul eighth]
  exact if_congr ⟨fun hh => Fin.le_def.2 (by omega), fun hh => ⟨by have := Fin.le_def.1 hh; omega, by omega, by omega⟩⟩ rfl rfl

theorem dsP_at (hr : (zslot x0 x1 x2 x3 x4 16 0 r h).IsReal) (i j : Fin 128) :
    val_main_v147 (F := Ideal) x0 x1 x2 x3 x4 (ix5 r 0 h i (⟨j, by omega⟩ : Fin 256)) = (zslot x0 x1 x2 x3 x4 16 0 r h).dsP i j := by
  pointwise [val_main_v147, val_main_v146, val_main_v145, val_main_v144, val_main_v143, val_main_v142, val_main_v141, val_main_v62_1, val_main_v140, val_main_v61,
    val_main_call1_v0, val_main_call1_cst, val_main_cst_20]
  rw [shift_at x0 x1 x2 x3 x4 r h hr, count_at]
  rw [(div_zero_mul _ _ (fun j => ind_nonneg x0 x1 r h i _) fun j => ind_nonneg x0 x1 r h i _).2 j]
  simp only [window, select_ofBool, gP_at x0 x1 x2 x3 x4, add_zero]
  show _ = (if i ≤ j ∧ decide (0 < 0) = true then _ else 0) * eighth
  rw [ite_mul, zero_mul eighth]
  refine if_congr ⟨fun hh => ⟨Fin.le_def.2 (by omega), decide_eq_true (by omega)⟩, fun hh => ?_⟩ rfl rfl
  have h1 := Fin.le_def.1 hh.1
  have h2 := of_decide_eq_true hh.2
  exact ⟨by omega, by omega, by omega⟩

theorem dkC_at (hr : (zslot x0 x1 x2 x3 x4 16 0 r h).IsReal) (j : Fin 128) (d : Fin 64) :
    val_main_v149 (F := Ideal) x0 x1 x2 x3 x4 (ix5 r 0 (⟨128 + j, by omega⟩ : Fin 256) h d) = (zslot x0 x1 x2 x3 x4 16 0 r h).dkC j d := by
  pointwise [val_main_v149, val_main_v148]
  simp only [dsC_at x0 x1 x2 x3 x4 r h hr, q_at x0 x1 x2 x3 x4]
  rfl

theorem dkP_at (hr : (zslot x0 x1 x2 x3 x4 16 0 r h).IsReal) (j : Fin 128) (d : Fin 64) :
    val_main_v149 (F := Ideal) x0 x1 x2 x3 x4 (ix5 r 0 (⟨j, by omega⟩ : Fin 256) h d) = (zslot x0 x1 x2 x3 x4 16 0 r h).dkP j d := by
  pointwise [val_main_v149, val_main_v148]
  simp only [dsP_at x0 x1 x2 x3 x4 r h hr, q_at x0 x1 x2 x3 x4]
  rfl

theorem dvC_at (j : Fin 128) (d : Fin 64) :
    val_main_v129 (F := Ideal) x0 x1 x3 (ix5 r 0 (⟨128 + j, by omega⟩ : Fin 256) h d) = (zslot x0 x1 x2 x3 x4 16 0 r h).dvC j d := by
  pointwise [val_main_v129, val_main_v128, val_main_v126]
  simp only [eC_at x0 x1 x2 x3 x4, dnum_at x0 x1 x2 x3 x4, mul_comm (Slot.dnum _ _ _)]
  rfl

theorem dvP_at (j : Fin 128) (d : Fin 64) :
    val_main_v129 (F := Ideal) x0 x1 x3 (ix5 r 0 (⟨j, by omega⟩ : Fin 256) h d) = (zslot x0 x1 x2 x3 x4 16 0 r h).dvP j d := by
  pointwise [val_main_v129, val_main_v128, val_main_v126]
  simp only [eP_at x0 x1 x2 x3 x4, dnum_at x0 x1 x2 x3 x4, mul_comm (Slot.dnum _ _ _)]
  rfl

theorem dq_at (hr : (zslot x0 x1 x2 x3 x4 16 0 r h).IsReal) (i : Fin 128) (d : Fin 64) :
    val_main_v151 (F := Ideal) x0 x1 x2 x3 x4 (ix5 r 0 i h d) = (zslot x0 x1 x2 x3 x4 16 0 r h).dq i d := by
  pointwise [val_main_v151, val_main_v150]
  rw [sum_halves, add_comm]
  simp only [dsC_at x0 x1 x2 x3 x4 r h hr, dsP_at x0 x1 x2 x3 x4 r h hr, kC_at x0 x1 x2 x3 x4, kP_at x0 x1 x2 x3 x4]
  rfl

end Cert.Attn.R16

end
-- ==== Proof.RefOut16.lean ====
/- The results of the reference of dilation 16, at a row and a column. -/
module

public import proofs.«01_k».proof.Proof.RefGrad16

@[expose] public section

set_option maxRecDepth 16384

noncomputable section

namespace Cert.Attn.R16

open Idealize.ShloMosaic Idealize.ShloMosaic.TcCoe Idealize.SL.Sem
open Cert.Reference16Ideal Cert.Reference16Ideal.Gen Cert.Reference16Ideal.Read

variable (x0 x1 x2 x3 x4 : FVec Ideal S2048x256 .f32)

/-! ### The gradients of a tile, at the row and the column of the array that name it -/

theorem dkC_spot {R C : ℕ} {r : Fin 16} {b : Fin 1} {h : Fin 4} {J : Fin 256} {d : Fin 64} (hR : (zslot x0 x1 x2 x3 x4 16 0 r h).IsReal) (hb : b.val = R / 128) (hr : r.val = C / 256) (hh : h.val = C % 256 / 64) (hJ : J.val = 128 + R % 128)
    (hd : d.val = C % 64) : val_main_v149 (F := Ideal) x0 x1 x2 x3 x4 (ix5 r b J h d) = (slot x0 x1 x2 x3 x4 16 (R / 128) (C / 256) (C % 256 / 64)).dkC ⟨R % 128, Nat.mod_lt _ (by norm_num)⟩ ⟨C % 64, Nat.mod_lt _ (by norm_num)⟩ := by
  obtain rfl : b = 0 := Subsingleton.elim _ _
  rw [show J = ⟨128 + (⟨R % 128, Nat.mod_lt _ (by norm_num)⟩ : Fin 128), by dsimp only; omega⟩ from Fin.ext hJ]
  refine (dkC_at x0 x1 x2 x3 x4 r h hR ⟨R % 128, Nat.mod_lt _ (by norm_num)⟩ d).trans ?_
  refine (congrFun (congrFun (zslot_dkC x0 x1 x2 x3 x4 16 _ _ _) _) _).trans ?_
  exact slot_part Slot.dkC hb hr hh rfl (Fin.ext hd)

theorem dvC_spot {R C : ℕ} {r : Fin 16} {b : Fin 1} {h : Fin 4} {J : Fin 256} {d : Fin 64} (hb : b.val = R / 128) (hr : r.val = C / 256) (hh : h.val = C % 256 / 64) (hJ : J.val = 128 + R % 128)
    (hd : d.val = C % 64) : val_main_v129 (F := Ideal) x0 x1 x3 (ix5 r b J h d) = (slot x0 x1 x2 x3 x4 16 (R / 128) (C / 256) (C % 256 / 64)).dvC ⟨R % 128, Nat.mod_lt _ (by norm_num)⟩ ⟨C % 64, Nat.mod_lt _ (by norm_num)⟩ := by
  obtain rfl : b = 0 := Subsingleton.elim _ _
  rw [show J = ⟨128 + (⟨R % 128, Nat.mod_lt _ (by norm_num)⟩ : Fin 128), by dsimp only; omega⟩ from Fin.ext hJ]
  refine (dvC_at x0 x1 x2 x3 x4 r h ⟨R % 128, Nat.mod_lt _ (by norm_num)⟩ d).trans ?_
  refine (congrFun (congrFun (zslot_dvC x0 x1 x2 x3 x4 16 _ _ _) _) _).trans ?_
  exact slot_part Slot.dvC hb hr hh rfl (Fin.ext hd)

/-! ### The results -/

theorem dq_out (h0 : RealArr x0) (h1 : RealArr x1) (h2 : RealArr x2) (h3 : RealArr x3) (h4 : RealArr x4) (R : Fin 128) (C : Fin 4096) :
    val_main_v181 (F := Ideal) x0 x1 x2 x3 x4 (ix2 R C) = dqAt x0 x1 x2 x3 x4 16 R C := by
  pointwise [val_main_v181, val_main_v180, val_main_v177, val_main_v176, val_main_v175, val_main_v168]
  refine (dq_at x0 x1 x2 x3 x4 _ _ (zslot_isReal h0 h1 h2 h3 h4 ..) _ _).trans ?_
  refine (congrFun (congrFun (zslot_dq x0 x1 x2 x3 x4 16 _ _ _) _) _).trans ?_
  unfold dqAt
  exact slot_part Slot.dq (by (try dsimp only) <;> omega) (by (try dsimp only) <;> omega) (by (try dsimp only) <;> omega) (Fin.ext (by (try dsimp only) <;> omega)) (Fin.ext (by (try dsimp only) <;> omega))

theorem dk_out (h0 : RealArr x0) (h1 : RealArr x1) (h2 : RealArr x2) (h3 : RealArr x3) (h4 : RealArr x4) (R : Fin 128) (C : Fin 4096) :
    val_main_v182 (F := Ideal) x0 x1 x2 x3 x4 (ix2 R C) = dkAt x0 x1 x2 x3 x4 16 R C := by
  pointwise [val_main_v182, val_main_v179, val_main_v174, val_main_v173, val_main_v172, val_main_v167, val_main_v165, val_main_v164, val_main_v163, val_main_v162, val_main_v161, val_main_v160, val_main_cst_23, val_main_cst_24]
  unfold dkAt
  refine congrArg₂ (fun a b : EReal => a + b) ?_ ?_
  · rw [dif_pos (by omega)]
    exact dkC_spot x0 x1 x2 x3 x4 (zslot_isReal h0 h1 h2 h3 h4 ..) (by (try dsimp only) <;> omega) (by (try dsimp only) <;> omega) (by (try dsimp only) <;> omega) (by (try dsimp only) <;> omega) (by (try dsimp only) <;> omega)
  · rw [dif_neg (by omega), if_neg (by omega)]

theorem dv_out (R : Fin 128) (C : Fin 4096) :
    val_main_v183 (F := Ideal) x0 x1 x3 (ix2 R C) = dvAt x0 x1 x2 x3 x4 16 R C := by
  pointwise [val_main_v183, val_main_v178, val_main_v171, val_main_v170, val_main_v169, val_main_v159, val_main_v157, val_main_v156, val_main_v155, val_main_v154, val_main_v153, val_main_v152, val_main_cst_21, val_main_cst_22]
  unfold dvAt
  refine congrArg₂ (fun a b : EReal => a + b) ?_ ?_
  · rw [dif_pos (by omega)]
    exact dvC_spot x0 x1 x2 x3 x4 (by (try dsimp only) <;> omega) (by (try dsimp only) <;> omega) (by (try dsimp only) <;> omega) (by (try dsimp only) <;> omega) (by (try dsimp only) <;> omega)
  · rw [dif_neg (by omega), if_neg (by omega)]

end Cert.Attn.R16

end
-- ==== Proof.Alg16.lean ====
/- Dilation 16: the kernel's three gradients are the reference's. -/
module

public import proofs.«01_k».proof.Proof.Finite
public import proofs.«01_k».proof.Proof.KerOut16
public import proofs.«01_k».proof.Proof.RefOut16
public import proofs.«01_k».proof.Defs

@[expose] public section

noncomputable section

namespace Cert.Attn

open Idealize.ShloMosaic Idealize.ShloMosaic.StableHlo Idealize.SL.Sem

theorem algebraic16 : Cert.algebraic_Kernel16Ideal_Reference16Ideal_pre_finite := by
  intro m g m' g' hpre hargs
  refine ⟨fun c => (Cert.Kernel16Ideal.Gen.dats m 0 c).arrAt 7 Cert.Kernel16Ideal.cfg0.N,
    fun c => (Cert.Kernel16Ideal.Gen.dats m 0 c).arrAt 8 Cert.Kernel16Ideal.cfg0.N,
    fun c => (Cert.Kernel16Ideal.Gen.dats m 0 c).arrAt 9 Cert.Kernel16Ideal.cfg0.N,
    Cert.Kernel16Ideal.Value.run_blocks m g, ?_⟩
  refine (θ_run _ _ _).mono (fun r h c => ?_) (Cert.Reference16Ideal.Value.run m' g')
  obtain ⟨h0, h1, h2, hk⟩ := h c
  obtain ⟨e0, e1, e2, e3, e4⟩ := hargs c
  obtain ⟨f0, f1, f2, f3, f4⟩ := real_args _ _ _ _ _ (hpre c)
  refine ⟨h0.trans ?_, h1.trans ?_, h2.trans ?_, hk⟩
  · refine (Cert.Reference16Ideal.Read.val_main_v181_eq (launchContents m' c)).trans ?_
    refine Eq.trans ?_ (K16.dq_array m c).symm
    rw [launchContents_devRef, launchContents_devRef, launchContents_devRef, launchContents_devRef, launchContents_devRef, e0, e1, e2, e3, e4]
    funext j
    rw [eq_ix2 j]
    exact R16.dq_out _ _ _ _ _ f0 f1 f2 f3 f4 _ _
  · refine (Cert.Reference16Ideal.Read.val_main_v182_eq (launchContents m' c)).trans ?_
    refine Eq.trans ?_ (K16.dk_array m c).symm
    rw [launchContents_devRef, launchContents_devRef, launchContents_devRef, launchContents_devRef, launchContents_devRef, e0, e1, e2, e3, e4]
    funext j
    rw [eq_ix2 j]
    exact R16.dk_out _ _ _ _ _ f0 f1 f2 f3 f4 _ _
  · refine (Cert.Reference16Ideal.Read.val_main_v183_eq (launchContents m' c)).trans ?_
    refine Eq.trans ?_ (K16.dv_array m c).symm
    rw [launchContents_devRef, launchContents_devRef, launchContents_devRef, e0, e1, e3]
    funext j
    rw [eq_ix2 j]
    exact R16.dv_out _ _ _ _ _ _ _

end Cert.Attn

end
-- ==== Proof.Ffn.lean ====
/- The SwiGLU mixer on four blocks of 704 columns, entry by entry: the forward values, the derivatives passed back through
   the halved product with the down weights, and the products with the rows that are the three weights' gradients. -/
module

public import Idealize.ShloMosaic.Lib.ValueIdx
public import Idealize.ShloMosaic.PureOps.Ideal

@[expose] public section

noncomputable section

namespace Cert.Ffn

open Idealize.ShloMosaic

/-- Rows of the batch. -/
abbrev Rows := Fin 2048 → Fin 1024 → EReal
/-- A weight in four blocks, the model axis last. -/
abbrev Blocks := Fin 4 → Fin 704 → Fin 1024 → EReal
/-- A value per block, row and column of the block. -/
abbrev Mid := Fin 4 → Fin 2048 → Fin 704 → EReal

/-- One half, as the programs write it. -/
abbrev half : EReal := Ideal.ofBits .f32 0x3F000000#32

/-- Rows times a block's columns. -/
def prod (x : Rows) (w : Blocks) : Mid := fun j q f => ∑ k, x q k * w j f k
/-- The gated value, from the gate and the upper product. -/
def act (g u : Mid) : Mid := fun j q f => g j q f * Ideal.logistic (g j q f) * u j q f
/-- The cotangent of the gated value. -/
def cot (y : Rows) (w : Blocks) : Mid := fun j q f => half * prod y w j q f
/-- The cotangent of the gate, from the cotangent of the gated value. -/
def dGate (g u d : Mid) : Mid := fun j q f =>
  d j q f * u j q f * Ideal.logistic (g j q f)
    + g j q f * (d j q f * u j q f) * (Ideal.logistic (g j q f) * (1 - Ideal.logistic (g j q f)))
/-- The cotangent of the upper product. -/
def dUp (g d : Mid) : Mid := fun j q f => g j q f * Ideal.logistic (g j q f) * d j q f
/-- A value against the rows, summed over the batch. -/
def outer (a : Mid) (x : Rows) : Blocks := fun j f k => ∑ q, a j q f * x q k

/-- One half is a real number, not negative. -/
theorem half_eq : half = ((1 / 2 : ℝ) : EReal) := by
  unfold half
  simp [Ideal.ofBits, Ideal.ieee, -EReal.coe_mul]
  norm_num

/-- Halving distributes over a sum, whatever its terms. -/
theorem half_sum {n : ℕ} (f : Fin n → EReal) : half * ∑ k, f k = ∑ k, half * f k := by
  classical
  refine Finset.induction_on (Finset.univ : Finset (Fin n)) (by simp) fun a s ha ih => ?_
  rw [Finset.sum_insert ha, Finset.sum_insert ha, ← ih, half_eq]
  exact EReal.left_distrib_of_nonneg_of_ne_top (EReal.coe_nonneg.2 (by norm_num)) (EReal.coe_ne_top _) _ _

/-- A column of the wide weights is a column of a block. -/
def col (j : Fin 4) (f : Fin 704) : Fin 2816 := ⟨j.val * 704 + f.val, by omega⟩

end Cert.Ffn

end
-- ==== Proof.FfnPay.lean ====
/- The mixer's kernels at one step: what each stored value is of the blocks it is computed from. -/
module

public import proofs.«01_k».proof.Proof.Ffn
public import Idealize.ShloMosaic.Lib.Pipeline.ValueKit
public import proofs.«01_k».proof.Proof.Gen.KernelFfnIdeal.Skeleton

@[expose] public section

set_option maxRecDepth 16384

noncomputable section

namespace Cert.Ffn.K

open Idealize.ShloMosaic Idealize.ShloMosaic.TcCoe Idealize.SL.Sem
open Cert.KernelFfnIdeal Cert.KernelFfnIdeal.Gen

section
variable {x : Fin 1024 → Fin 1024 → EReal} {w u : Fin 704 → Fin 1024 → EReal}
  {b0 : Vec Ideal S1024x1024 .bf16} {b1 b2 : Vec Ideal S1x704x1024 .bf16}
  (h0 : ∀ q k, b0 (ix2 q k) = x q k) (h1 : ∀ f k, b1 (ix3 0 f k) = w f k) (h2 : ∀ f k, b2 (ix3 0 f k) = u f k)
  (q : Fin 1024) (f : Fin 704)

include h0 h1 in
theorem gate_at : k0_pay4 b0 b1 (ix3 0 q f) = ∑ k, x q k * w f k := by
  pointwise [k0_pay4, k0_pay2, k0_pay1]
  simp only [h0, h1]

include h0 h2 in
theorem up_at : k0_pay5 b0 b2 (ix3 0 q f) = ∑ k, x q k * u f k := by
  pointwise [k0_pay5, k0_pay3, k0_pay1]
  simp only [h0, h2]

include h0 h1 h2 in
theorem act_at : k0_pay6 b0 b1 b2 (ix3 0 q f) = (∑ k, x q k * w f k) * Ideal.logistic (∑ k, x q k * w f k) * ∑ k, x q k * u f k := by
  pointwise [k0_pay6, k0_pay3, k0_pay2, k0_pay1]
  simp only [h0, h1, h2]
end

section
variable {x : Fin 1024 → Fin 1024 → EReal} {w : Fin 704 → Fin 1024 → EReal} {g u : Fin 1024 → Fin 704 → EReal}
  {b0 : Vec Ideal S1024x1024 .bf16} {b1 : Vec Ideal S1x704x1024 .bf16} {b2 b3 : Vec Ideal S1x1024x704 .bf16}
  (h0 : ∀ q k, b0 (ix2 q k) = x q k) (h1 : ∀ f k, b1 (ix3 0 f k) = w f k)
  (h2 : ∀ q f, b2 (ix3 0 q f) = g q f) (h3 : ∀ q f, b3 (ix3 0 q f) = u q f)
  (q : Fin 1024) (f : Fin 704)

include h0 h1 h2 h3 in
theorem dgate_at : k2_pay4 b0 b1 b2 b3 (ix3 0 q f)
    = half * (∑ k, x q k * w f k) * u q f * Ideal.logistic (g q f)
      + g q f * (half * (∑ k, x q k * w f k) * u q f) * (Ideal.logistic (g q f) * (1 - Ideal.logistic (g q f))) := by
  pointwise [k2_pay4, k2_pay3, k2_pay2, k2_pay1]
  simp only [h0, h1, h2, h3]

include h0 h1 h2 in
theorem dup_at : k2_pay5 b0 b1 b2 (ix3 0 q f) = g q f * Ideal.logistic (g q f) * (half * ∑ k, x q k * w f k) := by
  pointwise [k2_pay5, k2_pay3, k2_pay2, k2_pay1]
  simp only [h0, h1, h2]
end

section
variable {a : Fin 2048 → Fin 704 → EReal} {x : Fin 2048 → Fin 1024 → EReal}
  {b0 : Vec Ideal S1x2048x704 .bf16} {b1 : Vec Ideal S1x2048x1024 .bf16}
  (h0 : ∀ q f, b0 (ix3 0 q f) = a q f) (h1 : ∀ q k, b1 (ix3 0 q k) = x q k) (f : Fin 704) (k : Fin 1024)

include h0 h1 in
theorem down_at : k1_pay1 b0 b1 (ix3 0 f k) = (∑ q, a q f * x q k) * half := by
  pointwise [k1_pay1]
  simp only [h0, h1]

include h0 h1 in
theorem weight_at : k3_pay1 b0 b1 (ix3 0 f k) = ∑ q, a q f * x q k := by
  pointwise [k3_pay1]
  simp only [h0, h1]

include h0 h1 in
theorem weight_at' : k4_pay1 b0 b1 (ix3 0 f k) = ∑ q, a q f * x q k := by
  pointwise [k4_pay1]
  simp only [h0, h1]
end

end Cert.Ffn.K

end
-- ==== Proof.FfnReg.lean ====
/- The mixer's five kernels: the arrays each leaves, from the arrays it is given. -/
module

public import proofs.«01_k».proof.Proof.FfnPay
public import proofs.«01_k».proof.Proof.Gen.KernelFfnIdeal.Frame

@[expose] public section

set_option maxRecDepth 16384

noncomputable section

namespace Cert.Ffn.K

open Idealize.ShloMosaic Idealize.ShloMosaic.TcCoe Idealize.SL.Sem
open Cert.KernelFfnIdeal Cert.KernelFfnIdeal.Gen

variable (V : (c : Dev nD) → (b : Ref sig .tc) → Buf (Elt Ideal) ((c : Thread nD τ).loc b)) (c : Dev nD)

/-- A row of one of the two halves of the batch. -/
def row (r : ℕ) (hr : r < 2) (q : Fin 1024) : Fin 2048 := ⟨r * 1024 + q.val, by omega⟩

/-- The steps of a product over four blocks and two halves of the batch. -/
theorem block_lt {n : ℕ} (h : n < 8) : n / 2 < 4 := by omega
theorem half_lt (n : ℕ) : n % 2 < 2 := Nat.mod_lt _ (by norm_num)

/-- A place of a block with one leading entry. -/
theorem one_block {n k : ℕ} (y : (⟨3, ![1, n, k]⟩ : Shape).Idx) : ∃ (a : Fin n) (b : Fin k), y = ix3 0 a b :=
  ⟨y 1, y 2, (eq_ix3 y).trans (congrArg (fun z => ix3 z (y 1) (y 2)) (Fin.ext (Nat.lt_one_iff.1 (y 0).isLt) : y 0 = (0 : Fin 1)))⟩

/-! ### The forward products -/

theorem idx0 : ∀ t : Fin cfg0.N, win0_0.index t = ![t.val % 2, 0] ∧ win0_1.index t = ![t.val / 2, 0, 0] ∧ win0_2.index t = ![t.val / 2, 0, 0]
    ∧ win0_3.index t = ![t.val / 2, t.val % 2, 0] ∧ win0_4.index t = ![t.val / 2, t.val % 2, 0] ∧ win0_5.index t = ![t.val / 2, t.val % 2, 0] :=
  (by decide +kernel : ∀ t : Fin grid0.N, _)

theorem lt0 (t : Fin cfg0.N) : t.val < 8 := lt_of_lt_of_eq t.isLt N_0

section
variable {V c} {H : Rows} {G U : Blocks}
  (hH : ∀ q k, V c main_v8 (ix2 q k) = H q k) (hG : ∀ j f k, V c main_v2 (ix3 j f k) = G j f k) (hU : ∀ j f k, V c main_v5 (ix3 j f k) = U j f k)
  (t : Fin cfg0.N)

include hH in
theorem in0_0 (q k : Fin 1024) : iblk0 V c 0 t (ix2 q k) = H (row (t.val % 2) (half_lt _) q) k := by
  rw [← hH]
  blk_point [iblk0, row, idx0 t]
include hG in
theorem in0_1 (f : Fin 704) (k : Fin 1024) : iblk0 V c 1 t (ix3 0 f k) = G ⟨t.val / 2, block_lt (lt0 t)⟩ f k := by
  rw [← hG]
  blk_point [iblk0, idx0 t]
include hU in
theorem in0_2 (f : Fin 704) (k : Fin 1024) : iblk0 V c 2 t (ix3 0 f k) = U ⟨t.val / 2, block_lt (lt0 t)⟩ f k := by
  rw [← hU]
  blk_point [iblk0, idx0 t]

theorem place0_3 (q : Fin 1024) (f : Fin 704) :
    (win0_3.blk t).view.emb (ix3 0 q f) = ix3 ⟨t.val / 2, block_lt (lt0 t)⟩ (row (t.val % 2) (half_lt _) q) f := by
  funext a
  apply Fin.ext
  match a with
  | ⟨0, _⟩ => blk_simp; rw [(idx0 t).2.2.2.1]; exact Nat.add_zero _
  | ⟨1, _⟩ => blk_simp; rw [(idx0 t).2.2.2.1]; rfl
  | ⟨2, _⟩ => blk_simp; rw [(idx0 t).2.2.2.1]; exact Nat.zero_add _
theorem place0_4 (q : Fin 1024) (f : Fin 704) :
    (win0_4.blk t).view.emb (ix3 0 q f) = ix3 ⟨t.val / 2, block_lt (lt0 t)⟩ (row (t.val % 2) (half_lt _) q) f := by
  funext a
  apply Fin.ext
  match a with
  | ⟨0, _⟩ => blk_simp; rw [(idx0 t).2.2.2.2.1]; exact Nat.add_zero _
  | ⟨1, _⟩ => blk_simp; rw [(idx0 t).2.2.2.2.1]; rfl
  | ⟨2, _⟩ => blk_simp; rw [(idx0 t).2.2.2.2.1]; exact Nat.zero_add _
theorem place0_5 (q : Fin 1024) (f : Fin 704) :
    (win0_5.blk t).view.emb (ix3 0 q f) = ix3 ⟨t.val / 2, block_lt (lt0 t)⟩ (row (t.val % 2) (half_lt _) q) f := by
  funext a
  apply Fin.ext
  match a with
  | ⟨0, _⟩ => blk_simp; rw [(idx0 t).2.2.2.2.2]; exact Nat.add_zero _
  | ⟨1, _⟩ => blk_simp; rw [(idx0 t).2.2.2.2.2]; rfl
  | ⟨2, _⟩ => blk_simp; rw [(idx0 t).2.2.2.2.2]; exact Nat.zero_add _

include hH hG in
theorem gate_array : (dat0 V c).arrAt 3 cfg0.N = fun i : S4x2048x704.Idx => prod H G (i 0) (i 1) (i 2) := by
  refine (dat0 V c).arrAt_eq_of_covers 3 _ (by decide +kernel) fun t hf y => ?_
  blk_simp
  rw [after0_3]
  frame_out
  obtain ⟨q, f, rfl⟩ := one_block y
  rewrite [place0_3 t q f]
  exact gate_at (in0_0 hH t) (in0_1 hG t) q f

include hH hU in
theorem up_array : (dat0 V c).arrAt 4 cfg0.N = fun i : S4x2048x704.Idx => prod H U (i 0) (i 1) (i 2) := by
  refine (dat0 V c).arrAt_eq_of_covers 4 _ (by decide +kernel) fun t hf y => ?_
  blk_simp
  rw [after0_4]
  frame_out
  obtain ⟨q, f, rfl⟩ := one_block y
  rewrite [place0_4 t q f]
  exact up_at (in0_0 hH t) (in0_2 hU t) q f

include hH hG hU in
theorem act_array : (dat0 V c).arrAt 5 cfg0.N = fun i : S4x2048x704.Idx => act (prod H G) (prod H U) (i 0) (i 1) (i 2) := by
  refine (dat0 V c).arrAt_eq_of_covers 5 _ (by decide +kernel) fun t hf y => ?_
  blk_simp
  rw [after0_5]
  frame_out
  obtain ⟨q, f, rfl⟩ := one_block y
  rewrite [place0_5 t q f]
  exact act_at (in0_0 hH t) (in0_1 hG t) (in0_2 hU t) q f
end

/-! ### The cotangents -/

theorem idx2 : ∀ t : Fin cfg2.N, win2_0.index t = ![t.val % 2, 0] ∧ win2_1.index t = ![t.val / 2, 0, 0] ∧ win2_2.index t = ![t.val / 2, t.val % 2, 0]
    ∧ win2_3.index t = ![t.val / 2, t.val % 2, 0] ∧ win2_4.index t = ![t.val / 2, t.val % 2, 0] ∧ win2_5.index t = ![t.val / 2, t.val % 2, 0] :=
  (by decide +kernel : ∀ t : Fin grid2.N, _)

theorem lt2 (t : Fin cfg2.N) : t.val < 8 := lt_of_lt_of_eq t.isLt N_2

section
variable {V c} {Y : Rows} {D : Blocks} {G U : Mid}
  (hY : ∀ q k, V c main_v9 (ix2 q k) = Y q k) (hD : ∀ j f k, V c main_v7 (ix3 j f k) = D j f k)
  (hG : ∀ j q f, V c main_v10_0 (ix3 j q f) = G j q f) (hU : ∀ j q f, V c main_v10_1 (ix3 j q f) = U j q f)
  (t : Fin cfg2.N)

include hY in
theorem in2_0 (q k : Fin 1024) : iblk2 V c 0 t (ix2 q k) = Y (row (t.val % 2) (half_lt _) q) k := by
  rw [← hY]
  blk_point [iblk2, row, idx2 t]
include hD in
theorem in2_1 (f : Fin 704) (k : Fin 1024) : iblk2 V c 1 t (ix3 0 f k) = D ⟨t.val / 2, block_lt (lt2 t)⟩ f k := by
  rw [← hD]
  blk_point [iblk2, idx2 t]
include hG in
theorem in2_2 (q : Fin 1024) (f : Fin 704) : iblk2 V c 2 t (ix3 0 q f) = G ⟨t.val / 2, block_lt (lt2 t)⟩ (row (t.val % 2) (half_lt _) q) f := by
  rw [← hG]
  blk_point [iblk2, row, idx2 t]
include hU in
theorem in2_3 (q : Fin 1024) (f : Fin 704) : iblk2 V c 3 t (ix3 0 q f) = U ⟨t.val / 2, block_lt (lt2 t)⟩ (row (t.val % 2) (half_lt _) q) f := by
  rw [← hU]
  blk_point [iblk2, row, idx2 t]

theorem place2_4 (q : Fin 1024) (f : Fin 704) :
    (win2_4.blk t).view.emb (ix3 0 q f) = ix3 ⟨t.val / 2, block_lt (lt2 t)⟩ (row (t.val % 2) (half_lt _) q) f := by
  funext a
  apply Fin.ext
  match a with
  | ⟨0, _⟩ => blk_simp; rw [(idx2 t).2.2.2.2.1]; exact Nat.add_zero _
  | ⟨1, _⟩ => blk_simp; rw [(idx2 t).2.2.2.2.1]; rfl
  | ⟨2, _⟩ => blk_simp; rw [(idx2 t).2.2.2.2.1]; exact Nat.zero_add _
theorem place2_5 (q : Fin 1024) (f : Fin 704) :
    (win2_5.blk t).view.emb (ix3 0 q f) = ix3 ⟨t.val / 2, block_lt (lt2 t)⟩ (row (t.val % 2) (half_lt _) q) f := by
  funext a
  apply Fin.ext
  match a with
  | ⟨0, _⟩ => blk_simp; rw [(idx2 t).2.2.2.2.2]; exact Nat.add_zero _
  | ⟨1, _⟩ => blk_simp; rw [(idx2 t).2.2.2.2.2]; rfl
  | ⟨2, _⟩ => blk_simp; rw [(idx2 t).2.2.2.2.2]; exact Nat.zero_add _

include hY hD hG hU in
theorem dgate_array : (dat2 V c).arrAt 4 cfg2.N = fun i : S4x2048x704.Idx => dGate G U (cot Y D) (i 0) (i 1) (i 2) := by
  refine (dat2 V c).arrAt_eq_of_covers 4 _ (by decide +kernel) fun t hf y => ?_
  blk_simp
  rw [after2_4]
  frame_out
  obtain ⟨q, f, rfl⟩ := one_block y
  rewrite [place2_4 t q f]
  exact dgate_at (in2_0 hY t) (in2_1 hD t) (in2_2 hG t) (in2_3 hU t) q f

include hY hD hG in
theorem dup_array : (dat2 V c).arrAt 5 cfg2.N = fun i : S4x2048x704.Idx => dUp G (cot Y D) (i 0) (i 1) (i 2) := by
  refine (dat2 V c).arrAt_eq_of_covers 5 _ (by decide +kernel) fun t hf y => ?_
  blk_simp
  rw [after2_5]
  frame_out
  obtain ⟨q, f, rfl⟩ := one_block y
  rewrite [place2_5 t q f]
  exact dup_at (in2_0 hY t) (in2_1 hD t) (in2_2 hG t) q f
end

/-! ### The products over the batch -/

theorem idx1 : ∀ t : Fin cfg1.N, win1_0.index t = ![t.val, 0, 0] ∧ win1_1.index t = ![0, 0, 0] ∧ win1_2.index t = ![t.val, 0, 0] :=
  (by decide +kernel : ∀ t : Fin grid1.N, _)

theorem lt1 (t : Fin cfg1.N) : t.val < 4 := lt_of_lt_of_eq t.isLt N_1

section
variable {V c} {A : Mid} {X : Rows} (hA : ∀ j q f, V c main_v10_2 (ix3 j q f) = A j q f) (hX : ∀ q k, V c main_v11 (ix3 0 q k) = X q k) (t : Fin cfg1.N)

include hA in
theorem in1_0 (q : Fin 2048) (f : Fin 704) : iblk1 V c 0 t (ix3 0 q f) = A ⟨t.val, lt1 t⟩ q f := by
  rw [← hA]
  blk_point [iblk1, idx1 t]
include hX in
theorem in1_1 (q : Fin 2048) (k : Fin 1024) : iblk1 V c 1 t (ix3 0 q k) = X q k := by
  rw [← hX]
  blk_point [iblk1, idx1 t]

theorem place1_2 (f : Fin 704) (k : Fin 1024) : (win1_2.blk t).view.emb (ix3 0 f k) = ix3 ⟨t.val, lt1 t⟩ f k := by
  funext a
  apply Fin.ext
  match a with
  | ⟨0, _⟩ => blk_simp; rw [(idx1 t).2.2]; exact Nat.add_zero _
  | ⟨1, _⟩ => blk_simp; rw [(idx1 t).2.2]; exact Nat.zero_add _
  | ⟨2, _⟩ => blk_simp; rw [(idx1 t).2.2]; exact Nat.zero_add _

include hA hX in
theorem down_array : (dat1 V c).arrAt 2 cfg1.N = fun i : S4x704x1024.Idx => (fun j f k => outer A X j f k * half) (i 0) (i 1) (i 2) := by
  refine (dat1 V c).arrAt_eq_of_covers 2 _ (by decide +kernel) fun t hf y => ?_
  blk_simp
  rw [after1_2]
  frame_out
  obtain ⟨q, f, rfl⟩ := one_block y
  rewrite [place1_2 t q f]
  exact down_at (in1_0 hA t) (in1_1 hX t) q f
end

theorem idx3 : ∀ t : Fin cfg3.N, win3_0.index t = ![t.val, 0, 0] ∧ win3_1.index t = ![0, 0, 0] ∧ win3_2.index t = ![t.val, 0, 0] :=
  (by decide +kernel : ∀ t : Fin grid3.N, _)

theorem lt3 (t : Fin cfg3.N) : t.val < 4 := lt_of_lt_of_eq t.isLt N_3

section
variable {V c} {A : Mid} {X : Rows} (hA : ∀ j q f, V c main_v13_0 (ix3 j q f) = A j q f) (hX : ∀ q k, V c main_v14 (ix3 0 q k) = X q k) (t : Fin cfg3.N)

include hA in
theorem in3_0 (q : Fin 2048) (f : Fin 704) : iblk3 V c 0 t (ix3 0 q f) = A ⟨t.val, lt3 t⟩ q f := by
  rw [← hA]
  blk_point [iblk3, idx3 t]
include hX in
theorem in3_1 (q : Fin 2048) (k : Fin 1024) : iblk3 V c 1 t (ix3 0 q k) = X q k := by
  rw [← hX]
  blk_point [iblk3, idx3 t]

theorem place3_2 (f : Fin 704) (k : Fin 1024) : (win3_2.blk t).view.emb (ix3 0 f k) = ix3 ⟨t.val, lt3 t⟩ f k := by
  funext a
  apply Fin.ext
  match a with
  | ⟨0, _⟩ => blk_simp; rw [(idx3 t).2.2]; exact Nat.add_zero _
  | ⟨1, _⟩ => blk_simp; rw [(idx3 t).2.2]; exact Nat.zero_add _
  | ⟨2, _⟩ => blk_simp; rw [(idx3 t).2.2]; exact Nat.zero_add _

include hA hX in
theorem gateW_array : (dat3 V c).arrAt 2 cfg3.N = fun i : S4x704x1024.Idx => outer A X (i 0) (i 1) (i 2) := by
  refine (dat3 V c).arrAt_eq_of_covers 2 _ (by decide +kernel) fun t hf y => ?_
  blk_simp
  rw [after3_2]
  frame_out
  obtain ⟨q, f, rfl⟩ := one_block y
  rewrite [place3_2 t q f]
  exact weight_at (in3_0 hA t) (in3_1 hX t) q f
end

theorem idx4 : ∀ t : Fin cfg4.N, win4_0.index t = ![t.val, 0, 0] ∧ win4_1.index t = ![0, 0, 0] ∧ win4_2.index t = ![t.val, 0, 0] :=
  (by decide +kernel : ∀ t : Fin grid4.N, _)

theorem lt4 (t : Fin cfg4.N) : t.val < 4 := lt_of_lt_of_eq t.isLt N_4

section
variable {V c} {A : Mid} {X : Rows} (hA : ∀ j q f, V c main_v13_1 (ix3 j q f) = A j q f) (hX : ∀ q k, V c main_v16 (ix3 0 q k) = X q k) (t : Fin cfg4.N)

include hA in
theorem in4_0 (q : Fin 2048) (f : Fin 704) : iblk4 V c 0 t (ix3 0 q f) = A ⟨t.val, lt4 t⟩ q f := by
  rw [← hA]
  blk_point [iblk4, idx4 t]
include hX in
theorem in4_1 (q : Fin 2048) (k : Fin 1024) : iblk4 V c 1 t (ix3 0 q k) = X q k := by
  rw [← hX]
  blk_point [iblk4, idx4 t]

theorem place4_2 (f : Fin 704) (k : Fin 1024) : (win4_2.blk t).view.emb (ix3 0 f k) = ix3 ⟨t.val, lt4 t⟩ f k := by
  funext a
  apply Fin.ext
  match a with
  | ⟨0, _⟩ => blk_simp; rw [(idx4 t).2.2]; exact Nat.add_zero _
  | ⟨1, _⟩ => blk_simp; rw [(idx4 t).2.2]; exact Nat.zero_add _
  | ⟨2, _⟩ => blk_simp; rw [(idx4 t).2.2]; exact Nat.zero_add _

include hA hX in
theorem upW_array : (dat4 V c).arrAt 2 cfg4.N = fun i : S4x704x1024.Idx => outer A X (i 0) (i 1) (i 2) := by
  refine (dat4 V c).arrAt_eq_of_covers 2 _ (by decide +kernel) fun t hf y => ?_
  blk_simp
  rw [after4_2]
  frame_out
  obtain ⟨q, f, rfl⟩ := one_block y
  rewrite [place4_2 t q f]
  exact weight_at' (in4_0 hA t) (in4_1 hX t) q f
end

end Cert.Ffn.K

end
-- ==== Proof.FfnRun.lean ====
/- The mixer's run: the five kernels in order, and the three gradients they leave. -/
module

public import proofs.«01_k».proof.Proof.FfnReg

@[expose] public section

set_option maxRecDepth 16384

noncomputable section

namespace Cert.Ffn.K

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelFfnIdeal Cert.KernelFfnIdeal.Gen

variable (m : (ℓ : Loc nD τ sig) → Buf (Elt Ideal) ℓ) (ρ : Dev nD → PrngReg) (c : Dev nD)

set_option backward.isDefEq.respectTransparency.types false in
/-- Every execution ends with each array at what the fifth kernel's boundary holds. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => h)

/-! ### The arguments, in the kernels' layout -/

abbrev aH : Rows := fun q k => (m ((c : Thread nD τ).loc main_arg0) : S2048x1024.Idx → EReal) (ix2 q k)
abbrev aG : Blocks := fun j f k => (m ((c : Thread nD τ).loc main_arg1) : S1024x2816.Idx → EReal) (ix2 k (col j f))
abbrev aU : Blocks := fun j f k => (m ((c : Thread nD τ).loc main_arg2) : S1024x2816.Idx → EReal) (ix2 k (col j f))
abbrev aD : Blocks := fun j f k => (m ((c : Thread nD τ).loc main_arg3) : S2816x1024.Idx → EReal) (ix2 (col j f) k)
abbrev aY : Rows := fun q k => (m ((c : Thread nD τ).loc main_arg4) : S2048x1024.Idx → EReal) (ix2 q k)

theorem first_v8 (q : Fin 2048) (k : Fin 1024) : V1 m ρ c main_v8 (ix2 q k) = aH m c q k := by
  refine (congrFun (show @Eq (FVec Ideal S2048x1024 .bf16) (W1 m ρ c (Proc.devRef .tc main_v8)) (truncf .bf16 (m ((c : Thread nD τ).loc main_arg0) : FVec Ideal S2048x1024 .f32) bitsLt_bf16_f32) from by
    after_results_simp <;> rfl) _).trans ?_
  pointwise []

theorem first_v9 (q : Fin 2048) (k : Fin 1024) : V1 m ρ c main_v9 (ix2 q k) = aY m c q k := by
  refine (congrFun (show @Eq (FVec Ideal S2048x1024 .bf16) (W1 m ρ c (Proc.devRef .tc main_v9)) (truncf .bf16 (m ((c : Thread nD τ).loc main_arg4) : FVec Ideal S2048x1024 .f32) bitsLt_bf16_f32) from by
    after_results_simp <;> rfl) _).trans ?_
  pointwise []

/-- A weight with its columns as rows, cut into blocks. -/
theorem in_blocks (x : FVec Ideal S2816x1024 .f32) (j : Fin 4) (f : Fin 704) (k : Fin 1024) :
    truncf .bf16 (shapeCast S4x704x1024 x shapeCasts_S2816x1024_S4x704x1024) bitsLt_bf16_f32 (ix3 j f k) = x (ix2 (col j f) k) := by
  pointwise [col]
theorem turned (x : FVec Ideal S1024x2816 .f32) (i : Fin 2816) (k : Fin 1024) :
    transpose S2816x1024 [1, 0] x transposes_S1024x2816_S2816x1024_1_0 (ix2 i k) = x (ix2 k i) := by
  pointwise []

theorem first_v2 (j : Fin 4) (f : Fin 704) (k : Fin 1024) : V1 m ρ c main_v2 (ix3 j f k) = aG m c j f k :=
  (congrFun (show @Eq (FVec Ideal S4x704x1024 .bf16) (W1 m ρ c (Proc.devRef .tc main_v2)) (truncf .bf16 (shapeCast S4x704x1024
    (transpose S2816x1024 [1, 0] (m ((c : Thread nD τ).loc main_arg1) : FVec Ideal S1024x2816 .f32) transposes_S1024x2816_S2816x1024_1_0) shapeCasts_S2816x1024_S4x704x1024) bitsLt_bf16_f32) from by
    after_results_simp <;> rfl) _).trans ((in_blocks _ j f k).trans (turned _ (col j f) k))

theorem first_v5 (j : Fin 4) (f : Fin 704) (k : Fin 1024) : V1 m ρ c main_v5 (ix3 j f k) = aU m c j f k :=
  (congrFun (show @Eq (FVec Ideal S4x704x1024 .bf16) (W1 m ρ c (Proc.devRef .tc main_v5)) (truncf .bf16 (shapeCast S4x704x1024
    (transpose S2816x1024 [1, 0] (m ((c : Thread nD τ).loc main_arg2) : FVec Ideal S1024x2816 .f32) transposes_S1024x2816_S2816x1024_1_0) shapeCasts_S2816x1024_S4x704x1024) bitsLt_bf16_f32) from by
    after_results_simp <;> rfl) _).trans ((in_blocks _ j f k).trans (turned _ (col j f) k))

theorem first_v7 (j : Fin 4) (f : Fin 704) (k : Fin 1024) : V1 m ρ c main_v7 (ix3 j f k) = aD m c j f k :=
  (congrFun (show @Eq (FVec Ideal S4x704x1024 .bf16) (W1 m ρ c (Proc.devRef .tc main_v7)) (truncf .bf16 (shapeCast S4x704x1024
    (m ((c : Thread nD τ).loc main_arg3) : FVec Ideal S2816x1024 .f32) shapeCasts_S2816x1024_S4x704x1024) bitsLt_bf16_f32) from by
    after_results_simp <;> rfl) _).trans (in_blocks _ j f k)

/-! ### From boundary to boundary -/

abbrev gate : Mid := prod (aH m c) (aG m c)
abbrev up : Mid := prod (aH m c) (aU m c)
abbrev cotangent : Mid := cot (aY m c) (aD m c)

theorem second_gate : W2 m ρ c (Proc.devRef .tc main_v10_0) = fun i : S4x2048x704.Idx => gate m c (i 0) (i 1) (i 2) :=
  (W2_arr m ρ c 3).trans (gate_array (first_v8 m ρ c) (first_v2 m ρ c))
theorem second_up : W2 m ρ c (Proc.devRef .tc main_v10_1) = fun i : S4x2048x704.Idx => up m c (i 0) (i 1) (i 2) :=
  (W2_arr m ρ c 4).trans (up_array (first_v8 m ρ c) (first_v5 m ρ c))
theorem second_act : W2 m ρ c (Proc.devRef .tc main_v10_2) = fun i : S4x2048x704.Idx => act (gate m c) (up m c) (i 0) (i 1) (i 2) :=
  (W2_arr m ρ c 5).trans (act_array (first_v8 m ρ c) (first_v2 m ρ c) (first_v5 m ρ c))

theorem second_of (r : Ref sig .tc) (h : ∀ w : Fin cfg0.W, Pipeline.arrRef spec0 w = r → (cfg0.win w).isOut = false) : V2 m ρ c r = V1 m ρ c r := W2_of m ρ c r h
theorem to_fourth (r : Ref sig .tc) (h1 : r ∉ hostOps1_W) (h : ∀ w : Fin cfg1.W, Pipeline.arrRef spec1 w = r → (cfg1.win w).isOut = false) :
    W4 m ρ c (Proc.devRef .tc r) = W2 m ρ c (Proc.devRef .tc r) := (W4_of m ρ c r h).trans (W3_of m ρ c r h1)
theorem to_seventh (r : Ref sig .tc) (h3 : r ∉ hostOps3_W) (h : ∀ w : Fin cfg3.W, Pipeline.arrRef spec3 w = r → (cfg3.win w).isOut = false) :
    W7 m ρ c (Proc.devRef .tc r) = W5 m ρ c (Proc.devRef .tc r) := (W7_of m ρ c r h).trans (W6_of m ρ c r h3)
theorem to_ninth (r : Ref sig .tc) (h3 : r ∉ hostOps4_W) (h : ∀ w : Fin cfg4.W, Pipeline.arrRef spec4 w = r → (cfg4.win w).isOut = false) :
    W9 m ρ c (Proc.devRef .tc r) = W7 m ρ c (Proc.devRef .tc r) := (W9_of m ρ c r h).trans (W8_of m ρ c r h3)

/-- The rows as one block: the operand of a product over the batch. -/
theorem spread (x : FVec Ideal S2048x1024 .bf16) (q : Fin 2048) (k : Fin 1024) :
    broadcastInDim S1x2048x1024 ![1, 2] bcast_S2048x1024_S1x2048x1024_1_2 x (ix3 0 q k) = x (ix2 q k) := by
  pointwise []

theorem v8_through : W5 m ρ c (Proc.devRef .tc main_v8) = W1 m ρ c (Proc.devRef .tc main_v8) :=
  (W5_of m ρ c main_v8 (by decide +kernel)).trans ((to_fourth m ρ c main_v8 (by decide +kernel) (by decide +kernel)).trans (W2_of m ρ c main_v8 (by decide +kernel)))

theorem third_v11 (q : Fin 2048) (k : Fin 1024) : V3 m ρ c main_v11 (ix3 0 q k) = aY m c q k := by
  refine (congrFun (show @Eq (FVec Ideal S1x2048x1024 .bf16) (W3 m ρ c (Proc.devRef .tc main_v11)) (broadcastInDim S1x2048x1024 ![1, 2] bcast_S2048x1024_S1x2048x1024_1_2 (W2 m ρ c (Proc.devRef .tc main_v9) : FVec Ideal S2048x1024 .bf16)) from by
    after_results_simp <;> rfl) _).trans ?_
  refine (spread _ q k).trans ((congrFun (W2_of m ρ c main_v9 (by decide +kernel)) _).trans (first_v9 m ρ c q k))

theorem sixth_v14 (q : Fin 2048) (k : Fin 1024) : V6 m ρ c main_v14 (ix3 0 q k) = aH m c q k := by
  refine (congrFun (show @Eq (FVec Ideal S1x2048x1024 .bf16) (W6 m ρ c (Proc.devRef .tc main_v14)) (broadcastInDim S1x2048x1024 ![1, 2] bcast_S2048x1024_S1x2048x1024_1_2 (W5 m ρ c (Proc.devRef .tc main_v8) : FVec Ideal S2048x1024 .bf16)) from by
    after_results_simp <;> rfl) _).trans ?_
  exact (spread _ q k).trans ((congrFun (v8_through m ρ c) _).trans (first_v8 m ρ c q k))

theorem eighth_v16 (q : Fin 2048) (k : Fin 1024) : V8 m ρ c main_v16 (ix3 0 q k) = aH m c q k := by
  refine (congrFun (show @Eq (FVec Ideal S1x2048x1024 .bf16) (W8 m ρ c (Proc.devRef .tc main_v16)) (broadcastInDim S1x2048x1024 ![1, 2] bcast_S2048x1024_S1x2048x1024_1_2 (W7 m ρ c (Proc.devRef .tc main_v8) : FVec Ideal S2048x1024 .bf16)) from by
    after_results_simp <;> rfl) _).trans ?_
  exact (spread _ q k).trans ((congrFun ((to_seventh m ρ c main_v8 (by decide +kernel) (by decide +kernel)).trans (v8_through m ρ c)) _).trans (first_v8 m ρ c q k))

/-! ### The cotangents of the two products -/

theorem fourth_v9 (q : Fin 2048) (k : Fin 1024) : V4 m ρ c main_v9 (ix2 q k) = aY m c q k :=
  (congrFun ((to_fourth m ρ c main_v9 (by decide +kernel) (by decide +kernel)).trans (W2_of m ρ c main_v9 (by decide +kernel))) _).trans (first_v9 m ρ c q k)
theorem fourth_v7 (j : Fin 4) (f : Fin 704) (k : Fin 1024) : V4 m ρ c main_v7 (ix3 j f k) = aD m c j f k :=
  (congrFun ((to_fourth m ρ c main_v7 (by decide +kernel) (by decide +kernel)).trans (W2_of m ρ c main_v7 (by decide +kernel))) _).trans (first_v7 m ρ c j f k)
theorem fourth_gate (j : Fin 4) (q : Fin 2048) (f : Fin 704) : V4 m ρ c main_v10_0 (ix3 j q f) = gate m c j q f :=
  congrFun ((to_fourth m ρ c main_v10_0 (by decide +kernel) (by decide +kernel)).trans (second_gate m ρ c)) (ix3 j q f)
theorem fourth_up (j : Fin 4) (q : Fin 2048) (f : Fin 704) : V4 m ρ c main_v10_1 (ix3 j q f) = up m c j q f :=
  congrFun ((to_fourth m ρ c main_v10_1 (by decide +kernel) (by decide +kernel)).trans (second_up m ρ c)) (ix3 j q f)

theorem fifth_dgate : W5 m ρ c (Proc.devRef .tc main_v13_0) = fun i : S4x2048x704.Idx => dGate (gate m c) (up m c) (cotangent m c) (i 0) (i 1) (i 2) :=
  (W5_arr m ρ c 4).trans (dgate_array (fourth_v9 m ρ c) (fourth_v7 m ρ c) (fourth_gate m ρ c) (fourth_up m ρ c))
theorem fifth_dup : W5 m ρ c (Proc.devRef .tc main_v13_1) = fun i : S4x2048x704.Idx => dUp (gate m c) (cotangent m c) (i 0) (i 1) (i 2) :=
  (W5_arr m ρ c 5).trans (dup_array (fourth_v9 m ρ c) (fourth_v7 m ρ c) (fourth_gate m ρ c))

/-! ### The three gradients -/

theorem down_result : W9 m ρ c (Proc.devRef .tc main_v12) = fun i : S4x704x1024.Idx => outer (act (gate m c) (up m c)) (aY m c) (i 0) (i 1) (i 2) * half :=
  (to_ninth m ρ c main_v12 (by decide +kernel) (by decide +kernel)).trans <| (to_seventh m ρ c main_v12 (by decide +kernel) (by decide +kernel)).trans <|
    (W5_of m ρ c main_v12 (by decide +kernel)).trans <| (W4_arr m ρ c 2).trans <| down_array
      (fun j q f => congrFun ((W3_of m ρ c main_v10_2 (by decide +kernel)).trans (second_act m ρ c)) (ix3 j q f)) (third_v11 m ρ c)

theorem gate_result : W9 m ρ c (Proc.devRef .tc main_v15) = fun i : S4x704x1024.Idx => outer (dGate (gate m c) (up m c) (cotangent m c)) (aH m c) (i 0) (i 1) (i 2) :=
  (to_ninth m ρ c main_v15 (by decide +kernel) (by decide +kernel)).trans <| (W7_arr m ρ c 2).trans <| gateW_array
    (fun j q f => congrFun ((W6_of m ρ c main_v13_0 (by decide +kernel)).trans (fifth_dgate m ρ c)) (ix3 j q f)) (sixth_v14 m ρ c)

theorem up_result : W9 m ρ c (Proc.devRef .tc main_v17) = fun i : S4x704x1024.Idx => outer (dUp (gate m c) (cotangent m c)) (aH m c) (i 0) (i 1) (i 2) :=
  (W9_arr m ρ c 2).trans <| upW_array
    (fun j q f => congrFun ((W8_of m ρ c main_v13_1 (by decide +kernel)).trans ((to_seventh m ρ c main_v13_1 (by decide +kernel) (by decide +kernel)).trans (fifth_dup m ρ c))) (ix3 j q f))
    (eighth_v16 m ρ c)

end Cert.Ffn.K

end
-- ==== Proof.FfnRef.lean ====
/- The mixer's reference: its three gradients, entry by entry, are those of the four blocks. -/
module

public import proofs.«01_k».proof.Proof.Ffn
public import Idealize.ShloMosaic.Lib.Pipeline.ValueKit
public import proofs.«01_k».proof.Proof.Gen.ReferenceFfnIdeal.Read

@[expose] public section

set_option maxRecDepth 16384

noncomputable section

namespace Cert.Ffn.R

open Idealize.ShloMosaic Idealize.ShloMosaic.StableHlo Idealize.SL.Sem
open Cert.ReferenceFfnIdeal Cert.ReferenceFfnIdeal.Read

variable (x0 x4 : FVec Ideal S2048x1024 .f32) (x1 x2 : FVec Ideal S1024x2816 .f32) (x3 : FVec Ideal S2816x1024 .f32)

abbrev rH : Rows := fun q k => x0 (ix2 q k)
abbrev rG : Blocks := fun j f k => x1 (ix2 k (col j f))
abbrev rD : Blocks := fun j f k => x3 (ix2 (col j f) k)

variable (j : Fin 4) (q : Fin 2048) (f : Fin 704) (k : Fin 1024)

theorem gate_at : val_main_v0 (F := Ideal) x0 x1 (ix2 q (col j f)) = prod (rH x0) (rG x1) j q f := by
  pointwise [val_main_v0]
  rfl
theorem up_at : val_main_v2 (F := Ideal) x0 x2 (ix2 q (col j f)) = prod (rH x0) (rG x2) j q f := by
  pointwise [val_main_v2]
  rfl

theorem sig_at : val_main_v1_2 (F := Ideal) x0 x1 (ix2 q (col j f)) = Ideal.logistic (prod (rH x0) (rG x1) j q f) := by
  rw [← gate_at]
  pointwise [val_main_v1_2, val_main_call0_v4, val_main_call0_cst_0, val_main_call0_v3, val_main_call0_v2, val_main_call0_cst, val_main_call0_v1, val_main_call0_v0]
  rfl

theorem act_at : val_main_v3 (F := Ideal) x0 x1 x2 (ix2 q (col j f)) = act (prod (rH x0) (rG x1)) (prod (rH x0) (rG x2)) j q f := by
  rw [val_main_v3_apply, val_main_v1_0_apply, gate_at, sig_at, up_at]
  rfl

theorem halved : val_main_v8 (F := Ideal) x4 (ix2 q k) = half * rH x4 q k := by
  pointwise [val_main_v8, val_main_v7, val_main_cst_0]

theorem cot_at : val_main_v11 (F := Ideal) x3 x4 (ix2 q (col j f)) = cot (rH x4) (rD x3) j q f := by
  pointwise [val_main_v11]
  simp only [halved]
  exact (Finset.sum_congr rfl fun k _ => mul_assoc half _ _).trans (half_sum _).symm

theorem slope_at : val_main_v1_1 (F := Ideal) x0 x1 (ix2 q (col j f))
    = Ideal.logistic (prod (rH x0) (rG x1) j q f) * (1 - Ideal.logistic (prod (rH x0) (rG x1) j q f)) := by
  rw [val_main_v1_1_apply, val_main_call0_v7_apply, sig_at]
  pointwise [val_main_call0_v6, val_main_call0_cst_1]

theorem dgate_at : val_main_v16 (F := Ideal) x0 x1 x2 x3 x4 (ix2 q (col j f))
    = dGate (prod (rH x0) (rG x1)) (prod (rH x0) (rG x2)) (cot (rH x4) (rD x3)) j q f := by
  rw [val_main_v16_apply, val_main_call1_v1_apply, val_main_call1_v2_apply, val_main_call1_v0_apply, val_main_v13_apply, gate_at, sig_at, slope_at, up_at, cot_at]
  rfl

theorem dup_at : val_main_v12 (F := Ideal) x0 x1 x3 x4 (ix2 q (col j f)) = dUp (prod (rH x0) (rG x1)) (cot (rH x4) (rD x3)) j q f := by
  rw [val_main_v12_apply, val_main_v1_0_apply, gate_at, sig_at, cot_at]
  rfl

/-! ### The gradients, in four blocks -/

theorem gate_out : val_main_v20 (F := Ideal) x0 x1 x2 x3 x4 (ix3 j f k)
    = outer (dGate (prod (rH x0) (rG x1)) (prod (rH x0) (rG x2)) (cot (rH x4) (rD x3))) (rH x0) j f k := by
  refine Eq.trans (b := val_main_v17 (F := Ideal) x0 x1 x2 x3 x4 (ix2 (col j f) k)) (by pointwise [val_main_v20, val_main_v19, val_main_v18, col]) ?_
  pointwise [val_main_v17]
  simp only [dgate_at]
  rfl

theorem up_out : val_main_v22 (F := Ideal) x0 x1 x3 x4 (ix3 j f k) = outer (dUp (prod (rH x0) (rG x1)) (cot (rH x4) (rD x3))) (rH x0) j f k := by
  refine Eq.trans (b := val_main_v14 (F := Ideal) x0 x1 x3 x4 (ix2 (col j f) k)) (by pointwise [val_main_v22, val_main_v21, val_main_v15, col]) ?_
  pointwise [val_main_v14]
  simp only [dup_at]
  rfl

theorem down_out : val_main_v23 (F := Ideal) x0 x1 x2 x4 (ix3 j f k) = outer (act (prod (rH x0) (rG x1)) (prod (rH x0) (rG x2))) (rH x4) j f k * half := by
  refine Eq.trans (b := val_main_v9 (F := Ideal) x0 x1 x2 x4 (ix2 k (col j f))) (by pointwise [val_main_v23, val_main_v10, col]) ?_
  pointwise [val_main_v9]
  simp only [halved, act_at]
  refine (Finset.sum_congr rfl fun q _ => ?_).trans ((half_sum _).symm.trans (mul_comm _ _))
  rw [mul_assoc, mul_comm (rH x4 q k)]

end Cert.Ffn.R

end
-- ==== Proof.AlgFfn.lean ====
/- The mixer: the kernels' three gradients are the reference's. -/
module

public import proofs.«01_k».proof.Proof.FfnRun
public import proofs.«01_k».proof.Proof.FfnRef
public import proofs.«01_k».proof.Proof.Gen.ReferenceFfnIdeal.Run
public import proofs.«01_k».proof.Defs

@[expose] public section

noncomputable section

namespace Cert.Ffn

open Idealize.ShloMosaic Idealize.ShloMosaic.StableHlo Idealize.SL.Sem

theorem algebraicFfn : Cert.algebraic_KernelFfnIdeal_ReferenceFfnIdeal := by
  intro m g m' g' _ hargs
  refine ⟨fun c => Cert.KernelFfnIdeal.Gen.W9 m g c (Proc.devRef .tc Cert.KernelFfnIdeal.main_v15),
    fun c => Cert.KernelFfnIdeal.Gen.W9 m g c (Proc.devRef .tc Cert.KernelFfnIdeal.main_v17),
    fun c => Cert.KernelFfnIdeal.Gen.W9 m g c (Proc.devRef .tc Cert.KernelFfnIdeal.main_v12), ?_, ?_⟩
  · refine (θ_run _ _ _).mono (fun r h c => ?_) (K.run m g)
    have at' := fun b hb => h c (Proc.devRef .tc b) (Cert.KernelFfnIdeal.Gen.mem_uc b hb)
    exact ⟨at' Cert.KernelFfnIdeal.main_v15 (by decide), at' Cert.KernelFfnIdeal.main_v17 (by decide), at' Cert.KernelFfnIdeal.main_v12 (by decide),
      (at' Cert.KernelFfnIdeal.main_arg0 (by decide)).trans (Cert.KernelFfnIdeal.Gen.W9_main_arg0 m g c),
      (at' Cert.KernelFfnIdeal.main_arg1 (by decide)).trans (Cert.KernelFfnIdeal.Gen.W9_main_arg1 m g c),
      (at' Cert.KernelFfnIdeal.main_arg2 (by decide)).trans (Cert.KernelFfnIdeal.Gen.W9_main_arg2 m g c),
      (at' Cert.KernelFfnIdeal.main_arg3 (by decide)).trans (Cert.KernelFfnIdeal.Gen.W9_main_arg3 m g c),
      (at' Cert.KernelFfnIdeal.main_arg4 (by decide)).trans (Cert.KernelFfnIdeal.Gen.W9_main_arg4 m g c)⟩
  · refine (θ_run _ _ _).mono (fun r h c => ?_) (Cert.ReferenceFfnIdeal.Value.run m' g')
    obtain ⟨h0, h1, h2, hk⟩ := h c
    obtain ⟨e0, e1, e2, e3, e4⟩ := hargs c
    refine ⟨h0.trans ?_, h1.trans ?_, h2.trans ?_, hk⟩
    · refine (Cert.ReferenceFfnIdeal.Read.val_main_v20_eq _ _ _ _ _).trans ?_
      refine Eq.trans ?_ (K.gate_result m g c).symm
      rw [e0, e1, e2, e3, e4]
      funext i
      rw [eq_ix3 i]
      exact R.gate_out _ _ _ _ _ _ _ _
    · refine (Cert.ReferenceFfnIdeal.Read.val_main_v22_eq _ _ _ _).trans ?_
      refine Eq.trans ?_ (K.up_result m g c).symm
      rw [e0, e1, e3, e4]
      funext i
      rw [eq_ix3 i]
      exact R.up_out _ _ _ _ _ _ _
    · refine (Cert.ReferenceFfnIdeal.Read.val_main_v23_eq _ _ _ _).trans ?_
      refine Eq.trans ?_ (K.down_result m g c).symm
      rw [e0, e1, e2, e4]
      funext i
      rw [eq_ix3 i]
      exact R.down_out _ _ _ _ _ _ _

end Cert.Ffn

end
-- ==== Proof.FfnDx.lean ====
/- The gradient of the SwiGLU mixer's input, entry by entry: the blocked product with a weight, and the gradient of the
   root-mean-square norm in front of it. -/
module

public import proofs.«01_k».proof.Proof.Ffn

@[expose] public section

noncomputable section

namespace Cert.Ffn

open Idealize.ShloMosaic

/-- A block's part of the product of a cotangent with a weight. -/
def part (d : Mid) (w : Blocks) (j : Fin 4) : Rows := fun q k => ∑ f, d j q f * w j f k
/-- The product of a cotangent with a weight, over all blocks. -/
def through (d : Mid) (w : Blocks) : Rows := fun q k => ∑ j, part d w j q k

/-- What the first `n` blocks add up to. -/
def firstParts (d : Mid) (w : Blocks) (n : ℕ) : Rows := fun q k => ∑ j ∈ Finset.range n, if h : j < 4 then part d w ⟨j, h⟩ q k else 0

theorem firstParts_one (d : Mid) (w : Blocks) (q k) : firstParts d w 1 q k = part d w 0 q k := by
  simp only [firstParts, Finset.sum_range_one]
  exact dif_pos (by norm_num)
theorem firstParts_succ (d : Mid) (w : Blocks) (n : ℕ) (h : n < 4) (q k) : firstParts d w (n + 1) q k = firstParts d w n q k + part d w ⟨n, h⟩ q k := by
  simp only [firstParts, Finset.sum_range_succ _ n]
  rw [dif_pos h]
theorem firstParts_four (d : Mid) (w : Blocks) (q k) : firstParts d w 4 q k = through d w q k := by
  simp only [firstParts, through, Finset.sum_range]
  exact Finset.sum_congr rfl fun j _ => dif_pos j.isLt

/-- The columns of the wide weights, block by block. -/
theorem sum_col (g : Fin 2816 → EReal) : ∑ i, g i = ∑ j : Fin 4, ∑ f : Fin 704, g (col j f) := by
  rw [← Finset.sum_product', Finset.univ_product_univ]
  refine (Fintype.sum_equiv (finProdFinEquiv (m := 4) (n := 704)) _ _ fun p => ?_).symm
  exact congrArg g (Fin.ext (by simp [col, finProdFinEquiv]; omega))

/-- The rows, quarter by quarter. -/
theorem sum_quarters (g : Fin 2048 → EReal) (r : ℕ → Fin 512 → Fin 2048) (hr : ∀ b < 4, ∀ q, (r b q).val = b * 512 + q.val) :
    ∑ q, g q = ∑ b ∈ Finset.range 4, ∑ q, g (r b q) := by
  rw [Finset.sum_range, ← Finset.sum_product', Finset.univ_product_univ]
  refine (Fintype.sum_equiv (finProdFinEquiv (m := 4) (n := 512)) _ _ fun p => ?_).symm
  exact congrArg g (Fin.ext (by simp [hr p.1.val p.1.isLt, finProdFinEquiv]; omega))

/-! ### The norm -/

/-- The model width, the small constant of the norm and minus one half, as the programs write them. -/
abbrev width : EReal := Ideal.ofBits .f32 0x44800000#32
abbrev small : EReal := Ideal.ofBits .f32 0x358637BD#32
abbrev minusHalf : EReal := Ideal.ofBits .f32 0xBF000000#32

/-- A row's mean square, with the small constant. -/
def meanSq (x : Rows) (q : Fin 2048) : EReal := Ideal.div (∑ k, x q k * x q k) width + small
/-- The factor of a row. -/
def scale (x : Rows) (q : Fin 2048) : EReal := Ideal.rsqrt (meanSq x q)
/-- What each entry of a row gets from the row's mean square. -/
def pull (x : Rows) (g : Fin 1024 → EReal) (dh : Rows) (q : Fin 2048) : EReal :=
  Ideal.div ((∑ k, x q k * (dh q k * g k)) * (minusHalf * Ideal.div (scale x q) (meanSq x q))) width
/-- The gradient of the norm's input beside the residual's. -/
def dNorm (x : Rows) (g : Fin 1024 → EReal) (dh r : Rows) : Rows := fun q k =>
  dh q k * g k * scale x q + x q k * pull x g dh q + pull x g dh q * x q k + r q k
/-- The gradient of the gain. -/
def dGain (x : Rows) (dh : Rows) : Fin 1024 → EReal := fun k => ∑ q, x q k * scale x q * dh q k

end Cert.Ffn

end
-- ==== Proof.GateDx.lean ====
/- The product of the gate's cotangent with the gate's weights: what the kernel leaves. -/
module

public import proofs.«01_k».proof.Proof.FfnDx
public import Idealize.ShloMosaic.Lib.Pipeline.ValueKit
public import proofs.«01_k».proof.Proof.Gen.KernelGateDxIdeal.Value

@[expose] public section

set_option maxRecDepth 16384

noncomputable section

namespace Cert.Ffn.G

open Idealize.ShloMosaic Idealize.ShloMosaic.TcCoe Idealize.SL.Sem
open Cert.KernelGateDxIdeal Cert.KernelGateDxIdeal.Gen

variable (m : (ℓ : Loc nD τ sig) → Buf (Elt Ideal) ℓ) (c : Dev nD)

abbrev aW : Blocks := fun j f k => (m ((c : Thread nD τ).loc main_arg0) : S1024x2816.Idx → EReal) (ix2 k (col j f))
abbrev aD : Mid := fun j q f => (m ((c : Thread nD τ).loc main_arg1) : S4x2048x704.Idx → EReal) (ix3 j q f)

/-- A weight with its columns as rows, cut into blocks. -/
theorem in_blocks (x : FVec Ideal S2816x1024 .f32) (j : Fin 4) (f : Fin 704) (k : Fin 1024) :
    truncf .bf16 (shapeCast S4x704x1024 x shapeCasts_S2816x1024_S4x704x1024) bitsLt_bf16_f32 (ix3 j f k) = x (ix2 (col j f) k) := by
  pointwise [col]
theorem turned (x : FVec Ideal S1024x2816 .f32) (i : Fin 2816) (k : Fin 1024) :
    transpose S2816x1024 [1, 0] x transposes_S1024x2816_S2816x1024_1_0 (ix2 i k) = x (ix2 k i) := by
  pointwise []

theorem weight (j : Fin 4) (f : Fin 704) (k : Fin 1024) : V m c main_v2 (ix3 j f k) = aW m c j f k :=
  (congrFun (show @Eq (FVec Ideal S4x704x1024 .bf16) (V m c main_v2) (truncf .bf16 (shapeCast S4x704x1024
    (transpose S2816x1024 [1, 0] (m ((c : Thread nD τ).loc main_arg0) : FVec Ideal S1024x2816 .f32) transposes_S1024x2816_S2816x1024_1_0) shapeCasts_S2816x1024_S4x704x1024) bitsLt_bf16_f32) from by
    unfold V; after_results_simp <;> rfl) _).trans ((in_blocks _ j f k).trans (turned _ (col j f) k))

theorem cotangent (j : Fin 4) (q : Fin 2048) (f : Fin 704) : V m c main_v3 (ix3 j q f) = aD m c j q f := by
  refine (congrFun (show @Eq (FVec Ideal S4x2048x704 .bf16) (V m c main_v3) (truncf .bf16 (m ((c : Thread nD τ).loc main_arg1) : FVec Ideal S4x2048x704 .f32) bitsLt_bf16_f32) from by
    unfold V; after_results_simp <;> rfl) _).trans ?_
  pointwise []

/-- A row of one of the two halves of the batch. -/
def row (r : ℕ) (hr : r < 2) (q : Fin 1024) : Fin 2048 := ⟨r * 1024 + q.val, by omega⟩

/-- The steps run through the four blocks for each half of the batch. -/
theorem lt0 (t : Fin cfg0.N) : t.val < 8 := lt_of_lt_of_eq t.isLt N_0
theorem half_lt (t : Fin cfg0.N) : t.val / 4 < 2 := by have := lt0 t; omega
theorem block_lt (n : ℕ) : n % 4 < 4 := Nat.mod_lt _ (by norm_num)

theorem idx : ∀ t : Fin cfg0.N, win0_0.index t = ![t.val % 4, t.val / 4, 0] ∧ win0_1.index t = ![t.val % 4, 0, 0] ∧ win0_2.index t = ![t.val / 4, 0] :=
  (by decide +kernel : ∀ t : Fin grid0.N, _)

section
variable (t : Fin cfg0.N) (q k : Fin 1024) (f : Fin 704)

theorem in0 : iblk m c 0 t (ix3 0 q f) = aD m c ⟨t.val % 4, block_lt _⟩ (row (t.val / 4) (half_lt t) q) f := by
  rw [← cotangent]
  blk_point [iblk, row, idx t]
theorem in1 : iblk m c 1 t (ix3 0 f k) = aW m c ⟨t.val % 4, block_lt _⟩ f k := by
  rw [← weight]
  blk_point [iblk, idx t]

theorem add_at {d : Fin 1024 → Fin 704 → EReal} {w : Fin 704 → Fin 1024 → EReal} (s : Vec Ideal S1024x1024 .f32)
    {b0 : Vec Ideal S1x1024x704 .bf16} {b1 : Vec Ideal S1x704x1024 .bf16} (h0 : ∀ q f, b0 (ix3 0 q f) = d q f) (h1 : ∀ f k, b1 (ix3 0 f k) = w f k) :
    k0_pay2 s b0 b1 (ix2 q k) = s (ix2 q k) + ∑ f, d q f * w f k := by
  pointwise [k0_pay2]
  simp only [h0, h1]

theorem zero_at : (k0_pay1 : FVec Ideal S1024x1024 .f32) (ix2 q k) = 0 := by
  pointwise [k0_pay1]

/-- What the accumulator holds after the first step of a half. -/
theorem first_step (h : t.val % 4 = 0) : (outsAt0 m c t.val t.isLt).2 (ix2 q k) = part (aD m c) (aW m c) ⟨t.val % 4, block_lt _⟩ (row (t.val / 4) (half_lt t) q) k := by
  rw [outsAt0_A m c t h (by omega)]
  frame_out
  refine (add_at q k _ (in0 m c t) (fun f k => in1 m c t k f)).trans ?_
  rw [zero_at]
  exact zero_add _
/-- What the accumulator holds after each other step. -/
theorem next_step (h : ¬t.val % 4 = 0) : (outsAt0 m c t.val t.isLt).2 (ix2 q k)
    = (outsAt0 m c (t.val - 1) (Nat.lt_of_le_of_lt (Nat.sub_le _ _) t.isLt)).2 (ix2 q k) + part (aD m c) (aW m c) ⟨t.val % 4, block_lt _⟩ (row (t.val / 4) (half_lt t) q) k := by
  by_cases h1 : t.val % 4 = 3
  · rw [outsAt0_C m c t h h1]
    frame_out
    refine (add_at q k _ (in0 m c t) (fun f k => in1 m c t k f)).trans ?_
    exact congrArg (· + _) (congrFun (Memref.IsWhole.read_unread _ _) _)
  · rw [outsAt0_B m c t h h1]
    frame_out
    refine (add_at q k _ (in0 m c t) (fun f k => in1 m c t k f)).trans ?_
    exact congrArg (· + _) (congrFun (Memref.IsWhole.read_unread _ _) _)
/-- The last step of a half hands the accumulator out. -/
theorem last_step (h : t.val % 4 = 3) : (outsAt0 m c t.val t.isLt).1 (ix2 q k) = (outsAt0 m c t.val t.isLt).2 (ix2 q k) := by
  rw [outsAt0_C m c t (by omega) h]
  frame_out
end

/-- The accumulator after step `r` of half `b`: the first blocks' parts. -/
theorem so_far (b : ℕ) (hb : b < 2) (q k : Fin 1024) : ∀ (r : ℕ) (_ : r < 4) (h : 4 * b + r < cfg0.N),
    (outsAt0 m c (4 * b + r) h).2 (ix2 q k) = firstParts (aD m c) (aW m c) (r + 1) (row b hb q) k
  | 0, _, h => by
    refine (first_step m c ⟨4 * b + 0, h⟩ q k (by show (4 * b + 0) % 4 = 0; omega)).trans ?_
    rw [firstParts_one]
    refine congr (congr (congrArg (part _ _) (Fin.ext ?_)) (Fin.ext ?_)) rfl
    · show (4 * b + 0) % 4 = 0; omega
    · show (4 * b + 0) / 4 * 1024 + q.val = b * 1024 + q.val; omega
  | r + 1, hr, h => by
    refine (next_step m c ⟨4 * b + (r + 1), h⟩ q k (by show ¬(4 * b + (r + 1)) % 4 = 0; omega)).trans ?_
    rw [firstParts_succ _ _ _ hr]
    refine congr (congrArg (· + ·) (so_far b hb q k r (by omega) (by omega))) ?_
    refine congr (congr (congrArg (part _ _) (Fin.ext ?_)) (Fin.ext ?_)) rfl
    · show (4 * b + (r + 1)) % 4 = r + 1; omega
    · show (4 * b + (r + 1)) / 4 * 1024 + q.val = b * 1024 + q.val; omega

/-- What a half's last step writes back. -/
theorem handed (t : Fin cfg0.N) (h : t.val % 4 = 3) (q k : Fin 1024) :
    (outsAt0 m c t.val t.isLt).1 (ix2 q k) = through (aD m c) (aW m c) (row (t.val / 4) (half_lt t) q) k := by
  refine (last_step m c t q k h).trans ?_
  rw [← firstParts_four]
  obtain ⟨n, hn⟩ := t
  have e : n = 4 * (n / 4) + 3 := by have : n % 4 = 3 := h; omega
  have hn' : 4 * (n / 4) + 3 < cfg0.N := lt_of_eq_of_lt e.symm hn
  refine Eq.trans ?_ (so_far m c (n / 4) (half_lt ⟨n, hn⟩) q k 3 (by norm_num) hn')
  have same : ∀ (a b : ℕ) (ha : a < cfg0.N) (hb : b < cfg0.N), a = b → (outsAt0 m c a ha).2 (ix2 q k) = (outsAt0 m c b hb).2 (ix2 q k) := by
    intro a b ha hb e; subst e; rfl
  exact same _ _ _ _ e

theorem place (t : Fin cfg0.N) (q k : Fin 1024) : (win0_2.blk t).view.emb (ix2 q k) = ix2 (row (t.val / 4) (half_lt t) q) k := by
  funext a
  apply Fin.ext
  match a with
  | ⟨0, _⟩ => blk_simp; rw [(idx t).2.2]; rfl
  | ⟨1, _⟩ => blk_simp; rw [(idx t).2.2]; exact Nat.zero_add _

/-- The array the kernel leaves. -/
theorem array : (dats m 0 c).arrAt 2 cfg0.N = fun i : S2048x1024.Idx => through (aD m c) (aW m c) (i 0) (i 1) := by
  refine (dats m 0 c).arrAt_eq_of_cover 2 _ (fun t hf => ?_) (fun i => (Value.covered_iff2 i).2 ⟨Nat.zero_le _, (i 0).isLt, Nat.zero_le _, (i 1).isLt⟩)
  rw [Value.flushed2]
  funext y
  obtain ⟨q, k, rfl⟩ : ∃ (q k : Fin 1024), y = ix2 q k := ⟨y 0, y 1, eq_ix2 y⟩
  refine (handed m c t ((flush0_2 t).mp hf) q k).trans ?_
  exact (congrArg (fun i : S2048x1024.Idx => through (aD m c) (aW m c) (i 0) (i 1)) (place t q k)).symm

end Cert.Ffn.G

end
-- ==== Proof.GateDxRef.lean ====
/- The reference's product of the gate's cotangent with the gate's weights is the blocks' sum, and so what the kernel leaves. -/
module

public import proofs.«01_k».proof.Proof.GateDx
public import proofs.«01_k».proof.Proof.Gen.ReferenceGateDxIdeal.Run
public import proofs.«01_k».proof.Proof.Gen.ReferenceGateDxIdeal.Read
public import proofs.«01_k».proof.Defs

@[expose] public section

set_option maxRecDepth 16384

noncomputable section

namespace Cert.Ffn

open Idealize.ShloMosaic Idealize.ShloMosaic.StableHlo Idealize.SL.Sem

namespace GR
open Cert.ReferenceGateDxIdeal Cert.ReferenceGateDxIdeal.Read

variable (x0 : FVec Ideal S1024x2816 .f32) (x1 : FVec Ideal S4x2048x704 .f32)

theorem side_by_side (j : Fin 4) (q : Fin 2048) (f : Fin 704) : val_main_v3 (F := Ideal) x1 (ix2 q (col j f)) = x1 (ix3 j q f) := by
  pointwise [val_main_v3, val_main_v2, col]

theorem product (q : Fin 2048) (k : Fin 1024) : val_main_v4 (F := Ideal) x0 x1 (ix2 q k)
    = through (fun j q f => x1 (ix3 j q f)) (fun j f k => x0 (ix2 k (col j f))) q k := by
  pointwise [val_main_v4]
  rw [sum_col]
  simp only [side_by_side]
  rfl
end GR

theorem algebraicGateDx : Cert.algebraic_KernelGateDxIdeal_ReferenceGateDxIdeal := by
  intro m g m' g' _ hargs
  refine ⟨fun c => (Cert.KernelGateDxIdeal.Gen.dats m 0 c).arrAt 2 Cert.KernelGateDxIdeal.cfg0.N, ?_, ?_⟩
  · exact Cert.KernelGateDxIdeal.Value.run_blocks m g
  · refine (θ_run _ _ _).mono (fun r h c => ?_) (Cert.ReferenceGateDxIdeal.Value.run m' g')
    obtain ⟨h0, hk⟩ := h c
    obtain ⟨e0, e1⟩ := hargs c
    refine ⟨h0.trans ?_, hk⟩
    refine (Cert.ReferenceGateDxIdeal.Read.val_main_v4_eq _ _).trans ?_
    refine Eq.trans ?_ (G.array m c).symm
    rw [e0, e1]
    funext i
    rw [eq_ix2 i]
    exact GR.product _ _ _ _

end Cert.Ffn

end
-- ==== Proof.UpDx.lean ====
/- The gradient of the mixer's input through the norm: what the kernel leaves. -/
module

public import proofs.«01_k».proof.Proof.FfnDx
public import Idealize.ShloMosaic.Lib.Pipeline.ValueKit
public import proofs.«01_k».proof.Proof.Gen.KernelUpDxIdeal.Value

@[expose] public section

set_option maxRecDepth 16384

noncomputable section

namespace Cert.Ffn.U

open Idealize.ShloMosaic Idealize.ShloMosaic.TcCoe Idealize.SL.Sem
open Cert.KernelUpDxIdeal Cert.KernelUpDxIdeal.Gen

variable (m : (ℓ : Loc nD τ sig) → Buf (Elt Ideal) ℓ) (c : Dev nD)

/-! ### The arguments -/

abbrev aX : Rows := fun q k => (m ((c : Thread nD τ).loc main_arg0) : S2048x1024.Idx → EReal) (ix2 q k)
abbrev aG : Fin 1024 → EReal := fun k => (m ((c : Thread nD τ).loc main_arg1) : S1024.Idx → EReal) (ix1 k)
abbrev aW : Blocks := fun j f k => (m ((c : Thread nD τ).loc main_arg2) : S1024x2816.Idx → EReal) (ix2 k (col j f))
abbrev aD : Mid := fun j q f => (m ((c : Thread nD τ).loc main_arg3) : S4x2048x704.Idx → EReal) (ix3 j q f)
abbrev aH : Rows := fun q k => (m ((c : Thread nD τ).loc main_arg4) : S2048x1024.Idx → EReal) (ix2 q k)
abbrev aR : Rows := fun q k => (m ((c : Thread nD τ).loc main_arg5) : S2048x1024.Idx → EReal) (ix2 q k)
/-- The cotangent of the norm's result. -/
abbrev aC : Rows := fun q k => through (aD m c) (aW m c) q k + aH m c q k

/-- A weight with its columns as rows, cut into blocks. -/
theorem in_blocks (x : FVec Ideal S2816x1024 .f32) (j : Fin 4) (f : Fin 704) (k : Fin 1024) :
    truncf .bf16 (shapeCast S4x704x1024 x shapeCasts_S2816x1024_S4x704x1024) bitsLt_bf16_f32 (ix3 j f k) = x (ix2 (col j f) k) := by
  pointwise [col]
theorem turned (x : FVec Ideal S1024x2816 .f32) (i : Fin 2816) (k : Fin 1024) :
    transpose S2816x1024 [1, 0] x transposes_S1024x2816_S2816x1024_1_0 (ix2 i k) = x (ix2 k i) := by
  pointwise []

theorem weight (j : Fin 4) (f : Fin 704) (k : Fin 1024) : V m c main_v2 (ix3 j f k) = aW m c j f k :=
  (congrFun (show @Eq (FVec Ideal S4x704x1024 .bf16) (V m c main_v2) (truncf .bf16 (shapeCast S4x704x1024
    (transpose S2816x1024 [1, 0] (m ((c : Thread nD τ).loc main_arg2) : FVec Ideal S1024x2816 .f32) transposes_S1024x2816_S2816x1024_1_0) shapeCasts_S2816x1024_S4x704x1024) bitsLt_bf16_f32) from by
    unfold V; after_results_simp <;> rfl) _).trans ((in_blocks _ j f k).trans (turned _ (col j f) k))
theorem cotangent (j : Fin 4) (q : Fin 2048) (f : Fin 704) : V m c main_v3 (ix3 j q f) = aD m c j q f := by
  refine (congrFun (show @Eq (FVec Ideal S4x2048x704 .bf16) (V m c main_v3) (truncf .bf16 (m ((c : Thread nD τ).loc main_arg3) : FVec Ideal S4x2048x704 .f32) bitsLt_bf16_f32) from by
    unfold V; after_results_simp <;> rfl) _).trans ?_
  pointwise []
theorem gain (k : Fin 1024) : V m c main_v4 (ix2 0 k) = aG m c k := by
  refine (congrFun (show @Eq (FVec Ideal S1x1024 .f32) (V m c main_v4) (shapeCast S1x1024 (m ((c : Thread nD τ).loc main_arg1) : FVec Ideal S1024 .f32) shapeCasts_S1024_S1x1024) from by
    unfold V; after_results_simp <;> rfl) _).trans ?_
  pointwise []
theorem rows0 (q : Fin 2048) (k : Fin 1024) : V m c main_arg0 (ix2 q k) = aX m c q k :=
  congrFun (show @Eq (FVec Ideal S2048x1024 .f32) (V m c main_arg0) (m ((c : Thread nD τ).loc main_arg0)) from by unfold V; after_results_simp <;> rfl) _
theorem rows4 (q : Fin 2048) (k : Fin 1024) : V m c main_arg4 (ix2 q k) = aH m c q k :=
  congrFun (show @Eq (FVec Ideal S2048x1024 .f32) (V m c main_arg4) (m ((c : Thread nD τ).loc main_arg4)) from by unfold V; after_results_simp <;> rfl) _
theorem rows5 (q : Fin 2048) (k : Fin 1024) : V m c main_arg5 (ix2 q k) = aR m c q k :=
  congrFun (show @Eq (FVec Ideal S2048x1024 .f32) (V m c main_arg5) (m ((c : Thread nD τ).loc main_arg5)) from by unfold V; after_results_simp <;> rfl) _

/-! ### The blocks -/

/-- A row of one of the four quarters of the batch. -/
def row (b : ℕ) (q : Fin 512) : Fin 2048 := ⟨b % 4 * 512 + q.val, by omega⟩
/-- The block of a step. -/
def blk (t : ℕ) : Fin 4 := ⟨t % 4, Nat.mod_lt _ (by norm_num)⟩

theorem lt0 (t : Fin cfg0.N) : t.val < 16 := lt_of_lt_of_eq t.isLt N_0
theorem quarter (t : Fin cfg0.N) : t.val / 4 % 4 = t.val / 4 := by have := lt0 t; omega

theorem idx : ∀ t : Fin cfg0.N, win0_0.index t = ![t.val % 4, t.val / 4, 0] ∧ win0_1.index t = ![t.val % 4, 0, 0]
    ∧ win0_2.index t = ![t.val / 4, 0] ∧ win0_3.index t = ![t.val / 4, 0] ∧ win0_4.index t = ![t.val / 4, 0] ∧ win0_5.index t = ![0, 0]
    ∧ win0_6.index t = ![t.val / 4, 0] ∧ win0_7.index t = ![t.val / 4, 0] ∧ win0_8.index t = ![0, 0] :=
  (by decide +kernel : ∀ t : Fin grid0.N, _)

section
variable (t : Fin cfg0.N) (q : Fin 512) (k : Fin 1024) (f : Fin 704)

theorem in0 : iblk m c 0 t (ix3 0 q f) = aD m c (blk t.val) (row (t.val / 4) q) f := by
  rw [← cotangent]
  blk_point [iblk, row, blk, quarter t, idx t]
theorem in1 : iblk m c 1 t (ix3 0 f k) = aW m c (blk t.val) f k := by
  rw [← weight]
  blk_point [iblk, blk, idx t]
theorem in2 : iblk m c 2 t (ix2 q k) = aH m c (row (t.val / 4) q) k := by
  rw [← rows4]
  blk_point [iblk, row, quarter t, idx t]
theorem in3 : iblk m c 3 t (ix2 q k) = aX m c (row (t.val / 4) q) k := by
  rw [← rows0]
  blk_point [iblk, row, quarter t, idx t]
theorem in4 : iblk m c 4 t (ix2 q k) = aR m c (row (t.val / 4) q) k := by
  rw [← rows5]
  blk_point [iblk, row, quarter t, idx t]
theorem in5 : iblk m c 5 t (ix2 0 k) = aG m c k := by
  rw [← gain]
  blk_point [iblk, idx t]
end

/-! ### The arithmetic of one block of rows -/

section
variable (r : Fin 512 → Fin 2048) {X D R : Rows} {G : Fin 1024 → EReal}
  {s h x res : Vec Ideal S512x1024 .f32} {g : Vec Ideal S1x1024 .f32}
  (hd : ∀ q k, s (ix2 q k) + h (ix2 q k) = D (r q) k) (hx : ∀ q k, x (ix2 q k) = X (r q) k)
  (hg : ∀ k, g (ix2 0 k) = G k) (hr : ∀ q k, res (ix2 q k) = R (r q) k)
  (q : Fin 512) (k : Fin 1024)

include hx in
theorem mean_at : k0_pay7 x (ix2 q 0) = meanSq X (r q) := by
  pointwise [k0_pay7]
  simp only [hx]
  rfl
include hx in
theorem scale_at : k0_pay8 x (ix2 q 0) = scale X (r q) := by
  pointwise [k0_pay8]
  rw [mean_at r hx]
  rfl
include hd hx in
theorem gain_at : k0_pay9 s h x (ix2 0 k) = ∑ q, X (r q) k * scale X (r q) * D (r q) k := by
  pointwise [k0_pay9, k0_pay6]
  simp only [scale_at r hx, hx, hd]
include hd hx hg in
theorem norm_at : k0_pay10 s h x g (ix2 q k)
    = D (r q) k * G k * scale X (r q) + X (r q) k * pull X G D (r q) + pull X G D (r q) * X (r q) k := by
  pointwise [k0_pay10, k0_pay6]
  simp only [Fin.sum_univ_one, Fin.isValue, scale_at r hx, mean_at r hx, hx, hd, hg]
  rfl
include hd hx hg hr in
theorem out_at : k0_pay11 s h x res g (ix2 q k) = dNorm X G D R (r q) k := by
  pointwise [k0_pay11]
  rw [norm_at r hd hx hg, hr]
  rfl
include hd hx hg hr in
theorem out_at' : k0_pay3 (k0_pay12 s h x res g) (ix2 q k) = dNorm X G D R (r q) k := by
  pointwise [k0_pay12, k0_pay3]
  rw [norm_at r hd hx hg, hr]
  rfl
end

/-! ### The steps -/

section
variable (t : Fin cfg0.N) (q : Fin 512) (k : Fin 1024)

theorem add_at {d : Fin 512 → Fin 704 → EReal} {w : Fin 704 → Fin 1024 → EReal} (s : Vec Ideal S512x1024 .f32)
    {b0 : Vec Ideal S1x512x704 .bf16} {b1 : Vec Ideal S1x704x1024 .bf16} (h0 : ∀ q f, b0 (ix3 0 q f) = d q f) (h1 : ∀ f k, b1 (ix3 0 f k) = w f k) :
    k0_pay2 s b0 b1 (ix2 q k) = s (ix2 q k) + ∑ f, d q f * w f k := by
  pointwise [k0_pay2]
  simp only [h0, h1]
theorem zero_at : (k0_pay1 : FVec Ideal S512x1024 .f32) (ix2 q k) = 0 := by
  pointwise [k0_pay1]
theorem zero_gain : (k0_pay4 : FVec Ideal S1x1024 .f32) (ix2 0 k) = 0 := by
  pointwise [k0_pay4]
theorem add_gain (s v : FVec Ideal S1x1024 .f32) : k0_pay5 s v (ix2 0 k) = v (ix2 0 k) + s (ix2 0 k) := by
  pointwise [k0_pay5]

/-- The point before. -/
abbrev before (t : Fin cfg0.N) := outsAt0 m c (t.val - 1) (Nat.lt_of_le_of_lt (Nat.sub_le _ _) t.isLt)

/-- What the accumulator holds after the first step of a quarter. -/
theorem first_step (h : t.val % 4 = 0) : (outsAt0 m c t.val t.isLt).2.2.2 (ix2 q k) = part (aD m c) (aW m c) (blk t.val) (row (t.val / 4) q) k := by
  rw [outsAt0_A m c t h (by omega)]
  frame_out
  refine (add_at q k _ (in0 m c t) (fun f k => in1 m c t k f)).trans ?_
  rw [zero_at]
  exact zero_add _
/-- What the accumulator holds after each other step. -/
theorem next_step (h : ¬t.val % 4 = 0) : (outsAt0 m c t.val t.isLt).2.2.2 (ix2 q k)
    = (before m c t).2.2.2 (ix2 q k) + part (aD m c) (aW m c) (blk t.val) (row (t.val / 4) q) k := by
  by_cases h1 : t.val % 4 = 3
  · by_cases h2 : t.val < 4
    · rw [outsAt0_C m c t h h1 h2]
      frame_out
      refine (add_at q k _ (in0 m c t) (fun f k => in1 m c t k f)).trans ?_
      exact congrArg (· + _) (congrFun (Memref.IsWhole.read_unread _ _) _)
    · rw [outsAt0_D m c t h h1 h2]
      frame_out
      refine (add_at q k _ (in0 m c t) (fun f k => in1 m c t k f)).trans ?_
      exact congrArg (· + _) (congrFun (Memref.IsWhole.read_unread _ _) _)
  · rw [outsAt0_B m c t h h1]
    frame_out
    refine (add_at q k _ (in0 m c t) (fun f k => in1 m c t k f)).trans ?_
    exact congrArg (· + _) (congrFun (Memref.IsWhole.read_unread _ _) _)
end

/-- The accumulator after step `r` of quarter `b`: the first blocks' parts. -/
theorem so_far (b : ℕ) (hb : b < 4) (q : Fin 512) (k : Fin 1024) : ∀ (r : ℕ) (_ : r < 4) (h : 4 * b + r < cfg0.N),
    (outsAt0 m c (4 * b + r) h).2.2.2 (ix2 q k) = firstParts (aD m c) (aW m c) (r + 1) (row b q) k
  | 0, _, h => by
    refine (first_step m c ⟨4 * b + 0, h⟩ q k (by show (4 * b + 0) % 4 = 0; omega)).trans ?_
    rw [firstParts_one]
    refine congr (congr (congrArg (part _ _) (Fin.ext ?_)) (congrArg (row · q) ?_)) rfl
    · show (4 * b + 0) % 4 = 0; omega
    · show (4 * b + 0) / 4 = b; omega
  | r + 1, hr, h => by
    refine (next_step m c ⟨4 * b + (r + 1), h⟩ q k (by show ¬(4 * b + (r + 1)) % 4 = 0; omega)).trans ?_
    rw [firstParts_succ _ _ _ hr]
    refine congr (congrArg (· + ·) (so_far b hb q k r (by omega) (by omega))) ?_
    refine congr (congr (congrArg (part _ _) (Fin.ext ?_)) (congrArg (row · q) ?_)) rfl
    · show (4 * b + (r + 1)) % 4 = r + 1; omega
    · show (4 * b + (r + 1)) / 4 = b; omega

theorem same {a b : ℕ} (e : a = b) (ha : a < cfg0.N) (hb : b < cfg0.N) : outsAt0 m c a ha = outsAt0 m c b hb := by
  subst e; rfl

/-- The accumulator after a quarter's last step. -/
theorem whole (t : Fin cfg0.N) (h : t.val % 4 = 3) (q : Fin 512) (k : Fin 1024) :
    (outsAt0 m c t.val t.isLt).2.2.2 (ix2 q k) = through (aD m c) (aW m c) (row (t.val / 4) q) k := by
  rw [← firstParts_four]
  have e : t.val = 4 * (t.val / 4) + 3 := by omega
  have lt := lt0 t
  exact (congrArg (fun o => o.2.2.2 (ix2 q k)) (same m c e _ (lt_of_eq_of_lt e.symm t.isLt))).trans (so_far m c (t.val / 4) (by omega) q k 3 (by norm_num) _)

section
variable (t : Fin cfg0.N) (q : Fin 512) (k : Fin 1024)

/-- The sum a quarter's last step works with. -/
theorem total (h : t.val % 4 = 3) (s : Vec Ideal S512x1024 .f32) (hs : s = (before m c t).2.2.2) (q : Fin 512) (k : Fin 1024) :
    k0_pay2 s (iblk m c 0 t) (iblk m c 1 t) (ix2 q k) + iblk m c 2 t (ix2 q k) = aC m c (row (t.val / 4) q) k := by
  refine congrArg₂ (· + ·) ?_ (in2 m c t q k)
  refine (add_at q k _ (in0 m c t) (fun f k => in1 m c t k f)).trans ?_
  rw [hs, ← whole m c t h]
  exact (next_step m c t q k (by omega)).symm

/-- What a quarter's last step hands out for the gradient. -/
theorem handed (h : t.val % 4 = 3) : (outsAt0 m c t.val t.isLt).1 (ix2 q k)
    = dNorm (aX m c) (aG m c) (aC m c) (aR m c) (row (t.val / 4) q) k := by
  by_cases h2 : t.val < 4
  · rw [outsAt0_C m c t (by omega) h h2]
    frame_out
    exact out_at (row (t.val / 4)) (total m c t h _ (Memref.IsWhole.read_unread _ _)) (in3 m c t) (in5 m c t) (in4 m c t) q k
  · rw [outsAt0_D m c t (by omega) h h2]
    frame_out
    exact out_at (row (t.val / 4)) (total m c t h _ (Memref.IsWhole.read_unread _ _)) (in3 m c t) (in5 m c t) (in4 m c t) q k
theorem handed' (h : t.val % 4 = 3) : (outsAt0 m c t.val t.isLt).2.1 (ix2 q k)
    = dNorm (aX m c) (aG m c) (aC m c) (aR m c) (row (t.val / 4) q) k := by
  by_cases h2 : t.val < 4
  · rw [outsAt0_C m c t (by omega) h h2]
    frame_out
    exact out_at' (row (t.val / 4)) (total m c t h _ (Memref.IsWhole.read_unread _ _)) (in3 m c t) (in5 m c t) (in4 m c t) q k
  · rw [outsAt0_D m c t (by omega) h h2]
    frame_out
    exact out_at' (row (t.val / 4)) (total m c t h _ (Memref.IsWhole.read_unread _ _)) (in3 m c t) (in5 m c t) (in4 m c t) q k

/-- A quarter's part of the gain's gradient. -/
def gainPart (X D : Rows) (k : Fin 1024) (b : ℕ) : EReal := ∑ q, X (row b q) k * scale X (row b q) * D (row b q) k

/-- The gain's gradient: begun by the first quarter's last step, added to by the others', kept by every other step. -/
theorem gain_first (h : t.val = 3) : (outsAt0 m c t.val t.isLt).2.2.1 (ix2 0 k) = gainPart (aX m c) (aC m c) k (t.val / 4) := by
  rw [outsAt0_C m c t (by omega) (by omega) (by omega)]
  frame_out
  refine (add_gain k _ _).trans ?_
  rw [zero_gain, zero_add]
  exact gain_at (row (t.val / 4)) (total m c t (by omega) _ (Memref.IsWhole.read_unread _ _)) (in3 m c t) k
theorem gain_next (h : t.val % 4 = 3) (h2 : ¬t.val < 4) : (outsAt0 m c t.val t.isLt).2.2.1 (ix2 0 k)
    = (before m c t).2.2.1 (ix2 0 k) + gainPart (aX m c) (aC m c) k (t.val / 4) := by
  rw [outsAt0_D m c t (by omega) h h2]
  frame_out
  refine (add_gain k _ _).trans ?_
  refine congrArg₂ (· + ·) ?_ ?_
  · rfl
  · exact gain_at (row (t.val / 4)) (total m c t h _ (Memref.IsWhole.read_unread _ _)) (in3 m c t) k
theorem gain_kept (h : ¬t.val % 4 = 3) : (outsAt0 m c t.val t.isLt).2.2.1 (ix2 0 k) = (before m c t).2.2.1 (ix2 0 k) := by
  by_cases h0 : t.val % 4 = 0
  · rw [outsAt0_A m c t h0 h]
    rfl
  · rw [outsAt0_B m c t h0 h]
    rfl
end

/-- Within the first quarter's last step and the later quarters: the quarters that have ended have been added. -/
theorem gain_so_far (k : Fin 1024) : ∀ (n : ℕ) (h : 3 + n < cfg0.N),
    (outsAt0 m c (3 + n) h).2.2.1 (ix2 0 k) = ∑ b ∈ Finset.range ((3 + n + 1) / 4), gainPart (aX m c) (aC m c) k b
  | 0, h => by
    refine (gain_first m c ⟨3 + 0, h⟩ k rfl).trans ?_
    have e : (3 + 0 + 1) / 4 = 1 := by norm_num
    have e' : (3 + 0) / 4 = 0 := by norm_num
    rw [e, Finset.sum_range_one]
    exact congrArg (gainPart _ _ k) e'
  | n + 1, h => by
    by_cases h1 : (3 + (n + 1)) % 4 = 3
    · refine (gain_next m c ⟨3 + (n + 1), h⟩ k h1 (by show ¬3 + (n + 1) < 4; omega)).trans ?_
      have e : (3 + (n + 1) + 1) / 4 = (3 + n + 1) / 4 + 1 := by omega
      have e' : (3 + (n + 1)) / 4 = (3 + n + 1) / 4 := by omega
      rw [e, Finset.sum_range_succ]
      exact congrArg₂ (· + ·) (gain_so_far k n (by omega)) (congrArg (gainPart _ _ k) e')
    · refine (gain_kept m c ⟨3 + (n + 1), h⟩ k h1).trans ?_
      have e : (3 + (n + 1) + 1) / 4 = (3 + n + 1) / 4 := by omega
      rw [e]
      exact gain_so_far k n (by omega)

/-- What the last step of all hands out. -/
theorem gain_handed (t : Fin cfg0.N) (h : t.val % 16 = 15) (k : Fin 1024) : (outsAt0 m c t.val t.isLt).2.2.1 (ix2 0 k) = dGain (aX m c) (aC m c) k := by
  have lt := lt0 t
  have e : t.val = 3 + 12 := by omega
  refine (congrArg (fun o => o.2.2.1 (ix2 0 k)) (same m c e _ (lt_of_eq_of_lt e.symm t.isLt))).trans ((gain_so_far m c k 12 _).trans ?_)
  exact (sum_quarters (fun q => aX m c q k * scale (aX m c) q * aC m c q k) row
    (fun b hb q => by show b % 4 * 512 + q.val = b * 512 + q.val; rw [Nat.mod_eq_of_lt hb])).symm

/-! ### The arrays the kernel leaves -/

theorem place6 (t : Fin cfg0.N) (q : Fin 512) (k : Fin 1024) : (win0_6.blk t).view.emb (ix2 q k) = ix2 (row (t.val / 4) q) k := by
  funext a
  apply Fin.ext
  match a with
  | ⟨0, _⟩ => blk_simp; rw [(idx t).2.2.2.2.2.2.1]; exact congrArg (· * 512 + q.val) (quarter t).symm
  | ⟨1, _⟩ => blk_simp; rw [(idx t).2.2.2.2.2.2.1]; exact Nat.zero_add _
theorem place7 (t : Fin cfg0.N) (q : Fin 512) (k : Fin 1024) : (win0_7.blk t).view.emb (ix2 q k) = ix2 (row (t.val / 4) q) k := by
  funext a
  apply Fin.ext
  match a with
  | ⟨0, _⟩ => blk_simp; rw [(idx t).2.2.2.2.2.2.2.1]; exact congrArg (· * 512 + q.val) (quarter t).symm
  | ⟨1, _⟩ => blk_simp; rw [(idx t).2.2.2.2.2.2.2.1]; exact Nat.zero_add _
theorem place8 (t : Fin cfg0.N) (k : Fin 1024) : (win0_8.blk t).view.emb (ix2 0 k) = ix2 0 k := by
  funext a
  apply Fin.ext
  match a with
  | ⟨0, _⟩ => blk_simp; rw [(idx t).2.2.2.2.2.2.2.2]; rfl
  | ⟨1, _⟩ => blk_simp; rw [(idx t).2.2.2.2.2.2.2.2]; exact Nat.zero_add _

theorem array6 : (dats m 0 c).arrAt 6 cfg0.N = fun i : S2048x1024.Idx => dNorm (aX m c) (aG m c) (aC m c) (aR m c) (i 0) (i 1) := by
  refine (dats m 0 c).arrAt_eq_of_cover 6 _ (fun t hf => ?_) (fun i => (Value.covered_iff6 i).2 ⟨Nat.zero_le _, (i 0).isLt, Nat.zero_le _, (i 1).isLt⟩)
  rw [Value.flushed6]
  funext y
  obtain ⟨q, k, rfl⟩ : ∃ (q : Fin 512) (k : Fin 1024), y = ix2 q k := ⟨y 0, y 1, eq_ix2 y⟩
  refine (handed m c t q k ((flush0_6 t).mp hf)).trans ?_
  exact (congrArg (fun i : S2048x1024.Idx => dNorm (aX m c) (aG m c) (aC m c) (aR m c) (i 0) (i 1)) (place6 t q k)).symm
theorem array7 : (dats m 0 c).arrAt 7 cfg0.N = fun i : S2048x1024.Idx => dNorm (aX m c) (aG m c) (aC m c) (aR m c) (i 0) (i 1) := by
  refine (dats m 0 c).arrAt_eq_of_cover 7 _ (fun t hf => ?_) (fun i => (Value.covered_iff7 i).2 ⟨Nat.zero_le _, (i 0).isLt, Nat.zero_le _, (i 1).isLt⟩)
  rw [Value.flushed7]
  funext y
  obtain ⟨q, k, rfl⟩ : ∃ (q : Fin 512) (k : Fin 1024), y = ix2 q k := ⟨y 0, y 1, eq_ix2 y⟩
  refine (handed' m c t q k ((flush0_7 t).mp hf)).trans ?_
  exact (congrArg (fun i : S2048x1024.Idx => dNorm (aX m c) (aG m c) (aC m c) (aR m c) (i 0) (i 1)) (place7 t q k)).symm
theorem array8 : (dats m 0 c).arrAt 8 cfg0.N = fun i : S1x1024.Idx => dGain (aX m c) (aC m c) (i 1) := by
  refine (dats m 0 c).arrAt_eq_of_cover 8 _ (fun t hf => ?_) (fun i => (Value.covered_iff8 i).2 ⟨Nat.zero_le _, (i 0).isLt, Nat.zero_le _, (i 1).isLt⟩)
  rw [Value.flushed8]
  funext y
  obtain ⟨z, k, rfl⟩ : ∃ (z : Fin 1) (k : Fin 1024), y = ix2 z k := ⟨y 0, y 1, eq_ix2 y⟩
  obtain rfl : z = 0 := Subsingleton.elim _ _
  refine (gain_handed m c t ((flush0_8 t).mp hf) k).trans ?_
  exact (congrArg (fun i : S1x1024.Idx => dGain (aX m c) (aC m c) (i 1)) (place8 t k)).symm

end Cert.Ffn.U

end
-- ==== Proof.UpDxRef.lean ====
/- The reference's gradients through the norm, entry by entry. -/
module

public import proofs.«01_k».proof.Proof.FfnDx
public import Idealize.ShloMosaic.Lib.Pipeline.ValueKit
public import proofs.«01_k».proof.Proof.Gen.ReferenceUpDxIdeal.Read

@[expose] public section

set_option maxRecDepth 16384

noncomputable section

namespace Cert.Ffn.UR

open Idealize.ShloMosaic Idealize.ShloMosaic.StableHlo Idealize.SL.Sem
open Cert.ReferenceUpDxIdeal Cert.ReferenceUpDxIdeal.Read

variable (x0 : FVec Ideal S2048x1024 .f32) (x1 : FVec Ideal S1024 .f32) (x2 : FVec Ideal S1024x2816 .f32) (x3 : FVec Ideal S4x2048x704 .f32)
  (x4 x5 : FVec Ideal S2048x1024 .f32)

abbrev rX : Rows := fun q k => x0 (ix2 q k)
abbrev rG : Fin 1024 → EReal := fun k => x1 (ix1 k)
abbrev rR : Rows := fun q k => x5 (ix2 q k)
/-- The cotangent of the norm's result. -/
abbrev rC : Rows := fun q k => through (fun j q f => x3 (ix3 j q f)) (fun j f k => x2 (ix2 k (col j f))) q k + x4 (ix2 q k)

variable (q : Fin 2048) (k : Fin 1024)

theorem mean_at : val_main_v6 (F := Ideal) x0 (ix2 q 0) = meanSq (rX x0) q := by
  pointwise [val_main_v6, val_main_v5, val_main_v4, val_main_v3, val_main_v2, val_main_v1, val_main_v0, val_main_cst, val_main_cst_0, val_main_cst_1]
  rfl
theorem scale_at : val_main_v7 (F := Ideal) x0 (ix2 q 0) = scale (rX x0) q := by
  rw [val_main_v7_apply, mean_at]
  rfl
theorem slope_at : val_main_v10 (F := Ideal) x0 (ix2 q 0) = minusHalf * Ideal.div (scale (rX x0) q) (meanSq (rX x0) q) := by
  rw [val_main_v10_apply, val_main_v8_apply, scale_at, mean_at]
  pointwise [val_main_v9, val_main_cst_2]

theorem side_by_side (j : Fin 4) (q : Fin 2048) (f : Fin 704) : val_main_v18 (F := Ideal) x3 (ix2 q (col j f)) = x3 (ix3 j q f) := by
  pointwise [val_main_v18, val_main_v17, col]
theorem product : val_main_v19 (F := Ideal) x2 x3 (ix2 q k)
    = through (fun j q f => x3 (ix3 j q f)) (fun j f k => x2 (ix2 k (col j f))) q k := by
  pointwise [val_main_v19]
  rw [sum_col]
  simp only [side_by_side]
  rfl
theorem cot_at : val_main_v20 (F := Ideal) x2 x3 x4 (ix2 q k) = rC x2 x3 x4 q k := by
  rw [val_main_v20_apply, product]
  exact add_comm _ _

theorem weighed_at : val_main_v25 (F := Ideal) x1 x2 x3 x4 (ix2 q k) = rC x2 x3 x4 q k * rG x1 k := by
  rw [val_main_v25_apply, cot_at]
  pointwise [val_main_v24, val_main_v13]

theorem pull_at : val_main_v37 (F := Ideal) x0 x1 x2 x3 x4 (ix2 q k) = pull (rX x0) (rG x1) (rC x2 x3 x4) q := by
  pointwise [val_main_v37, val_main_v36, val_main_v35, val_main_v34, val_main_v33, val_main_v29, val_main_v28, val_main_v27, val_main_cst_5, val_main_cst_6, val_main_cst_7]
  simp only [Fin.sum_univ_one, Fin.isValue, slope_at, weighed_at]
  rfl

theorem norm_out : val_main_v41 (F := Ideal) x0 x1 x2 x3 x4 x5 (ix2 q k) = dNorm (rX x0) (rG x1) (rC x2 x3 x4) (rR x5) q k := by
  rw [val_main_v41_apply, val_main_v39_apply, val_main_v32_apply, val_main_v31_apply, val_main_v38_apply, val_main_v40_apply, pull_at, weighed_at]
  refine Eq.trans (b := rR x5 q k + rC x2 x3 x4 q k * rG x1 k * scale (rX x0) q + rX x0 q k * pull (rX x0) (rG x1) (rC x2 x3 x4) q
    + pull (rX x0) (rG x1) (rC x2 x3 x4) q * rX x0 q k) ?_ ?_
  · rw [← scale_at]
    pointwise [val_main_v30]
  · unfold dNorm
    rw [add_comm (rR x5 q k), add_right_comm _ (rR x5 q k), add_right_comm _ (rR x5 q k)]
theorem norm_out' : val_main_v42 (F := Ideal) x0 x1 x2 x3 x4 x5 (ix2 q k) = dNorm (rX x0) (rG x1) (rC x2 x3 x4) (rR x5) q k := by
  rw [← norm_out]
  pointwise [val_main_v42]

theorem gain_out (z : Fin 1) : val_main_v43 (F := Ideal) x0 x2 x3 x4 (ix2 z k) = dGain (rX x0) (rC x2 x3 x4) k := by
  obtain rfl : z = 0 := Subsingleton.elim _ _
  pointwise [val_main_v43, val_main_v26, val_main_v23, val_main_v22, val_main_v21, val_main_v12, val_main_v11, val_main_cst_3, val_main_cst_4]
  simp only [Fin.sum_univ_one, Fin.isValue, scale_at, cot_at]
  rfl

end Cert.Ffn.UR

end
-- ==== Proof.AlgUpDx.lean ====
/- The gradient through the norm: the kernel's three results are the reference's. -/
module

public import proofs.«01_k».proof.Proof.UpDx
public import proofs.«01_k».proof.Proof.UpDxRef
public import proofs.«01_k».proof.Proof.Gen.ReferenceUpDxIdeal.Run
public import proofs.«01_k».proof.Defs

@[expose] public section

noncomputable section

namespace Cert.Ffn

open Idealize.ShloMosaic Idealize.ShloMosaic.StableHlo Idealize.SL.Sem

theorem algebraicUpDx : Cert.algebraic_KernelUpDxIdeal_ReferenceUpDxIdeal := by
  intro m g m' g' _ hargs
  refine ⟨fun c => (Cert.KernelUpDxIdeal.Gen.dats m 0 c).arrAt 6 Cert.KernelUpDxIdeal.cfg0.N,
    fun c => (Cert.KernelUpDxIdeal.Gen.dats m 0 c).arrAt 7 Cert.KernelUpDxIdeal.cfg0.N,
    fun c => (Cert.KernelUpDxIdeal.Gen.dats m 0 c).arrAt 8 Cert.KernelUpDxIdeal.cfg0.N, ?_, ?_⟩
  · exact Cert.KernelUpDxIdeal.Value.run_blocks m g
  · refine (θ_run _ _ _).mono (fun r h c => ?_) (Cert.ReferenceUpDxIdeal.Value.run m' g')
    obtain ⟨h0, h1, h2, hk⟩ := h c
    obtain ⟨e0, e1, e2, e3, e4, e5⟩ := hargs c
    refine ⟨h0.trans ?_, h1.trans ?_, h2.trans ?_, hk⟩
    · refine (Cert.ReferenceUpDxIdeal.Read.val_main_v41_eq m' c).trans ?_
      refine Eq.trans ?_ (U.array6 m c).symm
      rw [e0, e1, e2, e3, e4, e5]
      funext i
      rw [eq_ix2 i]
      exact UR.norm_out _ _ _ _ _ _ _ _
    · refine (Cert.ReferenceUpDxIdeal.Read.val_main_v42_eq m' c).trans ?_
      refine Eq.trans ?_ (U.array7 m c).symm
      rw [e0, e1, e2, e3, e4, e5]
      funext i
      rw [eq_ix2 i]
      exact UR.norm_out' _ _ _ _ _ _ _ _
    · refine (Cert.ReferenceUpDxIdeal.Read.val_main_v43_eq _ _ _ _).trans ?_
      refine Eq.trans ?_ (U.array8 m c).symm
      rw [e0, e2, e3, e4]
      funext i
      rw [eq_ix2 i]
      exact UR.gain_out _ _ _ _ _ _

end Cert.Ffn

end
-- ==== Proof.Down.lean ====
/- The mixer's halved product with the down weights beside the residual: what the kernel leaves. -/
module

public import proofs.«01_k».proof.Proof.FfnDx
public import Idealize.ShloMosaic.Lib.Pipeline.ValueKit
public import proofs.«01_k».proof.Proof.Gen.KernelDownIdeal.Value

@[expose] public section

set_option maxRecDepth 16384

noncomputable section

namespace Cert.Ffn.D

open Idealize.ShloMosaic Idealize.ShloMosaic.TcCoe Idealize.SL.Sem
open Cert.KernelDownIdeal Cert.KernelDownIdeal.Gen

variable (m : (ℓ : Loc nD τ sig) → Buf (Elt Ideal) ℓ) (c : Dev nD)

abbrev aA : Mid := fun j q f => (m ((c : Thread nD τ).loc main_arg0) : S4x2048x704.Idx → EReal) (ix3 j q f)
abbrev aW : Blocks := fun j f k => (m ((c : Thread nD τ).loc main_arg1) : S2816x1024.Idx → EReal) (ix2 (col j f) k)
abbrev aX : Rows := fun q k => (m ((c : Thread nD τ).loc main_arg2) : S2048x1024.Idx → EReal) (ix2 q k)

/-- A weight cut into blocks. -/
theorem in_blocks (x : FVec Ideal S2816x1024 .f32) (j : Fin 4) (f : Fin 704) (k : Fin 1024) :
    truncf .bf16 (shapeCast S4x704x1024 x shapeCasts_S2816x1024_S4x704x1024) bitsLt_bf16_f32 (ix3 j f k) = x (ix2 (col j f) k) := by
  pointwise [col]

theorem weight (j : Fin 4) (f : Fin 704) (k : Fin 1024) : V m c main_v1 (ix3 j f k) = aW m c j f k :=
  (congrFun (show @Eq (FVec Ideal S4x704x1024 .bf16) (V m c main_v1) (truncf .bf16 (shapeCast S4x704x1024
    (m ((c : Thread nD τ).loc main_arg1) : FVec Ideal S2816x1024 .f32) shapeCasts_S2816x1024_S4x704x1024) bitsLt_bf16_f32) from by
    unfold V; after_results_simp <;> rfl) _).trans (in_blocks _ j f k)

theorem activation (j : Fin 4) (q : Fin 2048) (f : Fin 704) : V m c main_v2 (ix3 j q f) = aA m c j q f := by
  refine (congrFun (show @Eq (FVec Ideal S4x2048x704 .bf16) (V m c main_v2) (truncf .bf16 (m ((c : Thread nD τ).loc main_arg0) : FVec Ideal S4x2048x704 .f32) bitsLt_bf16_f32) from by
    unfold V; after_results_simp <;> rfl) _).trans ?_
  pointwise []

theorem residual (q : Fin 2048) (k : Fin 1024) : V m c main_arg2 (ix2 q k) = aX m c q k :=
  congrFun (show @Eq (FVec Ideal S2048x1024 .f32) (V m c main_arg2) (m ((c : Thread nD τ).loc main_arg2)) from by
    unfold V; after_results_simp <;> rfl) _

/-- What the kernel leaves: the residual and half the product. -/
def mixed : Rows := fun q k => through (aA m c) (aW m c) q k * half + aX m c q k

/-- A row of one of the two halves of the batch. -/
def row (r : ℕ) (hr : r < 2) (q : Fin 1024) : Fin 2048 := ⟨r * 1024 + q.val, by omega⟩

/-- The steps run through the four blocks for each half of the batch. -/
theorem lt0 (t : Fin cfg0.N) : t.val < 8 := lt_of_lt_of_eq t.isLt N_0
theorem half_lt (t : Fin cfg0.N) : t.val / 4 < 2 := by have := lt0 t; omega
theorem block_lt (n : ℕ) : n % 4 < 4 := Nat.mod_lt _ (by norm_num)

theorem idx : ∀ t : Fin cfg0.N, win0_0.index t = ![t.val % 4, t.val / 4, 0] ∧ win0_1.index t = ![t.val % 4, 0, 0] ∧ win0_2.index t = ![t.val / 4, 0]
    ∧ win0_3.index t = ![t.val / 4, 0] :=
  (by decide +kernel : ∀ t : Fin grid0.N, _)

section
variable (t : Fin cfg0.N) (q k : Fin 1024) (f : Fin 704)

theorem in0 : iblk m c 0 t (ix3 0 q f) = aA m c ⟨t.val % 4, block_lt _⟩ (row (t.val / 4) (half_lt t) q) f := by
  rw [← activation]
  blk_point [iblk, row, idx t]
theorem in1 : iblk m c 1 t (ix3 0 f k) = aW m c ⟨t.val % 4, block_lt _⟩ f k := by
  rw [← weight]
  blk_point [iblk, idx t]
theorem in2 : iblk m c 2 t (ix2 q k) = aX m c (row (t.val / 4) (half_lt t) q) k := by
  rw [← residual]
  blk_point [iblk, row, idx t]

theorem add_at {d : Fin 1024 → Fin 704 → EReal} {w : Fin 704 → Fin 1024 → EReal} (s : Vec Ideal S1024x1024 .f32)
    {b0 : Vec Ideal S1x1024x704 .bf16} {b1 : Vec Ideal S1x704x1024 .bf16} (h0 : ∀ q f, b0 (ix3 0 q f) = d q f) (h1 : ∀ f k, b1 (ix3 0 f k) = w f k) :
    k0_pay2 s b0 b1 (ix2 q k) = s (ix2 q k) + ∑ f, d q f * w f k := by
  pointwise [k0_pay2]
  simp only [h0, h1]

theorem finish_at (s r : Vec Ideal S1024x1024 .f32) : (k0_pay3 s r : FVec Ideal S1024x1024 .f32) (ix2 q k) = s (ix2 q k) * half + r (ix2 q k) := by
  pointwise [k0_pay3]

theorem zero_at : (k0_pay1 : FVec Ideal S1024x1024 .f32) (ix2 q k) = 0 := by
  pointwise [k0_pay1]

/-- What the accumulator holds after the first step of a half. -/
theorem first_step (h : t.val % 4 = 0) : (outsAt0 m c t.val t.isLt).2 (ix2 q k) = part (aA m c) (aW m c) ⟨t.val % 4, block_lt _⟩ (row (t.val / 4) (half_lt t) q) k := by
  rw [outsAt0_A m c t h (by omega)]
  frame_out
  refine (add_at q k _ (in0 m c t) (fun f k => in1 m c t k f)).trans ?_
  rw [zero_at]
  exact zero_add _
/-- What the accumulator holds after each other step. -/
theorem next_step (h : ¬t.val % 4 = 0) : (outsAt0 m c t.val t.isLt).2 (ix2 q k)
    = (outsAt0 m c (t.val - 1) (Nat.lt_of_le_of_lt (Nat.sub_le _ _) t.isLt)).2 (ix2 q k) + part (aA m c) (aW m c) ⟨t.val % 4, block_lt _⟩ (row (t.val / 4) (half_lt t) q) k := by
  by_cases h1 : t.val % 4 = 3
  · rw [outsAt0_C m c t h h1]
    frame_out
    refine (add_at q k _ (in0 m c t) (fun f k => in1 m c t k f)).trans ?_
    exact congrArg (· + _) (congrFun (Memref.IsWhole.read_unread _ _) _)
  · rw [outsAt0_B m c t h h1]
    frame_out
    refine (add_at q k _ (in0 m c t) (fun f k => in1 m c t k f)).trans ?_
    exact congrArg (· + _) (congrFun (Memref.IsWhole.read_unread _ _) _)
/-- The last step of a half hands out half the accumulator beside the residual. -/
theorem last_step (h : t.val % 4 = 3) : (outsAt0 m c t.val t.isLt).1 (ix2 q k)
    = (outsAt0 m c t.val t.isLt).2 (ix2 q k) * half + aX m c (row (t.val / 4) (half_lt t) q) k := by
  rw [outsAt0_C m c t (by omega) h]
  frame_out
  rw [← in2]
  exact finish_at q k _ _
end

/-- The accumulator after step `r` of half `b`: the first blocks' parts. -/
theorem so_far (b : ℕ) (hb : b < 2) (q k : Fin 1024) : ∀ (r : ℕ) (_ : r < 4) (h : 4 * b + r < cfg0.N),
    (outsAt0 m c (4 * b + r) h).2 (ix2 q k) = firstParts (aA m c) (aW m c) (r + 1) (row b hb q) k
  | 0, _, h => by
    refine (first_step m c ⟨4 * b + 0, h⟩ q k (by show (4 * b + 0) % 4 = 0; omega)).trans ?_
    rw [firstParts_one]
    refine congr (congr (congrArg (part _ _) (Fin.ext ?_)) (Fin.ext ?_)) rfl
    · show (4 * b + 0) % 4 = 0; omega
    · show (4 * b + 0) / 4 * 1024 + q.val = b * 1024 + q.val; omega
  | r + 1, hr, h => by
    refine (next_step m c ⟨4 * b + (r + 1), h⟩ q k (by show ¬(4 * b + (r + 1)) % 4 = 0; omega)).trans ?_
    rw [firstParts_succ _ _ _ hr]
    refine congr (congrArg (· + ·) (so_far b hb q k r (by omega) (by omega))) ?_
    refine congr (congr (congrArg (part _ _) (Fin.ext ?_)) (Fin.ext ?_)) rfl
    · show (4 * b + (r + 1)) % 4 = r + 1; omega
    · show (4 * b + (r + 1)) / 4 * 1024 + q.val = b * 1024 + q.val; omega

/-- What a half's last step writes back. -/
theorem handed (t : Fin cfg0.N) (h : t.val % 4 = 3) (q k : Fin 1024) :
    (outsAt0 m c t.val t.isLt).1 (ix2 q k) = mixed m c (row (t.val / 4) (half_lt t) q) k := by
  refine (last_step m c t q k h).trans (congrArg (· * half + _) ?_)
  rw [← firstParts_four]
  obtain ⟨n, hn⟩ := t
  have e : n = 4 * (n / 4) + 3 := by have : n % 4 = 3 := h; omega
  have hn' : 4 * (n / 4) + 3 < cfg0.N := lt_of_eq_of_lt e.symm hn
  refine Eq.trans ?_ (so_far m c (n / 4) (half_lt ⟨n, hn⟩) q k 3 (by norm_num) hn')
  have same : ∀ (a b : ℕ) (ha : a < cfg0.N) (hb : b < cfg0.N), a = b → (outsAt0 m c a ha).2 (ix2 q k) = (outsAt0 m c b hb).2 (ix2 q k) := by
    intro a b ha hb e; subst e; rfl
  exact same _ _ _ _ e

theorem place (t : Fin cfg0.N) (q k : Fin 1024) : (win0_3.blk t).view.emb (ix2 q k) = ix2 (row (t.val / 4) (half_lt t) q) k := by
  funext a
  apply Fin.ext
  match a with
  | ⟨0, _⟩ => blk_simp; rw [(idx t).2.2.2]; rfl
  | ⟨1, _⟩ => blk_simp; rw [(idx t).2.2.2]; exact Nat.zero_add _

/-- The array the kernel leaves. -/
theorem array : (dats m 0 c).arrAt 3 cfg0.N = fun i : S2048x1024.Idx => mixed m c (i 0) (i 1) := by
  refine (dats m 0 c).arrAt_eq_of_cover 3 _ (fun t hf => ?_) (fun i => (Value.covered_iff3 i).2 ⟨Nat.zero_le _, (i 0).isLt, Nat.zero_le _, (i 1).isLt⟩)
  rw [Value.flushed3]
  funext y
  obtain ⟨q, k, rfl⟩ : ∃ (q k : Fin 1024), y = ix2 q k := ⟨y 0, y 1, eq_ix2 y⟩
  refine (handed m c t ((flush0_3 t).mp hf) q k).trans ?_
  exact (congrArg (fun i : S2048x1024.Idx => mixed m c (i 0) (i 1)) (place t q k)).symm

end Cert.Ffn.D

end
-- ==== Proof.DownRef.lean ====
/- The reference's halved product beside the residual is the blocks' sum, halved, beside the residual, and so what the kernel leaves. -/
module

public import proofs.«01_k».proof.Proof.Down
public import proofs.«01_k».proof.Proof.Gen.ReferenceDownIdeal.Run
public import proofs.«01_k».proof.Proof.Gen.ReferenceDownIdeal.Read
public import proofs.«01_k».proof.Defs

@[expose] public section

set_option maxRecDepth 16384

noncomputable section

namespace Cert.Ffn

open Idealize.ShloMosaic Idealize.ShloMosaic.StableHlo Idealize.SL.Sem

namespace DR
open Cert.ReferenceDownIdeal Cert.ReferenceDownIdeal.Read

variable (x0 : FVec Ideal S4x2048x704 .f32) (x1 : FVec Ideal S2816x1024 .f32) (x2 : FVec Ideal S2048x1024 .f32)

theorem side_by_side (j : Fin 4) (q : Fin 2048) (f : Fin 704) : val_main_v1 (F := Ideal) x0 (ix2 q (col j f)) = x0 (ix3 j q f) := by
  pointwise [val_main_v1, val_main_v0, col]

theorem product (q : Fin 2048) (k : Fin 1024) : val_main_v2 (F := Ideal) x0 x1 (ix2 q k)
    = through (fun j q f => x0 (ix3 j q f)) (fun j f k => x1 (ix2 (col j f) k)) q k := by
  pointwise [val_main_v2]
  rw [sum_col]
  simp only [side_by_side]
  rfl

theorem beside (q : Fin 2048) (k : Fin 1024) : val_main_v5 (F := Ideal) x0 x1 x2 (ix2 q k)
    = through (fun j q f => x0 (ix3 j q f)) (fun j f k => x1 (ix2 (col j f) k)) q k * half + x2 (ix2 q k) := by
  rw [← product, mul_comm, add_comm]
  pointwise [val_main_v5, val_main_v4, val_main_v3, val_main_cst]
end DR

theorem algebraicDown : Cert.algebraic_KernelDownIdeal_ReferenceDownIdeal := by
  intro m g m' g' _ hargs
  refine ⟨fun c => (Cert.KernelDownIdeal.Gen.dats m 0 c).arrAt 3 Cert.KernelDownIdeal.cfg0.N, ?_, ?_⟩
  · exact Cert.KernelDownIdeal.Value.run_blocks m g
  · refine (θ_run _ _ _).mono (fun r h c => ?_) (Cert.ReferenceDownIdeal.Value.run m' g')
    obtain ⟨h0, hk⟩ := h c
    obtain ⟨e0, e1, e2⟩ := hargs c
    refine ⟨h0.trans ?_, hk⟩
    refine (Cert.ReferenceDownIdeal.Read.val_main_v5_eq _ _ _).trans ?_
    refine Eq.trans ?_ (D.array m c).symm
    rw [e0, e1, e2]
    funext i
    rw [eq_ix2 i]
    exact DR.beside _ _ _ _ _

end Cert.Ffn

end
-- ==== Proof.Proj.lean ====
/- The three column groups of the input projection — the recurrence's, the attention's and the gate's — and the products the
   projection and its gradients are, entry by entry. -/
module

public import Idealize.ShloMosaic.Lib.ValueIdx
public import Idealize.ShloMosaic.Lib.Pipeline.ValueKit
public import Idealize.ShloMosaic.PureOps.Ideal

@[expose] public section

noncomputable section

namespace Cert.Proj

open Idealize.ShloMosaic

/-- A column of each group among all columns. -/
def colR (f : Fin 1792) : Fin 6144 := ⟨f.val, by omega⟩
def colA (f : Fin 2304) : Fin 6144 := ⟨1792 + f.val, by omega⟩
def colG (f : Fin 2048) : Fin 6144 := ⟨4096 + f.val, by omega⟩

/-- Every column is in one of the groups. -/
theorem col_cases (p : Fin 6144 → Prop) (hR : ∀ f, p (colR f)) (hA : ∀ f, p (colA f)) (hG : ∀ f, p (colG f)) (n : Fin 6144) : p n := by
  obtain ⟨n, hn⟩ := n
  by_cases h1 : n < 1792
  · exact hR ⟨n, h1⟩
  by_cases h2 : n < 4096
  · have e : colA ⟨n - 1792, by omega⟩ = ⟨n, hn⟩ := Fin.ext (by show 1792 + (n - 1792) = n; omega)
    exact e ▸ hA _
  · have e : colG ⟨n - 4096, by omega⟩ = ⟨n, hn⟩ := Fin.ext (by show 4096 + (n - 4096) = n; omega)
    exact e ▸ hG _

section
variable {r : ℕ} (x : (⟨2, ![r, 1792]⟩ : Shape).Idx → EReal) (y : (⟨2, ![r, 2304]⟩ : Shape).Idx → EReal) (z : (⟨2, ![r, 2048]⟩ : Shape).Idx → EReal)
  (h : Shape.Concatenates [⟨2, ![r, 1792]⟩, ⟨2, ![r, 2304]⟩, ⟨2, ![r, 2048]⟩] (⟨2, ![r, 6144]⟩ : Shape) 1) (q : Fin r)

/-- The three groups put side by side, read at a column of each. -/
theorem side_R (f : Fin 1792) : concatenate (⟨2, ![r, 6144]⟩ : Shape) 1 [⟨⟨2, ![r, 1792]⟩, x⟩, ⟨⟨2, ![r, 2304]⟩, y⟩, ⟨⟨2, ![r, 2048]⟩, z⟩] h (ix2 q (colR f)) = x (ix2 q f) :=
  concatenate_apply_piece 1 [⟨⟨2, ![r, 1792]⟩, x⟩, ⟨⟨2, ![r, 2304]⟩, y⟩, ⟨⟨2, ![r, 2048]⟩, z⟩] h _ 0 (by show 0 < 3; omega) ⟨2, ![r, 1792]⟩ x rfl rfl 0 rfl (ix2 q f)
    (fun b hb => by match b with
      | ⟨0, _⟩ => rfl
      | ⟨1, _⟩ => exact absurd rfl hb) (Nat.zero_add _)
theorem side_A (f : Fin 2304) : concatenate (⟨2, ![r, 6144]⟩ : Shape) 1 [⟨⟨2, ![r, 1792]⟩, x⟩, ⟨⟨2, ![r, 2304]⟩, y⟩, ⟨⟨2, ![r, 2048]⟩, z⟩] h (ix2 q (colA f)) = y (ix2 q f) :=
  concatenate_apply_piece 1 [⟨⟨2, ![r, 1792]⟩, x⟩, ⟨⟨2, ![r, 2304]⟩, y⟩, ⟨⟨2, ![r, 2048]⟩, z⟩] h _ 1 (by show 1 < 3; omega) ⟨2, ![r, 2304]⟩ y rfl rfl 1792 rfl (ix2 q f)
    (fun b hb => by match b with
      | ⟨0, _⟩ => rfl
      | ⟨1, _⟩ => exact absurd rfl hb) rfl
theorem side_G (f : Fin 2048) : concatenate (⟨2, ![r, 6144]⟩ : Shape) 1 [⟨⟨2, ![r, 1792]⟩, x⟩, ⟨⟨2, ![r, 2304]⟩, y⟩, ⟨⟨2, ![r, 2048]⟩, z⟩] h (ix2 q (colG f)) = z (ix2 q f) :=
  concatenate_apply_piece 1 [⟨⟨2, ![r, 1792]⟩, x⟩, ⟨⟨2, ![r, 2304]⟩, y⟩, ⟨⟨2, ![r, 2048]⟩, z⟩] h _ 2 (by show 2 < 3; omega) ⟨2, ![r, 2048]⟩ z rfl rfl 4096 rfl (ix2 q f)
    (fun b hb => by match b with
      | ⟨0, _⟩ => rfl
      | ⟨1, _⟩ => exact absurd rfl hb) rfl
end

/-- A group of the projection: the rows against the group's columns. -/
def along {n : ℕ} (h : Fin 2048 → Fin 1024 → EReal) (w : Fin 1024 → Fin n → EReal) (q : Fin 2048) (f : Fin n) : EReal := ∑ k, h q k * w k f
/-- A group of the weights' gradient: the rows against the group's cotangent, over the batch. -/
def cross {n : ℕ} (h : Fin 2048 → Fin 1024 → EReal) (d : Fin 2048 → Fin n → EReal) (k : Fin 1024) (f : Fin n) : EReal := ∑ q, h q k * d q f
/-- A group's part of the rows' gradient: the cotangent against the group's columns. -/
def against {n : ℕ} (d : Fin 2048 → Fin n → EReal) (w : Fin 1024 → Fin n → EReal) (q : Fin 2048) (k : Fin 1024) : EReal := ∑ f, d q f * w k f

/-- A place of a block with one leading entry. -/
theorem one_block {n k : ℕ} (y : (⟨3, ![1, n, k]⟩ : Shape).Idx) : ∃ (a : Fin n) (b : Fin k), y = ix3 0 a b :=
  ⟨y 1, y 2, (eq_ix3 y).trans (congrArg (fun z => ix3 z (y 1) (y 2)) (Fin.ext (Nat.lt_one_iff.1 (y 0).isLt) : y 0 = (0 : Fin 1)))⟩

end Cert.Proj

end
-- ==== Proof.In.lean ====
/- The input projection: what the three kernels leave. -/
module

public import proofs.«01_k».proof.Proof.Proj
public import proofs.«01_k».proof.Proof.Gen.KernelInIdeal.Frame

@[expose] public section

set_option maxRecDepth 16384

noncomputable section

namespace Cert.Proj.F

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelInIdeal Cert.KernelInIdeal.Gen

section
variable (V : (c : Dev nD) → (b : Ref sig .tc) → Buf (Elt Ideal) ((c : Thread nD τ).loc b)) (c : Dev nD)

/-- A row of one of the two halves of the batch. -/
def row (r : ℕ) (hr : r < 2) (q : Fin 1024) : Fin 2048 := ⟨r * 1024 + q.val, by omega⟩

/-! ### The recurrence's columns -/

theorem idx0 : ∀ t : Fin cfg0.N, win0_0.index t = ![0, t.val / 2, 0] ∧ win0_1.index t = ![0, 0, t.val % 2] ∧ win0_2.index t = ![0, t.val / 2, t.val % 2] :=
  (by decide +kernel : ∀ t : Fin grid0.N, _)
theorem half_lt0 (t : Fin cfg0.N) : t.val / 2 < 2 := by have := lt_of_lt_of_eq t.isLt N_0; omega
theorem tile_lt0 (n : ℕ) : n % 2 < 2 := Nat.mod_lt _ (by norm_num)
/-- A column of one of the tiles. -/
def tile0 (r : ℕ) (hr : r < 2) (f : Fin 896) : Fin 1792 := ⟨r * 896 + f.val, by omega⟩

theorem product0 {h : Fin 1024 → Fin 1024 → EReal} {w : Fin 1024 → Fin 896 → EReal} {b0 : Vec Ideal S1x1024x1024 .bf16} {b1 : Vec Ideal S1x1024x896 .bf16}
    (h0 : ∀ q k, b0 (ix3 0 q k) = h q k) (h1 : ∀ k f, b1 (ix3 0 k f) = w k f) (q : Fin 1024) (f : Fin 896) :
    k0_pay1 b0 b1 (ix3 0 q f) = ∑ k, h q k * w k f := by
  pointwise [k0_pay1]
  simp only [h0, h1]

section
variable {V c} {H : Fin 2048 → Fin 1024 → EReal} {W : Fin 1024 → Fin 1792 → EReal}
  (hH : ∀ q k, V c main_v5 (ix3 0 q k) = H q k) (hW : ∀ k f, V c main_v6 (ix3 0 k f) = W k f) (t : Fin cfg0.N)

include hH in
theorem in0_0 (q k : Fin 1024) : iblk0 V c 0 t (ix3 0 q k) = H (row (t.val / 2) (half_lt0 t) q) k := by
  rw [← hH]
  blk_point [iblk0, row, idx0 t]
include hW in
theorem in0_1 (k : Fin 1024) (f : Fin 896) : iblk0 V c 1 t (ix3 0 k f) = W k (tile0 (t.val % 2) (tile_lt0 _) f) := by
  rw [← hW]
  blk_point [iblk0, tile0, idx0 t]

theorem place0 (q : Fin 1024) (f : Fin 896) :
    (win0_2.blk t).view.emb (ix3 0 q f) = ix3 0 (row (t.val / 2) (half_lt0 t) q) (tile0 (t.val % 2) (tile_lt0 _) f) := by
  funext a
  apply Fin.ext
  match a with
  | ⟨0, _⟩ => blk_simp; rw [(idx0 t).2.2]; rfl
  | ⟨1, _⟩ => blk_simp; rw [(idx0 t).2.2]; rfl
  | ⟨2, _⟩ => blk_simp; rw [(idx0 t).2.2]; rfl

include hH hW in
theorem array0 : (dat0 V c).arrAt 2 cfg0.N = fun i : S1x2048x1792.Idx => along H W (i 1) (i 2) := by
  refine (dat0 V c).arrAt_eq_of_covers 2 _ (by decide +kernel) fun t hf y => ?_
  blk_simp
  rw [after0_2]
  frame_out
  obtain ⟨q, f, rfl⟩ := one_block y
  rewrite [place0 t q f]
  exact product0 (in0_0 hH t) (in0_1 hW t) q f
end

/-! ### The attention's columns -/

theorem idx1 : ∀ t : Fin cfg1.N, win1_0.index t = ![0, t.val / 3, 0] ∧ win1_1.index t = ![0, 0, t.val % 3] ∧ win1_2.index t = ![0, t.val / 3, t.val % 3] :=
  (by decide +kernel : ∀ t : Fin grid1.N, _)
theorem half_lt1 (t : Fin cfg1.N) : t.val / 3 < 2 := by have := lt_of_lt_of_eq t.isLt N_1; omega
theorem tile_lt1 (n : ℕ) : n % 3 < 3 := Nat.mod_lt _ (by norm_num)
/-- A column of one of the tiles. -/
def tile1 (r : ℕ) (hr : r < 3) (f : Fin 768) : Fin 2304 := ⟨r * 768 + f.val, by omega⟩

theorem product1 {h : Fin 1024 → Fin 1024 → EReal} {w : Fin 1024 → Fin 768 → EReal} {b0 : Vec Ideal S1x1024x1024 .bf16} {b1 : Vec Ideal S1x1024x768 .bf16}
    (h0 : ∀ q k, b0 (ix3 0 q k) = h q k) (h1 : ∀ k f, b1 (ix3 0 k f) = w k f) (q : Fin 1024) (f : Fin 768) :
    k1_pay1 b0 b1 (ix3 0 q f) = ∑ k, h q k * w k f := by
  pointwise [k1_pay1]
  simp only [h0, h1]

section
variable {V c} {H : Fin 2048 → Fin 1024 → EReal} {W : Fin 1024 → Fin 2304 → EReal}
  (hH : ∀ q k, V c main_v9 (ix3 0 q k) = H q k) (hW : ∀ k f, V c main_v10 (ix3 0 k f) = W k f) (t : Fin cfg1.N)

include hH in
theorem in1_0 (q k : Fin 1024) : iblk1 V c 0 t (ix3 0 q k) = H (row (t.val / 3) (half_lt1 t) q) k := by
  rw [← hH]
  blk_point [iblk1, row, idx1 t]
include hW in
theorem in1_1 (k : Fin 1024) (f : Fin 768) : iblk1 V c 1 t (ix3 0 k f) = W k (tile1 (t.val % 3) (tile_lt1 _) f) := by
  rw [← hW]
  blk_point [iblk1, tile1, idx1 t]

theorem place1 (q : Fin 1024) (f : Fin 768) :
    (win1_2.blk t).view.emb (ix3 0 q f) = ix3 0 (row (t.val / 3) (half_lt1 t) q) (tile1 (t.val % 3) (tile_lt1 _) f) := by
  funext a
  apply Fin.ext
  match a with
  | ⟨0, _⟩ => blk_simp; rw [(idx1 t).2.2]; rfl
  | ⟨1, _⟩ => blk_simp; rw [(idx1 t).2.2]; rfl
  | ⟨2, _⟩ => blk_simp; rw [(idx1 t).2.2]; rfl

include hH hW in
theorem array1 : (dat1 V c).arrAt 2 cfg1.N = fun i : S1x2048x2304.Idx => along H W (i 1) (i 2) := by
  refine (dat1 V c).arrAt_eq_of_covers 2 _ (by decide +kernel) fun t hf y => ?_
  blk_simp
  rw [after1_2]
  frame_out
  obtain ⟨q, f, rfl⟩ := one_block y
  rewrite [place1 t q f]
  exact product1 (in1_0 hH t) (in1_1 hW t) q f
end

/-! ### The gate's columns -/

theorem idx2 : ∀ t : Fin cfg2.N, win2_0.index t = ![0, t.val / 2, 0] ∧ win2_1.index t = ![0, 0, t.val % 2] ∧ win2_2.index t = ![0, t.val / 2, t.val % 2] :=
  (by decide +kernel : ∀ t : Fin grid2.N, _)
theorem half_lt2 (t : Fin cfg2.N) : t.val / 2 < 2 := by have := lt_of_lt_of_eq t.isLt N_2; omega
theorem tile_lt2 (n : ℕ) : n % 2 < 2 := Nat.mod_lt _ (by norm_num)
/-- A column of one of the tiles. -/
def tile2 (r : ℕ) (hr : r < 2) (f : Fin 1024) : Fin 2048 := ⟨r * 1024 + f.val, by omega⟩

theorem product2 {h : Fin 1024 → Fin 1024 → EReal} {w : Fin 1024 → Fin 1024 → EReal} {b0 : Vec Ideal S1x1024x1024 .bf16} {b1 : Vec Ideal S1x1024x1024 .bf16}
    (h0 : ∀ q k, b0 (ix3 0 q k) = h q k) (h1 : ∀ k f, b1 (ix3 0 k f) = w k f) (q : Fin 1024) (f : Fin 1024) :
    k2_pay1 b0 b1 (ix3 0 q f) = ∑ k, h q k * w k f := by
  pointwise [k2_pay1]
  simp only [h0, h1]

section
variable {V c} {H : Fin 2048 → Fin 1024 → EReal} {W : Fin 1024 → Fin 2048 → EReal}
  (hH : ∀ q k, V c main_v13 (ix3 0 q k) = H q k) (hW : ∀ k f, V c main_v14 (ix3 0 k f) = W k f) (t : Fin cfg2.N)

include hH in
theorem in2_0 (q k : Fin 1024) : iblk2 V c 0 t (ix3 0 q k) = H (row (t.val / 2) (half_lt2 t) q) k := by
  rw [← hH]
  blk_point [iblk2, row, idx2 t]
include hW in
theorem in2_1 (k : Fin 1024) (f : Fin 1024) : iblk2 V c 1 t (ix3 0 k f) = W k (tile2 (t.val % 2) (tile_lt2 _) f) := by
  rw [← hW]
  blk_point [iblk2, tile2, idx2 t]

theorem place2 (q : Fin 1024) (f : Fin 1024) :
    (win2_2.blk t).view.emb (ix3 0 q f) = ix3 0 (row (t.val / 2) (half_lt2 t) q) (tile2 (t.val % 2) (tile_lt2 _) f) := by
  funext a
  apply Fin.ext
  match a with
  | ⟨0, _⟩ => blk_simp; rw [(idx2 t).2.2]; rfl
  | ⟨1, _⟩ => blk_simp; rw [(idx2 t).2.2]; rfl
  | ⟨2, _⟩ => blk_simp; rw [(idx2 t).2.2]; rfl

include hH hW in
theorem array2 : (dat2 V c).arrAt 2 cfg2.N = fun i : S1x2048x2048.Idx => along H W (i 1) (i 2) := by
  refine (dat2 V c).arrAt_eq_of_covers 2 _ (by decide +kernel) fun t hf y => ?_
  blk_simp
  rw [after2_2]
  frame_out
  obtain ⟨q, f, rfl⟩ := one_block y
  rewrite [place2 t q f]
  exact product2 (in2_0 hH t) (in2_1 hW t) q f
end
end

/-! ### The run -/

variable (m : (ℓ : Loc nD τ sig) → Buf (Elt Ideal) ℓ) (ρ : Dev nD → PrngReg) (c : Dev nD)

set_option backward.isDefEq.respectTransparency.types false in
/-- Every execution ends with each array at what the last boundary holds. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => h)

/-! ### From boundary to boundary -/

abbrev aH : Fin 2048 → Fin 1024 → EReal := fun q k => (m ((c : Thread nD τ).loc main_arg0) : S2048x1024.Idx → EReal) (ix2 q k)
abbrev aW : Fin 1024 → Fin 6144 → EReal := fun k n => (m ((c : Thread nD τ).loc main_arg1) : S1024x6144.Idx → EReal) (ix2 k n)

theorem spread (x : FVec Ideal S2048x1024 .bf16) (q : Fin 2048) (k : Fin 1024) :
    broadcastInDim S1x2048x1024 ![1, 2] bcast_S2048x1024_S1x2048x1024_1_2 x (ix3 0 q k) = x (ix2 q k) := by
  pointwise []
theorem spreadR (x : FVec Ideal S1024x1792 .bf16) (k : Fin 1024) (f : Fin 1792) :
    broadcastInDim S1x1024x1792 ![1, 2] bcast_S1024x1792_S1x1024x1792_1_2 x (ix3 0 k f) = x (ix2 k f) := by
  pointwise []
theorem groupR (x : FVec Ideal S1024x6144 .f32) (k : Fin 1024) (f : Fin 1792) :
    extractStridedSlice S1024x1792 ![0, 0] (truncf .bf16 x bitsLt_bf16_f32) slices_S1024x6144_S1024x1792_0_0 (ix2 k f) = x (ix2 k (colR f)) := by
  pointwise [colR]
theorem flatR (x : FVec Ideal S1x2048x1792 .f32) (q : Fin 2048) (f : Fin 1792) :
    shapeCast S2048x1792 x shapeCasts_S1x2048x1792_S2048x1792 (ix2 q f) = x (ix3 0 q f) := by
  pointwise []
theorem spreadA (x : FVec Ideal S1024x2304 .bf16) (k : Fin 1024) (f : Fin 2304) :
    broadcastInDim S1x1024x2304 ![1, 2] bcast_S1024x2304_S1x1024x2304_1_2 x (ix3 0 k f) = x (ix2 k f) := by
  pointwise []
theorem groupA (x : FVec Ideal S1024x6144 .f32) (k : Fin 1024) (f : Fin 2304) :
    extractStridedSlice S1024x2304 ![0, 1792] (truncf .bf16 x bitsLt_bf16_f32) slices_S1024x6144_S1024x2304_0_1792 (ix2 k f) = x (ix2 k (colA f)) := by
  pointwise [colA]
theorem flatA (x : FVec Ideal S1x2048x2304 .f32) (q : Fin 2048) (f : Fin 2304) :
    shapeCast S2048x2304 x shapeCasts_S1x2048x2304_S2048x2304 (ix2 q f) = x (ix3 0 q f) := by
  pointwise []
theorem spreadG (x : FVec Ideal S1024x2048 .bf16) (k : Fin 1024) (f : Fin 2048) :
    broadcastInDim S1x1024x2048 ![1, 2] bcast_S1024x2048_S1x1024x2048_1_2 x (ix3 0 k f) = x (ix2 k f) := by
  pointwise []
theorem groupG (x : FVec Ideal S1024x6144 .f32) (k : Fin 1024) (f : Fin 2048) :
    extractStridedSlice S1024x2048 ![0, 4096] (truncf .bf16 x bitsLt_bf16_f32) slices_S1024x6144_S1024x2048_0_4096 (ix2 k f) = x (ix2 k (colG f)) := by
  pointwise [colG]
theorem flatG (x : FVec Ideal S1x2048x2048 .f32) (q : Fin 2048) (f : Fin 2048) :
    shapeCast S2048x2048 x shapeCasts_S1x2048x2048_S2048x2048 (ix2 q f) = x (ix3 0 q f) := by
  pointwise []

/-- The arguments, cast, at the first boundary. -/
theorem first_H (q : Fin 2048) (k : Fin 1024) : W1 m ρ c (Proc.devRef .tc main_v0) (ix2 q k) = aH m c q k := by
  refine (congrFun (show @Eq (FVec Ideal S2048x1024 .bf16) (W1 m ρ c (Proc.devRef .tc main_v0)) (truncf .bf16 (m ((c : Thread nD τ).loc main_arg0) : FVec Ideal S2048x1024 .f32) bitsLt_bf16_f32) from by
    after_results_simp <;> rfl) _).trans ?_
  pointwise []
theorem first_R (k : Fin 1024) (f : Fin 1792) : W1 m ρ c (Proc.devRef .tc main_v2) (ix2 k f) = aW m c k (colR f) :=
  (congrFun (show @Eq (FVec Ideal S1024x1792 .bf16) (W1 m ρ c (Proc.devRef .tc main_v2)) (extractStridedSlice S1024x1792 ![0, 0] (truncf .bf16 (m ((c : Thread nD τ).loc main_arg1) : FVec Ideal S1024x6144 .f32) bitsLt_bf16_f32) slices_S1024x6144_S1024x1792_0_0) from by
    after_results_simp <;> rfl) _).trans (groupR _ k f)
theorem first_A (k : Fin 1024) (f : Fin 2304) : W1 m ρ c (Proc.devRef .tc main_v3) (ix2 k f) = aW m c k (colA f) :=
  (congrFun (show @Eq (FVec Ideal S1024x2304 .bf16) (W1 m ρ c (Proc.devRef .tc main_v3)) (extractStridedSlice S1024x2304 ![0, 1792] (truncf .bf16 (m ((c : Thread nD τ).loc main_arg1) : FVec Ideal S1024x6144 .f32) bitsLt_bf16_f32) slices_S1024x6144_S1024x2304_0_1792) from by
    after_results_simp <;> rfl) _).trans (groupA _ k f)
theorem first_G (k : Fin 1024) (f : Fin 2048) : W1 m ρ c (Proc.devRef .tc main_v4) (ix2 k f) = aW m c k (colG f) :=
  (congrFun (show @Eq (FVec Ideal S1024x2048 .bf16) (W1 m ρ c (Proc.devRef .tc main_v4)) (extractStridedSlice S1024x2048 ![0, 4096] (truncf .bf16 (m ((c : Thread nD τ).loc main_arg1) : FVec Ideal S1024x6144 .f32) bitsLt_bf16_f32) slices_S1024x6144_S1024x2048_0_4096) from by
    after_results_simp <;> rfl) _).trans (groupG _ k f)

theorem third_of (r : Ref sig .tc) (h1 : r ∉ hostOps1_W) (h : ∀ w : Fin cfg0.W, Pipeline.arrRef spec0 w = r → (cfg0.win w).isOut = false) :
    W3 m ρ c (Proc.devRef .tc r) = W1 m ρ c (Proc.devRef .tc r) := (W3_of m ρ c r h1).trans (W2_of m ρ c r h)
theorem fifth_of (r : Ref sig .tc) (h1 : r ∉ hostOps2_W) (h : ∀ w : Fin cfg1.W, Pipeline.arrRef spec1 w = r → (cfg1.win w).isOut = false) :
    W5 m ρ c (Proc.devRef .tc r) = W3 m ρ c (Proc.devRef .tc r) := (W5_of m ρ c r h1).trans (W4_of m ρ c r h)
theorem seventh_of (r : Ref sig .tc) (h1 : r ∉ hostOps3_W) (h : ∀ w : Fin cfg2.W, Pipeline.arrRef spec2 w = r → (cfg2.win w).isOut = false) :
    W7 m ρ c (Proc.devRef .tc r) = W5 m ρ c (Proc.devRef .tc r) := (W7_of m ρ c r h1).trans (W6_of m ρ c r h)

theorem given0_H (q : Fin 2048) (k : Fin 1024) : V1 m ρ c main_v5 (ix3 0 q k) = aH m c q k :=
  (congrFun (show @Eq (FVec Ideal S1x2048x1024 .bf16) (W1 m ρ c (Proc.devRef .tc main_v5)) (broadcastInDim S1x2048x1024 ![1, 2] bcast_S2048x1024_S1x2048x1024_1_2 (W1 m ρ c (Proc.devRef .tc main_v0) : FVec Ideal S2048x1024 .bf16)) from by
    after_results_simp <;> rfl) _).trans ((spread _ q k).trans (first_H m ρ c q k))
theorem given0_W (k : Fin 1024) (f : Fin 1792) : V1 m ρ c main_v6 (ix3 0 k f) = aW m c k (colR f) :=
  (congrFun (show @Eq (FVec Ideal S1x1024x1792 .bf16) (W1 m ρ c (Proc.devRef .tc main_v6)) (broadcastInDim S1x1024x1792 ![1, 2] bcast_S1024x1792_S1x1024x1792_1_2 (W1 m ρ c (Proc.devRef .tc main_v2) : FVec Ideal S1024x1792 .bf16)) from by
    after_results_simp <;> rfl) _).trans ((spreadR _ k f).trans (first_R m ρ c k f))
theorem given1_H (q : Fin 2048) (k : Fin 1024) : V3 m ρ c main_v9 (ix3 0 q k) = aH m c q k :=
  (congrFun (show @Eq (FVec Ideal S1x2048x1024 .bf16) (W3 m ρ c (Proc.devRef .tc main_v9)) (broadcastInDim S1x2048x1024 ![1, 2] bcast_S2048x1024_S1x2048x1024_1_2 (W2 m ρ c (Proc.devRef .tc main_v0) : FVec Ideal S2048x1024 .bf16)) from by
    after_results_simp <;> rfl) _).trans ((spread _ q k).trans ((congrFun (W2_of m ρ c main_v0 (by decide +kernel)) _).trans (first_H m ρ c q k)))
theorem given1_W (k : Fin 1024) (f : Fin 2304) : V3 m ρ c main_v10 (ix3 0 k f) = aW m c k (colA f) :=
  (congrFun (show @Eq (FVec Ideal S1x1024x2304 .bf16) (W3 m ρ c (Proc.devRef .tc main_v10)) (broadcastInDim S1x1024x2304 ![1, 2] bcast_S1024x2304_S1x1024x2304_1_2 (W2 m ρ c (Proc.devRef .tc main_v3) : FVec Ideal S1024x2304 .bf16)) from by
    after_results_simp <;> rfl) _).trans ((spreadA _ k f).trans ((congrFun (W2_of m ρ c main_v3 (by decide +kernel)) _).trans (first_A m ρ c k f)))
theorem given2_H (q : Fin 2048) (k : Fin 1024) : V5 m ρ c main_v13 (ix3 0 q k) = aH m c q k :=
  (congrFun (show @Eq (FVec Ideal S1x2048x1024 .bf16) (W5 m ρ c (Proc.devRef .tc main_v13)) (broadcastInDim S1x2048x1024 ![1, 2] bcast_S2048x1024_S1x2048x1024_1_2 (W4 m ρ c (Proc.devRef .tc main_v0) : FVec Ideal S2048x1024 .bf16)) from by
    after_results_simp <;> rfl) _).trans ((spread _ q k).trans ((congrFun ((W4_of m ρ c main_v0 (by decide +kernel)).trans (third_of m ρ c main_v0 (by decide +kernel) (by decide +kernel))) _).trans (first_H m ρ c q k)))
theorem given2_W (k : Fin 1024) (f : Fin 2048) : V5 m ρ c main_v14 (ix3 0 k f) = aW m c k (colG f) :=
  (congrFun (show @Eq (FVec Ideal S1x1024x2048 .bf16) (W5 m ρ c (Proc.devRef .tc main_v14)) (broadcastInDim S1x1024x2048 ![1, 2] bcast_S1024x2048_S1x1024x2048_1_2 (W4 m ρ c (Proc.devRef .tc main_v4) : FVec Ideal S1024x2048 .bf16)) from by
    after_results_simp <;> rfl) _).trans ((spreadG _ k f).trans ((congrFun ((W4_of m ρ c main_v4 (by decide +kernel)).trans (third_of m ρ c main_v4 (by decide +kernel) (by decide +kernel))) _).trans (first_G m ρ c k f)))

/-! ### The three groups -/

theorem left0 : W2 m ρ c (Proc.devRef .tc main_v7) = fun i : S1x2048x1792.Idx => along (aH m c) (fun k f => aW m c k (colR f)) (i 1) (i 2) :=
  (W2_arr m ρ c 2).trans (array0 (given0_H m ρ c) (given0_W m ρ c))
theorem result_R (q : Fin 2048) (f : Fin 1792) : W7 m ρ c (Proc.devRef .tc main_v8) (ix2 q f) = along (aH m c) (fun k f => aW m c k (colR f)) q f := by
  refine (congrFun ((seventh_of m ρ c main_v8 (by decide +kernel) (by decide +kernel)).trans (fifth_of m ρ c main_v8 (by decide +kernel) (by decide +kernel))) _).trans ?_
  refine (congrFun (show @Eq (FVec Ideal S2048x1792 .f32) (W3 m ρ c (Proc.devRef .tc main_v8)) (shapeCast S2048x1792 (W2 m ρ c (Proc.devRef .tc main_v7) : FVec Ideal S1x2048x1792 .f32) shapeCasts_S1x2048x1792_S2048x1792) from by
    after_results_simp <;> rfl) _).trans ?_
  exact (flatR _ q f).trans (congrFun (left0 m ρ c) _)
theorem left1 : W4 m ρ c (Proc.devRef .tc main_v11) = fun i : S1x2048x2304.Idx => along (aH m c) (fun k f => aW m c k (colA f)) (i 1) (i 2) :=
  (W4_arr m ρ c 2).trans (array1 (given1_H m ρ c) (given1_W m ρ c))
theorem result_A (q : Fin 2048) (f : Fin 2304) : W7 m ρ c (Proc.devRef .tc main_v12) (ix2 q f) = along (aH m c) (fun k f => aW m c k (colA f)) q f := by
  refine (congrFun (seventh_of m ρ c main_v12 (by decide +kernel) (by decide +kernel)) _).trans ?_
  refine (congrFun (show @Eq (FVec Ideal S2048x2304 .f32) (W5 m ρ c (Proc.devRef .tc main_v12)) (shapeCast S2048x2304 (W4 m ρ c (Proc.devRef .tc main_v11) : FVec Ideal S1x2048x2304 .f32) shapeCasts_S1x2048x2304_S2048x2304) from by
    after_results_simp <;> rfl) _).trans ?_
  exact (flatA _ q f).trans (congrFun (left1 m ρ c) _)
theorem left2 : W6 m ρ c (Proc.devRef .tc main_v15) = fun i : S1x2048x2048.Idx => along (aH m c) (fun k f => aW m c k (colG f)) (i 1) (i 2) :=
  (W6_arr m ρ c 2).trans (array2 (given2_H m ρ c) (given2_W m ρ c))
theorem result_G (q : Fin 2048) (f : Fin 2048) : W7 m ρ c (Proc.devRef .tc main_v16) (ix2 q f) = along (aH m c) (fun k f => aW m c k (colG f)) q f := by
  refine (congrFun (show @Eq (FVec Ideal S2048x2048 .f32) (W7 m ρ c (Proc.devRef .tc main_v16)) (shapeCast S2048x2048 (W6 m ρ c (Proc.devRef .tc main_v15) : FVec Ideal S1x2048x2048 .f32) shapeCasts_S1x2048x2048_S2048x2048) from by
    after_results_simp <;> rfl) _).trans ?_
  exact (flatG _ q f).trans (congrFun (left2 m ρ c) _)

end Cert.Proj.F

end
-- ==== Proof.InRef.lean ====
/- The reference's input projection, and that its three groups are what the kernels leave. -/
module

public import proofs.«01_k».proof.Proof.In
public import proofs.«01_k».proof.Proof.Gen.ReferenceInIdeal.Run
public import proofs.«01_k».proof.Proof.Gen.ReferenceInIdeal.Read
public import proofs.«01_k».proof.Defs

@[expose] public section

set_option maxRecDepth 16384

noncomputable section

namespace Cert.Proj

open Idealize.ShloMosaic Idealize.ShloMosaic.StableHlo Idealize.SL.Sem

namespace FR
open Cert.ReferenceInIdeal Cert.ReferenceInIdeal.Read

variable (x0 : FVec Ideal S2048x1024 .f32) (x1 : FVec Ideal S1024x6144 .f32)

theorem whole (q : Fin 2048) (n : Fin 6144) : val_main_v0 (F := Ideal) x0 x1 (ix2 q n) = ∑ k, x0 (ix2 q k) * x1 (ix2 k n) := by
  pointwise [val_main_v0]

theorem part_R (q : Fin 2048) (f : Fin 1792) : val_main_v1 (F := Ideal) x0 x1 (ix2 q f) = along (fun q k => x0 (ix2 q k)) (fun k f => x1 (ix2 k (colR f))) q f := by
  refine Eq.trans ?_ (whole x0 x1 q (colR f))
  pointwise [val_main_v1, colR]
theorem part_A (q : Fin 2048) (f : Fin 2304) : val_main_v2 (F := Ideal) x0 x1 (ix2 q f) = along (fun q k => x0 (ix2 q k)) (fun k f => x1 (ix2 k (colA f))) q f := by
  refine Eq.trans ?_ (whole x0 x1 q (colA f))
  pointwise [val_main_v2, colA]
theorem part_G (q : Fin 2048) (f : Fin 2048) : val_main_v3 (F := Ideal) x0 x1 (ix2 q f) = along (fun q k => x0 (ix2 q k)) (fun k f => x1 (ix2 k (colG f))) q f := by
  refine Eq.trans ?_ (whole x0 x1 q (colG f))
  pointwise [val_main_v3, colG]
end FR

theorem algebraicIn : Cert.algebraic_KernelInIdeal_ReferenceInIdeal := by
  intro m g m' g' _ hargs
  refine ⟨fun c => Cert.KernelInIdeal.Gen.W7 m g c (Proc.devRef .tc Cert.KernelInIdeal.main_v8),
    fun c => Cert.KernelInIdeal.Gen.W7 m g c (Proc.devRef .tc Cert.KernelInIdeal.main_v12),
    fun c => Cert.KernelInIdeal.Gen.W7 m g c (Proc.devRef .tc Cert.KernelInIdeal.main_v16), ?_, ?_⟩
  · refine (θ_run _ _ _).mono (fun r h c => ?_) (F.run m g)
    have at' := fun b hb => h c (Proc.devRef .tc b) (Cert.KernelInIdeal.Gen.mem_uc b hb)
    exact ⟨at' Cert.KernelInIdeal.main_v8 (by decide), at' Cert.KernelInIdeal.main_v12 (by decide), at' Cert.KernelInIdeal.main_v16 (by decide),
      (at' Cert.KernelInIdeal.main_arg0 (by decide)).trans (Cert.KernelInIdeal.Gen.W7_main_arg0 m g c),
      (at' Cert.KernelInIdeal.main_arg1 (by decide)).trans (Cert.KernelInIdeal.Gen.W7_main_arg1 m g c)⟩
  · refine (θ_run _ _ _).mono (fun r h c => ?_) (Cert.ReferenceInIdeal.Value.run m' g')
    obtain ⟨h0, h1, h2, hk⟩ := h c
    obtain ⟨e0, e1⟩ := hargs c
    refine ⟨h0.trans ?_, h1.trans ?_, h2.trans ?_, hk⟩
    · refine (Cert.ReferenceInIdeal.Read.val_main_v1_eq _ _).trans ?_
      rw [e0, e1]
      funext i
      rw [eq_ix2 i]
      exact (FR.part_R _ _ (i 0) (i 1)).trans (F.result_R m g c (i 0) (i 1)).symm
    · refine (Cert.ReferenceInIdeal.Read.val_main_v2_eq _ _).trans ?_
      rw [e0, e1]
      funext i
      rw [eq_ix2 i]
      exact (FR.part_A _ _ (i 0) (i 1)).trans (F.result_A m g c (i 0) (i 1)).symm
    · refine (Cert.ReferenceInIdeal.Read.val_main_v3_eq _ _).trans ?_
      rw [e0, e1]
      funext i
      rw [eq_ix2 i]
      exact (FR.part_G _ _ (i 0) (i 1)).trans (F.result_G m g c (i 0) (i 1)).symm

end Cert.Proj

end
-- ==== Proof.InDw.lean ====
/- The gradient of the input projection's weights: what the three kernels leave, and what the program ends with. -/
module

public import proofs.«01_k».proof.Proof.Proj
public import proofs.«01_k».proof.Proof.Gen.KernelInDwIdeal.Frame

@[expose] public section

set_option maxRecDepth 16384

noncomputable section

namespace Cert.Proj.W

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelInDwIdeal Cert.KernelInDwIdeal.Gen

section
variable (V : (c : Dev nD) → (b : Ref sig .tc) → Buf (Elt Ideal) ((c : Thread nD τ).loc b)) (c : Dev nD)

/-! ### The recurrence's columns -/

theorem idx0 : ∀ t : Fin cfg0.N, win0_0.index t = ![0, 0, 0] ∧ win0_1.index t = ![0, 0, t.val] ∧ win0_2.index t = ![0, 0, t.val] :=
  (by decide +kernel : ∀ t : Fin grid0.N, _)
theorem lt0 (t : Fin cfg0.N) : t.val < 2 := lt_of_lt_of_eq t.isLt N_0
/-- A column of one of the tiles. -/
def tile0 (r : ℕ) (hr : r < 2) (f : Fin 896) : Fin 1792 := ⟨r * 896 + f.val, by omega⟩

theorem product0 {h : Fin 2048 → Fin 1024 → EReal} {d : Fin 2048 → Fin 896 → EReal} {b0 : Vec Ideal S1x2048x1024 .bf16} {b1 : Vec Ideal S1x2048x896 .bf16}
    (h0 : ∀ q k, b0 (ix3 0 q k) = h q k) (h1 : ∀ q f, b1 (ix3 0 q f) = d q f) (k : Fin 1024) (f : Fin 896) :
    k0_pay1 b0 b1 (ix3 0 k f) = ∑ q, h q k * d q f := by
  pointwise [k0_pay1]
  simp only [h0, h1]

section
variable {V c} {H : Fin 2048 → Fin 1024 → EReal} {D : Fin 2048 → Fin 1792 → EReal}
  (hH : ∀ q k, V c main_v4 (ix3 0 q k) = H q k) (hD : ∀ q f, V c main_v5 (ix3 0 q f) = D q f) (t : Fin cfg0.N)

include hH in
theorem in0_0 (q : Fin 2048) (k : Fin 1024) : iblk0 V c 0 t (ix3 0 q k) = H q k := by
  rw [← hH]
  blk_point [iblk0, idx0 t]
include hD in
theorem in0_1 (q : Fin 2048) (f : Fin 896) : iblk0 V c 1 t (ix3 0 q f) = D q (tile0 t.val (lt0 t) f) := by
  rw [← hD]
  blk_point [iblk0, tile0, idx0 t]

theorem place0 (k : Fin 1024) (f : Fin 896) : (win0_2.blk t).view.emb (ix3 0 k f) = ix3 0 k (tile0 t.val (lt0 t) f) := by
  funext a
  apply Fin.ext
  match a with
  | ⟨0, _⟩ => blk_simp; rw [(idx0 t).2.2]; rfl
  | ⟨1, _⟩ => blk_simp; rw [(idx0 t).2.2]; exact Nat.zero_add _
  | ⟨2, _⟩ => blk_simp; rw [(idx0 t).2.2]; rfl

include hH hD in
theorem array0 : (dat0 V c).arrAt 2 cfg0.N = fun i : S1x1024x1792.Idx => cross H D (i 1) (i 2) := by
  refine (dat0 V c).arrAt_eq_of_covers 2 _ (by decide +kernel) fun t hf y => ?_
  blk_simp
  rw [after0_2]
  frame_out
  obtain ⟨k, f, rfl⟩ := one_block y
  rewrite [place0 t k f]
  exact product0 (in0_0 hH t) (in0_1 hD t) k f
end

/-! ### The attention's columns -/

theorem idx1 : ∀ t : Fin cfg1.N, win1_0.index t = ![0, 0, 0] ∧ win1_1.index t = ![0, 0, t.val] ∧ win1_2.index t = ![0, 0, t.val] :=
  (by decide +kernel : ∀ t : Fin grid1.N, _)
theorem lt1 (t : Fin cfg1.N) : t.val < 3 := lt_of_lt_of_eq t.isLt N_1
/-- A column of one of the tiles. -/
def tile1 (r : ℕ) (hr : r < 3) (f : Fin 768) : Fin 2304 := ⟨r * 768 + f.val, by omega⟩

theorem product1 {h : Fin 2048 → Fin 1024 → EReal} {d : Fin 2048 → Fin 768 → EReal} {b0 : Vec Ideal S1x2048x1024 .bf16} {b1 : Vec Ideal S1x2048x768 .bf16}
    (h0 : ∀ q k, b0 (ix3 0 q k) = h q k) (h1 : ∀ q f, b1 (ix3 0 q f) = d q f) (k : Fin 1024) (f : Fin 768) :
    k1_pay1 b0 b1 (ix3 0 k f) = ∑ q, h q k * d q f := by
  pointwise [k1_pay1]
  simp only [h0, h1]

section
variable {V c} {H : Fin 2048 → Fin 1024 → EReal} {D : Fin 2048 → Fin 2304 → EReal}
  (hH : ∀ q k, V c main_v8 (ix3 0 q k) = H q k) (hD : ∀ q f, V c main_v9 (ix3 0 q f) = D q f) (t : Fin cfg1.N)

include hH in
theorem in1_0 (q : Fin 2048) (k : Fin 1024) : iblk1 V c 0 t (ix3 0 q k) = H q k := by
  rw [← hH]
  blk_point [iblk1, idx1 t]
include hD in
theorem in1_1 (q : Fin 2048) (f : Fin 768) : iblk1 V c 1 t (ix3 0 q f) = D q (tile1 t.val (lt1 t) f) := by
  rw [← hD]
  blk_point [iblk1, tile1, idx1 t]

theorem place1 (k : Fin 1024) (f : Fin 768) : (win1_2.blk t).view.emb (ix3 0 k f) = ix3 0 k (tile1 t.val (lt1 t) f) := by
  funext a
  apply Fin.ext
  match a with
  | ⟨0, _⟩ => blk_simp; rw [(idx1 t).2.2]; rfl
  | ⟨1, _⟩ => blk_simp; rw [(idx1 t).2.2]; exact Nat.zero_add _
  | ⟨2, _⟩ => blk_simp; rw [(idx1 t).2.2]; rfl

include hH hD in
theorem array1 : (dat1 V c).arrAt 2 cfg1.N = fun i : S1x1024x2304.Idx => cross H D (i 1) (i 2) := by
  refine (dat1 V c).arrAt_eq_of_covers 2 _ (by decide +kernel) fun t hf y => ?_
  blk_simp
  rw [after1_2]
  frame_out
  obtain ⟨k, f, rfl⟩ := one_block y
  rewrite [place1 t k f]
  exact product1 (in1_0 hH t) (in1_1 hD t) k f
end

/-! ### The gate's columns -/

theorem idx2 : ∀ t : Fin cfg2.N, win2_0.index t = ![0, 0, 0] ∧ win2_1.index t = ![0, 0, t.val] ∧ win2_2.index t = ![0, 0, t.val] :=
  (by decide +kernel : ∀ t : Fin grid2.N, _)
theorem lt2 (t : Fin cfg2.N) : t.val < 2 := lt_of_lt_of_eq t.isLt N_2
/-- A column of one of the tiles. -/
def tile2 (r : ℕ) (hr : r < 2) (f : Fin 1024) : Fin 2048 := ⟨r * 1024 + f.val, by omega⟩

theorem product2 {h : Fin 2048 → Fin 1024 → EReal} {d : Fin 2048 → Fin 1024 → EReal} {b0 : Vec Ideal S1x2048x1024 .bf16} {b1 : Vec Ideal S1x2048x1024 .bf16}
    (h0 : ∀ q k, b0 (ix3 0 q k) = h q k) (h1 : ∀ q f, b1 (ix3 0 q f) = d q f) (k : Fin 1024) (f : Fin 1024) :
    k2_pay1 b0 b1 (ix3 0 k f) = ∑ q, h q k * d q f := by
  pointwise [k2_pay1]
  simp only [h0, h1]

section
variable {V c} {H : Fin 2048 → Fin 1024 → EReal} {D : Fin 2048 → Fin 2048 → EReal}
  (hH : ∀ q k, V c main_v12 (ix3 0 q k) = H q k) (hD : ∀ q f, V c main_v13 (ix3 0 q f) = D q f) (t : Fin cfg2.N)

include hH in
theorem in2_0 (q : Fin 2048) (k : Fin 1024) : iblk2 V c 0 t (ix3 0 q k) = H q k := by
  rw [← hH]
  blk_point [iblk2, idx2 t]
include hD in
theorem in2_1 (q : Fin 2048) (f : Fin 1024) : iblk2 V c 1 t (ix3 0 q f) = D q (tile2 t.val (lt2 t) f) := by
  rw [← hD]
  blk_point [iblk2, tile2, idx2 t]

theorem place2 (k : Fin 1024) (f : Fin 1024) : (win2_2.blk t).view.emb (ix3 0 k f) = ix3 0 k (tile2 t.val (lt2 t) f) := by
  funext a
  apply Fin.ext
  match a with
  | ⟨0, _⟩ => blk_simp; rw [(idx2 t).2.2]; rfl
  | ⟨1, _⟩ => blk_simp; rw [(idx2 t).2.2]; exact Nat.zero_add _
  | ⟨2, _⟩ => blk_simp; rw [(idx2 t).2.2]; rfl

include hH hD in
theorem array2 : (dat2 V c).arrAt 2 cfg2.N = fun i : S1x1024x2048.Idx => cross H D (i 1) (i 2) := by
  refine (dat2 V c).arrAt_eq_of_covers 2 _ (by decide +kernel) fun t hf y => ?_
  blk_simp
  rw [after2_2]
  frame_out
  obtain ⟨k, f, rfl⟩ := one_block y
  rewrite [place2 t k f]
  exact product2 (in2_0 hH t) (in2_1 hD t) k f
end
end

/-! ### The run -/

variable (m : (ℓ : Loc nD τ sig) → Buf (Elt Ideal) ℓ) (ρ : Dev nD → PrngReg) (c : Dev nD)

set_option backward.isDefEq.respectTransparency.types false in
/-- Every execution ends with each array at what the last boundary holds. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => h)

/-! ### From boundary to boundary -/

abbrev aH : Fin 2048 → Fin 1024 → EReal := fun q k => (m ((c : Thread nD τ).loc main_arg0) : S2048x1024.Idx → EReal) (ix2 q k)
abbrev aR : Fin 2048 → Fin 1792 → EReal := fun q f => (m ((c : Thread nD τ).loc main_arg1) : S2048x1792.Idx → EReal) (ix2 q f)
abbrev aA : Fin 2048 → Fin 2304 → EReal := fun q f => (m ((c : Thread nD τ).loc main_arg2) : S2048x2304.Idx → EReal) (ix2 q f)
abbrev aG : Fin 2048 → Fin 2048 → EReal := fun q f => (m ((c : Thread nD τ).loc main_arg3) : S2048x2048.Idx → EReal) (ix2 q f)

theorem spread (x : FVec Ideal S2048x1024 .bf16) (q : Fin 2048) (k : Fin 1024) :
    broadcastInDim S1x2048x1024 ![1, 2] bcast_S2048x1024_S1x2048x1024_1_2 x (ix3 0 q k) = x (ix2 q k) := by
  pointwise []
theorem spreadR (x : FVec Ideal S2048x1792 .bf16) (q : Fin 2048) (f : Fin 1792) :
    broadcastInDim S1x2048x1792 ![1, 2] bcast_S2048x1792_S1x2048x1792_1_2 x (ix3 0 q f) = x (ix2 q f) := by
  pointwise []
theorem flatR (x : FVec Ideal S1x1024x1792 .f32) (k : Fin 1024) (f : Fin 1792) :
    shapeCast S1024x1792 x shapeCasts_S1x1024x1792_S1024x1792 (ix2 k f) = x (ix3 0 k f) := by
  pointwise []
theorem spreadA (x : FVec Ideal S2048x2304 .bf16) (q : Fin 2048) (f : Fin 2304) :
    broadcastInDim S1x2048x2304 ![1, 2] bcast_S2048x2304_S1x2048x2304_1_2 x (ix3 0 q f) = x (ix2 q f) := by
  pointwise []
theorem flatA (x : FVec Ideal S1x1024x2304 .f32) (k : Fin 1024) (f : Fin 2304) :
    shapeCast S1024x2304 x shapeCasts_S1x1024x2304_S1024x2304 (ix2 k f) = x (ix3 0 k f) := by
  pointwise []
theorem spreadG (x : FVec Ideal S2048x2048 .bf16) (q : Fin 2048) (f : Fin 2048) :
    broadcastInDim S1x2048x2048 ![1, 2] bcast_S2048x2048_S1x2048x2048_1_2 x (ix3 0 q f) = x (ix2 q f) := by
  pointwise []
theorem flatG (x : FVec Ideal S1x1024x2048 .f32) (k : Fin 1024) (f : Fin 2048) :
    shapeCast S1024x2048 x shapeCasts_S1x1024x2048_S1024x2048 (ix2 k f) = x (ix3 0 k f) := by
  pointwise []

/-- The arguments, cast, at the first boundary. -/
theorem first_H (q : Fin 2048) (k : Fin 1024) : W1 m ρ c (Proc.devRef .tc main_v0) (ix2 q k) = aH m c q k := by
  refine (congrFun (show @Eq (FVec Ideal S2048x1024 .bf16) (W1 m ρ c (Proc.devRef .tc main_v0)) (truncf .bf16 (m ((c : Thread nD τ).loc main_arg0) : FVec Ideal S2048x1024 .f32) bitsLt_bf16_f32) from by
    after_results_simp <;> rfl) _).trans ?_
  pointwise []
theorem first_R (q : Fin 2048) (f : Fin 1792) : W1 m ρ c (Proc.devRef .tc main_v1) (ix2 q f) = aR m c q f := by
  refine (congrFun (show @Eq (FVec Ideal S2048x1792 .bf16) (W1 m ρ c (Proc.devRef .tc main_v1)) (truncf .bf16 (m ((c : Thread nD τ).loc main_arg1) : FVec Ideal S2048x1792 .f32) bitsLt_bf16_f32) from by
    after_results_simp <;> rfl) _).trans ?_
  pointwise []
theorem first_A (q : Fin 2048) (f : Fin 2304) : W1 m ρ c (Proc.devRef .tc main_v2) (ix2 q f) = aA m c q f := by
  refine (congrFun (show @Eq (FVec Ideal S2048x2304 .bf16) (W1 m ρ c (Proc.devRef .tc main_v2)) (truncf .bf16 (m ((c : Thread nD τ).loc main_arg2) : FVec Ideal S2048x2304 .f32) bitsLt_bf16_f32) from by
    after_results_simp <;> rfl) _).trans ?_
  pointwise []
theorem first_G (q : Fin 2048) (f : Fin 2048) : W1 m ρ c (Proc.devRef .tc main_v3) (ix2 q f) = aG m c q f := by
  refine (congrFun (show @Eq (FVec Ideal S2048x2048 .bf16) (W1 m ρ c (Proc.devRef .tc main_v3)) (truncf .bf16 (m ((c : Thread nD τ).loc main_arg3) : FVec Ideal S2048x2048 .f32) bitsLt_bf16_f32) from by
    after_results_simp <;> rfl) _).trans ?_
  pointwise []

/-- What the later kernels are given is what the first boundary held. -/
theorem third_of (r : Ref sig .tc) (h1 : r ∉ hostOps1_W) (h : ∀ w : Fin cfg0.W, Pipeline.arrRef spec0 w = r → (cfg0.win w).isOut = false) :
    W3 m ρ c (Proc.devRef .tc r) = W1 m ρ c (Proc.devRef .tc r) := (W3_of m ρ c r h1).trans (W2_of m ρ c r h)
theorem fifth_of (r : Ref sig .tc) (h1 : r ∉ hostOps2_W) (h : ∀ w : Fin cfg1.W, Pipeline.arrRef spec1 w = r → (cfg1.win w).isOut = false) :
    W5 m ρ c (Proc.devRef .tc r) = W3 m ρ c (Proc.devRef .tc r) := (W5_of m ρ c r h1).trans (W4_of m ρ c r h)

theorem given0_H (q : Fin 2048) (k : Fin 1024) : V1 m ρ c main_v4 (ix3 0 q k) = aH m c q k :=
  (congrFun (show @Eq (FVec Ideal S1x2048x1024 .bf16) (W1 m ρ c (Proc.devRef .tc main_v4)) (broadcastInDim S1x2048x1024 ![1, 2] bcast_S2048x1024_S1x2048x1024_1_2 (W1 m ρ c (Proc.devRef .tc main_v0) : FVec Ideal S2048x1024 .bf16)) from by
    after_results_simp <;> rfl) _).trans ((spread _ q k).trans (first_H m ρ c q k))
theorem given0_D (q : Fin 2048) (f : Fin 1792) : V1 m ρ c main_v5 (ix3 0 q f) = aR m c q f :=
  (congrFun (show @Eq (FVec Ideal S1x2048x1792 .bf16) (W1 m ρ c (Proc.devRef .tc main_v5)) (broadcastInDim S1x2048x1792 ![1, 2] bcast_S2048x1792_S1x2048x1792_1_2 (W1 m ρ c (Proc.devRef .tc main_v1) : FVec Ideal S2048x1792 .bf16)) from by
    after_results_simp <;> rfl) _).trans ((spreadR _ q f).trans (first_R m ρ c q f))
theorem given1_H (q : Fin 2048) (k : Fin 1024) : V3 m ρ c main_v8 (ix3 0 q k) = aH m c q k :=
  (congrFun (show @Eq (FVec Ideal S1x2048x1024 .bf16) (W3 m ρ c (Proc.devRef .tc main_v8)) (broadcastInDim S1x2048x1024 ![1, 2] bcast_S2048x1024_S1x2048x1024_1_2 (W2 m ρ c (Proc.devRef .tc main_v0) : FVec Ideal S2048x1024 .bf16)) from by
    after_results_simp <;> rfl) _).trans ((spread _ q k).trans ((congrFun (W2_of m ρ c main_v0 (by decide +kernel)) _).trans (first_H m ρ c q k)))
theorem given1_D (q : Fin 2048) (f : Fin 2304) : V3 m ρ c main_v9 (ix3 0 q f) = aA m c q f :=
  (congrFun (show @Eq (FVec Ideal S1x2048x2304 .bf16) (W3 m ρ c (Proc.devRef .tc main_v9)) (broadcastInDim S1x2048x2304 ![1, 2] bcast_S2048x2304_S1x2048x2304_1_2 (W2 m ρ c (Proc.devRef .tc main_v2) : FVec Ideal S2048x2304 .bf16)) from by
    after_results_simp <;> rfl) _).trans ((spreadA _ q f).trans ((congrFun (W2_of m ρ c main_v2 (by decide +kernel)) _).trans (first_A m ρ c q f)))
theorem given2_H (q : Fin 2048) (k : Fin 1024) : V5 m ρ c main_v12 (ix3 0 q k) = aH m c q k :=
  (congrFun (show @Eq (FVec Ideal S1x2048x1024 .bf16) (W5 m ρ c (Proc.devRef .tc main_v12)) (broadcastInDim S1x2048x1024 ![1, 2] bcast_S2048x1024_S1x2048x1024_1_2 (W4 m ρ c (Proc.devRef .tc main_v0) : FVec Ideal S2048x1024 .bf16)) from by
    after_results_simp <;> rfl) _).trans ((spread _ q k).trans ((congrFun ((W4_of m ρ c main_v0 (by decide +kernel)).trans (third_of m ρ c main_v0 (by decide +kernel) (by decide +kernel))) _).trans (first_H m ρ c q k)))
theorem given2_D (q : Fin 2048) (f : Fin 2048) : V5 m ρ c main_v13 (ix3 0 q f) = aG m c q f :=
  (congrFun (show @Eq (FVec Ideal S1x2048x2048 .bf16) (W5 m ρ c (Proc.devRef .tc main_v13)) (broadcastInDim S1x2048x2048 ![1, 2] bcast_S2048x2048_S1x2048x2048_1_2 (W4 m ρ c (Proc.devRef .tc main_v3) : FVec Ideal S2048x2048 .bf16)) from by
    after_results_simp <;> rfl) _).trans ((spreadG _ q f).trans ((congrFun ((W4_of m ρ c main_v3 (by decide +kernel)).trans (third_of m ρ c main_v3 (by decide +kernel) (by decide +kernel))) _).trans (first_G m ρ c q f)))

/-! ### The gradient -/

theorem left0 : W2 m ρ c (Proc.devRef .tc main_v6) = fun i : S1x1024x1792.Idx => cross (aH m c) (aR m c) (i 1) (i 2) :=
  (W2_arr m ρ c 2).trans (array0 (given0_H m ρ c) (given0_D m ρ c))
theorem left1 : W4 m ρ c (Proc.devRef .tc main_v10) = fun i : S1x1024x2304.Idx => cross (aH m c) (aA m c) (i 1) (i 2) :=
  (W4_arr m ρ c 2).trans (array1 (given1_H m ρ c) (given1_D m ρ c))
theorem left2 : W6 m ρ c (Proc.devRef .tc main_v14) = fun i : S1x1024x2048.Idx => cross (aH m c) (aG m c) (i 1) (i 2) :=
  (W6_arr m ρ c 2).trans (array2 (given2_H m ρ c) (given2_D m ρ c))

theorem kept_R (k : Fin 1024) (f : Fin 1792) : W6 m ρ c (Proc.devRef .tc main_v7) (ix2 k f) = cross (aH m c) (aR m c) k f := by
  refine (congrFun ((W6_of m ρ c main_v7 (by decide +kernel)).trans (fifth_of m ρ c main_v7 (by decide +kernel) (by decide +kernel))) _).trans ?_
  refine (congrFun (show @Eq (FVec Ideal S1024x1792 .f32) (W3 m ρ c (Proc.devRef .tc main_v7)) (shapeCast S1024x1792 (W2 m ρ c (Proc.devRef .tc main_v6) : FVec Ideal S1x1024x1792 .f32) shapeCasts_S1x1024x1792_S1024x1792) from by
    after_results_simp <;> rfl) _).trans ?_
  exact (flatR _ k f).trans (congrFun (left0 m ρ c) _)
theorem kept_A (k : Fin 1024) (f : Fin 2304) : W6 m ρ c (Proc.devRef .tc main_v11) (ix2 k f) = cross (aH m c) (aA m c) k f := by
  refine (congrFun (W6_of m ρ c main_v11 (by decide +kernel)) _).trans ?_
  refine (congrFun (show @Eq (FVec Ideal S1024x2304 .f32) (W5 m ρ c (Proc.devRef .tc main_v11)) (shapeCast S1024x2304 (W4 m ρ c (Proc.devRef .tc main_v10) : FVec Ideal S1x1024x2304 .f32) shapeCasts_S1x1024x2304_S1024x2304) from by
    after_results_simp <;> rfl) _).trans ?_
  exact (flatA _ k f).trans (congrFun (left1 m ρ c) _)
theorem kept_G (k : Fin 1024) (f : Fin 2048) : shapeCast S1024x2048 (W6 m ρ c (Proc.devRef .tc main_v14) : FVec Ideal S1x1024x2048 .f32) shapeCasts_S1x1024x2048_S1024x2048 (ix2 k f)
    = cross (aH m c) (aG m c) k f :=
  (flatG _ k f).trans (congrFun (left2 m ρ c) _)

/-- The result: the three groups side by side. -/
theorem result : @Eq (FVec Ideal S1024x6144 .f32) (W7 m ρ c (Proc.devRef .tc main_v16)) (concatenate S1024x6144 1
    [⟨S1024x1792, (W6 m ρ c (Proc.devRef .tc main_v7) : FVec Ideal S1024x1792 .f32)⟩, ⟨S1024x2304, (W6 m ρ c (Proc.devRef .tc main_v11) : FVec Ideal S1024x2304 .f32)⟩,
      ⟨S1024x2048, shapeCast S1024x2048 (W6 m ρ c (Proc.devRef .tc main_v14) : FVec Ideal S1x1024x2048 .f32) shapeCasts_S1x1024x2048_S1024x2048⟩]
    concatenates_S1024x1792_S1024x2304_S1024x2048_S1024x6144_d1) := by
  after_results_simp <;> rfl

theorem result_R (k : Fin 1024) (f : Fin 1792) : W7 m ρ c (Proc.devRef .tc main_v16) (ix2 k (colR f)) = cross (aH m c) (aR m c) k f :=
  (congrFun (result m ρ c) _).trans ((side_R _ _ _ _ k f).trans (kept_R m ρ c k f))
theorem result_A (k : Fin 1024) (f : Fin 2304) : W7 m ρ c (Proc.devRef .tc main_v16) (ix2 k (colA f)) = cross (aH m c) (aA m c) k f :=
  (congrFun (result m ρ c) _).trans ((side_A _ _ _ _ k f).trans (kept_A m ρ c k f))
theorem result_G (k : Fin 1024) (f : Fin 2048) : W7 m ρ c (Proc.devRef .tc main_v16) (ix2 k (colG f)) = cross (aH m c) (aG m c) k f :=
  (congrFun (result m ρ c) _).trans ((side_G _ _ _ _ k f).trans (kept_G m ρ c k f))

end Cert.Proj.W

end
-- ==== Proof.InDwRef.lean ====
/- The reference's gradient of the input projection's weights, and that it is what the kernels leave. -/
module

public import proofs.«01_k».proof.Proof.InDw
public import proofs.«01_k».proof.Proof.Gen.ReferenceInDwIdeal.Run
public import proofs.«01_k».proof.Proof.Gen.ReferenceInDwIdeal.Read
public import proofs.«01_k».proof.Defs

@[expose] public section

set_option maxRecDepth 16384

noncomputable section

namespace Cert.Proj

open Idealize.ShloMosaic Idealize.ShloMosaic.StableHlo Idealize.SL.Sem

namespace WR
open Cert.ReferenceInDwIdeal Cert.ReferenceInDwIdeal.Read

variable (x0 : FVec Ideal S2048x1024 .f32) (x1 : FVec Ideal S2048x1792 .f32) (x2 : FVec Ideal S2048x2304 .f32) (x3 : FVec Ideal S2048x2048 .f32)

/-- An entry of the gradient, its factors the other way round. -/
theorem gradient (k : Fin 1024) (n : Fin 6144) : val_main_v4 (F := Ideal) x0 x1 x2 x3 (ix2 k n) = ∑ q, x0 (ix2 q k) * val_main_v0 (F := Ideal) x1 x2 x3 (ix2 q n) := by
  pointwise [val_main_v4, val_main_v3]
  exact Finset.sum_congr rfl fun q _ => mul_comm _ _

theorem cot_R (q : Fin 2048) (f : Fin 1792) : val_main_v0 (F := Ideal) x1 x2 x3 (ix2 q (colR f)) = x1 (ix2 q f) := by
  unfold val_main_v0; exact side_R _ _ _ _ q f
theorem cot_A (q : Fin 2048) (f : Fin 2304) : val_main_v0 (F := Ideal) x1 x2 x3 (ix2 q (colA f)) = x2 (ix2 q f) := by
  unfold val_main_v0; exact side_A _ _ _ _ q f
theorem cot_G (q : Fin 2048) (f : Fin 2048) : val_main_v0 (F := Ideal) x1 x2 x3 (ix2 q (colG f)) = x3 (ix2 q f) := by
  unfold val_main_v0; exact side_G _ _ _ _ q f

theorem gradient_R (k : Fin 1024) (f : Fin 1792) : val_main_v4 (F := Ideal) x0 x1 x2 x3 (ix2 k (colR f)) = cross (fun q k => x0 (ix2 q k)) (fun q f => x1 (ix2 q f)) k f :=
  (gradient x0 x1 x2 x3 k _).trans (Finset.sum_congr rfl fun q _ => congrArg (_ * ·) (cot_R x1 x2 x3 q f))
theorem gradient_A (k : Fin 1024) (f : Fin 2304) : val_main_v4 (F := Ideal) x0 x1 x2 x3 (ix2 k (colA f)) = cross (fun q k => x0 (ix2 q k)) (fun q f => x2 (ix2 q f)) k f :=
  (gradient x0 x1 x2 x3 k _).trans (Finset.sum_congr rfl fun q _ => congrArg (_ * ·) (cot_A x1 x2 x3 q f))
theorem gradient_G (k : Fin 1024) (f : Fin 2048) : val_main_v4 (F := Ideal) x0 x1 x2 x3 (ix2 k (colG f)) = cross (fun q k => x0 (ix2 q k)) (fun q f => x3 (ix2 q f)) k f :=
  (gradient x0 x1 x2 x3 k _).trans (Finset.sum_congr rfl fun q _ => congrArg (_ * ·) (cot_G x1 x2 x3 q f))
end WR

theorem algebraicInDw : Cert.algebraic_KernelInDwIdeal_ReferenceInDwIdeal := by
  intro m g m' g' _ hargs
  refine ⟨fun c => Cert.KernelInDwIdeal.Gen.W7 m g c (Proc.devRef .tc Cert.KernelInDwIdeal.main_v16), ?_, ?_⟩
  · refine (θ_run _ _ _).mono (fun r h c => ?_) (W.run m g)
    have at' := fun b hb => h c (Proc.devRef .tc b) (Cert.KernelInDwIdeal.Gen.mem_uc b hb)
    exact ⟨at' Cert.KernelInDwIdeal.main_v16 (by decide),
      (at' Cert.KernelInDwIdeal.main_arg0 (by decide)).trans (Cert.KernelInDwIdeal.Gen.W7_main_arg0 m g c),
      (at' Cert.KernelInDwIdeal.main_arg1 (by decide)).trans (Cert.KernelInDwIdeal.Gen.W7_main_arg1 m g c),
      (at' Cert.KernelInDwIdeal.main_arg2 (by decide)).trans (Cert.KernelInDwIdeal.Gen.W7_main_arg2 m g c),
      (at' Cert.KernelInDwIdeal.main_arg3 (by decide)).trans (Cert.KernelInDwIdeal.Gen.W7_main_arg3 m g c)⟩
  · refine (θ_run _ _ _).mono (fun r h c => ?_) (Cert.ReferenceInDwIdeal.Value.run m' g')
    obtain ⟨h0, hk⟩ := h c
    obtain ⟨e0, e1, e2, e3⟩ := hargs c
    refine ⟨h0.trans ?_, hk⟩
    refine (Cert.ReferenceInDwIdeal.Read.val_main_v4_eq _ _ _ _).trans ?_
    rw [e0, e1, e2, e3]
    funext i
    rw [eq_ix2 i]
    refine col_cases (fun n => Cert.ReferenceInDwIdeal.Read.val_main_v4 (F := Ideal) _ _ _ _ (ix2 (i 0) n)
      = Cert.KernelInDwIdeal.Gen.W7 m g c (Proc.devRef .tc Cert.KernelInDwIdeal.main_v16) (ix2 (i 0) n)) (fun f => ?_) (fun f => ?_) (fun f => ?_) (i 1)
    · exact (WR.gradient_R _ _ _ _ (i 0) f).trans (W.result_R m g c (i 0) f).symm
    · exact (WR.gradient_A _ _ _ _ (i 0) f).trans (W.result_A m g c (i 0) f).symm
    · exact (WR.gradient_G _ _ _ _ (i 0) f).trans (W.result_G m g c (i 0) f).symm

end Cert.Proj

end
-- ==== Proof.InDx.lean ====
/- The gradient of the projection's rows through the recurrence's and the attention's columns: what the two kernels leave. -/
module

public import proofs.«01_k».proof.Proof.Proj
public import proofs.«01_k».proof.Proof.Gen.KernelInDxIdeal.Frame

@[expose] public section

set_option maxRecDepth 16384

noncomputable section

namespace Cert.Proj.X

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelInDxIdeal Cert.KernelInDxIdeal.Gen

section
variable (V : (c : Dev nD) → (b : Ref sig .tc) → Buf (Elt Ideal) ((c : Thread nD τ).loc b)) (c : Dev nD)

/-- A row of one of the two halves of the batch. -/
def row (r : ℕ) (hr : r < 2) (q : Fin 1024) : Fin 2048 := ⟨r * 1024 + q.val, by omega⟩

/-! ### Through the recurrence's columns -/

theorem idx0 : ∀ t : Fin cfg0.N, win0_0.index t = ![0, t.val, 0] ∧ win0_1.index t = ![0, 0, 0] ∧ win0_2.index t = ![0, t.val, 0] :=
  (by decide +kernel : ∀ t : Fin grid0.N, _)
theorem lt0 (t : Fin cfg0.N) : t.val < 2 := lt_of_lt_of_eq t.isLt N_0

theorem product0 {d w : Fin 1024 → Fin 1792 → EReal} {b0 b1 : Vec Ideal S1x1024x1792 .bf16}
    (h0 : ∀ q f, b0 (ix3 0 q f) = d q f) (h1 : ∀ k f, b1 (ix3 0 k f) = w k f) (q k : Fin 1024) :
    k0_pay1 b0 b1 (ix3 0 q k) = (∑ f, d q f * w k f) := by
  pointwise [k0_pay1]
  simp only [h0, h1]

section
variable {V c} {D : Fin 2048 → Fin 1792 → EReal} {W : Fin 1024 → Fin 1792 → EReal}
  (hD : ∀ q f, V c main_v5 (ix3 0 q f) = D q f) (hW : ∀ k f, V c main_v6 (ix3 0 k f) = W k f) (t : Fin cfg0.N)

include hD in
theorem in0_0 (q : Fin 1024) (f : Fin 1792) : iblk0 V c 0 t (ix3 0 q f) = D (row t.val (lt0 t) q) f := by
  rw [← hD]
  blk_point [iblk0, row, idx0 t]
include hW in
theorem in0_1 (k : Fin 1024) (f : Fin 1792) : iblk0 V c 1 t (ix3 0 k f) = W k f := by
  rw [← hW]
  blk_point [iblk0, idx0 t]

theorem place0 (q k : Fin 1024) : (win0_2.blk t).view.emb (ix3 0 q k) = ix3 0 (row t.val (lt0 t) q) k := by
  funext a
  apply Fin.ext
  match a with
  | ⟨0, _⟩ => blk_simp; rw [(idx0 t).2.2]; rfl
  | ⟨1, _⟩ => blk_simp; rw [(idx0 t).2.2]; rfl
  | ⟨2, _⟩ => blk_simp; rw [(idx0 t).2.2]; exact Nat.zero_add _

include hD hW in
theorem array0 : (dat0 V c).arrAt 2 cfg0.N = fun i : S1x2048x1024.Idx => against D W (i 1) (i 2) := by
  refine (dat0 V c).arrAt_eq_of_covers 2 _ (by decide +kernel) fun t hf y => ?_
  blk_simp
  rw [after0_2]
  frame_out
  obtain ⟨q, k, rfl⟩ := one_block y
  rewrite [place0 t q k]
  exact product0 (in0_0 hD t) (in0_1 hW t) q k
end

/-! ### Through the attention's columns -/

theorem idx1 : ∀ t : Fin cfg1.N, win1_0.index t = ![0, t.val, 0] ∧ win1_1.index t = ![0, 0, 0] ∧ win1_2.index t = ![0, t.val, 0] ∧ win1_3.index t = ![0, t.val, 0] :=
  (by decide +kernel : ∀ t : Fin grid1.N, _)
theorem lt1 (t : Fin cfg1.N) : t.val < 2 := lt_of_lt_of_eq t.isLt N_1

theorem product1 {d w : Fin 1024 → Fin 2304 → EReal} {r : Fin 1024 → Fin 1024 → EReal} {b0 b1 : Vec Ideal S1x1024x2304 .bf16} {b2 : Vec Ideal S1x1024x1024 .f32}
    (h0 : ∀ q f, b0 (ix3 0 q f) = d q f) (h1 : ∀ k f, b1 (ix3 0 k f) = w k f) (h2 : ∀ q k, b2 (ix3 0 q k) = r q k) (q k : Fin 1024) :
    k1_pay1 b0 b1 b2 (ix3 0 q k) = (∑ f, d q f * w k f) + r q k := by
  pointwise [k1_pay1]
  simp only [h0, h1, h2]

section
variable {V c} {D : Fin 2048 → Fin 2304 → EReal} {W : Fin 1024 → Fin 2304 → EReal} {R : Fin 2048 → Fin 1024 → EReal}
  (hD : ∀ q f, V c main_v10 (ix3 0 q f) = D q f) (hW : ∀ k f, V c main_v11 (ix3 0 k f) = W k f) (hR : ∀ q k, V c main_v12 (ix3 0 q k) = R q k) (t : Fin cfg1.N)

include hD in
theorem in1_0 (q : Fin 1024) (f : Fin 2304) : iblk1 V c 0 t (ix3 0 q f) = D (row t.val (lt1 t) q) f := by
  rw [← hD]
  blk_point [iblk1, row, idx1 t]
include hW in
theorem in1_1 (k : Fin 1024) (f : Fin 2304) : iblk1 V c 1 t (ix3 0 k f) = W k f := by
  rw [← hW]
  blk_point [iblk1, idx1 t]
include hR in
theorem in1_2 (q k : Fin 1024) : iblk1 V c 2 t (ix3 0 q k) = R (row t.val (lt1 t) q) k := by
  rw [← hR]
  blk_point [iblk1, row, idx1 t]

theorem place1 (q k : Fin 1024) : (win1_3.blk t).view.emb (ix3 0 q k) = ix3 0 (row t.val (lt1 t) q) k := by
  funext a
  apply Fin.ext
  match a with
  | ⟨0, _⟩ => blk_simp; rw [(idx1 t).2.2.2]; rfl
  | ⟨1, _⟩ => blk_simp; rw [(idx1 t).2.2.2]; rfl
  | ⟨2, _⟩ => blk_simp; rw [(idx1 t).2.2.2]; exact Nat.zero_add _

include hD hW hR in
theorem array1 : (dat1 V c).arrAt 3 cfg1.N = fun i : S1x2048x1024.Idx => against D W (i 1) (i 2) + R (i 1) (i 2) := by
  refine (dat1 V c).arrAt_eq_of_covers 3 _ (by decide +kernel) fun t hf y => ?_
  blk_simp
  rw [after1_3]
  frame_out
  obtain ⟨q, k, rfl⟩ := one_block y
  rewrite [place1 t q k]
  exact product1 (in1_0 hD t) (in1_1 hW t) (in1_2 hR t) q k
end
end

/-! ### The run -/

variable (m : (ℓ : Loc nD τ sig) → Buf (Elt Ideal) ℓ) (ρ : Dev nD → PrngReg) (c : Dev nD)

set_option backward.isDefEq.respectTransparency.types false in
/-- Every execution ends with each array at what the last boundary holds. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

/-! ### From boundary to boundary -/

abbrev aW : Fin 1024 → Fin 6144 → EReal := fun k n => (m ((c : Thread nD τ).loc main_arg0) : S1024x6144.Idx → EReal) (ix2 k n)
abbrev aR : Fin 2048 → Fin 1792 → EReal := fun q f => (m ((c : Thread nD τ).loc main_arg1) : S2048x1792.Idx → EReal) (ix2 q f)
abbrev aA : Fin 2048 → Fin 2304 → EReal := fun q f => (m ((c : Thread nD τ).loc main_arg2) : S2048x2304.Idx → EReal) (ix2 q f)

theorem spreadR (x : FVec Ideal S1024x1792 .bf16) (k : Fin 1024) (f : Fin 1792) :
    broadcastInDim S1x1024x1792 ![1, 2] bcast_S1024x1792_S1x1024x1792_1_2 x (ix3 0 k f) = x (ix2 k f) := by
  pointwise []
theorem groupR (x : FVec Ideal S1024x6144 .f32) (k : Fin 1024) (f : Fin 1792) :
    extractStridedSlice S1024x1792 ![0, 0] (truncf .bf16 x bitsLt_bf16_f32) slices_S1024x6144_S1024x1792_0_0 (ix2 k f) = x (ix2 k (colR f)) := by
  pointwise [colR]
theorem rowsR (x : FVec Ideal S2048x1792 .f32) (q : Fin 2048) (f : Fin 1792) :
    broadcastInDim S1x2048x1792 ![1, 2] bcast_S2048x1792_S1x2048x1792_1_2 (truncf .bf16 x bitsLt_bf16_f32 : FVec Ideal S2048x1792 .bf16) (ix3 0 q f) = x (ix2 q f) := by
  pointwise []
theorem spreadA (x : FVec Ideal S1024x2304 .bf16) (k : Fin 1024) (f : Fin 2304) :
    broadcastInDim S1x1024x2304 ![1, 2] bcast_S1024x2304_S1x1024x2304_1_2 x (ix3 0 k f) = x (ix2 k f) := by
  pointwise []
theorem groupA (x : FVec Ideal S1024x6144 .f32) (k : Fin 1024) (f : Fin 2304) :
    extractStridedSlice S1024x2304 ![0, 1792] (truncf .bf16 x bitsLt_bf16_f32) slices_S1024x6144_S1024x2304_0_1792 (ix2 k f) = x (ix2 k (colA f)) := by
  pointwise [colA]
theorem rowsA (x : FVec Ideal S2048x2304 .f32) (q : Fin 2048) (f : Fin 2304) :
    broadcastInDim S1x2048x2304 ![1, 2] bcast_S2048x2304_S1x2048x2304_1_2 (truncf .bf16 x bitsLt_bf16_f32 : FVec Ideal S2048x2304 .bf16) (ix3 0 q f) = x (ix2 q f) := by
  pointwise []
theorem spread (x : FVec Ideal S2048x1024 .f32) (q : Fin 2048) (k : Fin 1024) :
    broadcastInDim S1x2048x1024 ![1, 2] bcast_S2048x1024_S1x2048x1024_1_2 x (ix3 0 q k) = x (ix2 q k) := by
  pointwise []
theorem flat (x : FVec Ideal S1x2048x1024 .f32) (q : Fin 2048) (k : Fin 1024) :
    shapeCast S2048x1024 x shapeCasts_S1x2048x1024_S2048x1024 (ix2 q k) = x (ix3 0 q k) := by
  pointwise []

theorem first_R (k : Fin 1024) (f : Fin 1792) : W1 m ρ c (Proc.devRef .tc main_v1) (ix2 k f) = aW m c k (colR f) :=
  (congrFun (show @Eq (FVec Ideal S1024x1792 .bf16) (W1 m ρ c (Proc.devRef .tc main_v1)) (extractStridedSlice S1024x1792 ![0, 0] (truncf .bf16 (m ((c : Thread nD τ).loc main_arg0) : FVec Ideal S1024x6144 .f32) bitsLt_bf16_f32) slices_S1024x6144_S1024x1792_0_0) from by
    after_results_simp <;> rfl) _).trans (groupR _ k f)
theorem first_A (k : Fin 1024) (f : Fin 2304) : W1 m ρ c (Proc.devRef .tc main_v2) (ix2 k f) = aW m c k (colA f) :=
  (congrFun (show @Eq (FVec Ideal S1024x2304 .bf16) (W1 m ρ c (Proc.devRef .tc main_v2)) (extractStridedSlice S1024x2304 ![0, 1792] (truncf .bf16 (m ((c : Thread nD τ).loc main_arg0) : FVec Ideal S1024x6144 .f32) bitsLt_bf16_f32) slices_S1024x6144_S1024x2304_0_1792) from by
    after_results_simp <;> rfl) _).trans (groupA _ k f)

theorem given0_D (q : Fin 2048) (f : Fin 1792) : V1 m ρ c main_v5 (ix3 0 q f) = aR m c q f :=
  (congrFun (show @Eq (FVec Ideal S1x2048x1792 .bf16) (W1 m ρ c (Proc.devRef .tc main_v5)) (broadcastInDim S1x2048x1792 ![1, 2] bcast_S2048x1792_S1x2048x1792_1_2 (truncf .bf16 (m ((c : Thread nD τ).loc main_arg1) : FVec Ideal S2048x1792 .f32) bitsLt_bf16_f32 : FVec Ideal S2048x1792 .bf16)) from by
    after_results_simp <;> rfl) _).trans (rowsR _ q f)
theorem given0_W (k : Fin 1024) (f : Fin 1792) : V1 m ρ c main_v6 (ix3 0 k f) = aW m c k (colR f) :=
  (congrFun (show @Eq (FVec Ideal S1x1024x1792 .bf16) (W1 m ρ c (Proc.devRef .tc main_v6)) (broadcastInDim S1x1024x1792 ![1, 2] bcast_S1024x1792_S1x1024x1792_1_2 (W1 m ρ c (Proc.devRef .tc main_v1) : FVec Ideal S1024x1792 .bf16)) from by
    after_results_simp <;> rfl) _).trans ((spreadR _ k f).trans (first_R m ρ c k f))

theorem left0 : W2 m ρ c (Proc.devRef .tc main_v7) = fun i : S1x2048x1024.Idx => against (aR m c) (fun k f => aW m c k (colR f)) (i 1) (i 2) :=
  (W2_arr m ρ c 2).trans (array0 (given0_D m ρ c) (given0_W m ρ c))

theorem given1_D (q : Fin 2048) (f : Fin 2304) : V3 m ρ c main_v10 (ix3 0 q f) = aA m c q f := by
  refine (congrFun (show @Eq (FVec Ideal S1x2048x2304 .bf16) (W3 m ρ c (Proc.devRef .tc main_v10)) (broadcastInDim S1x2048x2304 ![1, 2] bcast_S2048x2304_S1x2048x2304_1_2 (truncf .bf16 (W2 m ρ c (Proc.devRef .tc main_arg2) : FVec Ideal S2048x2304 .f32) bitsLt_bf16_f32 : FVec Ideal S2048x2304 .bf16)) from by
    after_results_simp <;> rfl) _).trans ?_
  exact (rowsA _ q f).trans (congrFun (W2_args m ρ c main_arg2 (by decide)) _)
theorem given1_W (k : Fin 1024) (f : Fin 2304) : V3 m ρ c main_v11 (ix3 0 k f) = aW m c k (colA f) :=
  (congrFun (show @Eq (FVec Ideal S1x1024x2304 .bf16) (W3 m ρ c (Proc.devRef .tc main_v11)) (broadcastInDim S1x1024x2304 ![1, 2] bcast_S1024x2304_S1x1024x2304_1_2 (W2 m ρ c (Proc.devRef .tc main_v2) : FVec Ideal S1024x2304 .bf16)) from by
    after_results_simp <;> rfl) _).trans ((spreadA _ k f).trans ((congrFun (W2_of m ρ c main_v2 (by decide +kernel)) _).trans (first_A m ρ c k f)))
/-- The second kernel is given what the first left. -/
theorem given1_R (q : Fin 2048) (k : Fin 1024) : V3 m ρ c main_v12 (ix3 0 q k) = against (aR m c) (fun k f => aW m c k (colR f)) q k := by
  refine (congrFun (show @Eq (FVec Ideal S1x2048x1024 .f32) (W3 m ρ c (Proc.devRef .tc main_v12)) (broadcastInDim S1x2048x1024 ![1, 2] bcast_S2048x1024_S1x2048x1024_1_2
    (shapeCast S2048x1024 (W2 m ρ c (Proc.devRef .tc main_v7) : FVec Ideal S1x2048x1024 .f32) shapeCasts_S1x2048x1024_S2048x1024 : FVec Ideal S2048x1024 .f32)) from by
    after_results_simp <;> rfl) _).trans ?_
  exact (spread _ q k).trans ((flat _ q k).trans (congrFun (left0 m ρ c) _))

theorem left1 : W4 m ρ c (Proc.devRef .tc main_v13) = fun i : S1x2048x1024.Idx =>
    against (aA m c) (fun k f => aW m c k (colA f)) (i 1) (i 2) + against (aR m c) (fun k f => aW m c k (colR f)) (i 1) (i 2) :=
  (W4_arr m ρ c 3).trans (array1 (given1_D m ρ c) (given1_W m ρ c) (given1_R m ρ c))

theorem result (q : Fin 2048) (k : Fin 1024) : W5 m ρ c (Proc.devRef .tc main_v14) (ix2 q k)
    = against (aA m c) (fun k f => aW m c k (colA f)) q k + against (aR m c) (fun k f => aW m c k (colR f)) q k := by
  refine (congrFun (show @Eq (FVec Ideal S2048x1024 .f32) (W5 m ρ c (Proc.devRef .tc main_v14)) (shapeCast S2048x1024 (W4 m ρ c (Proc.devRef .tc main_v13) : FVec Ideal S1x2048x1024 .f32) shapeCasts_S1x2048x1024_S2048x1024) from by
    after_results_simp <;> rfl) _).trans ?_
  exact (flat _ q k).trans (congrFun (left1 m ρ c) _)

end Cert.Proj.X

end
-- ==== Proof.InDxRef.lean ====
/- The reference's gradient of the projection's rows, and that it is what the kernels leave. -/
module

public import proofs.«01_k».proof.Proof.InDx
public import proofs.«01_k».proof.Proof.Gen.ReferenceInDxIdeal.Run
public import proofs.«01_k».proof.Proof.Gen.ReferenceInDxIdeal.Read
public import proofs.«01_k».proof.Defs

@[expose] public section

set_option maxRecDepth 16384

noncomputable section

namespace Cert.Proj

open Idealize.ShloMosaic Idealize.ShloMosaic.StableHlo Idealize.SL.Sem

namespace XR
open Cert.ReferenceInDxIdeal Cert.ReferenceInDxIdeal.Read

variable (x0 : FVec Ideal S1024x6144 .f32) (x1 : FVec Ideal S2048x1792 .f32) (x2 : FVec Ideal S2048x2304 .f32)

theorem group_R (k : Fin 1024) (f : Fin 1792) : val_main_v0 (F := Ideal) x0 (ix2 k f) = x0 (ix2 k (colR f)) := by
  pointwise [val_main_v0, colR]
theorem group_A (k : Fin 1024) (f : Fin 2304) : val_main_v1 (F := Ideal) x0 (ix2 k f) = x0 (ix2 k (colA f)) := by
  pointwise [val_main_v1, colA]
theorem through_R (q : Fin 2048) (k : Fin 1024) : val_main_v7 (F := Ideal) x0 x1 (ix2 q k) = against (fun q f => x1 (ix2 q f)) (fun k f => x0 (ix2 k (colR f))) q k := by
  pointwise [val_main_v7]
  simp only [group_R]
  rfl
theorem through_A (q : Fin 2048) (k : Fin 1024) : val_main_v6 (F := Ideal) x0 x2 (ix2 q k) = against (fun q f => x2 (ix2 q f)) (fun k f => x0 (ix2 k (colA f))) q k := by
  pointwise [val_main_v6]
  simp only [group_A]
  rfl
theorem gradient (q : Fin 2048) (k : Fin 1024) : val_main_v8 (F := Ideal) x0 x1 x2 (ix2 q k)
    = against (fun q f => x2 (ix2 q f)) (fun k f => x0 (ix2 k (colA f))) q k + against (fun q f => x1 (ix2 q f)) (fun k f => x0 (ix2 k (colR f))) q k := by
  rw [← through_A, ← through_R]
  pointwise [val_main_v8]
end XR

theorem algebraicInDx : Cert.algebraic_KernelInDxIdeal_ReferenceInDxIdeal := by
  intro m g m' g' _ hargs
  refine ⟨fun c => Cert.KernelInDxIdeal.Gen.W5 m g c (Proc.devRef .tc Cert.KernelInDxIdeal.main_v14), ?_, ?_⟩
  · refine (θ_run _ _ _).mono (fun r h c => ?_) (X.run m g)
    have at' := fun b hb => h c (Proc.devRef .tc b) (Cert.KernelInDxIdeal.Gen.mem_uc b hb)
    exact ⟨at' Cert.KernelInDxIdeal.main_v14 (by decide),
      (at' Cert.KernelInDxIdeal.main_arg0 (by decide)).trans (Cert.KernelInDxIdeal.Gen.W5_main_arg0 m g c),
      (at' Cert.KernelInDxIdeal.main_arg1 (by decide)).trans (Cert.KernelInDxIdeal.Gen.W5_main_arg1 m g c),
      (at' Cert.KernelInDxIdeal.main_arg2 (by decide)).trans (Cert.KernelInDxIdeal.Gen.W5_main_arg2 m g c)⟩
  · refine (θ_run _ _ _).mono (fun r h c => ?_) (Cert.ReferenceInDxIdeal.Value.run m' g')
    obtain ⟨h0, hk⟩ := h c
    obtain ⟨e0, e1, e2⟩ := hargs c
    refine ⟨h0.trans ?_, hk⟩
    refine (Cert.ReferenceInDxIdeal.Read.val_main_v8_eq _ _ _).trans ?_
    rw [e0, e1, e2]
    funext i
    rw [eq_ix2 i]
    exact (XR.gradient _ _ _ (i 0) (i 1)).trans (X.result m g c (i 0) (i 1)).symm

end Cert.Proj

end
-- ==== Proof.InGateDx.lean ====
/- The gradient of the projection's input through the gate's columns and the norm: what the kernel leaves. -/
module

public import proofs.«01_k».proof.Proof.FfnDx
public import proofs.«01_k».proof.Proof.Proj
public import Idealize.ShloMosaic.Lib.Pipeline.ValueKit
public import proofs.«01_k».proof.Proof.Gen.KernelInGateDxIdeal.Value

@[expose] public section

set_option maxRecDepth 16384

noncomputable section

namespace Cert.Proj.N

open Idealize.ShloMosaic Idealize.ShloMosaic.TcCoe Idealize.SL.Sem
open Cert.Ffn (Rows meanSq scale pull dNorm dGain minusHalf width small sum_quarters)
open Cert.KernelInGateDxIdeal Cert.KernelInGateDxIdeal.Gen

variable (m : (ℓ : Loc nD τ sig) → Buf (Elt Ideal) ℓ) (c : Dev nD)

/-! ### The arguments -/

abbrev aX : Rows := fun q k => (m ((c : Thread nD τ).loc main_arg0) : S2048x1024.Idx → EReal) (ix2 q k)
abbrev aG : Fin 1024 → EReal := fun k => (m ((c : Thread nD τ).loc main_arg1) : S1024.Idx → EReal) (ix1 k)
/-- The gate's columns of the weight. -/
abbrev aW : Fin 1024 → Fin 2048 → EReal := fun k f => (m ((c : Thread nD τ).loc main_arg2) : S1024x6144.Idx → EReal) (ix2 k (colG f))
abbrev aD : Fin 2048 → Fin 2048 → EReal := fun q f => (m ((c : Thread nD τ).loc main_arg3) : S2048x2048.Idx → EReal) (ix2 q f)
abbrev aH : Rows := fun q k => (m ((c : Thread nD τ).loc main_arg4) : S2048x1024.Idx → EReal) (ix2 q k)
abbrev aR : Rows := fun q k => (m ((c : Thread nD τ).loc main_arg5) : S2048x1024.Idx → EReal) (ix2 q k)
/-- The cotangent of the norm's result. -/
abbrev aC : Rows := fun q k => against (aD m c) (aW m c) q k + aH m c q k

theorem spreadW (x : FVec Ideal S1024x6144 .f32) (k : Fin 1024) (f : Fin 2048) :
    broadcastInDim S1x1024x2048 ![1, 2] bcast_S1024x2048_S1x1024x2048_1_2
      (extractStridedSlice S1024x2048 ![0, 4096] (truncf .bf16 x bitsLt_bf16_f32) slices_S1024x6144_S1024x2048_0_4096) (ix3 0 k f) = x (ix2 k (colG f)) := by
  pointwise [colG]
theorem spreadD (x : FVec Ideal S2048x2048 .f32) (q : Fin 2048) (f : Fin 2048) :
    broadcastInDim S1x2048x2048 ![1, 2] bcast_S2048x2048_S1x2048x2048_1_2 (truncf .bf16 x bitsLt_bf16_f32 : FVec Ideal S2048x2048 .bf16) (ix3 0 q f) = x (ix2 q f) := by
  pointwise []
theorem spreadH (x : FVec Ideal S2048x1024 .f32) (q : Fin 2048) (k : Fin 1024) :
    broadcastInDim S1x2048x1024 ![1, 2] bcast_S2048x1024_S1x2048x1024_1_2 x (ix3 0 q k) = x (ix2 q k) := by
  pointwise []

theorem cotangent (q f : Fin 2048) : V m c main_v6 (ix3 0 q f) = aD m c q f :=
  (congrFun (show @Eq (FVec Ideal S1x2048x2048 .bf16) (V m c main_v6) (broadcastInDim S1x2048x2048 ![1, 2] bcast_S2048x2048_S1x2048x2048_1_2
    (truncf .bf16 (m ((c : Thread nD τ).loc main_arg3) : FVec Ideal S2048x2048 .f32) bitsLt_bf16_f32 : FVec Ideal S2048x2048 .bf16)) from by
    unfold V; after_results_simp <;> rfl) _).trans (spreadD _ q f)
theorem weight (k : Fin 1024) (f : Fin 2048) : V m c main_v7 (ix3 0 k f) = aW m c k f :=
  (congrFun (show @Eq (FVec Ideal S1x1024x2048 .bf16) (V m c main_v7) (broadcastInDim S1x1024x2048 ![1, 2] bcast_S1024x2048_S1x1024x2048_1_2
    (extractStridedSlice S1024x2048 ![0, 4096] (truncf .bf16 (m ((c : Thread nD τ).loc main_arg2) : FVec Ideal S1024x6144 .f32) bitsLt_bf16_f32)
      slices_S1024x6144_S1024x2048_0_4096)) from by
    unfold V; after_results_simp <;> rfl) _).trans (spreadW _ k f)
theorem beside (q : Fin 2048) (k : Fin 1024) : V m c main_v8 (ix3 0 q k) = aH m c q k :=
  (congrFun (show @Eq (FVec Ideal S1x2048x1024 .f32) (V m c main_v8) (broadcastInDim S1x2048x1024 ![1, 2] bcast_S2048x1024_S1x2048x1024_1_2
    (m ((c : Thread nD τ).loc main_arg4) : FVec Ideal S2048x1024 .f32)) from by
    unfold V; after_results_simp <;> rfl) _).trans (spreadH _ q k)
theorem gain (k : Fin 1024) : V m c main_v5 (ix2 0 k) = aG m c k := by
  refine (congrFun (show @Eq (FVec Ideal S1x1024 .f32) (V m c main_v5) (shapeCast S1x1024 (m ((c : Thread nD τ).loc main_arg1) : FVec Ideal S1024 .f32) shapeCasts_S1024_S1x1024) from by
    unfold V; after_results_simp <;> rfl) _).trans ?_
  pointwise []
theorem rows0 (q : Fin 2048) (k : Fin 1024) : V m c main_arg0 (ix2 q k) = aX m c q k :=
  congrFun (show @Eq (FVec Ideal S2048x1024 .f32) (V m c main_arg0) (m ((c : Thread nD τ).loc main_arg0)) from by unfold V; after_results_simp <;> rfl) _
theorem rows5 (q : Fin 2048) (k : Fin 1024) : V m c main_arg5 (ix2 q k) = aR m c q k :=
  congrFun (show @Eq (FVec Ideal S2048x1024 .f32) (V m c main_arg5) (m ((c : Thread nD τ).loc main_arg5)) from by unfold V; after_results_simp <;> rfl) _

/-! ### The blocks -/

/-- A row of one of the four quarters of the batch. -/
def row (b : ℕ) (q : Fin 512) : Fin 2048 := ⟨b % 4 * 512 + q.val, by omega⟩

theorem lt0 (t : Fin cfg0.N) : t.val < 4 := lt_of_lt_of_eq t.isLt N_0
theorem quarter (t : Fin cfg0.N) : t.val % 4 = t.val := Nat.mod_eq_of_lt (lt0 t)

theorem idx : ∀ t : Fin cfg0.N, win0_0.index t = ![0, t.val, 0] ∧ win0_1.index t = ![0, 0, 0]
    ∧ win0_2.index t = ![0, t.val, 0] ∧ win0_3.index t = ![t.val, 0] ∧ win0_4.index t = ![t.val, 0] ∧ win0_5.index t = ![0, 0]
    ∧ win0_6.index t = ![t.val, 0] ∧ win0_7.index t = ![t.val, 0] ∧ win0_8.index t = ![0, 0] :=
  (by decide +kernel : ∀ t : Fin grid0.N, _)

section
variable (t : Fin cfg0.N) (q : Fin 512) (k : Fin 1024) (f : Fin 2048)

theorem in0 : iblk m c 0 t (ix3 0 q f) = aD m c (row t.val q) f := by
  rw [← cotangent]
  blk_point [iblk, row, quarter t, idx t]
theorem in1 : iblk m c 1 t (ix3 0 k f) = aW m c k f := by
  rw [← weight]
  blk_point [iblk, idx t]
theorem in2 : iblk m c 2 t (ix3 0 q k) = aH m c (row t.val q) k := by
  rw [← beside]
  blk_point [iblk, row, quarter t, idx t]
theorem in3 : iblk m c 3 t (ix2 q k) = aX m c (row t.val q) k := by
  rw [← rows0]
  blk_point [iblk, row, quarter t, idx t]
theorem in4 : iblk m c 4 t (ix2 q k) = aR m c (row t.val q) k := by
  rw [← rows5]
  blk_point [iblk, row, quarter t, idx t]
theorem in5 : iblk m c 5 t (ix2 0 k) = aG m c k := by
  rw [← gain]
  blk_point [iblk, idx t]
end

/-! ### The arithmetic of one block of rows -/

section
variable (r : Fin 512 → Fin 2048) {X D H C R : Rows} {W : Fin 1024 → Fin 2048 → EReal} {G : Fin 1024 → EReal}
  {b0 : Vec Ideal S1x512x2048 .bf16} {b1 : Vec Ideal S1x1024x2048 .bf16} {b2 : Vec Ideal S1x512x1024 .f32}
  {y x res : Vec Ideal S512x1024 .f32} {g : Vec Ideal S1x1024 .f32}
  (hy : ∀ q k, y (ix2 q k) = C (r q) k) (hx : ∀ q k, x (ix2 q k) = X (r q) k)
  (hg : ∀ k, g (ix2 0 k) = G k) (hr : ∀ q k, res (ix2 q k) = R (r q) k)
  (q : Fin 512) (k : Fin 1024)

theorem cot_at {E : Fin 2048 → Fin 2048 → EReal} (h0 : ∀ q f, b0 (ix3 0 q f) = E (r q) f) (h1 : ∀ k f, b1 (ix3 0 k f) = W k f)
    (h2 : ∀ q k, b2 (ix3 0 q k) = H (r q) k) : k0_pay6 b0 b1 b2 (ix2 q k) = against E W (r q) k + H (r q) k := by
  pointwise [k0_pay6]
  simp only [h0, h1, h2]
  rfl
include hx in
theorem mean_at : k0_pay7 x (ix2 q 0) = meanSq X (r q) := by
  pointwise [k0_pay7]
  simp only [hx]
  rfl
include hx in
theorem scale_at : k0_pay8 x (ix2 q 0) = scale X (r q) := by
  pointwise [k0_pay8]
  rw [mean_at r hx]
  rfl
include hx in
theorem slope_at : k0_pay9 x (ix2 q 0) = minusHalf * Ideal.div (scale X (r q)) (meanSq X (r q)) := by
  pointwise [k0_pay9]
  rw [mean_at r hx, scale_at r hx]
theorem gain_row : k0_pay11 g (ix2 q k) = g (ix2 0 k) := by
  pointwise [k0_pay11]
include hx in
theorem gain_at (hc : ∀ q k, k0_pay6 b0 b1 b2 (ix2 q k) = C (r q) k) : k0_pay10 b0 b1 b2 x (ix2 0 k) = ∑ q, X (r q) k * scale X (r q) * C (r q) k := by
  pointwise [k0_pay10]
  simp only [scale_at r hx, hx, hc]
include hy hx hg in
theorem norm_at : k0_pay1 y x (k0_pay8 x) (k0_pay9 x) (k0_pay11 g) (ix2 q k)
    = C (r q) k * G k * scale X (r q) + X (r q) k * pull X G C (r q) + pull X G C (r q) * X (r q) k := by
  pointwise [k0_pay1]
  simp only [Fin.sum_univ_one, Fin.isValue, scale_at r hx, slope_at r hx, gain_row, hx, hy, hg]
  rfl
include hy hx hg hr in
theorem out_at : k0_pay2 y x res (k0_pay8 x) (k0_pay9 x) (k0_pay11 g) (ix2 q k) = dNorm X G C R (r q) k := by
  pointwise [k0_pay2]
  rw [norm_at r hy hx hg, hr]
  rfl
include hy hx hg hr in
theorem out_at' : k0_pay3 y x res (k0_pay8 x) (k0_pay9 x) (k0_pay11 g) (ix2 q k) = dNorm X G C R (r q) k := by
  pointwise [k0_pay3]
  rw [norm_at r hy hx hg, hr]
  rfl
end

/-! ### The steps -/

section
variable (t : Fin cfg0.N) (q : Fin 512) (k : Fin 1024)

theorem zero_gain : (k0_pay4 : FVec Ideal S1x1024 .f32) (ix2 0 k) = 0 := by
  pointwise [k0_pay4]
theorem add_gain (s v : FVec Ideal S1x1024 .f32) : k0_pay5 s v (ix2 0 k) = v (ix2 0 k) + s (ix2 0 k) := by
  pointwise [k0_pay5]

/-- The point before. -/
abbrev before (t : Fin cfg0.N) := outsAt0 m c (t.val - 1) (Nat.lt_of_le_of_lt (Nat.sub_le _ _) t.isLt)

/-- The cotangent a step works with. -/
theorem cot (q : Fin 512) (k : Fin 1024) : k0_pay6 (iblk m c 0 t) (iblk m c 1 t) (iblk m c 2 t) (ix2 q k) = aC m c (row t.val q) k :=
  cot_at (row t.val) (H := aH m c) q k (in0 m c t) (fun k f => in1 m c t k f) (in2 m c t)

/-- What a step hands out for the gradient. -/
theorem handed : (outsAt0 m c t.val t.isLt).1 (ix2 q k) = dNorm (aX m c) (aG m c) (aC m c) (aR m c) (row t.val q) k := by
  by_cases h : t.val % 4 = 0
  · rw [outsAt0_A m c t h]
    frame_out
    exact out_at (row t.val) (cot m c t) (in3 m c t) (in5 m c t) (in4 m c t) q k
  · rw [outsAt0_B m c t h]
    frame_out
    exact out_at (row t.val) (cot m c t) (in3 m c t) (in5 m c t) (in4 m c t) q k
theorem handed' : (outsAt0 m c t.val t.isLt).2.1 (ix2 q k) = dNorm (aX m c) (aG m c) (aC m c) (aR m c) (row t.val q) k := by
  by_cases h : t.val % 4 = 0
  · rw [outsAt0_A m c t h]
    frame_out
    exact out_at' (row t.val) (cot m c t) (in3 m c t) (in5 m c t) (in4 m c t) q k
  · rw [outsAt0_B m c t h]
    frame_out
    exact out_at' (row t.val) (cot m c t) (in3 m c t) (in5 m c t) (in4 m c t) q k

/-- A quarter's part of the gain's gradient. -/
def gainPart (X D : Rows) (k : Fin 1024) (b : ℕ) : EReal := ∑ q, X (row b q) k * scale X (row b q) * D (row b q) k

/-- The gain's gradient: begun by the first step, added to by the others. -/
theorem gain_first (h : t.val % 4 = 0) : (outsAt0 m c t.val t.isLt).2.2 (ix2 0 k) = gainPart (aX m c) (aC m c) k t.val := by
  rw [outsAt0_A m c t h]
  frame_out
  refine (add_gain k _ _).trans ?_
  rw [zero_gain, zero_add]
  exact gain_at (row t.val) (in3 m c t) k (cot m c t)
theorem gain_next (h : ¬t.val % 4 = 0) : (outsAt0 m c t.val t.isLt).2.2 (ix2 0 k)
    = (before m c t).2.2 (ix2 0 k) + gainPart (aX m c) (aC m c) k t.val := by
  rw [outsAt0_B m c t h]
  frame_out
  refine (add_gain k _ _).trans ?_
  refine congrArg₂ (· + ·) ?_ ?_
  · rfl
  · exact gain_at (row t.val) (in3 m c t) k (cot m c t)
end

/-- After each step, the quarters up to it have been added. -/
theorem gain_so_far (k : Fin 1024) : ∀ (n : ℕ) (h : n < cfg0.N),
    (outsAt0 m c n h).2.2 (ix2 0 k) = ∑ b ∈ Finset.range (n + 1), gainPart (aX m c) (aC m c) k b
  | 0, h => by
    refine (gain_first m c ⟨0, h⟩ k rfl).trans ?_
    rw [Finset.sum_range_one]
  | n + 1, h => by
    have lt := lt0 ⟨n + 1, h⟩
    refine (gain_next m c ⟨n + 1, h⟩ k (by show ¬(n + 1) % 4 = 0; have : n + 1 < 4 := lt; omega)).trans ?_
    rw [Finset.sum_range_succ]
    exact congrArg (· + _) (gain_so_far k n (by omega))

theorem same {a b : ℕ} (e : a = b) (ha : a < cfg0.N) (hb : b < cfg0.N) : outsAt0 m c a ha = outsAt0 m c b hb := by
  subst e; rfl

/-- What the last step hands out. -/
theorem gain_handed (t : Fin cfg0.N) (h : t.val % 4 = 3) (k : Fin 1024) : (outsAt0 m c t.val t.isLt).2.2 (ix2 0 k) = dGain (aX m c) (aC m c) k := by
  have e : t.val = 3 := (quarter t).symm.trans h
  refine (congrArg (fun o => o.2.2 (ix2 0 k)) (same m c e _ (lt_of_eq_of_lt e.symm t.isLt))).trans ((gain_so_far m c k 3 _).trans ?_)
  exact (sum_quarters (fun q => aX m c q k * scale (aX m c) q * aC m c q k) row
    (fun b hb q => by show b % 4 * 512 + q.val = b * 512 + q.val; rw [Nat.mod_eq_of_lt hb])).symm

/-! ### The arrays the kernel leaves -/

theorem place6 (t : Fin cfg0.N) (q : Fin 512) (k : Fin 1024) : (win0_6.blk t).view.emb (ix2 q k) = ix2 (row t.val q) k := by
  funext a
  apply Fin.ext
  match a with
  | ⟨0, _⟩ => blk_simp; rw [(idx t).2.2.2.2.2.2.1]; exact congrArg (· * 512 + q.val) (quarter t).symm
  | ⟨1, _⟩ => blk_simp; rw [(idx t).2.2.2.2.2.2.1]; exact Nat.zero_add _
theorem place7 (t : Fin cfg0.N) (q : Fin 512) (k : Fin 1024) : (win0_7.blk t).view.emb (ix2 q k) = ix2 (row t.val q) k := by
  funext a
  apply Fin.ext
  match a with
  | ⟨0, _⟩ => blk_simp; rw [(idx t).2.2.2.2.2.2.2.1]; exact congrArg (· * 512 + q.val) (quarter t).symm
  | ⟨1, _⟩ => blk_simp; rw [(idx t).2.2.2.2.2.2.2.1]; exact Nat.zero_add _
theorem place8 (t : Fin cfg0.N) (k : Fin 1024) : (win0_8.blk t).view.emb (ix2 0 k) = ix2 0 k := by
  funext a
  apply Fin.ext
  match a with
  | ⟨0, _⟩ => blk_simp; rw [(idx t).2.2.2.2.2.2.2.2]; rfl
  | ⟨1, _⟩ => blk_simp; rw [(idx t).2.2.2.2.2.2.2.2]; exact Nat.zero_add _

theorem array6 : (dats m 0 c).arrAt 6 cfg0.N = fun i : S2048x1024.Idx => dNorm (aX m c) (aG m c) (aC m c) (aR m c) (i 0) (i 1) := by
  refine (dats m 0 c).arrAt_eq_of_cover 6 _ (fun t hf => ?_) ((show (cfg0.win 6).Covers from by decide +kernel).cover _ (Memref.isWhole_whole _))
  rw [Value.flushed6]
  funext y
  obtain ⟨q, k, rfl⟩ : ∃ (q : Fin 512) (k : Fin 1024), y = ix2 q k := ⟨y 0, y 1, eq_ix2 y⟩
  refine (handed m c t q k).trans ?_
  exact (congrArg (fun i : S2048x1024.Idx => dNorm (aX m c) (aG m c) (aC m c) (aR m c) (i 0) (i 1)) (place6 t q k)).symm
theorem array7 : (dats m 0 c).arrAt 7 cfg0.N = fun i : S2048x1024.Idx => dNorm (aX m c) (aG m c) (aC m c) (aR m c) (i 0) (i 1) := by
  refine (dats m 0 c).arrAt_eq_of_cover 7 _ (fun t hf => ?_) ((show (cfg0.win 7).Covers from by decide +kernel).cover _ (Memref.isWhole_whole _))
  rw [Value.flushed7]
  funext y
  obtain ⟨q, k, rfl⟩ : ∃ (q : Fin 512) (k : Fin 1024), y = ix2 q k := ⟨y 0, y 1, eq_ix2 y⟩
  refine (handed' m c t q k).trans ?_
  exact (congrArg (fun i : S2048x1024.Idx => dNorm (aX m c) (aG m c) (aC m c) (aR m c) (i 0) (i 1)) (place7 t q k)).symm
theorem array8 : (dats m 0 c).arrAt 8 cfg0.N = fun i : S1x1024.Idx => dGain (aX m c) (aC m c) (i 1) := by
  refine (dats m 0 c).arrAt_eq_of_cover 8 _ (fun t hf => ?_) ((show (cfg0.win 8).Covers from by decide +kernel).cover _ (Memref.isWhole_whole _))
  rw [Value.flushed8]
  funext y
  obtain ⟨z, k, rfl⟩ : ∃ (z : Fin 1) (k : Fin 1024), y = ix2 z k := ⟨y 0, y 1, eq_ix2 y⟩
  obtain rfl : z = 0 := Subsingleton.elim _ _
  refine (gain_handed m c t ((flush0_8 t).mp hf) k).trans ?_
  exact (congrArg (fun i : S1x1024.Idx => dGain (aX m c) (aC m c) (i 1)) (place8 t k)).symm

end Cert.Proj.N

end
-- ==== Proof.InGateDxRef.lean ====
/- The reference's gradients through the gate's columns and the norm, entry by entry. -/
module

public import proofs.«01_k».proof.Proof.FfnDx
public import proofs.«01_k».proof.Proof.Proj
public import Idealize.ShloMosaic.Lib.Pipeline.ValueKit
public import proofs.«01_k».proof.Proof.Gen.ReferenceInGateDxIdeal.Read

@[expose] public section

set_option maxRecDepth 16384

noncomputable section

namespace Cert.Proj.NR

open Idealize.ShloMosaic Idealize.ShloMosaic.StableHlo Idealize.SL.Sem
open Cert.Ffn (Rows meanSq scale pull dNorm dGain minusHalf)
open Cert.ReferenceInGateDxIdeal Cert.ReferenceInGateDxIdeal.Read

variable (x0 : FVec Ideal S2048x1024 .f32) (x1 : FVec Ideal S1024 .f32) (x2 : FVec Ideal S1024x6144 .f32) (x3 : FVec Ideal S2048x2048 .f32)
  (x4 x5 : FVec Ideal S2048x1024 .f32)

abbrev rX : Rows := fun q k => x0 (ix2 q k)
abbrev rG : Fin 1024 → EReal := fun k => x1 (ix1 k)
abbrev rR : Rows := fun q k => x5 (ix2 q k)
/-- The cotangent of the norm's result. -/
abbrev rC : Rows := fun q k => against (fun q f => x3 (ix2 q f)) (fun k f => x2 (ix2 k (colG f))) q k + x4 (ix2 q k)

variable (q : Fin 2048) (k : Fin 1024)

theorem mean_at : val_main_v9 (F := Ideal) x0 (ix2 q 0) = meanSq (rX x0) q := by
  pointwise [val_main_v9, val_main_v8, val_main_v7, val_main_v6, val_main_v5, val_main_v4, val_main_v3, val_main_cst, val_main_cst_0, val_main_cst_1]
  rfl
theorem scale_at : val_main_v10 (F := Ideal) x0 (ix2 q 0) = scale (rX x0) q := by
  rw [val_main_v10_apply, mean_at]
  rfl
theorem slope_at : val_main_v13 (F := Ideal) x0 (ix2 q 0) = minusHalf * Ideal.div (scale (rX x0) q) (meanSq (rX x0) q) := by
  rw [val_main_v13_apply, val_main_v11_apply, scale_at, mean_at]
  pointwise [val_main_v12, val_main_cst_2]

theorem group_at (k : Fin 1024) (f : Fin 2048) : val_main_v2 (F := Ideal) x2 (ix2 k f) = x2 (ix2 k (colG f)) := by
  pointwise [val_main_v2, colG]
theorem product : val_main_v20 (F := Ideal) x2 x3 (ix2 q k) = against (fun q f => x3 (ix2 q f)) (fun k f => x2 (ix2 k (colG f))) q k := by
  pointwise [val_main_v20]
  simp only [group_at]
  rfl
theorem cot_at : val_main_v21 (F := Ideal) x2 x3 x4 (ix2 q k) = rC x2 x3 x4 q k := by
  rw [val_main_v21_apply, product]
  exact add_comm _ _

theorem weighed_at : val_main_v26 (F := Ideal) x1 x2 x3 x4 (ix2 q k) = rC x2 x3 x4 q k * rG x1 k := by
  rw [val_main_v26_apply, cot_at]
  pointwise [val_main_v25, val_main_v16]

theorem pull_at : val_main_v38 (F := Ideal) x0 x1 x2 x3 x4 (ix2 q k) = pull (rX x0) (rG x1) (rC x2 x3 x4) q := by
  pointwise [val_main_v38, val_main_v37, val_main_v36, val_main_v35, val_main_v34, val_main_v30, val_main_v29, val_main_v28, val_main_cst_5, val_main_cst_6, val_main_cst_7]
  simp only [Fin.sum_univ_one, Fin.isValue, slope_at, weighed_at]
  rfl

theorem norm_out : val_main_v42 (F := Ideal) x0 x1 x2 x3 x4 x5 (ix2 q k) = dNorm (rX x0) (rG x1) (rC x2 x3 x4) (rR x5) q k := by
  rw [val_main_v42_apply, val_main_v40_apply, val_main_v33_apply, val_main_v32_apply, val_main_v39_apply, val_main_v41_apply, pull_at, weighed_at]
  refine Eq.trans (b := rR x5 q k + rC x2 x3 x4 q k * rG x1 k * scale (rX x0) q + rX x0 q k * pull (rX x0) (rG x1) (rC x2 x3 x4) q
    + pull (rX x0) (rG x1) (rC x2 x3 x4) q * rX x0 q k) ?_ ?_
  · rw [← scale_at]
    pointwise [val_main_v31]
  · unfold dNorm
    rw [add_comm (rR x5 q k), add_right_comm _ (rR x5 q k), add_right_comm _ (rR x5 q k)]
theorem norm_out' : val_main_v43 (F := Ideal) x0 x1 x2 x3 x4 x5 (ix2 q k) = dNorm (rX x0) (rG x1) (rC x2 x3 x4) (rR x5) q k := by
  rw [← norm_out]
  pointwise [val_main_v43]

theorem gain_out (z : Fin 1) : val_main_v44 (F := Ideal) x0 x2 x3 x4 (ix2 z k) = dGain (rX x0) (rC x2 x3 x4) k := by
  obtain rfl : z = 0 := Subsingleton.elim _ _
  pointwise [val_main_v44, val_main_v27, val_main_v24, val_main_v23, val_main_v22, val_main_v15, val_main_v14, val_main_cst_3, val_main_cst_4]
  simp only [Fin.sum_univ_one, Fin.isValue, scale_at, cot_at]
  rfl

end Cert.Proj.NR

end
-- ==== Proof.AlgInGateDx.lean ====
/- The gradient through the gate's columns and the norm: the kernel's three results are the reference's. -/
module

public import proofs.«01_k».proof.Proof.InGateDx
public import proofs.«01_k».proof.Proof.InGateDxRef
public import proofs.«01_k».proof.Proof.Gen.ReferenceInGateDxIdeal.Run
public import proofs.«01_k».proof.Defs

@[expose] public section

noncomputable section

namespace Cert.Proj

open Idealize.ShloMosaic Idealize.ShloMosaic.StableHlo Idealize.SL.Sem

theorem algebraicInGateDx : Cert.algebraic_KernelInGateDxIdeal_ReferenceInGateDxIdeal := by
  intro m g m' g' _ hargs
  refine ⟨fun c => (Cert.KernelInGateDxIdeal.Gen.dats m 0 c).arrAt 6 Cert.KernelInGateDxIdeal.cfg0.N,
    fun c => (Cert.KernelInGateDxIdeal.Gen.dats m 0 c).arrAt 7 Cert.KernelInGateDxIdeal.cfg0.N,
    fun c => (Cert.KernelInGateDxIdeal.Gen.dats m 0 c).arrAt 8 Cert.KernelInGateDxIdeal.cfg0.N, ?_, ?_⟩
  · exact Cert.KernelInGateDxIdeal.Value.run_blocks m g
  · refine (θ_run _ _ _).mono (fun r h c => ?_) (Cert.ReferenceInGateDxIdeal.Value.run m' g')
    obtain ⟨h0, h1, h2, hk⟩ := h c
    obtain ⟨e0, e1, e2, e3, e4, e5⟩ := hargs c
    refine ⟨h0.trans ?_, h1.trans ?_, h2.trans ?_, hk⟩
    · refine (Cert.ReferenceInGateDxIdeal.Read.val_main_v42_eq m' c).trans ?_
      refine Eq.trans ?_ (N.array6 m c).symm
      rw [e0, e1, e2, e3, e4, e5]
      funext i
      rw [eq_ix2 i]
      exact NR.norm_out _ _ _ _ _ _ _ _
    · refine (Cert.ReferenceInGateDxIdeal.Read.val_main_v43_eq m' c).trans ?_
      refine Eq.trans ?_ (N.array7 m c).symm
      rw [e0, e1, e2, e3, e4, e5]
      funext i
      rw [eq_ix2 i]
      exact NR.norm_out' _ _ _ _ _ _ _ _
    · refine (Cert.ReferenceInGateDxIdeal.Read.val_main_v44_eq _ _ _ _).trans ?_
      refine Eq.trans ?_ (N.array8 m c).symm
      rw [e0, e2, e3, e4]
      funext i
      rw [eq_ix2 i]
      exact NR.gain_out _ _ _ _ _ _

end Cert.Proj

end
-- ==== Proof.lean ====
/- The certificate of version v23's gradients of the dilated sliding-window attention (three programs, one for each
   dilation), of its SwiGLU mixer (the weights' gradients in one program of five launches, the gradient of the input in two
   of one launch each, the forward down product in one) and of its input projection (the forward call, the weights' gradient
   and the gradient of the input, four programs): the frames of the kernels, of their idealized readings and of the
   references, the statements of the named mask constant, and the value claims, each citing the module that proves it. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.KernelFfn
public import proofs.«01_k».proof.Proof.Gen.KernelFfn.Frame
public import proofs.«01_k».proof.Proof.Gen.KernelFfnIdeal
public import proofs.«01_k».proof.Proof.Gen.KernelFfnIdeal.Frame
public import proofs.«01_k».proof.Proof.Gen.ReferenceFfnIdeal
public import proofs.«01_k».proof.Proof.Gen.ReferenceFfnIdeal.Run
public import proofs.«01_k».proof.Proof.Gen.ReferenceFfnIdeal.Read
public import proofs.«01_k».proof.Proof.Gen.KernelGateDx
public import proofs.«01_k».proof.Proof.Gen.KernelGateDx.Frame
public import proofs.«01_k».proof.Proof.Gen.KernelGateDxIdeal
public import proofs.«01_k».proof.Proof.Gen.KernelGateDxIdeal.Frame
public import proofs.«01_k».proof.Proof.Gen.KernelGateDxIdeal.Value
public import proofs.«01_k».proof.Proof.Gen.ReferenceGateDxIdeal
public import proofs.«01_k».proof.Proof.Gen.ReferenceGateDxIdeal.Run
public import proofs.«01_k».proof.Proof.Gen.ReferenceGateDxIdeal.Read
public import proofs.«01_k».proof.Proof.Gen.KernelUpDx
public import proofs.«01_k».proof.Proof.Gen.KernelUpDx.Frame
public import proofs.«01_k».proof.Proof.Gen.KernelUpDxIdeal
public import proofs.«01_k».proof.Proof.Gen.KernelUpDxIdeal.Frame
public import proofs.«01_k».proof.Proof.Gen.KernelUpDxIdeal.Value
public import proofs.«01_k».proof.Proof.Gen.ReferenceUpDxIdeal
public import proofs.«01_k».proof.Proof.Gen.ReferenceUpDxIdeal.Run
public import proofs.«01_k».proof.Proof.Gen.ReferenceUpDxIdeal.Read
public import proofs.«01_k».proof.Proof.Gen.KernelDown
public import proofs.«01_k».proof.Proof.Gen.KernelDown.Frame
public import proofs.«01_k».proof.Proof.Gen.KernelDownIdeal
public import proofs.«01_k».proof.Proof.Gen.KernelDownIdeal.Frame
public import proofs.«01_k».proof.Proof.Gen.ReferenceDownIdeal
public import proofs.«01_k».proof.Proof.Gen.ReferenceDownIdeal.Run
public import proofs.«01_k».proof.Proof.Gen.ReferenceDownIdeal.Read
public import proofs.«01_k».proof.Proof.Gen.KernelDownIdeal.Value
public import proofs.«01_k».proof.Proof.Gen.KernelIn
public import proofs.«01_k».proof.Proof.Gen.KernelIn.Frame
public import proofs.«01_k».proof.Proof.Gen.KernelInIdeal
public import proofs.«01_k».proof.Proof.Gen.KernelInIdeal.Frame
public import proofs.«01_k».proof.Proof.Gen.ReferenceInIdeal
public import proofs.«01_k».proof.Proof.Gen.ReferenceInIdeal.Run
public import proofs.«01_k».proof.Proof.Gen.ReferenceInIdeal.Read
public import proofs.«01_k».proof.Proof.Gen.KernelInDw
public import proofs.«01_k».proof.Proof.Gen.KernelInDw.Frame
public import proofs.«01_k».proof.Proof.Gen.KernelInDwIdeal
public import proofs.«01_k».proof.Proof.Gen.KernelInDwIdeal.Frame
public import proofs.«01_k».proof.Proof.Gen.ReferenceInDwIdeal
public import proofs.«01_k».proof.Proof.Gen.ReferenceInDwIdeal.Run
public import proofs.«01_k».proof.Proof.Gen.ReferenceInDwIdeal.Read
public import proofs.«01_k».proof.Proof.Gen.KernelInDx
public import proofs.«01_k».proof.Proof.Gen.KernelInDx.Frame
public import proofs.«01_k».proof.Proof.Gen.KernelInDxIdeal
public import proofs.«01_k».proof.Proof.Gen.KernelInDxIdeal.Frame
public import proofs.«01_k».proof.Proof.Gen.ReferenceInDxIdeal
public import proofs.«01_k».proof.Proof.Gen.ReferenceInDxIdeal.Run
public import proofs.«01_k».proof.Proof.Gen.ReferenceInDxIdeal.Read
public import proofs.«01_k».proof.Proof.Gen.KernelInGateDx
public import proofs.«01_k».proof.Proof.Gen.KernelInGateDx.Frame
public import proofs.«01_k».proof.Proof.Gen.KernelInGateDxIdeal
public import proofs.«01_k».proof.Proof.Gen.KernelInGateDxIdeal.Frame
public import proofs.«01_k».proof.Proof.Gen.ReferenceInGateDxIdeal
public import proofs.«01_k».proof.Proof.Gen.ReferenceInGateDxIdeal.Run
public import proofs.«01_k».proof.Proof.Gen.ReferenceInGateDxIdeal.Read
public import proofs.«01_k».proof.Proof.Gen.KernelInGateDxIdeal.Value
public import proofs.«01_k».proof.Proof.Gen.Pre_finite
public import proofs.«01_k».proof.Proof.Alg1
public import proofs.«01_k».proof.Proof.Alg4
public import proofs.«01_k».proof.Proof.Alg16
public import proofs.«01_k».proof.Proof.AlgFfn
public import proofs.«01_k».proof.Proof.GateDxRef
public import proofs.«01_k».proof.Proof.AlgUpDx
public import proofs.«01_k».proof.Proof.DownRef
public import proofs.«01_k».proof.Proof.InRef
public import proofs.«01_k».proof.Proof.InDwRef
public import proofs.«01_k».proof.Proof.InDxRef
public import proofs.«01_k».proof.Proof.AlgInGateDx
public import Idealize.ShloMosaic.Adequacy
public import Idealize.ShloMosaic.Init

@[expose] public section

noncomputable section

namespace Cert.Proof

open Idealize.ShloMosaic Idealize.SL.Sem

/-- The reference is a straight-line host program: its run keeps the arguments, and it declares no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The reference is a straight-line host program: its run keeps the arguments, and it declares no semaphore. -/
theorem frame_reference4 : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

/-- The reference is a straight-line host program: its run keeps the arguments, and it declares no semaphore. -/
theorem frame_reference16 : Cert.quiescent_Reference16Ideal := fun m ρ _ =>
  (θ_run Cert.Reference16Ideal.defs _ _).mono (fun r h => ⟨fun c => (h c).2.2.2, sem_eq_zero_of_no_sems (by decide) r.2⟩)
    (Cert.Reference16Ideal.Value.run (F := Ideal) m ρ)

/-- The reference is a straight-line host program: its run keeps the arguments, and it declares no semaphore. -/
theorem frame_referenceFfn : Cert.quiescent_ReferenceFfnIdeal := fun m ρ _ =>
  (θ_run Cert.ReferenceFfnIdeal.defs _ _).mono (fun r h => ⟨fun c => (h c).2.2.2, sem_eq_zero_of_no_sems (by decide) r.2⟩)
    (Cert.ReferenceFfnIdeal.Value.run (F := Ideal) m ρ)

theorem frame_referenceGateDx : Cert.quiescent_ReferenceGateDxIdeal := fun m ρ _ =>
  (θ_run Cert.ReferenceGateDxIdeal.defs _ _).mono (fun r h => ⟨fun c => (h c).2, sem_eq_zero_of_no_sems (by decide) r.2⟩)
    (Cert.ReferenceGateDxIdeal.Value.run (F := Ideal) m ρ)

theorem frame_referenceUpDx : Cert.quiescent_ReferenceUpDxIdeal := fun m ρ _ =>
  (θ_run Cert.ReferenceUpDxIdeal.defs _ _).mono (fun r h => ⟨fun c => (h c).2.2.2, sem_eq_zero_of_no_sems (by decide) r.2⟩)
    (Cert.ReferenceUpDxIdeal.Value.run (F := Ideal) m ρ)

theorem frame_referenceDown : Cert.quiescent_ReferenceDownIdeal := fun m ρ _ =>
  (θ_run Cert.ReferenceDownIdeal.defs _ _).mono (fun r h => ⟨fun c => (h c).2, sem_eq_zero_of_no_sems (by decide) r.2⟩)
    (Cert.ReferenceDownIdeal.Value.run (F := Ideal) m ρ)

theorem frame_referenceIn : Cert.quiescent_ReferenceInIdeal := fun m ρ _ =>
  (θ_run Cert.ReferenceInIdeal.defs _ _).mono (fun r h => ⟨fun c => (h c).2.2.2, sem_eq_zero_of_no_sems (by decide) r.2⟩)
    (Cert.ReferenceInIdeal.Value.run (F := Ideal) m ρ)

theorem frame_referenceInDw : Cert.quiescent_ReferenceInDwIdeal := fun m ρ _ =>
  (θ_run Cert.ReferenceInDwIdeal.defs _ _).mono (fun r h => ⟨fun c => (h c).2, sem_eq_zero_of_no_sems (by decide) r.2⟩)
    (Cert.ReferenceInDwIdeal.Value.run (F := Ideal) m ρ)

theorem frame_referenceInDx : Cert.quiescent_ReferenceInDxIdeal := fun m ρ _ =>
  (θ_run Cert.ReferenceInDxIdeal.defs _ _).mono (fun r h => ⟨fun c => (h c).2, sem_eq_zero_of_no_sems (by decide) r.2⟩)
    (Cert.ReferenceInDxIdeal.Value.run (F := Ideal) m ρ)

theorem frame_referenceInGateDx : Cert.quiescent_ReferenceInGateDxIdeal := fun m ρ _ =>
  (θ_run Cert.ReferenceInGateDxIdeal.defs _ _).mono (fun r h => ⟨fun c => (h c).2.2.2, sem_eq_zero_of_no_sems (by decide) r.2⟩)
    (Cert.ReferenceInGateDxIdeal.Value.run (F := Ideal) m ρ)

theorem claim : Cert.Claim := ⟨Cert.Kernel.Gen.facts, Cert.KernelIdeal.Gen.facts, Cert.ReferenceIdeal.Gen.facts, Cert.Kernel4.Gen.facts, Cert.Kernel4Ideal.Gen.facts, Cert.Reference4Ideal.Gen.facts, Cert.Kernel16.Gen.facts, Cert.Kernel16Ideal.Gen.facts, Cert.Reference16Ideal.Gen.facts, Cert.KernelFfn.Gen.facts, Cert.KernelFfnIdeal.Gen.facts, Cert.ReferenceFfnIdeal.Gen.facts, Cert.KernelGateDx.Gen.facts, Cert.KernelGateDxIdeal.Gen.facts, Cert.ReferenceGateDxIdeal.Gen.facts, Cert.KernelUpDx.Gen.facts, Cert.KernelUpDxIdeal.Gen.facts, Cert.ReferenceUpDxIdeal.Gen.facts, Cert.KernelDown.Gen.facts, Cert.KernelDownIdeal.Gen.facts, Cert.ReferenceDownIdeal.Gen.facts, Cert.KernelIn.Gen.facts, Cert.KernelInIdeal.Gen.facts, Cert.ReferenceInIdeal.Gen.facts, Cert.KernelInDw.Gen.facts, Cert.KernelInDwIdeal.Gen.facts, Cert.ReferenceInDwIdeal.Gen.facts, Cert.KernelInDx.Gen.facts, Cert.KernelInDxIdeal.Gen.facts, Cert.ReferenceInDxIdeal.Gen.facts, Cert.KernelInGateDx.Gen.facts, Cert.KernelInGateDxIdeal.Gen.facts, Cert.ReferenceInGateDxIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel4.Gen.frame m ρ, fun m ρ _ => Cert.Kernel4Ideal.Gen.frame m ρ, fun m ρ _ => Cert.Kernel4Ideal.Gen.frame m ρ,
  frame_reference4, fun m ρ _ => frame_reference4 m ρ trivial,
  fun m ρ _ => Cert.Kernel16.Gen.frame m ρ, fun m ρ _ => Cert.Kernel16Ideal.Gen.frame m ρ, fun m ρ _ => Cert.Kernel16Ideal.Gen.frame m ρ,
  frame_reference16, fun m ρ _ => frame_reference16 m ρ trivial,
  fun m ρ _ => Cert.KernelFfn.Gen.frame m ρ, fun m ρ _ => Cert.KernelFfnIdeal.Gen.frame m ρ, frame_referenceFfn,
  fun m ρ _ => Cert.KernelGateDx.Gen.frame m ρ, fun m ρ _ => Cert.KernelGateDxIdeal.Gen.frame m ρ, frame_referenceGateDx,
  fun m ρ _ => Cert.KernelUpDx.Gen.frame m ρ, fun m ρ _ => Cert.KernelUpDxIdeal.Gen.frame m ρ, frame_referenceUpDx,
  fun m ρ _ => Cert.KernelDown.Gen.frame m ρ, fun m ρ _ => Cert.KernelDownIdeal.Gen.frame m ρ, frame_referenceDown,
  fun m ρ _ => Cert.KernelIn.Gen.frame m ρ, fun m ρ _ => Cert.KernelInIdeal.Gen.frame m ρ, frame_referenceIn,
  fun m ρ _ => Cert.KernelInDw.Gen.frame m ρ, fun m ρ _ => Cert.KernelInDwIdeal.Gen.frame m ρ, frame_referenceInDw,
  fun m ρ _ => Cert.KernelInDx.Gen.frame m ρ, fun m ρ _ => Cert.KernelInDxIdeal.Gen.frame m ρ, frame_referenceInDx,
  fun m ρ _ => Cert.KernelInGateDx.Gen.frame m ρ, fun m ρ _ => Cert.KernelInGateDxIdeal.Gen.frame m ρ, frame_referenceInGateDx,
  IdealRules.named_const.statement Cert.KernelIdeal.κ "mask" .f32 0xF149F2CA#32 ⊥ rfl,
  Cert.Attn.algebraic1,
  IdealRules.named_const.statement Cert.Kernel4Ideal.κ "mask" .f32 0xF149F2CA#32 ⊥ rfl,
  Cert.Attn.algebraic4,
  IdealRules.named_const.statement Cert.Kernel16Ideal.κ "mask" .f32 0xF149F2CA#32 ⊥ rfl,
  Cert.Attn.algebraic16,
  trivial, Cert.Ffn.algebraicFfn, trivial, Cert.Ffn.algebraicGateDx, trivial, Cert.Ffn.algebraicUpDx,
  trivial, Cert.Ffn.algebraicDown, trivial, Cert.Proj.algebraicIn, trivial, Cert.Proj.algebraicInDw, trivial, Cert.Proj.algebraicInDx,
  trivial, Cert.Proj.algebraicInGateDx⟩

end Cert.Proof

end
